-- ==== Defs.lean ====
def Pre_Exp [hPre_expert_in_range : Cert.Pre_expert_in_range.Facts] (m : (ℓ : Loc Cert.Exp.nD Cert.Exp.τ Cert.Exp.sig) → Buf (Elt Bits) ℓ) : Prop :=
  ∀ c : Dev Cert.Exp.nD,
    (Cert.Pre_expert_in_range.fn (F := Bits) (m ((c.tc : Thread Cert.Exp.nD Cert.Exp.τ).loc Cert.Exp.main_arg0)) (m ((c.tc : Thread Cert.Exp.nD Cert.Exp.τ).loc Cert.Exp.main_arg1)) (m ((c.tc : Thread Cert.Exp.nD Cert.Exp.τ).loc Cert.Exp.main_arg2)) (m ((c.tc : Thread Cert.Exp.nD Cert.Exp.τ).loc Cert.Exp.main_arg3)) (m ((c.tc : Thread Cert.Exp.nD Cert.Exp.τ).loc Cert.Exp.main_arg4)) (m ((c.tc : Thread Cert.Exp.nD Cert.Exp.τ).loc Cert.Exp.main_arg5))) = (fun _ => 1#1)

def Pre_ExpIdeal [hPre_expert_in_range : Cert.Pre_expert_in_range.Facts] (m : (ℓ : Loc Cert.ExpIdeal.nD Cert.ExpIdeal.τ Cert.ExpIdeal.sig) → Buf (Elt Ideal) ℓ) : Prop :=
  ∀ c : Dev Cert.ExpIdeal.nD,
    (Cert.Pre_expert_in_range.fn (F := Ideal) (m ((c.tc : Thread Cert.ExpIdeal.nD Cert.ExpIdeal.τ).loc Cert.ExpIdeal.main_arg0)) (m ((c.tc : Thread Cert.ExpIdeal.nD Cert.ExpIdeal.τ).loc Cert.ExpIdeal.main_arg1)) (m ((c.tc : Thread Cert.ExpIdeal.nD Cert.ExpIdeal.τ).loc Cert.ExpIdeal.main_arg2)) (m ((c.tc : Thread Cert.ExpIdeal.nD Cert.ExpIdeal.τ).loc Cert.ExpIdeal.main_arg3)) (m ((c.tc : Thread Cert.ExpIdeal.nD Cert.ExpIdeal.τ).loc Cert.ExpIdeal.main_arg4)) (m ((c.tc : Thread Cert.ExpIdeal.nD Cert.ExpIdeal.τ).loc Cert.ExpIdeal.main_arg5))) = (fun _ => 1#1)

def Pre_ExpRefIdeal (m : (ℓ : Loc Cert.ExpRefIdeal.nD Cert.ExpRefIdeal.τ Cert.ExpRefIdeal.sig) → Buf (Elt Ideal) ℓ) : Prop :=
  True

def Pre_ExpRefIdeal_expert_in_range [hPre_expert_in_range : Cert.Pre_expert_in_range.Facts] (m : (ℓ : Loc Cert.ExpRefIdeal.nD Cert.ExpRefIdeal.τ Cert.ExpRefIdeal.sig) → Buf (Elt Ideal) ℓ) : Prop :=
  ∀ c : Dev Cert.ExpRefIdeal.nD,
    (Cert.Pre_expert_in_range.fn (F := Ideal) (m ((c.tc : Thread Cert.ExpRefIdeal.nD Cert.ExpRefIdeal.τ).loc Cert.ExpRefIdeal.main_arg0)) (m ((c.tc : Thread Cert.ExpRefIdeal.nD Cert.ExpRefIdeal.τ).loc Cert.ExpRefIdeal.main_arg1)) (m ((c.tc : Thread Cert.ExpRefIdeal.nD Cert.ExpRefIdeal.τ).loc Cert.ExpRefIdeal.main_arg2)) (m ((c.tc : Thread Cert.ExpRefIdeal.nD Cert.ExpRefIdeal.τ).loc Cert.ExpRefIdeal.main_arg3)) (m ((c.tc : Thread Cert.ExpRefIdeal.nD Cert.ExpRefIdeal.τ).loc Cert.ExpRefIdeal.main_arg4)) (m ((c.tc : Thread Cert.ExpRefIdeal.nD Cert.ExpRefIdeal.τ).loc Cert.ExpRefIdeal.main_arg5))) = (fun _ => 1#1)

def Pre_Cmp (m : (ℓ : Loc Cert.Cmp.nD Cert.Cmp.τ Cert.Cmp.sig) → Buf (Elt Bits) ℓ) : Prop :=
  True

def Pre_CmpIdeal (m : (ℓ : Loc Cert.CmpIdeal.nD Cert.CmpIdeal.τ Cert.CmpIdeal.sig) → Buf (Elt Ideal) ℓ) : Prop :=
  True

def Pre_CmpIdeal_finite_qk [hPre_finite_qk : Cert.Pre_finite_qk.Facts] (m : (ℓ : Loc Cert.CmpIdeal.nD Cert.CmpIdeal.τ Cert.CmpIdeal.sig) → Buf (Elt Ideal) ℓ) : Prop :=
  ∀ c : Dev Cert.CmpIdeal.nD,
    (Cert.Pre_finite_qk.fn (F := Ideal) (m ((c.tc : Thread Cert.CmpIdeal.nD Cert.CmpIdeal.τ).loc Cert.CmpIdeal.main_arg0)) (m ((c.tc : Thread Cert.CmpIdeal.nD Cert.CmpIdeal.τ).loc Cert.CmpIdeal.main_arg1)) (m ((c.tc : Thread Cert.CmpIdeal.nD Cert.CmpIdeal.τ).loc Cert.CmpIdeal.main_arg2)) (m ((c.tc : Thread Cert.CmpIdeal.nD Cert.CmpIdeal.τ).loc Cert.CmpIdeal.main_arg3))).1 = (fun _ => 1#1)
    ∧ (Cert.Pre_finite_qk.fn (F := Ideal) (m ((c.tc : Thread Cert.CmpIdeal.nD Cert.CmpIdeal.τ).loc Cert.CmpIdeal.main_arg0)) (m ((c.tc : Thread Cert.CmpIdeal.nD Cert.CmpIdeal.τ).loc Cert.CmpIdeal.main_arg1)) (m ((c.tc : Thread Cert.CmpIdeal.nD Cert.CmpIdeal.τ).loc Cert.CmpIdeal.main_arg2)) (m ((c.tc : Thread Cert.CmpIdeal.nD Cert.CmpIdeal.τ).loc Cert.CmpIdeal.main_arg3))).2 = (fun _ => 1#1)

def Pre_CmpRefIdeal (m : (ℓ : Loc Cert.CmpRefIdeal.nD Cert.CmpRefIdeal.τ Cert.CmpRefIdeal.sig) → Buf (Elt Ideal) ℓ) : Prop :=
  True

def Pre_CmpRefIdeal_finite_qk [hPre_finite_qk : Cert.Pre_finite_qk.Facts] (m : (ℓ : Loc Cert.CmpRefIdeal.nD Cert.CmpRefIdeal.τ Cert.CmpRefIdeal.sig) → Buf (Elt Ideal) ℓ) : Prop :=
  ∀ c : Dev Cert.CmpRefIdeal.nD,
    (Cert.Pre_finite_qk.fn (F := Ideal) (m ((c.tc : Thread Cert.CmpRefIdeal.nD Cert.CmpRefIdeal.τ).loc Cert.CmpRefIdeal.main_arg0)) (m ((c.tc : Thread Cert.CmpRefIdeal.nD Cert.CmpRefIdeal.τ).loc Cert.CmpRefIdeal.main_arg1)) (m ((c.tc : Thread Cert.CmpRefIdeal.nD Cert.CmpRefIdeal.τ).loc Cert.CmpRefIdeal.main_arg2)) (m ((c.tc : Thread Cert.CmpRefIdeal.nD Cert.CmpRefIdeal.τ).loc Cert.CmpRefIdeal.main_arg3))).1 = (fun _ => 1#1)
    ∧ (Cert.Pre_finite_qk.fn (F := Ideal) (m ((c.tc : Thread Cert.CmpRefIdeal.nD Cert.CmpRefIdeal.τ).loc Cert.CmpRefIdeal.main_arg0)) (m ((c.tc : Thread Cert.CmpRefIdeal.nD Cert.CmpRefIdeal.τ).loc Cert.CmpRefIdeal.main_arg1)) (m ((c.tc : Thread Cert.CmpRefIdeal.nD Cert.CmpRefIdeal.τ).loc Cert.CmpRefIdeal.main_arg2)) (m ((c.tc : Thread Cert.CmpRefIdeal.nD Cert.CmpRefIdeal.τ).loc Cert.CmpRefIdeal.main_arg3))).2 = (fun _ => 1#1)

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_In (m : (ℓ : Loc Cert.In.nD Cert.In.τ Cert.In.sig) → Buf (Elt Bits) ℓ) : Prop :=
  True

def Pre_InIdeal (m : (ℓ : Loc Cert.InIdeal.nD Cert.InIdeal.τ Cert.InIdeal.sig) → Buf (Elt Ideal) ℓ) : Prop :=
  True

def Pre_InRefIdeal (m : (ℓ : Loc Cert.InRefIdeal.nD Cert.InRefIdeal.τ Cert.InRefIdeal.sig) → Buf (Elt Ideal) ℓ) : Prop :=
  True

def Pre_Ada (m : (ℓ : Loc Cert.Ada.nD Cert.Ada.τ Cert.Ada.sig) → Buf (Elt Bits) ℓ) : Prop :=
  True

def Pre_AdaIdeal (m : (ℓ : Loc Cert.AdaIdeal.nD Cert.AdaIdeal.τ Cert.AdaIdeal.sig) → Buf (Elt Ideal) ℓ) : Prop :=
  True

def Pre_AdaRefIdeal (m : (ℓ : Loc Cert.AdaRefIdeal.nD Cert.AdaRefIdeal.τ Cert.AdaRefIdeal.sig) → Buf (Elt Ideal) ℓ) : Prop :=
  True

def Pre_Rope (m : (ℓ : Loc Cert.Rope.nD Cert.Rope.τ Cert.Rope.sig) → Buf (Elt Bits) ℓ) : Prop :=
  True

def Pre_RopeIdeal (m : (ℓ : Loc Cert.RopeIdeal.nD Cert.RopeIdeal.τ Cert.RopeIdeal.sig) → Buf (Elt Ideal) ℓ) : Prop :=
  True

def Pre_RopeRefIdeal (m : (ℓ : Loc Cert.RopeRefIdeal.nD Cert.RopeRefIdeal.τ Cert.RopeRefIdeal.sig) → Buf (Elt Ideal) ℓ) : Prop :=
  True

def Pre_Cps (m : (ℓ : Loc Cert.Cps.nD Cert.Cps.τ Cert.Cps.sig) → Buf (Elt Bits) ℓ) : Prop :=
  True

def Pre_CpsIdeal (m : (ℓ : Loc Cert.CpsIdeal.nD Cert.CpsIdeal.τ Cert.CpsIdeal.sig) → Buf (Elt Ideal) ℓ) : Prop :=
  True

def Pre_CpsIdeal_finite_blocks [hPre_finite_blocks : Cert.Pre_finite_blocks.Facts] (m : (ℓ : Loc Cert.CpsIdeal.nD Cert.CpsIdeal.τ Cert.CpsIdeal.sig) → Buf (Elt Ideal) ℓ) : Prop :=
  ∀ c : Dev Cert.CpsIdeal.nD,
    (Cert.Pre_finite_blocks.fn (F := Ideal) (m ((c.tc : Thread Cert.CpsIdeal.nD Cert.CpsIdeal.τ).loc Cert.CpsIdeal.main_arg0)) (m ((c.tc : Thread Cert.CpsIdeal.nD Cert.CpsIdeal.τ).loc Cert.CpsIdeal.main_arg1)) (m ((c.tc : Thread Cert.CpsIdeal.nD Cert.CpsIdeal.τ).loc Cert.CpsIdeal.main_arg2)) (m ((c.tc : Thread Cert.CpsIdeal.nD Cert.CpsIdeal.τ).loc Cert.CpsIdeal.main_arg3))).1 = (fun _ => 1#1)
    ∧ (Cert.Pre_finite_blocks.fn (F := Ideal) (m ((c.tc : Thread Cert.CpsIdeal.nD Cert.CpsIdeal.τ).loc Cert.CpsIdeal.main_arg0)) (m ((c.tc : Thread Cert.CpsIdeal.nD Cert.CpsIdeal.τ).loc Cert.CpsIdeal.main_arg1)) (m ((c.tc : Thread Cert.CpsIdeal.nD Cert.CpsIdeal.τ).loc Cert.CpsIdeal.main_arg2)) (m ((c.tc : Thread Cert.CpsIdeal.nD Cert.CpsIdeal.τ).loc Cert.CpsIdeal.main_arg3))).2.1 = (fun _ => 1#1)
    ∧ (Cert.Pre_finite_blocks.fn (F := Ideal) (m ((c.tc : Thread Cert.CpsIdeal.nD Cert.CpsIdeal.τ).loc Cert.CpsIdeal.main_arg0)) (m ((c.tc : Thread Cert.CpsIdeal.nD Cert.CpsIdeal.τ).loc Cert.CpsIdeal.main_arg1)) (m ((c.tc : Thread Cert.CpsIdeal.nD Cert.CpsIdeal.τ).loc Cert.CpsIdeal.main_arg2)) (m ((c.tc : Thread Cert.CpsIdeal.nD Cert.CpsIdeal.τ).loc Cert.CpsIdeal.main_arg3))).2.2 = (fun _ => 1#1)

def Pre_CpsRefIdeal (m : (ℓ : Loc Cert.CpsRefIdeal.nD Cert.CpsRefIdeal.τ Cert.CpsRefIdeal.sig) → Buf (Elt Ideal) ℓ) : Prop :=
  True

def Pre_CpsRefIdeal_finite_blocks [hPre_finite_blocks : Cert.Pre_finite_blocks.Facts] (m : (ℓ : Loc Cert.CpsRefIdeal.nD Cert.CpsRefIdeal.τ Cert.CpsRefIdeal.sig) → Buf (Elt Ideal) ℓ) : Prop :=
  ∀ c : Dev Cert.CpsRefIdeal.nD,
    (Cert.Pre_finite_blocks.fn (F := Ideal) (m ((c.tc : Thread Cert.CpsRefIdeal.nD Cert.CpsRefIdeal.τ).loc Cert.CpsRefIdeal.main_arg0)) (m ((c.tc : Thread Cert.CpsRefIdeal.nD Cert.CpsRefIdeal.τ).loc Cert.CpsRefIdeal.main_arg1)) (m ((c.tc : Thread Cert.CpsRefIdeal.nD Cert.CpsRefIdeal.τ).loc Cert.CpsRefIdeal.main_arg2)) (m ((c.tc : Thread Cert.CpsRefIdeal.nD Cert.CpsRefIdeal.τ).loc Cert.CpsRefIdeal.main_arg3))).1 = (fun _ => 1#1)
    ∧ (Cert.Pre_finite_blocks.fn (F := Ideal) (m ((c.tc : Thread Cert.CpsRefIdeal.nD Cert.CpsRefIdeal.τ).loc Cert.CpsRefIdeal.main_arg0)) (m ((c.tc : Thread Cert.CpsRefIdeal.nD Cert.CpsRefIdeal.τ).loc Cert.CpsRefIdeal.main_arg1)) (m ((c.tc : Thread Cert.CpsRefIdeal.nD Cert.CpsRefIdeal.τ).loc Cert.CpsRefIdeal.main_arg2)) (m ((c.tc : Thread Cert.CpsRefIdeal.nD Cert.CpsRefIdeal.τ).loc Cert.CpsRefIdeal.main_arg3))).2.1 = (fun _ => 1#1)
    ∧ (Cert.Pre_finite_blocks.fn (F := Ideal) (m ((c.tc : Thread Cert.CpsRefIdeal.nD Cert.CpsRefIdeal.τ).loc Cert.CpsRefIdeal.main_arg0)) (m ((c.tc : Thread Cert.CpsRefIdeal.nD Cert.CpsRefIdeal.τ).loc Cert.CpsRefIdeal.main_arg1)) (m ((c.tc : Thread Cert.CpsRefIdeal.nD Cert.CpsRefIdeal.τ).loc Cert.CpsRefIdeal.main_arg2)) (m ((c.tc : Thread Cert.CpsRefIdeal.nD Cert.CpsRefIdeal.τ).loc Cert.CpsRefIdeal.main_arg3))).2.2 = (fun _ => 1#1)

def Pre_Log (m : (ℓ : Loc Cert.Log.nD Cert.Log.τ Cert.Log.sig) → Buf (Elt Bits) ℓ) : Prop :=
  True

def Pre_LogIdeal (m : (ℓ : Loc Cert.LogIdeal.nD Cert.LogIdeal.τ Cert.LogIdeal.sig) → Buf (Elt Ideal) ℓ) : Prop :=
  True

def Pre_LogIdeal_finite_rows [hPre_finite_rows : Cert.Pre_finite_rows.Facts] (m : (ℓ : Loc Cert.LogIdeal.nD Cert.LogIdeal.τ Cert.LogIdeal.sig) → Buf (Elt Ideal) ℓ) : Prop :=
  ∀ c : Dev Cert.LogIdeal.nD,
    (Cert.Pre_finite_rows.fn (F := Ideal) (m ((c.tc : Thread Cert.LogIdeal.nD Cert.LogIdeal.τ).loc Cert.LogIdeal.main_arg0)) (m ((c.tc : Thread Cert.LogIdeal.nD Cert.LogIdeal.τ).loc Cert.LogIdeal.main_arg1)) (m ((c.tc : Thread Cert.LogIdeal.nD Cert.LogIdeal.τ).loc Cert.LogIdeal.main_arg2)) (m ((c.tc : Thread Cert.LogIdeal.nD Cert.LogIdeal.τ).loc Cert.LogIdeal.main_arg3)) (m ((c.tc : Thread Cert.LogIdeal.nD Cert.LogIdeal.τ).loc Cert.LogIdeal.main_arg4)) (m ((c.tc : Thread Cert.LogIdeal.nD Cert.LogIdeal.τ).loc Cert.LogIdeal.main_arg5)) (m ((c.tc : Thread Cert.LogIdeal.nD Cert.LogIdeal.τ).loc Cert.LogIdeal.main_arg6)) (m ((c.tc : Thread Cert.LogIdeal.nD Cert.LogIdeal.τ).loc Cert.LogIdeal.main_arg7)) (m ((c.tc : Thread Cert.LogIdeal.nD Cert.LogIdeal.τ).loc Cert.LogIdeal.main_arg8))).1 = (fun _ => 1#1)
    ∧ (Cert.Pre_finite_rows.fn (F := Ideal) (m ((c.tc : Thread Cert.LogIdeal.nD Cert.LogIdeal.τ).loc Cert.LogIdeal.main_arg0)) (m ((c.tc : Thread Cert.LogIdeal.nD Cert.LogIdeal.τ).loc Cert.LogIdeal.main_arg1)) (m ((c.tc : Thread Cert.LogIdeal.nD Cert.LogIdeal.τ).loc Cert.LogIdeal.main_arg2)) (m ((c.tc : Thread Cert.LogIdeal.nD Cert.LogIdeal.τ).loc Cert.LogIdeal.main_arg3)) (m ((c.tc : Thread Cert.LogIdeal.nD Cert.LogIdeal.τ).loc Cert.LogIdeal.main_arg4)) (m ((c.tc : Thread Cert.LogIdeal.nD Cert.LogIdeal.τ).loc Cert.LogIdeal.main_arg5)) (m ((c.tc : Thread Cert.LogIdeal.nD Cert.LogIdeal.τ).loc Cert.LogIdeal.main_arg6)) (m ((c.tc : Thread Cert.LogIdeal.nD Cert.LogIdeal.τ).loc Cert.LogIdeal.main_arg7)) (m ((c.tc : Thread Cert.LogIdeal.nD Cert.LogIdeal.τ).loc Cert.LogIdeal.main_arg8))).2.1 = (fun _ => 1#1)
    ∧ (Cert.Pre_finite_rows.fn (F := Ideal) (m ((c.tc : Thread Cert.LogIdeal.nD Cert.LogIdeal.τ).loc Cert.LogIdeal.main_arg0)) (m ((c.tc : Thread Cert.LogIdeal.nD Cert.LogIdeal.τ).loc Cert.LogIdeal.main_arg1)) (m ((c.tc : Thread Cert.LogIdeal.nD Cert.LogIdeal.τ).loc Cert.LogIdeal.main_arg2)) (m ((c.tc : Thread Cert.LogIdeal.nD Cert.LogIdeal.τ).loc Cert.LogIdeal.main_arg3)) (m ((c.tc : Thread Cert.LogIdeal.nD Cert.LogIdeal.τ).loc Cert.LogIdeal.main_arg4)) (m ((c.tc : Thread Cert.LogIdeal.nD Cert.LogIdeal.τ).loc Cert.LogIdeal.main_arg5)) (m ((c.tc : Thread Cert.LogIdeal.nD Cert.LogIdeal.τ).loc Cert.LogIdeal.main_arg6)) (m ((c.tc : Thread Cert.LogIdeal.nD Cert.LogIdeal.τ).loc Cert.LogIdeal.main_arg7)) (m ((c.tc : Thread Cert.LogIdeal.nD Cert.LogIdeal.τ).loc Cert.LogIdeal.main_arg8))).2.2.1 = (fun _ => 1#1)
    ∧ (Cert.Pre_finite_rows.fn (F := Ideal) (m ((c.tc : Thread Cert.LogIdeal.nD Cert.LogIdeal.τ).loc Cert.LogIdeal.main_arg0)) (m ((c.tc : Thread Cert.LogIdeal.nD Cert.LogIdeal.τ).loc Cert.LogIdeal.main_arg1)) (m ((c.tc : Thread Cert.LogIdeal.nD Cert.LogIdeal.τ).loc Cert.LogIdeal.main_arg2)) (m ((c.tc : Thread Cert.LogIdeal.nD Cert.LogIdeal.τ).loc Cert.LogIdeal.main_arg3)) (m ((c.tc : Thread Cert.LogIdeal.nD Cert.LogIdeal.τ).loc Cert.LogIdeal.main_arg4)) (m ((c.tc : Thread Cert.LogIdeal.nD Cert.LogIdeal.τ).loc Cert.LogIdeal.main_arg5)) (m ((c.tc : Thread Cert.LogIdeal.nD Cert.LogIdeal.τ).loc Cert.LogIdeal.main_arg6)) (m ((c.tc : Thread Cert.LogIdeal.nD Cert.LogIdeal.τ).loc Cert.LogIdeal.main_arg7)) (m ((c.tc : Thread Cert.LogIdeal.nD Cert.LogIdeal.τ).loc Cert.LogIdeal.main_arg8))).2.2.2.1 = (fun _ => 1#1)
    ∧ (Cert.Pre_finite_rows.fn (F := Ideal) (m ((c.tc : Thread Cert.LogIdeal.nD Cert.LogIdeal.τ).loc Cert.LogIdeal.main_arg0)) (m ((c.tc : Thread Cert.LogIdeal.nD Cert.LogIdeal.τ).loc Cert.LogIdeal.main_arg1)) (m ((c.tc : Thread Cert.LogIdeal.nD Cert.LogIdeal.τ).loc Cert.LogIdeal.main_arg2)) (m ((c.tc : Thread Cert.LogIdeal.nD Cert.LogIdeal.τ).loc Cert.LogIdeal.main_arg3)) (m ((c.tc : Thread Cert.LogIdeal.nD Cert.LogIdeal.τ).loc Cert.LogIdeal.main_arg4)) (m ((c.tc : Thread Cert.LogIdeal.nD Cert.LogIdeal.τ).loc Cert.LogIdeal.main_arg5)) (m ((c.tc : Thread Cert.LogIdeal.nD Cert.LogIdeal.τ).loc Cert.LogIdeal.main_arg6)) (m ((c.tc : Thread Cert.LogIdeal.nD Cert.LogIdeal.τ).loc Cert.LogIdeal.main_arg7)) (m ((c.tc : Thread Cert.LogIdeal.nD Cert.LogIdeal.τ).loc Cert.LogIdeal.main_arg8))).2.2.2.2.1 = (fun _ => 1#1)
    ∧ (Cert.Pre_finite_rows.fn (F := Ideal) (m ((c.tc : Thread Cert.LogIdeal.nD Cert.LogIdeal.τ).loc Cert.LogIdeal.main_arg0)) (m ((c.tc : Thread Cert.LogIdeal.nD Cert.LogIdeal.τ).loc Cert.LogIdeal.main_arg1)) (m ((c.tc : Thread Cert.LogIdeal.nD Cert.LogIdeal.τ).loc Cert.LogIdeal.main_arg2)) (m ((c.tc : Thread Cert.LogIdeal.nD Cert.LogIdeal.τ).loc Cert.LogIdeal.main_arg3)) (m ((c.tc : Thread Cert.LogIdeal.nD Cert.LogIdeal.τ).loc Cert.LogIdeal.main_arg4)) (m ((c.tc : Thread Cert.LogIdeal.nD Cert.LogIdeal.τ).loc Cert.LogIdeal.main_arg5)) (m ((c.tc : Thread Cert.LogIdeal.nD Cert.LogIdeal.τ).loc Cert.LogIdeal.main_arg6)) (m ((c.tc : Thread Cert.LogIdeal.nD Cert.LogIdeal.τ).loc Cert.LogIdeal.main_arg7)) (m ((c.tc : Thread Cert.LogIdeal.nD Cert.LogIdeal.τ).loc Cert.LogIdeal.main_arg8))).2.2.2.2.2.1 = (fun _ => 1#1)
    ∧ (Cert.Pre_finite_rows.fn (F := Ideal) (m ((c.tc : Thread Cert.LogIdeal.nD Cert.LogIdeal.τ).loc Cert.LogIdeal.main_arg0)) (m ((c.tc : Thread Cert.LogIdeal.nD Cert.LogIdeal.τ).loc Cert.LogIdeal.main_arg1)) (m ((c.tc : Thread Cert.LogIdeal.nD Cert.LogIdeal.τ).loc Cert.LogIdeal.main_arg2)) (m ((c.tc : Thread Cert.LogIdeal.nD Cert.LogIdeal.τ).loc Cert.LogIdeal.main_arg3)) (m ((c.tc : Thread Cert.LogIdeal.nD Cert.LogIdeal.τ).loc Cert.LogIdeal.main_arg4)) (m ((c.tc : Thread Cert.LogIdeal.nD Cert.LogIdeal.τ).loc Cert.LogIdeal.main_arg5)) (m ((c.tc : Thread Cert.LogIdeal.nD Cert.LogIdeal.τ).loc Cert.LogIdeal.main_arg6)) (m ((c.tc : Thread Cert.LogIdeal.nD Cert.LogIdeal.τ).loc Cert.LogIdeal.main_arg7)) (m ((c.tc : Thread Cert.LogIdeal.nD Cert.LogIdeal.τ).loc Cert.LogIdeal.main_arg8))).2.2.2.2.2.2.1 = (fun _ => 1#1)
    ∧ (Cert.Pre_finite_rows.fn (F := Ideal) (m ((c.tc : Thread Cert.LogIdeal.nD Cert.LogIdeal.τ).loc Cert.LogIdeal.main_arg0)) (m ((c.tc : Thread Cert.LogIdeal.nD Cert.LogIdeal.τ).loc Cert.LogIdeal.main_arg1)) (m ((c.tc : Thread Cert.LogIdeal.nD Cert.LogIdeal.τ).loc Cert.LogIdeal.main_arg2)) (m ((c.tc : Thread Cert.LogIdeal.nD Cert.LogIdeal.τ).loc Cert.LogIdeal.main_arg3)) (m ((c.tc : Thread Cert.LogIdeal.nD Cert.LogIdeal.τ).loc Cert.LogIdeal.main_arg4)) (m ((c.tc : Thread Cert.LogIdeal.nD Cert.LogIdeal.τ).loc Cert.LogIdeal.main_arg5)) (m ((c.tc : Thread Cert.LogIdeal.nD Cert.LogIdeal.τ).loc Cert.LogIdeal.main_arg6)) (m ((c.tc : Thread Cert.LogIdeal.nD Cert.LogIdeal.τ).loc Cert.LogIdeal.main_arg7)) (m ((c.tc : Thread Cert.LogIdeal.nD Cert.LogIdeal.τ).loc Cert.LogIdeal.main_arg8))).2.2.2.2.2.2.2 = (fun _ => 1#1)

def Pre_LogRefIdeal (m : (ℓ : Loc Cert.LogRefIdeal.nD Cert.LogRefIdeal.τ Cert.LogRefIdeal.sig) → Buf (Elt Ideal) ℓ) : Prop :=
  True

def Pre_LogRefIdeal_finite_rows [hPre_finite_rows : Cert.Pre_finite_rows.Facts] (m : (ℓ : Loc Cert.LogRefIdeal.nD Cert.LogRefIdeal.τ Cert.LogRefIdeal.sig) → Buf (Elt Ideal) ℓ) : Prop :=
  ∀ c : Dev Cert.LogRefIdeal.nD,
    (Cert.Pre_finite_rows.fn (F := Ideal) (m ((c.tc : Thread Cert.LogRefIdeal.nD Cert.LogRefIdeal.τ).loc Cert.LogRefIdeal.main_arg0)) (m ((c.tc : Thread Cert.LogRefIdeal.nD Cert.LogRefIdeal.τ).loc Cert.LogRefIdeal.main_arg1)) (m ((c.tc : Thread Cert.LogRefIdeal.nD Cert.LogRefIdeal.τ).loc Cert.LogRefIdeal.main_arg2)) (m ((c.tc : Thread Cert.LogRefIdeal.nD Cert.LogRefIdeal.τ).loc Cert.LogRefIdeal.main_arg3)) (m ((c.tc : Thread Cert.LogRefIdeal.nD Cert.LogRefIdeal.τ).loc Cert.LogRefIdeal.main_arg4)) (m ((c.tc : Thread Cert.LogRefIdeal.nD Cert.LogRefIdeal.τ).loc Cert.LogRefIdeal.main_arg5)) (m ((c.tc : Thread Cert.LogRefIdeal.nD Cert.LogRefIdeal.τ).loc Cert.LogRefIdeal.main_arg6)) (m ((c.tc : Thread Cert.LogRefIdeal.nD Cert.LogRefIdeal.τ).loc Cert.LogRefIdeal.main_arg7)) (m ((c.tc : Thread Cert.LogRefIdeal.nD Cert.LogRefIdeal.τ).loc Cert.LogRefIdeal.main_arg8))).1 = (fun _ => 1#1)
    ∧ (Cert.Pre_finite_rows.fn (F := Ideal) (m ((c.tc : Thread Cert.LogRefIdeal.nD Cert.LogRefIdeal.τ).loc Cert.LogRefIdeal.main_arg0)) (m ((c.tc : Thread Cert.LogRefIdeal.nD Cert.LogRefIdeal.τ).loc Cert.LogRefIdeal.main_arg1)) (m ((c.tc : Thread Cert.LogRefIdeal.nD Cert.LogRefIdeal.τ).loc Cert.LogRefIdeal.main_arg2)) (m ((c.tc : Thread Cert.LogRefIdeal.nD Cert.LogRefIdeal.τ).loc Cert.LogRefIdeal.main_arg3)) (m ((c.tc : Thread Cert.LogRefIdeal.nD Cert.LogRefIdeal.τ).loc Cert.LogRefIdeal.main_arg4)) (m ((c.tc : Thread Cert.LogRefIdeal.nD Cert.LogRefIdeal.τ).loc Cert.LogRefIdeal.main_arg5)) (m ((c.tc : Thread Cert.LogRefIdeal.nD Cert.LogRefIdeal.τ).loc Cert.LogRefIdeal.main_arg6)) (m ((c.tc : Thread Cert.LogRefIdeal.nD Cert.LogRefIdeal.τ).loc Cert.LogRefIdeal.main_arg7)) (m ((c.tc : Thread Cert.LogRefIdeal.nD Cert.LogRefIdeal.τ).loc Cert.LogRefIdeal.main_arg8))).2.1 = (fun _ => 1#1)
    ∧ (Cert.Pre_finite_rows.fn (F := Ideal) (m ((c.tc : Thread Cert.LogRefIdeal.nD Cert.LogRefIdeal.τ).loc Cert.LogRefIdeal.main_arg0)) (m ((c.tc : Thread Cert.LogRefIdeal.nD Cert.LogRefIdeal.τ).loc Cert.LogRefIdeal.main_arg1)) (m ((c.tc : Thread Cert.LogRefIdeal.nD Cert.LogRefIdeal.τ).loc Cert.LogRefIdeal.main_arg2)) (m ((c.tc : Thread Cert.LogRefIdeal.nD Cert.LogRefIdeal.τ).loc Cert.LogRefIdeal.main_arg3)) (m ((c.tc : Thread Cert.LogRefIdeal.nD Cert.LogRefIdeal.τ).loc Cert.LogRefIdeal.main_arg4)) (m ((c.tc : Thread Cert.LogRefIdeal.nD Cert.LogRefIdeal.τ).loc Cert.LogRefIdeal.main_arg5)) (m ((c.tc : Thread Cert.LogRefIdeal.nD Cert.LogRefIdeal.τ).loc Cert.LogRefIdeal.main_arg6)) (m ((c.tc : Thread Cert.LogRefIdeal.nD Cert.LogRefIdeal.τ).loc Cert.LogRefIdeal.main_arg7)) (m ((c.tc : Thread Cert.LogRefIdeal.nD Cert.LogRefIdeal.τ).loc Cert.LogRefIdeal.main_arg8))).2.2.1 = (fun _ => 1#1)
    ∧ (Cert.Pre_finite_rows.fn (F := Ideal) (m ((c.tc : Thread Cert.LogRefIdeal.nD Cert.LogRefIdeal.τ).loc Cert.LogRefIdeal.main_arg0)) (m ((c.tc : Thread Cert.LogRefIdeal.nD Cert.LogRefIdeal.τ).loc Cert.LogRefIdeal.main_arg1)) (m ((c.tc : Thread Cert.LogRefIdeal.nD Cert.LogRefIdeal.τ).loc Cert.LogRefIdeal.main_arg2)) (m ((c.tc : Thread Cert.LogRefIdeal.nD Cert.LogRefIdeal.τ).loc Cert.LogRefIdeal.main_arg3)) (m ((c.tc : Thread Cert.LogRefIdeal.nD Cert.LogRefIdeal.τ).loc Cert.LogRefIdeal.main_arg4)) (m ((c.tc : Thread Cert.LogRefIdeal.nD Cert.LogRefIdeal.τ).loc Cert.LogRefIdeal.main_arg5)) (m ((c.tc : Thread Cert.LogRefIdeal.nD Cert.LogRefIdeal.τ).loc Cert.LogRefIdeal.main_arg6)) (m ((c.tc : Thread Cert.LogRefIdeal.nD Cert.LogRefIdeal.τ).loc Cert.LogRefIdeal.main_arg7)) (m ((c.tc : Thread Cert.LogRefIdeal.nD Cert.LogRefIdeal.τ).loc Cert.LogRefIdeal.main_arg8))).2.2.2.1 = (fun _ => 1#1)
    ∧ (Cert.Pre_finite_rows.fn (F := Ideal) (m ((c.tc : Thread Cert.LogRefIdeal.nD Cert.LogRefIdeal.τ).loc Cert.LogRefIdeal.main_arg0)) (m ((c.tc : Thread Cert.LogRefIdeal.nD Cert.LogRefIdeal.τ).loc Cert.LogRefIdeal.main_arg1)) (m ((c.tc : Thread Cert.LogRefIdeal.nD Cert.LogRefIdeal.τ).loc Cert.LogRefIdeal.main_arg2)) (m ((c.tc : Thread Cert.LogRefIdeal.nD Cert.LogRefIdeal.τ).loc Cert.LogRefIdeal.main_arg3)) (m ((c.tc : Thread Cert.LogRefIdeal.nD Cert.LogRefIdeal.τ).loc Cert.LogRefIdeal.main_arg4)) (m ((c.tc : Thread Cert.LogRefIdeal.nD Cert.LogRefIdeal.τ).loc Cert.LogRefIdeal.main_arg5)) (m ((c.tc : Thread Cert.LogRefIdeal.nD Cert.LogRefIdeal.τ).loc Cert.LogRefIdeal.main_arg6)) (m ((c.tc : Thread Cert.LogRefIdeal.nD Cert.LogRefIdeal.τ).loc Cert.LogRefIdeal.main_arg7)) (m ((c.tc : Thread Cert.LogRefIdeal.nD Cert.LogRefIdeal.τ).loc Cert.LogRefIdeal.main_arg8))).2.2.2.2.1 = (fun _ => 1#1)
    ∧ (Cert.Pre_finite_rows.fn (F := Ideal) (m ((c.tc : Thread Cert.LogRefIdeal.nD Cert.LogRefIdeal.τ).loc Cert.LogRefIdeal.main_arg0)) (m ((c.tc : Thread Cert.LogRefIdeal.nD Cert.LogRefIdeal.τ).loc Cert.LogRefIdeal.main_arg1)) (m ((c.tc : Thread Cert.LogRefIdeal.nD Cert.LogRefIdeal.τ).loc Cert.LogRefIdeal.main_arg2)) (m ((c.tc : Thread Cert.LogRefIdeal.nD Cert.LogRefIdeal.τ).loc Cert.LogRefIdeal.main_arg3)) (m ((c.tc : Thread Cert.LogRefIdeal.nD Cert.LogRefIdeal.τ).loc Cert.LogRefIdeal.main_arg4)) (m ((c.tc : Thread Cert.LogRefIdeal.nD Cert.LogRefIdeal.τ).loc Cert.LogRefIdeal.main_arg5)) (m ((c.tc : Thread Cert.LogRefIdeal.nD Cert.LogRefIdeal.τ).loc Cert.LogRefIdeal.main_arg6)) (m ((c.tc : Thread Cert.LogRefIdeal.nD Cert.LogRefIdeal.τ).loc Cert.LogRefIdeal.main_arg7)) (m ((c.tc : Thread Cert.LogRefIdeal.nD Cert.LogRefIdeal.τ).loc Cert.LogRefIdeal.main_arg8))).2.2.2.2.2.1 = (fun _ => 1#1)
    ∧ (Cert.Pre_finite_rows.fn (F := Ideal) (m ((c.tc : Thread Cert.LogRefIdeal.nD Cert.LogRefIdeal.τ).loc Cert.LogRefIdeal.main_arg0)) (m ((c.tc : Thread Cert.LogRefIdeal.nD Cert.LogRefIdeal.τ).loc Cert.LogRefIdeal.main_arg1)) (m ((c.tc : Thread Cert.LogRefIdeal.nD Cert.LogRefIdeal.τ).loc Cert.LogRefIdeal.main_arg2)) (m ((c.tc : Thread Cert.LogRefIdeal.nD Cert.LogRefIdeal.τ).loc Cert.LogRefIdeal.main_arg3)) (m ((c.tc : Thread Cert.LogRefIdeal.nD Cert.LogRefIdeal.τ).loc Cert.LogRefIdeal.main_arg4)) (m ((c.tc : Thread Cert.LogRefIdeal.nD Cert.LogRefIdeal.τ).loc Cert.LogRefIdeal.main_arg5)) (m ((c.tc : Thread Cert.LogRefIdeal.nD Cert.LogRefIdeal.τ).loc Cert.LogRefIdeal.main_arg6)) (m ((c.tc : Thread Cert.LogRefIdeal.nD Cert.LogRefIdeal.τ).loc Cert.LogRefIdeal.main_arg7)) (m ((c.tc : Thread Cert.LogRefIdeal.nD Cert.LogRefIdeal.τ).loc Cert.LogRefIdeal.main_arg8))).2.2.2.2.2.2.1 = (fun _ => 1#1)
    ∧ (Cert.Pre_finite_rows.fn (F := Ideal) (m ((c.tc : Thread Cert.LogRefIdeal.nD Cert.LogRefIdeal.τ).loc Cert.LogRefIdeal.main_arg0)) (m ((c.tc : Thread Cert.LogRefIdeal.nD Cert.LogRefIdeal.τ).loc Cert.LogRefIdeal.main_arg1)) (m ((c.tc : Thread Cert.LogRefIdeal.nD Cert.LogRefIdeal.τ).loc Cert.LogRefIdeal.main_arg2)) (m ((c.tc : Thread Cert.LogRefIdeal.nD Cert.LogRefIdeal.τ).loc Cert.LogRefIdeal.main_arg3)) (m ((c.tc : Thread Cert.LogRefIdeal.nD Cert.LogRefIdeal.τ).loc Cert.LogRefIdeal.main_arg4)) (m ((c.tc : Thread Cert.LogRefIdeal.nD Cert.LogRefIdeal.τ).loc Cert.LogRefIdeal.main_arg5)) (m ((c.tc : Thread Cert.LogRefIdeal.nD Cert.LogRefIdeal.τ).loc Cert.LogRefIdeal.main_arg6)) (m ((c.tc : Thread Cert.LogRefIdeal.nD Cert.LogRefIdeal.τ).loc Cert.LogRefIdeal.main_arg7)) (m ((c.tc : Thread Cert.LogRefIdeal.nD Cert.LogRefIdeal.τ).loc Cert.LogRefIdeal.main_arg8))).2.2.2.2.2.2.2 = (fun _ => 1#1)

def quiescent_Exp [hExp : Cert.Exp.Facts] [hPre_expert_in_range : Cert.Pre_expert_in_range.Facts] : Prop :=
  ∀ (m : (ℓ : Loc Cert.Exp.nD Cert.Exp.τ Cert.Exp.sig) → Buf (Elt Bits) ℓ) (g : Dev Cert.Exp.nD → PrngReg), Pre_Exp m →
    θ_run (Cert.Exp.defs (F := Bits)) (onTc (τ := Cert.Exp.τ) (Cert.Exp.main (F := Bits))) ⟨m, fun _ => 0, g⟩ (fun r => (∀ c : Dev Cert.Exp.nD,
      r.2.mem ((c.tc : Thread Cert.Exp.nD Cert.Exp.τ).loc Cert.Exp.main_arg0) = m ((c.tc : Thread Cert.Exp.nD Cert.Exp.τ).loc Cert.Exp.main_arg0)
      ∧ r.2.mem ((c.tc : Thread Cert.Exp.nD Cert.Exp.τ).loc Cert.Exp.main_arg1) = m ((c.tc : Thread Cert.Exp.nD Cert.Exp.τ).loc Cert.Exp.main_arg1)
      ∧ r.2.mem ((c.tc : Thread Cert.Exp.nD Cert.Exp.τ).loc Cert.Exp.main_arg2) = m ((c.tc : Thread Cert.Exp.nD Cert.Exp.τ).loc Cert.Exp.main_arg2)
      ∧ r.2.mem ((c.tc : Thread Cert.Exp.nD Cert.Exp.τ).loc Cert.Exp.main_arg3) = m ((c.tc : Thread Cert.Exp.nD Cert.Exp.τ).loc Cert.Exp.main_arg3)
      ∧ r.2.mem ((c.tc : Thread Cert.Exp.nD Cert.Exp.τ).loc Cert.Exp.main_arg4) = m ((c.tc : Thread Cert.Exp.nD Cert.Exp.τ).loc Cert.Exp.main_arg4)
      ∧ r.2.mem ((c.tc : Thread Cert.Exp.nD Cert.Exp.τ).loc Cert.Exp.main_arg5) = m ((c.tc : Thread Cert.Exp.nD Cert.Exp.τ).loc Cert.Exp.main_arg5))
      ∧ r.2.sem = fun _ => 0)

def quiescent_ExpIdeal [hExpIdeal : Cert.ExpIdeal.Facts] [hPre_expert_in_range : Cert.Pre_expert_in_range.Facts] : Prop :=
  ∀ (m : (ℓ : Loc Cert.ExpIdeal.nD Cert.ExpIdeal.τ Cert.ExpIdeal.sig) → Buf (Elt Ideal) ℓ) (g : Dev Cert.ExpIdeal.nD → PrngReg), Pre_ExpIdeal m →
    θ_run (Cert.ExpIdeal.defs (F := Ideal)) (onTc (τ := Cert.ExpIdeal.τ) (Cert.ExpIdeal.main (F := Ideal))) ⟨m, fun _ => 0, g⟩ (fun r => (∀ c : Dev Cert.ExpIdeal.nD,
      r.2.mem ((c.tc : Thread Cert.ExpIdeal.nD Cert.ExpIdeal.τ).loc Cert.ExpIdeal.main_arg0) = m ((c.tc : Thread Cert.ExpIdeal.nD Cert.ExpIdeal.τ).loc Cert.ExpIdeal.main_arg0)
      ∧ r.2.mem ((c.tc : Thread Cert.ExpIdeal.nD Cert.ExpIdeal.τ).loc Cert.ExpIdeal.main_arg1) = m ((c.tc : Thread Cert.ExpIdeal.nD Cert.ExpIdeal.τ).loc Cert.ExpIdeal.main_arg1)
      ∧ r.2.mem ((c.tc : Thread Cert.ExpIdeal.nD Cert.ExpIdeal.τ).loc Cert.ExpIdeal.main_arg2) = m ((c.tc : Thread Cert.ExpIdeal.nD Cert.ExpIdeal.τ).loc Cert.ExpIdeal.main_arg2)
      ∧ r.2.mem ((c.tc : Thread Cert.ExpIdeal.nD Cert.ExpIdeal.τ).loc Cert.ExpIdeal.main_arg3) = m ((c.tc : Thread Cert.ExpIdeal.nD Cert.ExpIdeal.τ).loc Cert.ExpIdeal.main_arg3)
      ∧ r.2.mem ((c.tc : Thread Cert.ExpIdeal.nD Cert.ExpIdeal.τ).loc Cert.ExpIdeal.main_arg4) = m ((c.tc : Thread Cert.ExpIdeal.nD Cert.ExpIdeal.τ).loc Cert.ExpIdeal.main_arg4)
      ∧ r.2.mem ((c.tc : Thread Cert.ExpIdeal.nD Cert.ExpIdeal.τ).loc Cert.ExpIdeal.main_arg5) = m ((c.tc : Thread Cert.ExpIdeal.nD Cert.ExpIdeal.τ).loc Cert.ExpIdeal.main_arg5))
      ∧ r.2.sem = fun _ => 0)

def quiescent_ExpRefIdeal [hExpRefIdeal : Cert.ExpRefIdeal.Facts] : Prop :=
  ∀ (m : (ℓ : Loc Cert.ExpRefIdeal.nD Cert.ExpRefIdeal.τ Cert.ExpRefIdeal.sig) → Buf (Elt Ideal) ℓ) (g : Dev Cert.ExpRefIdeal.nD → PrngReg), Pre_ExpRefIdeal m →
    θ_run (Cert.ExpRefIdeal.defs (F := Ideal)) (onTc (τ := Cert.ExpRefIdeal.τ) (Cert.ExpRefIdeal.main (F := Ideal))) ⟨m, fun _ => 0, g⟩ (fun r => (∀ c : Dev Cert.ExpRefIdeal.nD,
      r.2.mem ((c.tc : Thread Cert.ExpRefIdeal.nD Cert.ExpRefIdeal.τ).loc Cert.ExpRefIdeal.main_arg0) = m ((c.tc : Thread Cert.ExpRefIdeal.nD Cert.ExpRefIdeal.τ).loc Cert.ExpRefIdeal.main_arg0)
      ∧ r.2.mem ((c.tc : Thread Cert.ExpRefIdeal.nD Cert.ExpRefIdeal.τ).loc Cert.ExpRefIdeal.main_arg1) = m ((c.tc : Thread Cert.ExpRefIdeal.nD Cert.ExpRefIdeal.τ).loc Cert.ExpRefIdeal.main_arg1)
      ∧ r.2.mem ((c.tc : Thread Cert.ExpRefIdeal.nD Cert.ExpRefIdeal.τ).loc Cert.ExpRefIdeal.main_arg2) = m ((c.tc : Thread Cert.ExpRefIdeal.nD Cert.ExpRefIdeal.τ).loc Cert.ExpRefIdeal.main_arg2)
      ∧ r.2.mem ((c.tc : Thread Cert.ExpRefIdeal.nD Cert.ExpRefIdeal.τ).loc Cert.ExpRefIdeal.main_arg3) = m ((c.tc : Thread Cert.ExpRefIdeal.nD Cert.ExpRefIdeal.τ).loc Cert.ExpRefIdeal.main_arg3)
      ∧ r.2.mem ((c.tc : Thread Cert.ExpRefIdeal.nD Cert.ExpRefIdeal.τ).loc Cert.ExpRefIdeal.main_arg4) = m ((c.tc : Thread Cert.ExpRefIdeal.nD Cert.ExpRefIdeal.τ).loc Cert.ExpRefIdeal.main_arg4)
      ∧ r.2.mem ((c.tc : Thread Cert.ExpRefIdeal.nD Cert.ExpRefIdeal.τ).loc Cert.ExpRefIdeal.main_arg5) = m ((c.tc : Thread Cert.ExpRefIdeal.nD Cert.ExpRefIdeal.τ).loc Cert.ExpRefIdeal.main_arg5))
      ∧ r.2.sem = fun _ => 0)

def quiescent_ExpRefIdeal_pre_expert_in_range [hExpRefIdeal : Cert.ExpRefIdeal.Facts] [hPre_expert_in_range : Cert.Pre_expert_in_range.Facts] : Prop :=
  ∀ (m : (ℓ : Loc Cert.ExpRefIdeal.nD Cert.ExpRefIdeal.τ Cert.ExpRefIdeal.sig) → Buf (Elt Ideal) ℓ) (g : Dev Cert.ExpRefIdeal.nD → PrngReg), Pre_ExpRefIdeal_expert_in_range m →
    θ_run (Cert.ExpRefIdeal.defs (F := Ideal)) (onTc (τ := Cert.ExpRefIdeal.τ) (Cert.ExpRefIdeal.main (F := Ideal))) ⟨m, fun _ => 0, g⟩ (fun r => (∀ c : Dev Cert.ExpRefIdeal.nD,
      r.2.mem ((c.tc : Thread Cert.ExpRefIdeal.nD Cert.ExpRefIdeal.τ).loc Cert.ExpRefIdeal.main_arg0) = m ((c.tc : Thread Cert.ExpRefIdeal.nD Cert.ExpRefIdeal.τ).loc Cert.ExpRefIdeal.main_arg0)
      ∧ r.2.mem ((c.tc : Thread Cert.ExpRefIdeal.nD Cert.ExpRefIdeal.τ).loc Cert.ExpRefIdeal.main_arg1) = m ((c.tc : Thread Cert.ExpRefIdeal.nD Cert.ExpRefIdeal.τ).loc Cert.ExpRefIdeal.main_arg1)
      ∧ r.2.mem ((c.tc : Thread Cert.ExpRefIdeal.nD Cert.ExpRefIdeal.τ).loc Cert.ExpRefIdeal.main_arg2) = m ((c.tc : Thread Cert.ExpRefIdeal.nD Cert.ExpRefIdeal.τ).loc Cert.ExpRefIdeal.main_arg2)
      ∧ r.2.mem ((c.tc : Thread Cert.ExpRefIdeal.nD Cert.ExpRefIdeal.τ).loc Cert.ExpRefIdeal.main_arg3) = m ((c.tc : Thread Cert.ExpRefIdeal.nD Cert.ExpRefIdeal.τ).loc Cert.ExpRefIdeal.main_arg3)
      ∧ r.2.mem ((c.tc : Thread Cert.ExpRefIdeal.nD Cert.ExpRefIdeal.τ).loc Cert.ExpRefIdeal.main_arg4) = m ((c.tc : Thread Cert.ExpRefIdeal.nD Cert.ExpRefIdeal.τ).loc Cert.ExpRefIdeal.main_arg4)
      ∧ r.2.mem ((c.tc : Thread Cert.ExpRefIdeal.nD Cert.ExpRefIdeal.τ).loc Cert.ExpRefIdeal.main_arg5) = m ((c.tc : Thread Cert.ExpRefIdeal.nD Cert.ExpRefIdeal.τ).loc Cert.ExpRefIdeal.main_arg5))
      ∧ r.2.sem = fun _ => 0)

def quiescent_Cmp [hCmp : Cert.Cmp.Facts] : Prop :=
  ∀ (m : (ℓ : Loc Cert.Cmp.nD Cert.Cmp.τ Cert.Cmp.sig) → Buf (Elt Bits) ℓ) (g : Dev Cert.Cmp.nD → PrngReg), Pre_Cmp m →
    θ_run (Cert.Cmp.defs (F := Bits)) (onTc (τ := Cert.Cmp.τ) (Cert.Cmp.main (F := Bits))) ⟨m, fun _ => 0, g⟩ (fun r => (∀ c : Dev Cert.Cmp.nD,
      r.2.mem ((c.tc : Thread Cert.Cmp.nD Cert.Cmp.τ).loc Cert.Cmp.main_arg0) = m ((c.tc : Thread Cert.Cmp.nD Cert.Cmp.τ).loc Cert.Cmp.main_arg0)
      ∧ r.2.mem ((c.tc : Thread Cert.Cmp.nD Cert.Cmp.τ).loc Cert.Cmp.main_arg1) = m ((c.tc : Thread Cert.Cmp.nD Cert.Cmp.τ).loc Cert.Cmp.main_arg1)
      ∧ r.2.mem ((c.tc : Thread Cert.Cmp.nD Cert.Cmp.τ).loc Cert.Cmp.main_arg2) = m ((c.tc : Thread Cert.Cmp.nD Cert.Cmp.τ).loc Cert.Cmp.main_arg2)
      ∧ r.2.mem ((c.tc : Thread Cert.Cmp.nD Cert.Cmp.τ).loc Cert.Cmp.main_arg3) = m ((c.tc : Thread Cert.Cmp.nD Cert.Cmp.τ).loc Cert.Cmp.main_arg3))
      ∧ r.2.sem = fun _ => 0)

def quiescent_CmpIdeal [hCmpIdeal : Cert.CmpIdeal.Facts] : Prop :=
  ∀ (m : (ℓ : Loc Cert.CmpIdeal.nD Cert.CmpIdeal.τ Cert.CmpIdeal.sig) → Buf (Elt Ideal) ℓ) (g : Dev Cert.CmpIdeal.nD → PrngReg), Pre_CmpIdeal m →
    θ_run (Cert.CmpIdeal.defs (F := Ideal)) (onTc (τ := Cert.CmpIdeal.τ) (Cert.CmpIdeal.main (F := Ideal))) ⟨m, fun _ => 0, g⟩ (fun r => (∀ c : Dev Cert.CmpIdeal.nD,
      r.2.mem ((c.tc : Thread Cert.CmpIdeal.nD Cert.CmpIdeal.τ).loc Cert.CmpIdeal.main_arg0) = m ((c.tc : Thread Cert.CmpIdeal.nD Cert.CmpIdeal.τ).loc Cert.CmpIdeal.main_arg0)
      ∧ r.2.mem ((c.tc : Thread Cert.CmpIdeal.nD Cert.CmpIdeal.τ).loc Cert.CmpIdeal.main_arg1) = m ((c.tc : Thread Cert.CmpIdeal.nD Cert.CmpIdeal.τ).loc Cert.CmpIdeal.main_arg1)
      ∧ r.2.mem ((c.tc : Thread Cert.CmpIdeal.nD Cert.CmpIdeal.τ).loc Cert.CmpIdeal.main_arg2) = m ((c.tc : Thread Cert.CmpIdeal.nD Cert.CmpIdeal.τ).loc Cert.CmpIdeal.main_arg2)
      ∧ r.2.mem ((c.tc : Thread Cert.CmpIdeal.nD Cert.CmpIdeal.τ).loc Cert.CmpIdeal.main_arg3) = m ((c.tc : Thread Cert.CmpIdeal.nD Cert.CmpIdeal.τ).loc Cert.CmpIdeal.main_arg3))
      ∧ r.2.sem = fun _ => 0)

def quiescent_CmpIdeal_pre_finite_qk [hCmpIdeal : Cert.CmpIdeal.Facts] [hPre_finite_qk : Cert.Pre_finite_qk.Facts] : Prop :=
  ∀ (m : (ℓ : Loc Cert.CmpIdeal.nD Cert.CmpIdeal.τ Cert.CmpIdeal.sig) → Buf (Elt Ideal) ℓ) (g : Dev Cert.CmpIdeal.nD → PrngReg), Pre_CmpIdeal_finite_qk m →
    θ_run (Cert.CmpIdeal.defs (F := Ideal)) (onTc (τ := Cert.CmpIdeal.τ) (Cert.CmpIdeal.main (F := Ideal))) ⟨m, fun _ => 0, g⟩ (fun r => (∀ c : Dev Cert.CmpIdeal.nD,
      r.2.mem ((c.tc : Thread Cert.CmpIdeal.nD Cert.CmpIdeal.τ).loc Cert.CmpIdeal.main_arg0) = m ((c.tc : Thread Cert.CmpIdeal.nD Cert.CmpIdeal.τ).loc Cert.CmpIdeal.main_arg0)
      ∧ r.2.mem ((c.tc : Thread Cert.CmpIdeal.nD Cert.CmpIdeal.τ).loc Cert.CmpIdeal.main_arg1) = m ((c.tc : Thread Cert.CmpIdeal.nD Cert.CmpIdeal.τ).loc Cert.CmpIdeal.main_arg1)
      ∧ r.2.mem ((c.tc : Thread Cert.CmpIdeal.nD Cert.CmpIdeal.τ).loc Cert.CmpIdeal.main_arg2) = m ((c.tc : Thread Cert.CmpIdeal.nD Cert.CmpIdeal.τ).loc Cert.CmpIdeal.main_arg2)
      ∧ r.2.mem ((c.tc : Thread Cert.CmpIdeal.nD Cert.CmpIdeal.τ).loc Cert.CmpIdeal.main_arg3) = m ((c.tc : Thread Cert.CmpIdeal.nD Cert.CmpIdeal.τ).loc Cert.CmpIdeal.main_arg3))
      ∧ r.2.sem = fun _ => 0)

def quiescent_CmpRefIdeal [hCmpRefIdeal : Cert.CmpRefIdeal.Facts] : Prop :=
  ∀ (m : (ℓ : Loc Cert.CmpRefIdeal.nD Cert.CmpRefIdeal.τ Cert.CmpRefIdeal.sig) → Buf (Elt Ideal) ℓ) (g : Dev Cert.CmpRefIdeal.nD → PrngReg), Pre_CmpRefIdeal m →
    θ_run (Cert.CmpRefIdeal.defs (F := Ideal)) (onTc (τ := Cert.CmpRefIdeal.τ) (Cert.CmpRefIdeal.main (F := Ideal))) ⟨m, fun _ => 0, g⟩ (fun r => (∀ c : Dev Cert.CmpRefIdeal.nD,
      r.2.mem ((c.tc : Thread Cert.CmpRefIdeal.nD Cert.CmpRefIdeal.τ).loc Cert.CmpRefIdeal.main_arg0) = m ((c.tc : Thread Cert.CmpRefIdeal.nD Cert.CmpRefIdeal.τ).loc Cert.CmpRefIdeal.main_arg0)
      ∧ r.2.mem ((c.tc : Thread Cert.CmpRefIdeal.nD Cert.CmpRefIdeal.τ).loc Cert.CmpRefIdeal.main_arg1) = m ((c.tc : Thread Cert.CmpRefIdeal.nD Cert.CmpRefIdeal.τ).loc Cert.CmpRefIdeal.main_arg1)
      ∧ r.2.mem ((c.tc : Thread Cert.CmpRefIdeal.nD Cert.CmpRefIdeal.τ).loc Cert.CmpRefIdeal.main_arg2) = m ((c.tc : Thread Cert.CmpRefIdeal.nD Cert.CmpRefIdeal.τ).loc Cert.CmpRefIdeal.main_arg2)
      ∧ r.2.mem ((c.tc : Thread Cert.CmpRefIdeal.nD Cert.CmpRefIdeal.τ).loc Cert.CmpRefIdeal.main_arg3) = m ((c.tc : Thread Cert.CmpRefIdeal.nD Cert.CmpRefIdeal.τ).loc Cert.CmpRefIdeal.main_arg3))
      ∧ r.2.sem = fun _ => 0)

def quiescent_CmpRefIdeal_pre_finite_qk [hCmpRefIdeal : Cert.CmpRefIdeal.Facts] [hPre_finite_qk : Cert.Pre_finite_qk.Facts] : Prop :=
  ∀ (m : (ℓ : Loc Cert.CmpRefIdeal.nD Cert.CmpRefIdeal.τ Cert.CmpRefIdeal.sig) → Buf (Elt Ideal) ℓ) (g : Dev Cert.CmpRefIdeal.nD → PrngReg), Pre_CmpRefIdeal_finite_qk m →
    θ_run (Cert.CmpRefIdeal.defs (F := Ideal)) (onTc (τ := Cert.CmpRefIdeal.τ) (Cert.CmpRefIdeal.main (F := Ideal))) ⟨m, fun _ => 0, g⟩ (fun r => (∀ c : Dev Cert.CmpRefIdeal.nD,
      r.2.mem ((c.tc : Thread Cert.CmpRefIdeal.nD Cert.CmpRefIdeal.τ).loc Cert.CmpRefIdeal.main_arg0) = m ((c.tc : Thread Cert.CmpRefIdeal.nD Cert.CmpRefIdeal.τ).loc Cert.CmpRefIdeal.main_arg0)
      ∧ r.2.mem ((c.tc : Thread Cert.CmpRefIdeal.nD Cert.CmpRefIdeal.τ).loc Cert.CmpRefIdeal.main_arg1) = m ((c.tc : Thread Cert.CmpRefIdeal.nD Cert.CmpRefIdeal.τ).loc Cert.CmpRefIdeal.main_arg1)
      ∧ r.2.mem ((c.tc : Thread Cert.CmpRefIdeal.nD Cert.CmpRefIdeal.τ).loc Cert.CmpRefIdeal.main_arg2) = m ((c.tc : Thread Cert.CmpRefIdeal.nD Cert.CmpRefIdeal.τ).loc Cert.CmpRefIdeal.main_arg2)
      ∧ r.2.mem ((c.tc : Thread Cert.CmpRefIdeal.nD Cert.CmpRefIdeal.τ).loc Cert.CmpRefIdeal.main_arg3) = m ((c.tc : Thread Cert.CmpRefIdeal.nD Cert.CmpRefIdeal.τ).loc Cert.CmpRefIdeal.main_arg3))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3)
      ∧ r.2.mem ((c.tc : Thread Cert.Out.nD Cert.Out.τ).loc Cert.Out.main_arg4) = m ((c.tc : Thread Cert.Out.nD Cert.Out.τ).loc Cert.Out.main_arg4)
      ∧ r.2.mem ((c.tc : Thread Cert.Out.nD Cert.Out.τ).loc Cert.Out.main_arg5) = m ((c.tc : Thread Cert.Out.nD Cert.Out.τ).loc Cert.Out.main_arg5)
      ∧ r.2.mem ((c.tc : Thread Cert.Out.nD Cert.Out.τ).loc Cert.Out.main_arg6) = m ((c.tc : Thread Cert.Out.nD Cert.Out.τ).loc Cert.Out.main_arg6)
      ∧ r.2.mem ((c.tc : Thread Cert.Out.nD Cert.Out.τ).loc Cert.Out.main_arg7) = m ((c.tc : Thread Cert.Out.nD Cert.Out.τ).loc Cert.Out.main_arg7)
      ∧ r.2.mem ((c.tc : Thread Cert.Out.nD Cert.Out.τ).loc Cert.Out.main_arg8) = m ((c.tc : Thread Cert.Out.nD Cert.Out.τ).loc Cert.Out.main_arg8))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
      ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
      ∧ r.2.mem ((c.tc : Thread Cert.OutIdeal.nD Cert.OutIdeal.τ).loc Cert.OutIdeal.main_arg5) = m ((c.tc : Thread Cert.OutIdeal.nD Cert.OutIdeal.τ).loc Cert.OutIdeal.main_arg5)
      ∧ r.2.mem ((c.tc : Thread Cert.OutIdeal.nD Cert.OutIdeal.τ).loc Cert.OutIdeal.main_arg6) = m ((c.tc : Thread Cert.OutIdeal.nD Cert.OutIdeal.τ).loc Cert.OutIdeal.main_arg6)
      ∧ r.2.mem ((c.tc : Thread Cert.OutIdeal.nD Cert.OutIdeal.τ).loc Cert.OutIdeal.main_arg7) = m ((c.tc : Thread Cert.OutIdeal.nD Cert.OutIdeal.τ).loc Cert.OutIdeal.main_arg7)
      ∧ r.2.mem ((c.tc : Thread Cert.OutIdeal.nD Cert.OutIdeal.τ).loc Cert.OutIdeal.main_arg8) = m ((c.tc : Thread Cert.OutIdeal.nD Cert.OutIdeal.τ).loc Cert.OutIdeal.main_arg8))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3)
      ∧ r.2.mem ((c.tc : Thread Cert.OutRefIdeal.nD Cert.OutRefIdeal.τ).loc Cert.OutRefIdeal.main_arg4) = m ((c.tc : Thread Cert.OutRefIdeal.nD Cert.OutRefIdeal.τ).loc Cert.OutRefIdeal.main_arg4)
      ∧ r.2.mem ((c.tc : Thread Cert.OutRefIdeal.nD Cert.OutRefIdeal.τ).loc Cert.OutRefIdeal.main_arg5) = m ((c.tc : Thread Cert.OutRefIdeal.nD Cert.OutRefIdeal.τ).loc Cert.OutRefIdeal.main_arg5)
      ∧ r.2.mem ((c.tc : Thread Cert.OutRefIdeal.nD Cert.OutRefIdeal.τ).loc Cert.OutRefIdeal.main_arg6) = m ((c.tc : Thread Cert.OutRefIdeal.nD Cert.OutRefIdeal.τ).loc Cert.OutRefIdeal.main_arg6)
      ∧ r.2.mem ((c.tc : Thread Cert.OutRefIdeal.nD Cert.OutRefIdeal.τ).loc Cert.OutRefIdeal.main_arg7) = m ((c.tc : Thread Cert.OutRefIdeal.nD Cert.OutRefIdeal.τ).loc Cert.OutRefIdeal.main_arg7)
      ∧ r.2.mem ((c.tc : Thread Cert.OutRefIdeal.nD Cert.OutRefIdeal.τ).loc Cert.OutRefIdeal.main_arg8) = m ((c.tc : Thread Cert.OutRefIdeal.nD Cert.OutRefIdeal.τ).loc Cert.OutRefIdeal.main_arg8))
      ∧ r.2.sem = fun _ => 0)

def quiescent_In [hIn : Cert.In.Facts] : Prop :=
  ∀ (m : (ℓ : Loc Cert.In.nD Cert.In.τ Cert.In.sig) → Buf (Elt Bits) ℓ) (g : Dev Cert.In.nD → PrngReg), Pre_In m →
    θ_run (Cert.In.defs (F := Bits)) (onTc (τ := Cert.In.τ) (Cert.In.main (F := Bits))) ⟨m, fun _ => 0, g⟩ (fun r => (∀ c : Dev Cert.In.nD,
      r.2.mem ((c.tc : Thread Cert.In.nD Cert.In.τ).loc Cert.In.main_arg0) = m ((c.tc : Thread Cert.In.nD Cert.In.τ).loc Cert.In.main_arg0)
      ∧ r.2.mem ((c.tc : Thread Cert.In.nD Cert.In.τ).loc Cert.In.main_arg1) = m ((c.tc : Thread Cert.In.nD Cert.In.τ).loc Cert.In.main_arg1)
      ∧ r.2.mem ((c.tc : Thread Cert.In.nD Cert.In.τ).loc Cert.In.main_arg2) = m ((c.tc : Thread Cert.In.nD Cert.In.τ).loc Cert.In.main_arg2)
      ∧ r.2.mem ((c.tc : Thread Cert.In.nD Cert.In.τ).loc Cert.In.main_arg3) = m ((c.tc : Thread Cert.In.nD Cert.In.τ).loc Cert.In.main_arg3)
      ∧ r.2.mem ((c.tc : Thread Cert.In.nD Cert.In.τ).loc Cert.In.main_arg4) = m ((c.tc : Thread Cert.In.nD Cert.In.τ).loc Cert.In.main_arg4)
      ∧ r.2.mem ((c.tc : Thread Cert.In.nD Cert.In.τ).loc Cert.In.main_arg5) = m ((c.tc : Thread Cert.In.nD Cert.In.τ).loc Cert.In.main_arg5)
      ∧ r.2.mem ((c.tc : Thread Cert.In.nD Cert.In.τ).loc Cert.In.main_arg6) = m ((c.tc : Thread Cert.In.nD Cert.In.τ).loc Cert.In.main_arg6))
      ∧ r.2.sem = fun _ => 0)

def quiescent_InIdeal [hInIdeal : Cert.InIdeal.Facts] : Prop :=
  ∀ (m : (ℓ : Loc Cert.InIdeal.nD Cert.InIdeal.τ Cert.InIdeal.sig) → Buf (Elt Ideal) ℓ) (g : Dev Cert.InIdeal.nD → PrngReg), Pre_InIdeal m →
    θ_run (Cert.InIdeal.defs (F := Ideal)) (onTc (τ := Cert.InIdeal.τ) (Cert.InIdeal.main (F := Ideal))) ⟨m, fun _ => 0, g⟩ (fun r => (∀ c : Dev Cert.InIdeal.nD,
      r.2.mem ((c.tc : Thread Cert.InIdeal.nD Cert.InIdeal.τ).loc Cert.InIdeal.main_arg0) = m ((c.tc : Thread Cert.InIdeal.nD Cert.InIdeal.τ).loc Cert.InIdeal.main_arg0)
      ∧ r.2.mem ((c.tc : Thread Cert.InIdeal.nD Cert.InIdeal.τ).loc Cert.InIdeal.main_arg1) = m ((c.tc : Thread Cert.InIdeal.nD Cert.InIdeal.τ).loc Cert.InIdeal.main_arg1)
      ∧ r.2.mem ((c.tc : Thread Cert.InIdeal.nD Cert.InIdeal.τ).loc Cert.InIdeal.main_arg2) = m ((c.tc : Thread Cert.InIdeal.nD Cert.InIdeal.τ).loc Cert.InIdeal.main_arg2)
      ∧ r.2.mem ((c.tc : Thread Cert.InIdeal.nD Cert.InIdeal.τ).loc Cert.InIdeal.main_arg3) = m ((c.tc : Thread Cert.InIdeal.nD Cert.InIdeal.τ).loc Cert.InIdeal.main_arg3)
      ∧ r.2.mem ((c.tc : Thread Cert.InIdeal.nD Cert.InIdeal.τ).loc Cert.InIdeal.main_arg4) = m ((c.tc : Thread Cert.InIdeal.nD Cert.InIdeal.τ).loc Cert.InIdeal.main_arg4)
      ∧ r.2.mem ((c.tc : Thread Cert.InIdeal.nD Cert.InIdeal.τ).loc Cert.InIdeal.main_arg5) = m ((c.tc : Thread Cert.InIdeal.nD Cert.InIdeal.τ).loc Cert.InIdeal.main_arg5)
      ∧ r.2.mem ((c.tc : Thread Cert.InIdeal.nD Cert.InIdeal.τ).loc Cert.InIdeal.main_arg6) = m ((c.tc : Thread Cert.InIdeal.nD Cert.InIdeal.τ).loc Cert.InIdeal.main_arg6))
      ∧ r.2.sem = fun _ => 0)

def quiescent_InRefIdeal [hInRefIdeal : Cert.InRefIdeal.Facts] : Prop :=
  ∀ (m : (ℓ : Loc Cert.InRefIdeal.nD Cert.InRefIdeal.τ Cert.InRefIdeal.sig) → Buf (Elt Ideal) ℓ) (g : Dev Cert.InRefIdeal.nD → PrngReg), Pre_InRefIdeal m →
    θ_run (Cert.InRefIdeal.defs (F := Ideal)) (onTc (τ := Cert.InRefIdeal.τ) (Cert.InRefIdeal.main (F := Ideal))) ⟨m, fun _ => 0, g⟩ (fun r => (∀ c : Dev Cert.InRefIdeal.nD,
      r.2.mem ((c.tc : Thread Cert.InRefIdeal.nD Cert.InRefIdeal.τ).loc Cert.InRefIdeal.main_arg0) = m ((c.tc : Thread Cert.InRefIdeal.nD Cert.InRefIdeal.τ).loc Cert.InRefIdeal.main_arg0)
      ∧ r.2.mem ((c.tc : Thread Cert.InRefIdeal.nD Cert.InRefIdeal.τ).loc Cert.InRefIdeal.main_arg1) = m ((c.tc : Thread Cert.InRefIdeal.nD Cert.InRefIdeal.τ).loc Cert.InRefIdeal.main_arg1)
      ∧ r.2.mem ((c.tc : Thread Cert.InRefIdeal.nD Cert.InRefIdeal.τ).loc Cert.InRefIdeal.main_arg2) = m ((c.tc : Thread Cert.InRefIdeal.nD Cert.InRefIdeal.τ).loc Cert.InRefIdeal.main_arg2)
      ∧ r.2.mem ((c.tc : Thread Cert.InRefIdeal.nD Cert.InRefIdeal.τ).loc Cert.InRefIdeal.main_arg3) = m ((c.tc : Thread Cert.InRefIdeal.nD Cert.InRefIdeal.τ).loc Cert.InRefIdeal.main_arg3)
      ∧ r.2.mem ((c.tc : Thread Cert.InRefIdeal.nD Cert.InRefIdeal.τ).loc Cert.InRefIdeal.main_arg4) = m ((c.tc : Thread Cert.InRefIdeal.nD Cert.InRefIdeal.τ).loc Cert.InRefIdeal.main_arg4)
      ∧ r.2.mem ((c.tc : Thread Cert.InRefIdeal.nD Cert.InRefIdeal.τ).loc Cert.InRefIdeal.main_arg5) = m ((c.tc : Thread Cert.InRefIdeal.nD Cert.InRefIdeal.τ).loc Cert.InRefIdeal.main_arg5)
      ∧ r.2.mem ((c.tc : Thread Cert.InRefIdeal.nD Cert.InRefIdeal.τ).loc Cert.InRefIdeal.main_arg6) = m ((c.tc : Thread Cert.InRefIdeal.nD Cert.InRefIdeal.τ).loc Cert.InRefIdeal.main_arg6))
      ∧ r.2.sem = fun _ => 0)

def quiescent_Ada [hAda : Cert.Ada.Facts] : Prop :=
  ∀ (m : (ℓ : Loc Cert.Ada.nD Cert.Ada.τ Cert.Ada.sig) → Buf (Elt Bits) ℓ) (g : Dev Cert.Ada.nD → PrngReg), Pre_Ada m →
    θ_run (Cert.Ada.defs (F := Bits)) (onTc (τ := Cert.Ada.τ) (Cert.Ada.main (F := Bits))) ⟨m, fun _ => 0, g⟩ (fun r => (∀ c : Dev Cert.Ada.nD,
      r.2.mem ((c.tc : Thread Cert.Ada.nD Cert.Ada.τ).loc Cert.Ada.main_arg0) = m ((c.tc : Thread Cert.Ada.nD Cert.Ada.τ).loc Cert.Ada.main_arg0)
      ∧ r.2.mem ((c.tc : Thread Cert.Ada.nD Cert.Ada.τ).loc Cert.Ada.main_arg1) = m ((c.tc : Thread Cert.Ada.nD Cert.Ada.τ).loc Cert.Ada.main_arg1)
      ∧ r.2.mem ((c.tc : Thread Cert.Ada.nD Cert.Ada.τ).loc Cert.Ada.main_arg2) = m ((c.tc : Thread Cert.Ada.nD Cert.Ada.τ).loc Cert.Ada.main_arg2))
      ∧ r.2.sem = fun _ => 0)

def quiescent_AdaIdeal [hAdaIdeal : Cert.AdaIdeal.Facts] : Prop :=
  ∀ (m : (ℓ : Loc Cert.AdaIdeal.nD Cert.AdaIdeal.τ Cert.AdaIdeal.sig) → Buf (Elt Ideal) ℓ) (g : Dev Cert.AdaIdeal.nD → PrngReg), Pre_AdaIdeal m →
    θ_run (Cert.AdaIdeal.defs (F := Ideal)) (onTc (τ := Cert.AdaIdeal.τ) (Cert.AdaIdeal.main (F := Ideal))) ⟨m, fun _ => 0, g⟩ (fun r => (∀ c : Dev Cert.AdaIdeal.nD,
      r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
      ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
      ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2))
      ∧ r.2.sem = fun _ => 0)

def quiescent_AdaRefIdeal [hAdaRefIdeal : Cert.AdaRefIdeal.Facts] : Prop :=
  ∀ (m : (ℓ : Loc Cert.AdaRefIdeal.nD Cert.AdaRefIdeal.τ Cert.AdaRefIdeal.sig) → Buf (Elt Ideal) ℓ) (g : Dev Cert.AdaRefIdeal.nD → PrngReg), Pre_AdaRefIdeal m →
    θ_run (Cert.AdaRefIdeal.defs (F := Ideal)) (onTc (τ := Cert.AdaRefIdeal.τ) (Cert.AdaRefIdeal.main (F := Ideal))) ⟨m, fun _ => 0, g⟩ (fun r => (∀ c : Dev Cert.AdaRefIdeal.nD,
      r.2.mem ((c.tc : Thread Cert.AdaRefIdeal.nD Cert.AdaRefIdeal.τ).loc Cert.AdaRefIdeal.main_arg0) = m ((c.tc : Thread Cert.AdaRefIdeal.nD Cert.AdaRefIdeal.τ).loc Cert.AdaRefIdeal.main_arg0)
      ∧ r.2.mem ((c.tc : Thread Cert.AdaRefIdeal.nD Cert.AdaRefIdeal.τ).loc Cert.AdaRefIdeal.main_arg1) = m ((c.tc : Thread Cert.AdaRefIdeal.nD Cert.AdaRefIdeal.τ).loc Cert.AdaRefIdeal.main_arg1)
      ∧ r.2.mem ((c.tc : Thread Cert.AdaRefIdeal.nD Cert.AdaRefIdeal.τ).loc Cert.AdaRefIdeal.main_arg2) = m ((c.tc : Thread Cert.AdaRefIdeal.nD Cert.AdaRefIdeal.τ).loc Cert.AdaRefIdeal.main_arg2))
      ∧ r.2.sem = fun _ => 0)

def quiescent_Rope [hRope : Cert.Rope.Facts] : Prop :=
  ∀ (m : (ℓ : Loc Cert.Rope.nD Cert.Rope.τ Cert.Rope.sig) → Buf (Elt Bits) ℓ) (g : Dev Cert.Rope.nD → PrngReg), Pre_Rope m →
    θ_run (Cert.Rope.defs (F := Bits)) (onTc (τ := Cert.Rope.τ) (Cert.Rope.main (F := Bits))) ⟨m, fun _ => 0, g⟩ (fun r => (∀ c : Dev Cert.Rope.nD,
      r.2.mem ((c.tc : Thread Cert.Rope.nD Cert.Rope.τ).loc Cert.Rope.main_arg0) = m ((c.tc : Thread Cert.Rope.nD Cert.Rope.τ).loc Cert.Rope.main_arg0))
      ∧ r.2.sem = fun _ => 0)

def quiescent_RopeIdeal [hRopeIdeal : Cert.RopeIdeal.Facts] : Prop :=
  ∀ (m : (ℓ : Loc Cert.RopeIdeal.nD Cert.RopeIdeal.τ Cert.RopeIdeal.sig) → Buf (Elt Ideal) ℓ) (g : Dev Cert.RopeIdeal.nD → PrngReg), Pre_RopeIdeal m →
    θ_run (Cert.RopeIdeal.defs (F := Ideal)) (onTc (τ := Cert.RopeIdeal.τ) (Cert.RopeIdeal.main (F := Ideal))) ⟨m, fun _ => 0, g⟩ (fun r => (∀ c : Dev Cert.RopeIdeal.nD,
      r.2.mem ((c.tc : Thread Cert.RopeIdeal.nD Cert.RopeIdeal.τ).loc Cert.RopeIdeal.main_arg0) = m ((c.tc : Thread Cert.RopeIdeal.nD Cert.RopeIdeal.τ).loc Cert.RopeIdeal.main_arg0))
      ∧ r.2.sem = fun _ => 0)

def quiescent_RopeRefIdeal [hRopeRefIdeal : Cert.RopeRefIdeal.Facts] : Prop :=
  ∀ (m : (ℓ : Loc Cert.RopeRefIdeal.nD Cert.RopeRefIdeal.τ Cert.RopeRefIdeal.sig) → Buf (Elt Ideal) ℓ) (g : Dev Cert.RopeRefIdeal.nD → PrngReg), Pre_RopeRefIdeal m →
    θ_run (Cert.RopeRefIdeal.defs (F := Ideal)) (onTc (τ := Cert.RopeRefIdeal.τ) (Cert.RopeRefIdeal.main (F := Ideal))) ⟨m, fun _ => 0, g⟩ (fun r => (∀ c : Dev Cert.RopeRefIdeal.nD,
      r.2.mem ((c.tc : Thread Cert.RopeRefIdeal.nD Cert.RopeRefIdeal.τ).loc Cert.RopeRefIdeal.main_arg0) = m ((c.tc : Thread Cert.RopeRefIdeal.nD Cert.RopeRefIdeal.τ).loc Cert.RopeRefIdeal.main_arg0))
      ∧ r.2.sem = fun _ => 0)

def quiescent_Cps [hCps : Cert.Cps.Facts] : Prop :=
  ∀ (m : (ℓ : Loc Cert.Cps.nD Cert.Cps.τ Cert.Cps.sig) → Buf (Elt Bits) ℓ) (g : Dev Cert.Cps.nD → PrngReg), Pre_Cps m →
    θ_run (Cert.Cps.defs (F := Bits)) (onTc (τ := Cert.Cps.τ) (Cert.Cps.main (F := Bits))) ⟨m, fun _ => 0, g⟩ (fun r => (∀ c : Dev Cert.Cps.nD,
      r.2.mem ((c.tc : Thread Cert.Cps.nD Cert.Cps.τ).loc Cert.Cps.main_arg0) = m ((c.tc : Thread Cert.Cps.nD Cert.Cps.τ).loc Cert.Cps.main_arg0)
      ∧ r.2.mem ((c.tc : Thread Cert.Cps.nD Cert.Cps.τ).loc Cert.Cps.main_arg1) = m ((c.tc : Thread Cert.Cps.nD Cert.Cps.τ).loc Cert.Cps.main_arg1)
      ∧ r.2.mem ((c.tc : Thread Cert.Cps.nD Cert.Cps.τ).loc Cert.Cps.main_arg2) = m ((c.tc : Thread Cert.Cps.nD Cert.Cps.τ).loc Cert.Cps.main_arg2)
      ∧ r.2.mem ((c.tc : Thread Cert.Cps.nD Cert.Cps.τ).loc Cert.Cps.main_arg3) = m ((c.tc : Thread Cert.Cps.nD Cert.Cps.τ).loc Cert.Cps.main_arg3))
      ∧ r.2.sem = fun _ => 0)

def quiescent_CpsIdeal [hCpsIdeal : Cert.CpsIdeal.Facts] : Prop :=
  ∀ (m : (ℓ : Loc Cert.CpsIdeal.nD Cert.CpsIdeal.τ Cert.CpsIdeal.sig) → Buf (Elt Ideal) ℓ) (g : Dev Cert.CpsIdeal.nD → PrngReg), Pre_CpsIdeal m →
    θ_run (Cert.CpsIdeal.defs (F := Ideal)) (onTc (τ := Cert.CpsIdeal.τ) (Cert.CpsIdeal.main (F := Ideal))) ⟨m, fun _ => 0, g⟩ (fun r => (∀ c : Dev Cert.CpsIdeal.nD,
      r.2.mem ((c.tc : Thread Cert.CpsIdeal.nD Cert.CpsIdeal.τ).loc Cert.CpsIdeal.main_arg0) = m ((c.tc : Thread Cert.CpsIdeal.nD Cert.CpsIdeal.τ).loc Cert.CpsIdeal.main_arg0)
      ∧ r.2.mem ((c.tc : Thread Cert.CpsIdeal.nD Cert.CpsIdeal.τ).loc Cert.CpsIdeal.main_arg1) = m ((c.tc : Thread Cert.CpsIdeal.nD Cert.CpsIdeal.τ).loc Cert.CpsIdeal.main_arg1)
      ∧ r.2.mem ((c.tc : Thread Cert.CpsIdeal.nD Cert.CpsIdeal.τ).loc Cert.CpsIdeal.main_arg2) = m ((c.tc : Thread Cert.CpsIdeal.nD Cert.CpsIdeal.τ).loc Cert.CpsIdeal.main_arg2)
      ∧ r.2.mem ((c.tc : Thread Cert.CpsIdeal.nD Cert.CpsIdeal.τ).loc Cert.CpsIdeal.main_arg3) = m ((c.tc : Thread Cert.CpsIdeal.nD Cert.CpsIdeal.τ).loc Cert.CpsIdeal.main_arg3))
      ∧ r.2.sem = fun _ => 0)

def quiescent_CpsIdeal_pre_finite_blocks [hCpsIdeal : Cert.CpsIdeal.Facts] [hPre_finite_blocks : Cert.Pre_finite_blocks.Facts] : Prop :=
  ∀ (m : (ℓ : Loc Cert.CpsIdeal.nD Cert.CpsIdeal.τ Cert.CpsIdeal.sig) → Buf (Elt Ideal) ℓ) (g : Dev Cert.CpsIdeal.nD → PrngReg), Pre_CpsIdeal_finite_blocks m →
    θ_run (Cert.CpsIdeal.defs (F := Ideal)) (onTc (τ := Cert.CpsIdeal.τ) (Cert.CpsIdeal.main (F := Ideal))) ⟨m, fun _ => 0, g⟩ (fun r => (∀ c : Dev Cert.CpsIdeal.nD,
      r.2.mem ((c.tc : Thread Cert.CpsIdeal.nD Cert.CpsIdeal.τ).loc Cert.CpsIdeal.main_arg0) = m ((c.tc : Thread Cert.CpsIdeal.nD Cert.CpsIdeal.τ).loc Cert.CpsIdeal.main_arg0)
      ∧ r.2.mem ((c.tc : Thread Cert.CpsIdeal.nD Cert.CpsIdeal.τ).loc Cert.CpsIdeal.main_arg1) = m ((c.tc : Thread Cert.CpsIdeal.nD Cert.CpsIdeal.τ).loc Cert.CpsIdeal.main_arg1)
      ∧ r.2.mem ((c.tc : Thread Cert.CpsIdeal.nD Cert.CpsIdeal.τ).loc Cert.CpsIdeal.main_arg2) = m ((c.tc : Thread Cert.CpsIdeal.nD Cert.CpsIdeal.τ).loc Cert.CpsIdeal.main_arg2)
      ∧ r.2.mem ((c.tc : Thread Cert.CpsIdeal.nD Cert.CpsIdeal.τ).loc Cert.CpsIdeal.main_arg3) = m ((c.tc : Thread Cert.CpsIdeal.nD Cert.CpsIdeal.τ).loc Cert.CpsIdeal.main_arg3))
      ∧ r.2.sem = fun _ => 0)

def quiescent_CpsRefIdeal [hCpsRefIdeal : Cert.CpsRefIdeal.Facts] : Prop :=
  ∀ (m : (ℓ : Loc Cert.CpsRefIdeal.nD Cert.CpsRefIdeal.τ Cert.CpsRefIdeal.sig) → Buf (Elt Ideal) ℓ) (g : Dev Cert.CpsRefIdeal.nD → PrngReg), Pre_CpsRefIdeal m →
    θ_run (Cert.CpsRefIdeal.defs (F := Ideal)) (onTc (τ := Cert.CpsRefIdeal.τ) (Cert.CpsRefIdeal.main (F := Ideal))) ⟨m, fun _ => 0, g⟩ (fun r => (∀ c : Dev Cert.CpsRefIdeal.nD,
      r.2.mem ((c.tc : Thread Cert.CpsRefIdeal.nD Cert.CpsRefIdeal.τ).loc Cert.CpsRefIdeal.main_arg0) = m ((c.tc : Thread Cert.CpsRefIdeal.nD Cert.CpsRefIdeal.τ).loc Cert.CpsRefIdeal.main_arg0)
      ∧ r.2.mem ((c.tc : Thread Cert.CpsRefIdeal.nD Cert.CpsRefIdeal.τ).loc Cert.CpsRefIdeal.main_arg1) = m ((c.tc : Thread Cert.CpsRefIdeal.nD Cert.CpsRefIdeal.τ).loc Cert.CpsRefIdeal.main_arg1)
      ∧ r.2.mem ((c.tc : Thread Cert.CpsRefIdeal.nD Cert.CpsRefIdeal.τ).loc Cert.CpsRefIdeal.main_arg2) = m ((c.tc : Thread Cert.CpsRefIdeal.nD Cert.CpsRefIdeal.τ).loc Cert.CpsRefIdeal.main_arg2)
      ∧ r.2.mem ((c.tc : Thread Cert.CpsRefIdeal.nD Cert.CpsRefIdeal.τ).loc Cert.CpsRefIdeal.main_arg3) = m ((c.tc : Thread Cert.CpsRefIdeal.nD Cert.CpsRefIdeal.τ).loc Cert.CpsRefIdeal.main_arg3))
      ∧ r.2.sem = fun _ => 0)

def quiescent_CpsRefIdeal_pre_finite_blocks [hCpsRefIdeal : Cert.CpsRefIdeal.Facts] [hPre_finite_blocks : Cert.Pre_finite_blocks.Facts] : Prop :=
  ∀ (m : (ℓ : Loc Cert.CpsRefIdeal.nD Cert.CpsRefIdeal.τ Cert.CpsRefIdeal.sig) → Buf (Elt Ideal) ℓ) (g : Dev Cert.CpsRefIdeal.nD → PrngReg), Pre_CpsRefIdeal_finite_blocks m →
    θ_run (Cert.CpsRefIdeal.defs (F := Ideal)) (onTc (τ := Cert.CpsRefIdeal.τ) (Cert.CpsRefIdeal.main (F := Ideal))) ⟨m, fun _ => 0, g⟩ (fun r => (∀ c : Dev Cert.CpsRefIdeal.nD,
      r.2.mem ((c.tc : Thread Cert.CpsRefIdeal.nD Cert.CpsRefIdeal.τ).loc Cert.CpsRefIdeal.main_arg0) = m ((c.tc : Thread Cert.CpsRefIdeal.nD Cert.CpsRefIdeal.τ).loc Cert.CpsRefIdeal.main_arg0)
      ∧ r.2.mem ((c.tc : Thread Cert.CpsRefIdeal.nD Cert.CpsRefIdeal.τ).loc Cert.CpsRefIdeal.main_arg1) = m ((c.tc : Thread Cert.CpsRefIdeal.nD Cert.CpsRefIdeal.τ).loc Cert.CpsRefIdeal.main_arg1)
      ∧ r.2.mem ((c.tc : Thread Cert.CpsRefIdeal.nD Cert.CpsRefIdeal.τ).loc Cert.CpsRefIdeal.main_arg2) = m ((c.tc : Thread Cert.CpsRefIdeal.nD Cert.CpsRefIdeal.τ).loc Cert.CpsRefIdeal.main_arg2)
      ∧ r.2.mem ((c.tc : Thread Cert.CpsRefIdeal.nD Cert.CpsRefIdeal.τ).loc Cert.CpsRefIdeal.main_arg3) = m ((c.tc : Thread Cert.CpsRefIdeal.nD Cert.CpsRefIdeal.τ).loc Cert.CpsRefIdeal.main_arg3))
      ∧ r.2.sem = fun _ => 0)

def quiescent_Log [hLog : Cert.Log.Facts] : Prop :=
  ∀ (m : (ℓ : Loc Cert.Log.nD Cert.Log.τ Cert.Log.sig) → Buf (Elt Bits) ℓ) (g : Dev Cert.Log.nD → PrngReg), Pre_Log m →
    θ_run (Cert.Log.defs (F := Bits)) (onTc (τ := Cert.Log.τ) (Cert.Log.main (F := Bits))) ⟨m, fun _ => 0, g⟩ (fun r => (∀ c : Dev Cert.Log.nD,
      r.2.mem ((c.tc : Thread Cert.Log.nD Cert.Log.τ).loc Cert.Log.main_arg0) = m ((c.tc : Thread Cert.Log.nD Cert.Log.τ).loc Cert.Log.main_arg0)
      ∧ r.2.mem ((c.tc : Thread Cert.Log.nD Cert.Log.τ).loc Cert.Log.main_arg1) = m ((c.tc : Thread Cert.Log.nD Cert.Log.τ).loc Cert.Log.main_arg1)
      ∧ r.2.mem ((c.tc : Thread Cert.Log.nD Cert.Log.τ).loc Cert.Log.main_arg2) = m ((c.tc : Thread Cert.Log.nD Cert.Log.τ).loc Cert.Log.main_arg2)
      ∧ r.2.mem ((c.tc : Thread Cert.Log.nD Cert.Log.τ).loc Cert.Log.main_arg3) = m ((c.tc : Thread Cert.Log.nD Cert.Log.τ).loc Cert.Log.main_arg3)
      ∧ r.2.mem ((c.tc : Thread Cert.Log.nD Cert.Log.τ).loc Cert.Log.main_arg4) = m ((c.tc : Thread Cert.Log.nD Cert.Log.τ).loc Cert.Log.main_arg4)
      ∧ r.2.mem ((c.tc : Thread Cert.Log.nD Cert.Log.τ).loc Cert.Log.main_arg5) = m ((c.tc : Thread Cert.Log.nD Cert.Log.τ).loc Cert.Log.main_arg5)
      ∧ r.2.mem ((c.tc : Thread Cert.Log.nD Cert.Log.τ).loc Cert.Log.main_arg6) = m ((c.tc : Thread Cert.Log.nD Cert.Log.τ).loc Cert.Log.main_arg6)
      ∧ r.2.mem ((c.tc : Thread Cert.Log.nD Cert.Log.τ).loc Cert.Log.main_arg7) = m ((c.tc : Thread Cert.Log.nD Cert.Log.τ).loc Cert.Log.main_arg7)
      ∧ r.2.mem ((c.tc : Thread Cert.Log.nD Cert.Log.τ).loc Cert.Log.main_arg8) = m ((c.tc : Thread Cert.Log.nD Cert.Log.τ).loc Cert.Log.main_arg8))
      ∧ r.2.sem = fun _ => 0)

def quiescent_LogIdeal [hLogIdeal : Cert.LogIdeal.Facts] : Prop :=
  ∀ (m : (ℓ : Loc Cert.LogIdeal.nD Cert.LogIdeal.τ Cert.LogIdeal.sig) → Buf (Elt Ideal) ℓ) (g : Dev Cert.LogIdeal.nD → PrngReg), Pre_LogIdeal m →
    θ_run (Cert.LogIdeal.defs (F := Ideal)) (onTc (τ := Cert.LogIdeal.τ) (Cert.LogIdeal.main (F := Ideal))) ⟨m, fun _ => 0, g⟩ (fun r => (∀ c : Dev Cert.LogIdeal.nD,
      r.2.mem ((c.tc : Thread Cert.LogIdeal.nD Cert.LogIdeal.τ).loc Cert.LogIdeal.main_arg0) = m ((c.tc : Thread Cert.LogIdeal.nD Cert.LogIdeal.τ).loc Cert.LogIdeal.main_arg0)
      ∧ r.2.mem ((c.tc : Thread Cert.LogIdeal.nD Cert.LogIdeal.τ).loc Cert.LogIdeal.main_arg1) = m ((c.tc : Thread Cert.LogIdeal.nD Cert.LogIdeal.τ).loc Cert.LogIdeal.main_arg1)
      ∧ r.2.mem ((c.tc : Thread Cert.LogIdeal.nD Cert.LogIdeal.τ).loc Cert.LogIdeal.main_arg2) = m ((c.tc : Thread Cert.LogIdeal.nD Cert.LogIdeal.τ).loc Cert.LogIdeal.main_arg2)
      ∧ r.2.mem ((c.tc : Thread Cert.LogIdeal.nD Cert.LogIdeal.τ).loc Cert.LogIdeal.main_arg3) = m ((c.tc : Thread Cert.LogIdeal.nD Cert.LogIdeal.τ).loc Cert.LogIdeal.main_arg3)
      ∧ r.2.mem ((c.tc : Thread Cert.LogIdeal.nD Cert.LogIdeal.τ).loc Cert.LogIdeal.main_arg4) = m ((c.tc : Thread Cert.LogIdeal.nD Cert.LogIdeal.τ).loc Cert.LogIdeal.main_arg4)
      ∧ r.2.mem ((c.tc : Thread Cert.LogIdeal.nD Cert.LogIdeal.τ).loc Cert.LogIdeal.main_arg5) = m ((c.tc : Thread Cert.LogIdeal.nD Cert.LogIdeal.τ).loc Cert.LogIdeal.main_arg5)
      ∧ r.2.mem ((c.tc : Thread Cert.LogIdeal.nD Cert.LogIdeal.τ).loc Cert.LogIdeal.main_arg6) = m ((c.tc : Thread Cert.LogIdeal.nD Cert.LogIdeal.τ).loc Cert.LogIdeal.main_arg6)
      ∧ r.2.mem ((c.tc : Thread Cert.LogIdeal.nD Cert.LogIdeal.τ).loc Cert.LogIdeal.main_arg7) = m ((c.tc : Thread Cert.LogIdeal.nD Cert.LogIdeal.τ).loc Cert.LogIdeal.main_arg7)
      ∧ r.2.mem ((c.tc : Thread Cert.LogIdeal.nD Cert.LogIdeal.τ).loc Cert.LogIdeal.main_arg8) = m ((c.tc : Thread Cert.LogIdeal.nD Cert.LogIdeal.τ).loc Cert.LogIdeal.main_arg8))
      ∧ r.2.sem = fun _ => 0)

def quiescent_LogIdeal_pre_finite_rows [hLogIdeal : Cert.LogIdeal.Facts] [hPre_finite_rows : Cert.Pre_finite_rows.Facts] : Prop :=
  ∀ (m : (ℓ : Loc Cert.LogIdeal.nD Cert.LogIdeal.τ Cert.LogIdeal.sig) → Buf (Elt Ideal) ℓ) (g : Dev Cert.LogIdeal.nD → PrngReg), Pre_LogIdeal_finite_rows m →
    θ_run (Cert.LogIdeal.defs (F := Ideal)) (onTc (τ := Cert.LogIdeal.τ) (Cert.LogIdeal.main (F := Ideal))) ⟨m, fun _ => 0, g⟩ (fun r => (∀ c : Dev Cert.LogIdeal.nD,
      r.2.mem ((c.tc : Thread Cert.LogIdeal.nD Cert.LogIdeal.τ).loc Cert.LogIdeal.main_arg0) = m ((c.tc : Thread Cert.LogIdeal.nD Cert.LogIdeal.τ).loc Cert.LogIdeal.main_arg0)
      ∧ r.2.mem ((c.tc : Thread Cert.LogIdeal.nD Cert.LogIdeal.τ).loc Cert.LogIdeal.main_arg1) = m ((c.tc : Thread Cert.LogIdeal.nD Cert.LogIdeal.τ).loc Cert.LogIdeal.main_arg1)
      ∧ r.2.mem ((c.tc : Thread Cert.LogIdeal.nD Cert.LogIdeal.τ).loc Cert.LogIdeal.main_arg2) = m ((c.tc : Thread Cert.LogIdeal.nD Cert.LogIdeal.τ).loc Cert.LogIdeal.main_arg2)
      ∧ r.2.mem ((c.tc : Thread Cert.LogIdeal.nD Cert.LogIdeal.τ).loc Cert.LogIdeal.main_arg3) = m ((c.tc : Thread Cert.LogIdeal.nD Cert.LogIdeal.τ).loc Cert.LogIdeal.main_arg3)
      ∧ r.2.mem ((c.tc : Thread Cert.LogIdeal.nD Cert.LogIdeal.τ).loc Cert.LogIdeal.main_arg4) = m ((c.tc : Thread Cert.LogIdeal.nD Cert.LogIdeal.τ).loc Cert.LogIdeal.main_arg4)
      ∧ r.2.mem ((c.tc : Thread Cert.LogIdeal.nD Cert.LogIdeal.τ).loc Cert.LogIdeal.main_arg5) = m ((c.tc : Thread Cert.LogIdeal.nD Cert.LogIdeal.τ).loc Cert.LogIdeal.main_arg5)
      ∧ r.2.mem ((c.tc : Thread Cert.LogIdeal.nD Cert.LogIdeal.τ).loc Cert.LogIdeal.main_arg6) = m ((c.tc : Thread Cert.LogIdeal.nD Cert.LogIdeal.τ).loc Cert.LogIdeal.main_arg6)
      ∧ r.2.mem ((c.tc : Thread Cert.LogIdeal.nD Cert.LogIdeal.τ).loc Cert.LogIdeal.main_arg7) = m ((c.tc : Thread Cert.LogIdeal.nD Cert.LogIdeal.τ).loc Cert.LogIdeal.main_arg7)
      ∧ r.2.mem ((c.tc : Thread Cert.LogIdeal.nD Cert.LogIdeal.τ).loc Cert.LogIdeal.main_arg8) = m ((c.tc : Thread Cert.LogIdeal.nD Cert.LogIdeal.τ).loc Cert.LogIdeal.main_arg8))
      ∧ r.2.sem = fun _ => 0)

def quiescent_LogRefIdeal [hLogRefIdeal : Cert.LogRefIdeal.Facts] : Prop :=
  ∀ (m : (ℓ : Loc Cert.LogRefIdeal.nD Cert.LogRefIdeal.τ Cert.LogRefIdeal.sig) → Buf (Elt Ideal) ℓ) (g : Dev Cert.LogRefIdeal.nD → PrngReg), Pre_LogRefIdeal m →
    θ_run (Cert.LogRefIdeal.defs (F := Ideal)) (onTc (τ := Cert.LogRefIdeal.τ) (Cert.LogRefIdeal.main (F := Ideal))) ⟨m, fun _ => 0, g⟩ (fun r => (∀ c : Dev Cert.LogRefIdeal.nD,
      r.2.mem ((c.tc : Thread Cert.LogRefIdeal.nD Cert.LogRefIdeal.τ).loc Cert.LogRefIdeal.main_arg0) = m ((c.tc : Thread Cert.LogRefIdeal.nD Cert.LogRefIdeal.τ).loc Cert.LogRefIdeal.main_arg0)
      ∧ r.2.mem ((c.tc : Thread Cert.LogRefIdeal.nD Cert.LogRefIdeal.τ).loc Cert.LogRefIdeal.main_arg1) = m ((c.tc : Thread Cert.LogRefIdeal.nD Cert.LogRefIdeal.τ).loc Cert.LogRefIdeal.main_arg1)
      ∧ r.2.mem ((c.tc : Thread Cert.LogRefIdeal.nD Cert.LogRefIdeal.τ).loc Cert.LogRefIdeal.main_arg2) = m ((c.tc : Thread Cert.LogRefIdeal.nD Cert.LogRefIdeal.τ).loc Cert.LogRefIdeal.main_arg2)
      ∧ r.2.mem ((c.tc : Thread Cert.LogRefIdeal.nD Cert.LogRefIdeal.τ).loc Cert.LogRefIdeal.main_arg3) = m ((c.tc : Thread Cert.LogRefIdeal.nD Cert.LogRefIdeal.τ).loc Cert.LogRefIdeal.main_arg3)
      ∧ r.2.mem ((c.tc : Thread Cert.LogRefIdeal.nD Cert.LogRefIdeal.τ).loc Cert.LogRefIdeal.main_arg4) = m ((c.tc : Thread Cert.LogRefIdeal.nD Cert.LogRefIdeal.τ).loc Cert.LogRefIdeal.main_arg4)
      ∧ r.2.mem ((c.tc : Thread Cert.LogRefIdeal.nD Cert.LogRefIdeal.τ).loc Cert.LogRefIdeal.main_arg5) = m ((c.tc : Thread Cert.LogRefIdeal.nD Cert.LogRefIdeal.τ).loc Cert.LogRefIdeal.main_arg5)
      ∧ r.2.mem ((c.tc : Thread Cert.LogRefIdeal.nD Cert.LogRefIdeal.τ).loc Cert.LogRefIdeal.main_arg6) = m ((c.tc : Thread Cert.LogRefIdeal.nD Cert.LogRefIdeal.τ).loc Cert.LogRefIdeal.main_arg6)
      ∧ r.2.mem ((c.tc : Thread Cert.LogRefIdeal.nD Cert.LogRefIdeal.τ).loc Cert.LogRefIdeal.main_arg7) = m ((c.tc : Thread Cert.LogRefIdeal.nD Cert.LogRefIdeal.τ).loc Cert.LogRefIdeal.main_arg7)
      ∧ r.2.mem ((c.tc : Thread Cert.LogRefIdeal.nD Cert.LogRefIdeal.τ).loc Cert.LogRefIdeal.main_arg8) = m ((c.tc : Thread Cert.LogRefIdeal.nD Cert.LogRefIdeal.τ).loc Cert.LogRefIdeal.main_arg8))
      ∧ r.2.sem = fun _ => 0)

def quiescent_LogRefIdeal_pre_finite_rows [hLogRefIdeal : Cert.LogRefIdeal.Facts] [hPre_finite_rows : Cert.Pre_finite_rows.Facts] : Prop :=
  ∀ (m : (ℓ : Loc Cert.LogRefIdeal.nD Cert.LogRefIdeal.τ Cert.LogRefIdeal.sig) → Buf (Elt Ideal) ℓ) (g : Dev Cert.LogRefIdeal.nD → PrngReg), Pre_LogRefIdeal_finite_rows m →
    θ_run (Cert.LogRefIdeal.defs (F := Ideal)) (onTc (τ := Cert.LogRefIdeal.τ) (Cert.LogRefIdeal.main (F := Ideal))) ⟨m, fun _ => 0, g⟩ (fun r => (∀ c : Dev Cert.LogRefIdeal.nD,
      r.2.mem ((c.tc : Thread Cert.LogRefIdeal.nD Cert.LogRefIdeal.τ).loc Cert.LogRefIdeal.main_arg0) = m ((c.tc : Thread Cert.LogRefIdeal.nD Cert.LogRefIdeal.τ).loc Cert.LogRefIdeal.main_arg0)
      ∧ r.2.mem ((c.tc : Thread Cert.LogRefIdeal.nD Cert.LogRefIdeal.τ).loc Cert.LogRefIdeal.main_arg1) = m ((c.tc : Thread Cert.LogRefIdeal.nD Cert.LogRefIdeal.τ).loc Cert.LogRefIdeal.main_arg1)
      ∧ r.2.mem ((c.tc : Thread Cert.LogRefIdeal.nD Cert.LogRefIdeal.τ).loc Cert.LogRefIdeal.main_arg2) = m ((c.tc : Thread Cert.LogRefIdeal.nD Cert.LogRefIdeal.τ).loc Cert.LogRefIdeal.main_arg2)
      ∧ r.2.mem ((c.tc : Thread Cert.LogRefIdeal.nD Cert.LogRefIdeal.τ).loc Cert.LogRefIdeal.main_arg3) = m ((c.tc : Thread Cert.LogRefIdeal.nD Cert.LogRefIdeal.τ).loc Cert.LogRefIdeal.main_arg3)
      ∧ r.2.mem ((c.tc : Thread Cert.LogRefIdeal.nD Cert.LogRefIdeal.τ).loc Cert.LogRefIdeal.main_arg4) = m ((c.tc : Thread Cert.LogRefIdeal.nD Cert.LogRefIdeal.τ).loc Cert.LogRefIdeal.main_arg4)
      ∧ r.2.mem ((c.tc : Thread Cert.LogRefIdeal.nD Cert.LogRefIdeal.τ).loc Cert.LogRefIdeal.main_arg5) = m ((c.tc : Thread Cert.LogRefIdeal.nD Cert.LogRefIdeal.τ).loc Cert.LogRefIdeal.main_arg5)
      ∧ r.2.mem ((c.tc : Thread Cert.LogRefIdeal.nD Cert.LogRefIdeal.τ).loc Cert.LogRefIdeal.main_arg6) = m ((c.tc : Thread Cert.LogRefIdeal.nD Cert.LogRefIdeal.τ).loc Cert.LogRefIdeal.main_arg6)
      ∧ r.2.mem ((c.tc : Thread Cert.LogRefIdeal.nD Cert.LogRefIdeal.τ).loc Cert.LogRefIdeal.main_arg7) = m ((c.tc : Thread Cert.LogRefIdeal.nD Cert.LogRefIdeal.τ).loc Cert.LogRefIdeal.main_arg7)
      ∧ r.2.mem ((c.tc : Thread Cert.LogRefIdeal.nD Cert.LogRefIdeal.τ).loc Cert.LogRefIdeal.main_arg8) = m ((c.tc : Thread Cert.LogRefIdeal.nD Cert.LogRefIdeal.τ).loc Cert.LogRefIdeal.main_arg8))
      ∧ r.2.sem = fun _ => 0)

def preserves_Exp_ExpIdeal : Prop :=
  True

def algebraic_ExpIdeal_ExpRefIdeal [hExpIdeal : Cert.ExpIdeal.Facts] [hExpRefIdeal : Cert.ExpRefIdeal.Facts] [hPre_expert_in_range : Cert.Pre_expert_in_range.Facts] : Prop :=
  ∀ (m : (ℓ : Loc Cert.ExpIdeal.nD Cert.ExpIdeal.τ Cert.ExpIdeal.sig) → Buf (Elt Ideal) ℓ) (g : Dev Cert.ExpIdeal.nD → PrngReg)
    (m' : (ℓ : Loc Cert.ExpRefIdeal.nD Cert.ExpRefIdeal.τ Cert.ExpRefIdeal.sig) → Buf (Elt Ideal) ℓ) (g' : Dev Cert.ExpRefIdeal.nD → PrngReg), Pre_ExpIdeal m →
    (∀ c : Dev Cert.ExpIdeal.nD,
      m' ((c.tc : Thread Cert.ExpRefIdeal.nD Cert.ExpRefIdeal.τ).loc Cert.ExpRefIdeal.main_arg0) = m ((c.tc : Thread Cert.ExpIdeal.nD Cert.ExpIdeal.τ).loc Cert.ExpIdeal.main_arg0)
      ∧ m' ((c.tc : Thread Cert.ExpRefIdeal.nD Cert.ExpRefIdeal.τ).loc Cert.ExpRefIdeal.main_arg1) = m ((c.tc : Thread Cert.ExpIdeal.nD Cert.ExpIdeal.τ).loc Cert.ExpIdeal.main_arg1)
      ∧ m' ((c.tc : Thread Cert.ExpRefIdeal.nD Cert.ExpRefIdeal.τ).loc Cert.ExpRefIdeal.main_arg2) = m ((c.tc : Thread Cert.ExpIdeal.nD Cert.ExpIdeal.τ).loc Cert.ExpIdeal.main_arg2)
      ∧ m' ((c.tc : Thread Cert.ExpRefIdeal.nD Cert.ExpRefIdeal.τ).loc Cert.ExpRefIdeal.main_arg3) = m ((c.tc : Thread Cert.ExpIdeal.nD Cert.ExpIdeal.τ).loc Cert.ExpIdeal.main_arg3)
      ∧ m' ((c.tc : Thread Cert.ExpRefIdeal.nD Cert.ExpRefIdeal.τ).loc Cert.ExpRefIdeal.main_arg4) = m ((c.tc : Thread Cert.ExpIdeal.nD Cert.ExpIdeal.τ).loc Cert.ExpIdeal.main_arg4)
      ∧ m' ((c.tc : Thread Cert.ExpRefIdeal.nD Cert.ExpRefIdeal.τ).loc Cert.ExpRefIdeal.main_arg5) = m ((c.tc : Thread Cert.ExpIdeal.nD Cert.ExpIdeal.τ).loc Cert.ExpIdeal.main_arg5)) →
    ∃ (v0 : (c : Dev Cert.ExpIdeal.nD) → Buf (Elt Ideal) ((c.tc : Thread Cert.ExpIdeal.nD Cert.ExpIdeal.τ).loc Cert.ExpIdeal.main_v0)),
      θ_run (Cert.ExpIdeal.defs (F := Ideal)) (onTc (τ := Cert.ExpIdeal.τ) (Cert.ExpIdeal.main (F := Ideal))) ⟨m, fun _ => 0, g⟩ (fun r => ∀ c : Dev Cert.ExpIdeal.nD,
          r.2.mem ((c.tc : Thread Cert.ExpIdeal.nD Cert.ExpIdeal.τ).loc Cert.ExpIdeal.main_v0) = v0 c
          ∧ r.2.mem ((c.tc : Thread Cert.ExpIdeal.nD Cert.ExpIdeal.τ).loc Cert.ExpIdeal.main_arg0) = m ((c.tc : Thread Cert.ExpIdeal.nD Cert.ExpIdeal.τ).loc Cert.ExpIdeal.main_arg0)
          ∧ r.2.mem ((c.tc : Thread Cert.ExpIdeal.nD Cert.ExpIdeal.τ).loc Cert.ExpIdeal.main_arg1) = m ((c.tc : Thread Cert.ExpIdeal.nD Cert.ExpIdeal.τ).loc Cert.ExpIdeal.main_arg1)
          ∧ r.2.mem ((c.tc : Thread Cert.ExpIdeal.nD Cert.ExpIdeal.τ).loc Cert.ExpIdeal.main_arg2) = m ((c.tc : Thread Cert.ExpIdeal.nD Cert.ExpIdeal.τ).loc Cert.ExpIdeal.main_arg2)
          ∧ r.2.mem ((c.tc : Thread Cert.ExpIdeal.nD Cert.ExpIdeal.τ).loc Cert.ExpIdeal.main_arg3) = m ((c.tc : Thread Cert.ExpIdeal.nD Cert.ExpIdeal.τ).loc Cert.ExpIdeal.main_arg3)
          ∧ r.2.mem ((c.tc : Thread Cert.ExpIdeal.nD Cert.ExpIdeal.τ).loc Cert.ExpIdeal.main_arg4) = m ((c.tc : Thread Cert.ExpIdeal.nD Cert.ExpIdeal.τ).loc Cert.ExpIdeal.main_arg4)
          ∧ r.2.mem ((c.tc : Thread Cert.ExpIdeal.nD Cert.ExpIdeal.τ).loc Cert.ExpIdeal.main_arg5) = m ((c.tc : Thread Cert.ExpIdeal.nD Cert.ExpIdeal.τ).loc Cert.ExpIdeal.main_arg5))
      ∧ θ_run (Cert.ExpRefIdeal.defs (F := Ideal)) (onTc (τ := Cert.ExpRefIdeal.τ) (Cert.ExpRefIdeal.main (F := Ideal))) ⟨m', fun _ => 0, g'⟩ (fun r => ∀ c : Dev Cert.ExpRefIdeal.nD,
          r.2.mem ((c.tc : Thread Cert.ExpRefIdeal.nD Cert.ExpRefIdeal.τ).loc Cert.ExpRefIdeal.main_v33) = v0 c
          ∧ r.2.mem ((c.tc : Thread Cert.ExpRefIdeal.nD Cert.ExpRefIdeal.τ).loc Cert.ExpRefIdeal.main_arg0) = m' ((c.tc : Thread Cert.ExpRefIdeal.nD Cert.ExpRefIdeal.τ).loc Cert.ExpRefIdeal.main_arg0)
          ∧ r.2.mem ((c.tc : Thread Cert.ExpRefIdeal.nD Cert.ExpRefIdeal.τ).loc Cert.ExpRefIdeal.main_arg1) = m' ((c.tc : Thread Cert.ExpRefIdeal.nD Cert.ExpRefIdeal.τ).loc Cert.ExpRefIdeal.main_arg1)
          ∧ r.2.mem ((c.tc : Thread Cert.ExpRefIdeal.nD Cert.ExpRefIdeal.τ).loc Cert.ExpRefIdeal.main_arg2) = m' ((c.tc : Thread Cert.ExpRefIdeal.nD Cert.ExpRefIdeal.τ).loc Cert.ExpRefIdeal.main_arg2)
          ∧ r.2.mem ((c.tc : Thread Cert.ExpRefIdeal.nD Cert.ExpRefIdeal.τ).loc Cert.ExpRefIdeal.main_arg3) = m' ((c.tc : Thread Cert.ExpRefIdeal.nD Cert.ExpRefIdeal.τ).loc Cert.ExpRefIdeal.main_arg3)
          ∧ r.2.mem ((c.tc : Thread Cert.ExpRefIdeal.nD Cert.ExpRefIdeal.τ).loc Cert.ExpRefIdeal.main_arg4) = m' ((c.tc : Thread Cert.ExpRefIdeal.nD Cert.ExpRefIdeal.τ).loc Cert.ExpRefIdeal.main_arg4)
          ∧ r.2.mem ((c.tc : Thread Cert.ExpRefIdeal.nD Cert.ExpRefIdeal.τ).loc Cert.ExpRefIdeal.main_arg5) = m' ((c.tc : Thread Cert.ExpRefIdeal.nD Cert.ExpRefIdeal.τ).loc Cert.ExpRefIdeal.main_arg5))

def preserves_Cmp_CmpIdeal : Prop :=
  True

def algebraic_CmpIdeal_CmpRefIdeal_pre_finite_qk [hCmpIdeal : Cert.CmpIdeal.Facts] [hCmpRefIdeal : Cert.CmpRefIdeal.Facts] [hPre_finite_qk : Cert.Pre_finite_qk.Facts] : Prop :=
  ∀ (m : (ℓ : Loc Cert.CmpIdeal.nD Cert.CmpIdeal.τ Cert.CmpIdeal.sig) → Buf (Elt Ideal) ℓ) (g : Dev Cert.CmpIdeal.nD → PrngReg)
    (m' : (ℓ : Loc Cert.CmpRefIdeal.nD Cert.CmpRefIdeal.τ Cert.CmpRefIdeal.sig) → Buf (Elt Ideal) ℓ) (g' : Dev Cert.CmpRefIdeal.nD → PrngReg), Pre_CmpIdeal_finite_qk m →
    (∀ c : Dev Cert.CmpIdeal.nD,
      m' ((c.tc : Thread Cert.CmpRefIdeal.nD Cert.CmpRefIdeal.τ).loc Cert.CmpRefIdeal.main_arg0) = m ((c.tc : Thread Cert.CmpIdeal.nD Cert.CmpIdeal.τ).loc Cert.CmpIdeal.main_arg0)
      ∧ m' ((c.tc : Thread Cert.CmpRefIdeal.nD Cert.CmpRefIdeal.τ).loc Cert.CmpRefIdeal.main_arg1) = m ((c.tc : Thread Cert.CmpIdeal.nD Cert.CmpIdeal.τ).loc Cert.CmpIdeal.main_arg1)
      ∧ m' ((c.tc : Thread Cert.CmpRefIdeal.nD Cert.CmpRefIdeal.τ).loc Cert.CmpRefIdeal.main_arg2) = m ((c.tc : Thread Cert.CmpIdeal.nD Cert.CmpIdeal.τ).loc Cert.CmpIdeal.main_arg2)
      ∧ m' ((c.tc : Thread Cert.CmpRefIdeal.nD Cert.CmpRefIdeal.τ).loc Cert.CmpRefIdeal.main_arg3) = m ((c.tc : Thread Cert.CmpIdeal.nD Cert.CmpIdeal.τ).loc Cert.CmpIdeal.main_arg3)) →
    ∃ (v0 : (c : Dev Cert.CmpIdeal.nD) → Buf (Elt Ideal) ((c.tc : Thread Cert.CmpIdeal.nD Cert.CmpIdeal.τ).loc Cert.CmpIdeal.main_v0_0)),
      θ_run (Cert.CmpIdeal.defs (F := Ideal)) (onTc (τ := Cert.CmpIdeal.τ) (Cert.CmpIdeal.main (F := Ideal))) ⟨m, fun _ => 0, g⟩ (fun r => ∀ c : Dev Cert.CmpIdeal.nD,
          r.2.mem ((c.tc : Thread Cert.CmpIdeal.nD Cert.CmpIdeal.τ).loc Cert.CmpIdeal.main_v0_0) = v0 c
          ∧ r.2.mem ((c.tc : Thread Cert.CmpIdeal.nD Cert.CmpIdeal.τ).loc Cert.CmpIdeal.main_arg0) = m ((c.tc : Thread Cert.CmpIdeal.nD Cert.CmpIdeal.τ).loc Cert.CmpIdeal.main_arg0)
          ∧ r.2.mem ((c.tc : Thread Cert.CmpIdeal.nD Cert.CmpIdeal.τ).loc Cert.CmpIdeal.main_arg1) = m ((c.tc : Thread Cert.CmpIdeal.nD Cert.CmpIdeal.τ).loc Cert.CmpIdeal.main_arg1)
          ∧ r.2.mem ((c.tc : Thread Cert.CmpIdeal.nD Cert.CmpIdeal.τ).loc Cert.CmpIdeal.main_arg2) = m ((c.tc : Thread Cert.CmpIdeal.nD Cert.CmpIdeal.τ).loc Cert.CmpIdeal.main_arg2)
          ∧ r.2.mem ((c.tc : Thread Cert.CmpIdeal.nD Cert.CmpIdeal.τ).loc Cert.CmpIdeal.main_arg3) = m ((c.tc : Thread Cert.CmpIdeal.nD Cert.CmpIdeal.τ).loc Cert.CmpIdeal.main_arg3))
      ∧ θ_run (Cert.CmpRefIdeal.defs (F := Ideal)) (onTc (τ := Cert.CmpRefIdeal.τ) (Cert.CmpRefIdeal.main (F := Ideal))) ⟨m', fun _ => 0, g'⟩ (fun r => ∀ c : Dev Cert.CmpRefIdeal.nD,
          r.2.mem ((c.tc : Thread Cert.CmpRefIdeal.nD Cert.CmpRefIdeal.τ).loc Cert.CmpRefIdeal.main_v56) = v0 c
          ∧ r.2.mem ((c.tc : Thread Cert.CmpRefIdeal.nD Cert.CmpRefIdeal.τ).loc Cert.CmpRefIdeal.main_arg0) = m' ((c.tc : Thread Cert.CmpRefIdeal.nD Cert.CmpRefIdeal.τ).loc Cert.CmpRefIdeal.main_arg0)
          ∧ r.2.mem ((c.tc : Thread Cert.CmpRefIdeal.nD Cert.CmpRefIdeal.τ).loc Cert.CmpRefIdeal.main_arg1) = m' ((c.tc : Thread Cert.CmpRefIdeal.nD Cert.CmpRefIdeal.τ).loc Cert.CmpRefIdeal.main_arg1)
          ∧ r.2.mem ((c.tc : Thread Cert.CmpRefIdeal.nD Cert.CmpRefIdeal.τ).loc Cert.CmpRefIdeal.main_arg2) = m' ((c.tc : Thread Cert.CmpRefIdeal.nD Cert.CmpRefIdeal.τ).loc Cert.CmpRefIdeal.main_arg2)
          ∧ r.2.mem ((c.tc : Thread Cert.CmpRefIdeal.nD Cert.CmpRefIdeal.τ).loc Cert.CmpRefIdeal.main_arg3) = m' ((c.tc : Thread Cert.CmpRefIdeal.nD Cert.CmpRefIdeal.τ).loc Cert.CmpRefIdeal.main_arg3))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)
      ∧ m' ((c.tc : Thread Cert.OutRefIdeal.nD Cert.OutRefIdeal.τ).loc Cert.OutRefIdeal.main_arg3) = m ((c.tc : Thread Cert.OutIdeal.nD Cert.OutIdeal.τ).loc Cert.OutIdeal.main_arg3)
      ∧ m' ((c.tc : Thread Cert.OutRefIdeal.nD Cert.OutRefIdeal.τ).loc Cert.OutRefIdeal.main_arg4) = m ((c.tc : Thread Cert.OutIdeal.nD Cert.OutIdeal.τ).loc Cert.OutIdeal.main_arg4)
      ∧ m' ((c.tc : Thread Cert.OutRefIdeal.nD Cert.OutRefIdeal.τ).loc Cert.OutRefIdeal.main_arg5) = m ((c.tc : Thread Cert.OutIdeal.nD Cert.OutIdeal.τ).loc Cert.OutIdeal.main_arg5)
      ∧ m' ((c.tc : Thread Cert.OutRefIdeal.nD Cert.OutRefIdeal.τ).loc Cert.OutRefIdeal.main_arg6) = m ((c.tc : Thread Cert.OutIdeal.nD Cert.OutIdeal.τ).loc Cert.OutIdeal.main_arg6)
      ∧ m' ((c.tc : Thread Cert.OutRefIdeal.nD Cert.OutRefIdeal.τ).loc Cert.OutRefIdeal.main_arg7) = m ((c.tc : Thread Cert.OutIdeal.nD Cert.OutIdeal.τ).loc Cert.OutIdeal.main_arg7)
      ∧ m' ((c.tc : Thread Cert.OutRefIdeal.nD Cert.OutRefIdeal.τ).loc Cert.OutRefIdeal.main_arg8) = m ((c.tc : Thread Cert.OutIdeal.nD Cert.OutIdeal.τ).loc Cert.OutIdeal.main_arg8)) →
    ∃ (v0 : (c : Dev Cert.OutIdeal.nD) → Buf (Elt Ideal) ((c.tc : Thread Cert.OutIdeal.nD Cert.OutIdeal.τ).loc Cert.OutIdeal.main_v8_0)) (v1 : (c : Dev Cert.OutIdeal.nD) → Buf (Elt Ideal) ((c.tc : Thread Cert.OutIdeal.nD Cert.OutIdeal.τ).loc Cert.OutIdeal.main_v8_1)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v8_0) = v0 c
          ∧ r.2.mem ((c.tc : Thread Cert.OutIdeal.nD Cert.OutIdeal.τ).loc Cert.OutIdeal.main_v8_1) = v1 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
          ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
          ∧ r.2.mem ((c.tc : Thread Cert.OutIdeal.nD Cert.OutIdeal.τ).loc Cert.OutIdeal.main_arg5) = m ((c.tc : Thread Cert.OutIdeal.nD Cert.OutIdeal.τ).loc Cert.OutIdeal.main_arg5)
          ∧ r.2.mem ((c.tc : Thread Cert.OutIdeal.nD Cert.OutIdeal.τ).loc Cert.OutIdeal.main_arg6) = m ((c.tc : Thread Cert.OutIdeal.nD Cert.OutIdeal.τ).loc Cert.OutIdeal.main_arg6)
          ∧ r.2.mem ((c.tc : Thread Cert.OutIdeal.nD Cert.OutIdeal.τ).loc Cert.OutIdeal.main_arg7) = m ((c.tc : Thread Cert.OutIdeal.nD Cert.OutIdeal.τ).loc Cert.OutIdeal.main_arg7)
          ∧ r.2.mem ((c.tc : Thread Cert.OutIdeal.nD Cert.OutIdeal.τ).loc Cert.OutIdeal.main_arg8) = m ((c.tc : Thread Cert.OutIdeal.nD Cert.OutIdeal.τ).loc Cert.OutIdeal.main_arg8))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v45) = v0 c
          ∧ r.2.mem ((c.tc : Thread Cert.OutRefIdeal.nD Cert.OutRefIdeal.τ).loc Cert.OutRefIdeal.main_v46) = v1 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2)
          ∧ r.2.mem ((c.tc : Thread Cert.OutRefIdeal.nD Cert.OutRefIdeal.τ).loc Cert.OutRefIdeal.main_arg3) = m' ((c.tc : Thread Cert.OutRefIdeal.nD Cert.OutRefIdeal.τ).loc Cert.OutRefIdeal.main_arg3)
          ∧ r.2.mem ((c.tc : Thread Cert.OutRefIdeal.nD Cert.OutRefIdeal.τ).loc Cert.OutRefIdeal.main_arg4) = m' ((c.tc : Thread Cert.OutRefIdeal.nD Cert.OutRefIdeal.τ).loc Cert.OutRefIdeal.main_arg4)
          ∧ r.2.mem ((c.tc : Thread Cert.OutRefIdeal.nD Cert.OutRefIdeal.τ).loc Cert.OutRefIdeal.main_arg5) = m' ((c.tc : Thread Cert.OutRefIdeal.nD Cert.OutRefIdeal.τ).loc Cert.OutRefIdeal.main_arg5)
          ∧ r.2.mem ((c.tc : Thread Cert.OutRefIdeal.nD Cert.OutRefIdeal.τ).loc Cert.OutRefIdeal.main_arg6) = m' ((c.tc : Thread Cert.OutRefIdeal.nD Cert.OutRefIdeal.τ).loc Cert.OutRefIdeal.main_arg6)
          ∧ r.2.mem ((c.tc : Thread Cert.OutRefIdeal.nD Cert.OutRefIdeal.τ).loc Cert.OutRefIdeal.main_arg7) = m' ((c.tc : Thread Cert.OutRefIdeal.nD Cert.OutRefIdeal.τ).loc Cert.OutRefIdeal.main_arg7)
          ∧ r.2.mem ((c.tc : Thread Cert.OutRefIdeal.nD Cert.OutRefIdeal.τ).loc Cert.OutRefIdeal.main_arg8) = m' ((c.tc : Thread Cert.OutRefIdeal.nD Cert.OutRefIdeal.τ).loc Cert.OutRefIdeal.main_arg8))

def preserves_In_InIdeal : Prop :=
  True

def algebraic_InIdeal_InRefIdeal [hInIdeal : Cert.InIdeal.Facts] [hInRefIdeal : Cert.InRefIdeal.Facts] : Prop :=
  ∀ (m : (ℓ : Loc Cert.InIdeal.nD Cert.InIdeal.τ Cert.InIdeal.sig) → Buf (Elt Ideal) ℓ) (g : Dev Cert.InIdeal.nD → PrngReg)
    (m' : (ℓ : Loc Cert.InRefIdeal.nD Cert.InRefIdeal.τ Cert.InRefIdeal.sig) → Buf (Elt Ideal) ℓ) (g' : Dev Cert.InRefIdeal.nD → PrngReg), Pre_InIdeal m →
    (∀ c : Dev Cert.InIdeal.nD,
      m' ((c.tc : Thread Cert.InRefIdeal.nD Cert.InRefIdeal.τ).loc Cert.InRefIdeal.main_arg0) = m ((c.tc : Thread Cert.InIdeal.nD Cert.InIdeal.τ).loc Cert.InIdeal.main_arg0)
      ∧ m' ((c.tc : Thread Cert.InRefIdeal.nD Cert.InRefIdeal.τ).loc Cert.InRefIdeal.main_arg1) = m ((c.tc : Thread Cert.InIdeal.nD Cert.InIdeal.τ).loc Cert.InIdeal.main_arg1)
      ∧ m' ((c.tc : Thread Cert.InRefIdeal.nD Cert.InRefIdeal.τ).loc Cert.InRefIdeal.main_arg2) = m ((c.tc : Thread Cert.InIdeal.nD Cert.InIdeal.τ).loc Cert.InIdeal.main_arg2)
      ∧ m' ((c.tc : Thread Cert.InRefIdeal.nD Cert.InRefIdeal.τ).loc Cert.InRefIdeal.main_arg3) = m ((c.tc : Thread Cert.InIdeal.nD Cert.InIdeal.τ).loc Cert.InIdeal.main_arg3)
      ∧ m' ((c.tc : Thread Cert.InRefIdeal.nD Cert.InRefIdeal.τ).loc Cert.InRefIdeal.main_arg4) = m ((c.tc : Thread Cert.InIdeal.nD Cert.InIdeal.τ).loc Cert.InIdeal.main_arg4)
      ∧ m' ((c.tc : Thread Cert.InRefIdeal.nD Cert.InRefIdeal.τ).loc Cert.InRefIdeal.main_arg5) = m ((c.tc : Thread Cert.InIdeal.nD Cert.InIdeal.τ).loc Cert.InIdeal.main_arg5)
      ∧ m' ((c.tc : Thread Cert.InRefIdeal.nD Cert.InRefIdeal.τ).loc Cert.InRefIdeal.main_arg6) = m ((c.tc : Thread Cert.InIdeal.nD Cert.InIdeal.τ).loc Cert.InIdeal.main_arg6)) →
    ∃ (v0 : (c : Dev Cert.InIdeal.nD) → Buf (Elt Ideal) ((c.tc : Thread Cert.InIdeal.nD Cert.InIdeal.τ).loc Cert.InIdeal.main_v0_0)) (v1 : (c : Dev Cert.InIdeal.nD) → Buf (Elt Ideal) ((c.tc : Thread Cert.InIdeal.nD Cert.InIdeal.τ).loc Cert.InIdeal.main_v0_1)),
      θ_run (Cert.InIdeal.defs (F := Ideal)) (onTc (τ := Cert.InIdeal.τ) (Cert.InIdeal.main (F := Ideal))) ⟨m, fun _ => 0, g⟩ (fun r => ∀ c : Dev Cert.InIdeal.nD,
          r.2.mem ((c.tc : Thread Cert.InIdeal.nD Cert.InIdeal.τ).loc Cert.InIdeal.main_v0_0) = v0 c
          ∧ r.2.mem ((c.tc : Thread Cert.InIdeal.nD Cert.InIdeal.τ).loc Cert.InIdeal.main_v0_1) = v1 c
          ∧ r.2.mem ((c.tc : Thread Cert.InIdeal.nD Cert.InIdeal.τ).loc Cert.InIdeal.main_arg0) = m ((c.tc : Thread Cert.InIdeal.nD Cert.InIdeal.τ).loc Cert.InIdeal.main_arg0)
          ∧ r.2.mem ((c.tc : Thread Cert.InIdeal.nD Cert.InIdeal.τ).loc Cert.InIdeal.main_arg1) = m ((c.tc : Thread Cert.InIdeal.nD Cert.InIdeal.τ).loc Cert.InIdeal.main_arg1)
          ∧ r.2.mem ((c.tc : Thread Cert.InIdeal.nD Cert.InIdeal.τ).loc Cert.InIdeal.main_arg2) = m ((c.tc : Thread Cert.InIdeal.nD Cert.InIdeal.τ).loc Cert.InIdeal.main_arg2)
          ∧ r.2.mem ((c.tc : Thread Cert.InIdeal.nD Cert.InIdeal.τ).loc Cert.InIdeal.main_arg3) = m ((c.tc : Thread Cert.InIdeal.nD Cert.InIdeal.τ).loc Cert.InIdeal.main_arg3)
          ∧ r.2.mem ((c.tc : Thread Cert.InIdeal.nD Cert.InIdeal.τ).loc Cert.InIdeal.main_arg4) = m ((c.tc : Thread Cert.InIdeal.nD Cert.InIdeal.τ).loc Cert.InIdeal.main_arg4)
          ∧ r.2.mem ((c.tc : Thread Cert.InIdeal.nD Cert.InIdeal.τ).loc Cert.InIdeal.main_arg5) = m ((c.tc : Thread Cert.InIdeal.nD Cert.InIdeal.τ).loc Cert.InIdeal.main_arg5)
          ∧ r.2.mem ((c.tc : Thread Cert.InIdeal.nD Cert.InIdeal.τ).loc Cert.InIdeal.main_arg6) = m ((c.tc : Thread Cert.InIdeal.nD Cert.InIdeal.τ).loc Cert.InIdeal.main_arg6))
      ∧ θ_run (Cert.InRefIdeal.defs (F := Ideal)) (onTc (τ := Cert.InRefIdeal.τ) (Cert.InRefIdeal.main (F := Ideal))) ⟨m', fun _ => 0, g'⟩ (fun r => ∀ c : Dev Cert.InRefIdeal.nD,
          r.2.mem ((c.tc : Thread Cert.InRefIdeal.nD Cert.InRefIdeal.τ).loc Cert.InRefIdeal.main_v56) = v0 c
          ∧ r.2.mem ((c.tc : Thread Cert.InRefIdeal.nD Cert.InRefIdeal.τ).loc Cert.InRefIdeal.main_v27) = v1 c
          ∧ r.2.mem ((c.tc : Thread Cert.InRefIdeal.nD Cert.InRefIdeal.τ).loc Cert.InRefIdeal.main_arg0) = m' ((c.tc : Thread Cert.InRefIdeal.nD Cert.InRefIdeal.τ).loc Cert.InRefIdeal.main_arg0)
          ∧ r.2.mem ((c.tc : Thread Cert.InRefIdeal.nD Cert.InRefIdeal.τ).loc Cert.InRefIdeal.main_arg1) = m' ((c.tc : Thread Cert.InRefIdeal.nD Cert.InRefIdeal.τ).loc Cert.InRefIdeal.main_arg1)
          ∧ r.2.mem ((c.tc : Thread Cert.InRefIdeal.nD Cert.InRefIdeal.τ).loc Cert.InRefIdeal.main_arg2) = m' ((c.tc : Thread Cert.InRefIdeal.nD Cert.InRefIdeal.τ).loc Cert.InRefIdeal.main_arg2)
          ∧ r.2.mem ((c.tc : Thread Cert.InRefIdeal.nD Cert.InRefIdeal.τ).loc Cert.InRefIdeal.main_arg3) = m' ((c.tc : Thread Cert.InRefIdeal.nD Cert.InRefIdeal.τ).loc Cert.InRefIdeal.main_arg3)
          ∧ r.2.mem ((c.tc : Thread Cert.InRefIdeal.nD Cert.InRefIdeal.τ).loc Cert.InRefIdeal.main_arg4) = m' ((c.tc : Thread Cert.InRefIdeal.nD Cert.InRefIdeal.τ).loc Cert.InRefIdeal.main_arg4)
          ∧ r.2.mem ((c.tc : Thread Cert.InRefIdeal.nD Cert.InRefIdeal.τ).loc Cert.InRefIdeal.main_arg5) = m' ((c.tc : Thread Cert.InRefIdeal.nD Cert.InRefIdeal.τ).loc Cert.InRefIdeal.main_arg5)
          ∧ r.2.mem ((c.tc : Thread Cert.InRefIdeal.nD Cert.InRefIdeal.τ).loc Cert.InRefIdeal.main_arg6) = m' ((c.tc : Thread Cert.InRefIdeal.nD Cert.InRefIdeal.τ).loc Cert.InRefIdeal.main_arg6))

def preserves_Ada_AdaIdeal : Prop :=
  True

def algebraic_AdaIdeal_AdaRefIdeal [hAdaIdeal : Cert.AdaIdeal.Facts] [hAdaRefIdeal : Cert.AdaRefIdeal.Facts] : Prop :=
  ∀ (m : (ℓ : Loc Cert.AdaIdeal.nD Cert.AdaIdeal.τ Cert.AdaIdeal.sig) → Buf (Elt Ideal) ℓ) (g : Dev Cert.AdaIdeal.nD → PrngReg)
    (m' : (ℓ : Loc Cert.AdaRefIdeal.nD Cert.AdaRefIdeal.τ Cert.AdaRefIdeal.sig) → Buf (Elt Ideal) ℓ) (g' : Dev Cert.AdaRefIdeal.nD → PrngReg), Pre_AdaIdeal m →
    (∀ c : Dev Cert.AdaIdeal.nD,
      m' ((c.tc : Thread Cert.AdaRefIdeal.nD Cert.AdaRefIdeal.τ).loc Cert.AdaRefIdeal.main_arg0) = m ((c.tc : Thread Cert.AdaIdeal.nD Cert.AdaIdeal.τ).loc Cert.AdaIdeal.main_arg0)
      ∧ m' ((c.tc : Thread Cert.AdaRefIdeal.nD Cert.AdaRefIdeal.τ).loc Cert.AdaRefIdeal.main_arg1) = m ((c.tc : Thread Cert.AdaIdeal.nD Cert.AdaIdeal.τ).loc Cert.AdaIdeal.main_arg1)
      ∧ m' ((c.tc : Thread Cert.AdaRefIdeal.nD Cert.AdaRefIdeal.τ).loc Cert.AdaRefIdeal.main_arg2) = m ((c.tc : Thread Cert.AdaIdeal.nD Cert.AdaIdeal.τ).loc Cert.AdaIdeal.main_arg2)) →
    ∃ (v0 : (c : Dev Cert.AdaIdeal.nD) → Buf (Elt Ideal) ((c.tc : Thread Cert.AdaIdeal.nD Cert.AdaIdeal.τ).loc Cert.AdaIdeal.main_v1)),
      θ_run (Cert.AdaIdeal.defs (F := Ideal)) (onTc (τ := Cert.AdaIdeal.τ) (Cert.AdaIdeal.main (F := Ideal))) ⟨m, fun _ => 0, g⟩ (fun r => ∀ c : Dev Cert.AdaIdeal.nD,
          r.2.mem ((c.tc : Thread Cert.AdaIdeal.nD Cert.AdaIdeal.τ).loc Cert.AdaIdeal.main_v1) = v0 c
          ∧ r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
          ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
          ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2))
      ∧ θ_run (Cert.AdaRefIdeal.defs (F := Ideal)) (onTc (τ := Cert.AdaRefIdeal.τ) (Cert.AdaRefIdeal.main (F := Ideal))) ⟨m', fun _ => 0, g'⟩ (fun r => ∀ c : Dev Cert.AdaRefIdeal.nD,
          r.2.mem ((c.tc : Thread Cert.AdaRefIdeal.nD Cert.AdaRefIdeal.τ).loc Cert.AdaRefIdeal.main_v4) = v0 c
          ∧ r.2.mem ((c.tc : Thread Cert.AdaRefIdeal.nD Cert.AdaRefIdeal.τ).loc Cert.AdaRefIdeal.main_arg0) = m' ((c.tc : Thread Cert.AdaRefIdeal.nD Cert.AdaRefIdeal.τ).loc Cert.AdaRefIdeal.main_arg0)
          ∧ r.2.mem ((c.tc : Thread Cert.AdaRefIdeal.nD Cert.AdaRefIdeal.τ).loc Cert.AdaRefIdeal.main_arg1) = m' ((c.tc : Thread Cert.AdaRefIdeal.nD Cert.AdaRefIdeal.τ).loc Cert.AdaRefIdeal.main_arg1)
          ∧ r.2.mem ((c.tc : Thread Cert.AdaRefIdeal.nD Cert.AdaRefIdeal.τ).loc Cert.AdaRefIdeal.main_arg2) = m' ((c.tc : Thread Cert.AdaRefIdeal.nD Cert.AdaRefIdeal.τ).loc Cert.AdaRefIdeal.main_arg2))

def preserves_Rope_RopeIdeal : Prop :=
  True

def algebraic_RopeIdeal_RopeRefIdeal [hRopeIdeal : Cert.RopeIdeal.Facts] [hRopeRefIdeal : Cert.RopeRefIdeal.Facts] : Prop :=
  ∀ (m : (ℓ : Loc Cert.RopeIdeal.nD Cert.RopeIdeal.τ Cert.RopeIdeal.sig) → Buf (Elt Ideal) ℓ) (g : Dev Cert.RopeIdeal.nD → PrngReg)
    (m' : (ℓ : Loc Cert.RopeRefIdeal.nD Cert.RopeRefIdeal.τ Cert.RopeRefIdeal.sig) → Buf (Elt Ideal) ℓ) (g' : Dev Cert.RopeRefIdeal.nD → PrngReg), Pre_RopeIdeal m →
    (∀ c : Dev Cert.RopeIdeal.nD,
      m' ((c.tc : Thread Cert.RopeRefIdeal.nD Cert.RopeRefIdeal.τ).loc Cert.RopeRefIdeal.main_arg0) = m ((c.tc : Thread Cert.RopeIdeal.nD Cert.RopeIdeal.τ).loc Cert.RopeIdeal.main_arg0)) →
    ∃ (v0 : (c : Dev Cert.RopeIdeal.nD) → Buf (Elt Ideal) ((c.tc : Thread Cert.RopeIdeal.nD Cert.RopeIdeal.τ).loc Cert.RopeIdeal.main_v17_0)) (v1 : (c : Dev Cert.RopeIdeal.nD) → Buf (Elt Ideal) ((c.tc : Thread Cert.RopeIdeal.nD Cert.RopeIdeal.τ).loc Cert.RopeIdeal.main_v17_1)),
      θ_run (Cert.RopeIdeal.defs (F := Ideal)) (onTc (τ := Cert.RopeIdeal.τ) (Cert.RopeIdeal.main (F := Ideal))) ⟨m, fun _ => 0, g⟩ (fun r => ∀ c : Dev Cert.RopeIdeal.nD,
          r.2.mem ((c.tc : Thread Cert.RopeIdeal.nD Cert.RopeIdeal.τ).loc Cert.RopeIdeal.main_v17_0) = v0 c
          ∧ r.2.mem ((c.tc : Thread Cert.RopeIdeal.nD Cert.RopeIdeal.τ).loc Cert.RopeIdeal.main_v17_1) = v1 c
          ∧ r.2.mem ((c.tc : Thread Cert.RopeIdeal.nD Cert.RopeIdeal.τ).loc Cert.RopeIdeal.main_arg0) = m ((c.tc : Thread Cert.RopeIdeal.nD Cert.RopeIdeal.τ).loc Cert.RopeIdeal.main_arg0))
      ∧ θ_run (Cert.RopeRefIdeal.defs (F := Ideal)) (onTc (τ := Cert.RopeRefIdeal.τ) (Cert.RopeRefIdeal.main (F := Ideal))) ⟨m', fun _ => 0, g'⟩ (fun r => ∀ c : Dev Cert.RopeRefIdeal.nD,
          r.2.mem ((c.tc : Thread Cert.RopeRefIdeal.nD Cert.RopeRefIdeal.τ).loc Cert.RopeRefIdeal.main_v19) = v0 c
          ∧ r.2.mem ((c.tc : Thread Cert.RopeRefIdeal.nD Cert.RopeRefIdeal.τ).loc Cert.RopeRefIdeal.main_v22) = v1 c
          ∧ r.2.mem ((c.tc : Thread Cert.RopeRefIdeal.nD Cert.RopeRefIdeal.τ).loc Cert.RopeRefIdeal.main_arg0) = m' ((c.tc : Thread Cert.RopeRefIdeal.nD Cert.RopeRefIdeal.τ).loc Cert.RopeRefIdeal.main_arg0))

def preserves_Cps_CpsIdeal : Prop :=
  True

def algebraic_CpsIdeal_CpsRefIdeal_pre_finite_blocks [hCpsIdeal : Cert.CpsIdeal.Facts] [hCpsRefIdeal : Cert.CpsRefIdeal.Facts] [hPre_finite_blocks : Cert.Pre_finite_blocks.Facts] : Prop :=
  ∀ (m : (ℓ : Loc Cert.CpsIdeal.nD Cert.CpsIdeal.τ Cert.CpsIdeal.sig) → Buf (Elt Ideal) ℓ) (g : Dev Cert.CpsIdeal.nD → PrngReg)
    (m' : (ℓ : Loc Cert.CpsRefIdeal.nD Cert.CpsRefIdeal.τ Cert.CpsRefIdeal.sig) → Buf (Elt Ideal) ℓ) (g' : Dev Cert.CpsRefIdeal.nD → PrngReg), Pre_CpsIdeal_finite_blocks m →
    (∀ c : Dev Cert.CpsIdeal.nD,
      m' ((c.tc : Thread Cert.CpsRefIdeal.nD Cert.CpsRefIdeal.τ).loc Cert.CpsRefIdeal.main_arg0) = m ((c.tc : Thread Cert.CpsIdeal.nD Cert.CpsIdeal.τ).loc Cert.CpsIdeal.main_arg0)
      ∧ m' ((c.tc : Thread Cert.CpsRefIdeal.nD Cert.CpsRefIdeal.τ).loc Cert.CpsRefIdeal.main_arg1) = m ((c.tc : Thread Cert.CpsIdeal.nD Cert.CpsIdeal.τ).loc Cert.CpsIdeal.main_arg1)
      ∧ m' ((c.tc : Thread Cert.CpsRefIdeal.nD Cert.CpsRefIdeal.τ).loc Cert.CpsRefIdeal.main_arg2) = m ((c.tc : Thread Cert.CpsIdeal.nD Cert.CpsIdeal.τ).loc Cert.CpsIdeal.main_arg2)
      ∧ m' ((c.tc : Thread Cert.CpsRefIdeal.nD Cert.CpsRefIdeal.τ).loc Cert.CpsRefIdeal.main_arg3) = m ((c.tc : Thread Cert.CpsIdeal.nD Cert.CpsIdeal.τ).loc Cert.CpsIdeal.main_arg3)) →
    ∃ (v0 : (c : Dev Cert.CpsIdeal.nD) → Buf (Elt Ideal) ((c.tc : Thread Cert.CpsIdeal.nD Cert.CpsIdeal.τ).loc Cert.CpsIdeal.main_v7)),
      θ_run (Cert.CpsIdeal.defs (F := Ideal)) (onTc (τ := Cert.CpsIdeal.τ) (Cert.CpsIdeal.main (F := Ideal))) ⟨m, fun _ => 0, g⟩ (fun r => ∀ c : Dev Cert.CpsIdeal.nD,
          r.2.mem ((c.tc : Thread Cert.CpsIdeal.nD Cert.CpsIdeal.τ).loc Cert.CpsIdeal.main_v7) = v0 c
          ∧ r.2.mem ((c.tc : Thread Cert.CpsIdeal.nD Cert.CpsIdeal.τ).loc Cert.CpsIdeal.main_arg0) = m ((c.tc : Thread Cert.CpsIdeal.nD Cert.CpsIdeal.τ).loc Cert.CpsIdeal.main_arg0)
          ∧ r.2.mem ((c.tc : Thread Cert.CpsIdeal.nD Cert.CpsIdeal.τ).loc Cert.CpsIdeal.main_arg1) = m ((c.tc : Thread Cert.CpsIdeal.nD Cert.CpsIdeal.τ).loc Cert.CpsIdeal.main_arg1)
          ∧ r.2.mem ((c.tc : Thread Cert.CpsIdeal.nD Cert.CpsIdeal.τ).loc Cert.CpsIdeal.main_arg2) = m ((c.tc : Thread Cert.CpsIdeal.nD Cert.CpsIdeal.τ).loc Cert.CpsIdeal.main_arg2)
          ∧ r.2.mem ((c.tc : Thread Cert.CpsIdeal.nD Cert.CpsIdeal.τ).loc Cert.CpsIdeal.main_arg3) = m ((c.tc : Thread Cert.CpsIdeal.nD Cert.CpsIdeal.τ).loc Cert.CpsIdeal.main_arg3))
      ∧ θ_run (Cert.CpsRefIdeal.defs (F := Ideal)) (onTc (τ := Cert.CpsRefIdeal.τ) (Cert.CpsRefIdeal.main (F := Ideal))) ⟨m', fun _ => 0, g'⟩ (fun r => ∀ c : Dev Cert.CpsRefIdeal.nD,
          r.2.mem ((c.tc : Thread Cert.CpsRefIdeal.nD Cert.CpsRefIdeal.τ).loc Cert.CpsRefIdeal.main_v13) = v0 c
          ∧ r.2.mem ((c.tc : Thread Cert.CpsRefIdeal.nD Cert.CpsRefIdeal.τ).loc Cert.CpsRefIdeal.main_arg0) = m' ((c.tc : Thread Cert.CpsRefIdeal.nD Cert.CpsRefIdeal.τ).loc Cert.CpsRefIdeal.main_arg0)
          ∧ r.2.mem ((c.tc : Thread Cert.CpsRefIdeal.nD Cert.CpsRefIdeal.τ).loc Cert.CpsRefIdeal.main_arg1) = m' ((c.tc : Thread Cert.CpsRefIdeal.nD Cert.CpsRefIdeal.τ).loc Cert.CpsRefIdeal.main_arg1)
          ∧ r.2.mem ((c.tc : Thread Cert.CpsRefIdeal.nD Cert.CpsRefIdeal.τ).loc Cert.CpsRefIdeal.main_arg2) = m' ((c.tc : Thread Cert.CpsRefIdeal.nD Cert.CpsRefIdeal.τ).loc Cert.CpsRefIdeal.main_arg2)
          ∧ r.2.mem ((c.tc : Thread Cert.CpsRefIdeal.nD Cert.CpsRefIdeal.τ).loc Cert.CpsRefIdeal.main_arg3) = m' ((c.tc : Thread Cert.CpsRefIdeal.nD Cert.CpsRefIdeal.τ).loc Cert.CpsRefIdeal.main_arg3))

def preserves_Log_LogIdeal : Prop :=
  True

def algebraic_LogIdeal_LogRefIdeal_pre_finite_rows [hLogIdeal : Cert.LogIdeal.Facts] [hLogRefIdeal : Cert.LogRefIdeal.Facts] [hPre_finite_rows : Cert.Pre_finite_rows.Facts] : Prop :=
  ∀ (m : (ℓ : Loc Cert.LogIdeal.nD Cert.LogIdeal.τ Cert.LogIdeal.sig) → Buf (Elt Ideal) ℓ) (g : Dev Cert.LogIdeal.nD → PrngReg)
    (m' : (ℓ : Loc Cert.LogRefIdeal.nD Cert.LogRefIdeal.τ Cert.LogRefIdeal.sig) → Buf (Elt Ideal) ℓ) (g' : Dev Cert.LogRefIdeal.nD → PrngReg), Pre_LogIdeal_finite_rows m →
    (∀ c : Dev Cert.LogIdeal.nD,
      m' ((c.tc : Thread Cert.LogRefIdeal.nD Cert.LogRefIdeal.τ).loc Cert.LogRefIdeal.main_arg0) = m ((c.tc : Thread Cert.LogIdeal.nD Cert.LogIdeal.τ).loc Cert.LogIdeal.main_arg0)
      ∧ m' ((c.tc : Thread Cert.LogRefIdeal.nD Cert.LogRefIdeal.τ).loc Cert.LogRefIdeal.main_arg1) = m ((c.tc : Thread Cert.LogIdeal.nD Cert.LogIdeal.τ).loc Cert.LogIdeal.main_arg1)
      ∧ m' ((c.tc : Thread Cert.LogRefIdeal.nD Cert.LogRefIdeal.τ).loc Cert.LogRefIdeal.main_arg2) = m ((c.tc : Thread Cert.LogIdeal.nD Cert.LogIdeal.τ).loc Cert.LogIdeal.main_arg2)
      ∧ m' ((c.tc : Thread Cert.LogRefIdeal.nD Cert.LogRefIdeal.τ).loc Cert.LogRefIdeal.main_arg3) = m ((c.tc : Thread Cert.LogIdeal.nD Cert.LogIdeal.τ).loc Cert.LogIdeal.main_arg3)
      ∧ m' ((c.tc : Thread Cert.LogRefIdeal.nD Cert.LogRefIdeal.τ).loc Cert.LogRefIdeal.main_arg4) = m ((c.tc : Thread Cert.LogIdeal.nD Cert.LogIdeal.τ).loc Cert.LogIdeal.main_arg4)
      ∧ m' ((c.tc : Thread Cert.LogRefIdeal.nD Cert.LogRefIdeal.τ).loc Cert.LogRefIdeal.main_arg5) = m ((c.tc : Thread Cert.LogIdeal.nD Cert.LogIdeal.τ).loc Cert.LogIdeal.main_arg5)
      ∧ m' ((c.tc : Thread Cert.LogRefIdeal.nD Cert.LogRefIdeal.τ).loc Cert.LogRefIdeal.main_arg6) = m ((c.tc : Thread Cert.LogIdeal.nD Cert.LogIdeal.τ).loc Cert.LogIdeal.main_arg6)
      ∧ m' ((c.tc : Thread Cert.LogRefIdeal.nD Cert.LogRefIdeal.τ).loc Cert.LogRefIdeal.main_arg7) = m ((c.tc : Thread Cert.LogIdeal.nD Cert.LogIdeal.τ).loc Cert.LogIdeal.main_arg7)
      ∧ m' ((c.tc : Thread Cert.LogRefIdeal.nD Cert.LogRefIdeal.τ).loc Cert.LogRefIdeal.main_arg8) = m ((c.tc : Thread Cert.LogIdeal.nD Cert.LogIdeal.τ).loc Cert.LogIdeal.main_arg8)) →
    ∃ (v0 : (c : Dev Cert.LogIdeal.nD) → Buf (Elt Ideal) ((c.tc : Thread Cert.LogIdeal.nD Cert.LogIdeal.τ).loc Cert.LogIdeal.main_v8_2)),
      θ_run (Cert.LogIdeal.defs (F := Ideal)) (onTc (τ := Cert.LogIdeal.τ) (Cert.LogIdeal.main (F := Ideal))) ⟨m, fun _ => 0, g⟩ (fun r => ∀ c : Dev Cert.LogIdeal.nD,
          r.2.mem ((c.tc : Thread Cert.LogIdeal.nD Cert.LogIdeal.τ).loc Cert.LogIdeal.main_v8_2) = v0 c
          ∧ r.2.mem ((c.tc : Thread Cert.LogIdeal.nD Cert.LogIdeal.τ).loc Cert.LogIdeal.main_arg0) = m ((c.tc : Thread Cert.LogIdeal.nD Cert.LogIdeal.τ).loc Cert.LogIdeal.main_arg0)
          ∧ r.2.mem ((c.tc : Thread Cert.LogIdeal.nD Cert.LogIdeal.τ).loc Cert.LogIdeal.main_arg1) = m ((c.tc : Thread Cert.LogIdeal.nD Cert.LogIdeal.τ).loc Cert.LogIdeal.main_arg1)
          ∧ r.2.mem ((c.tc : Thread Cert.LogIdeal.nD Cert.LogIdeal.τ).loc Cert.LogIdeal.main_arg2) = m ((c.tc : Thread Cert.LogIdeal.nD Cert.LogIdeal.τ).loc Cert.LogIdeal.main_arg2)
          ∧ r.2.mem ((c.tc : Thread Cert.LogIdeal.nD Cert.LogIdeal.τ).loc Cert.LogIdeal.main_arg3) = m ((c.tc : Thread Cert.LogIdeal.nD Cert.LogIdeal.τ).loc Cert.LogIdeal.main_arg3)
          ∧ r.2.mem ((c.tc : Thread Cert.LogIdeal.nD Cert.LogIdeal.τ).loc Cert.LogIdeal.main_arg4) = m ((c.tc : Thread Cert.LogIdeal.nD Cert.LogIdeal.τ).loc Cert.LogIdeal.main_arg4)
          ∧ r.2.mem ((c.tc : Thread Cert.LogIdeal.nD Cert.LogIdeal.τ).loc Cert.LogIdeal.main_arg5) = m ((c.tc : Thread Cert.LogIdeal.nD Cert.LogIdeal.τ).loc Cert.LogIdeal.main_arg5)
          ∧ r.2.mem ((c.tc : Thread Cert.LogIdeal.nD Cert.LogIdeal.τ).loc Cert.LogIdeal.main_arg6) = m ((c.tc : Thread Cert.LogIdeal.nD Cert.LogIdeal.τ).loc Cert.LogIdeal.main_arg6)
          ∧ r.2.mem ((c.tc : Thread Cert.LogIdeal.nD Cert.LogIdeal.τ).loc Cert.LogIdeal.main_arg7) = m ((c.tc : Thread Cert.LogIdeal.nD Cert.LogIdeal.τ).loc Cert.LogIdeal.main_arg7)
          ∧ r.2.mem ((c.tc : Thread Cert.LogIdeal.nD Cert.LogIdeal.τ).loc Cert.LogIdeal.main_arg8) = m ((c.tc : Thread Cert.LogIdeal.nD Cert.LogIdeal.τ).loc Cert.LogIdeal.main_arg8))
      ∧ θ_run (Cert.LogRefIdeal.defs (F := Ideal)) (onTc (τ := Cert.LogRefIdeal.τ) (Cert.LogRefIdeal.main (F := Ideal))) ⟨m', fun _ => 0, g'⟩ (fun r => ∀ c : Dev Cert.LogRefIdeal.nD,
          r.2.mem ((c.tc : Thread Cert.LogRefIdeal.nD Cert.LogRefIdeal.τ).loc Cert.LogRefIdeal.main_v49) = v0 c
          ∧ r.2.mem ((c.tc : Thread Cert.LogRefIdeal.nD Cert.LogRefIdeal.τ).loc Cert.LogRefIdeal.main_arg0) = m' ((c.tc : Thread Cert.LogRefIdeal.nD Cert.LogRefIdeal.τ).loc Cert.LogRefIdeal.main_arg0)
          ∧ r.2.mem ((c.tc : Thread Cert.LogRefIdeal.nD Cert.LogRefIdeal.τ).loc Cert.LogRefIdeal.main_arg1) = m' ((c.tc : Thread Cert.LogRefIdeal.nD Cert.LogRefIdeal.τ).loc Cert.LogRefIdeal.main_arg1)
          ∧ r.2.mem ((c.tc : Thread Cert.LogRefIdeal.nD Cert.LogRefIdeal.τ).loc Cert.LogRefIdeal.main_arg2) = m' ((c.tc : Thread Cert.LogRefIdeal.nD Cert.LogRefIdeal.τ).loc Cert.LogRefIdeal.main_arg2)
          ∧ r.2.mem ((c.tc : Thread Cert.LogRefIdeal.nD Cert.LogRefIdeal.τ).loc Cert.LogRefIdeal.main_arg3) = m' ((c.tc : Thread Cert.LogRefIdeal.nD Cert.LogRefIdeal.τ).loc Cert.LogRefIdeal.main_arg3)
          ∧ r.2.mem ((c.tc : Thread Cert.LogRefIdeal.nD Cert.LogRefIdeal.τ).loc Cert.LogRefIdeal.main_arg4) = m' ((c.tc : Thread Cert.LogRefIdeal.nD Cert.LogRefIdeal.τ).loc Cert.LogRefIdeal.main_arg4)
          ∧ r.2.mem ((c.tc : Thread Cert.LogRefIdeal.nD Cert.LogRefIdeal.τ).loc Cert.LogRefIdeal.main_arg5) = m' ((c.tc : Thread Cert.LogRefIdeal.nD Cert.LogRefIdeal.τ).loc Cert.LogRefIdeal.main_arg5)
          ∧ r.2.mem ((c.tc : Thread Cert.LogRefIdeal.nD Cert.LogRefIdeal.τ).loc Cert.LogRefIdeal.main_arg6) = m' ((c.tc : Thread Cert.LogRefIdeal.nD Cert.LogRefIdeal.τ).loc Cert.LogRefIdeal.main_arg6)
          ∧ r.2.mem ((c.tc : Thread Cert.LogRefIdeal.nD Cert.LogRefIdeal.τ).loc Cert.LogRefIdeal.main_arg7) = m' ((c.tc : Thread Cert.LogRefIdeal.nD Cert.LogRefIdeal.τ).loc Cert.LogRefIdeal.main_arg7)
          ∧ r.2.mem ((c.tc : Thread Cert.LogRefIdeal.nD Cert.LogRefIdeal.τ).loc Cert.LogRefIdeal.main_arg8) = m' ((c.tc : Thread Cert.LogRefIdeal.nD Cert.LogRefIdeal.τ).loc Cert.LogRefIdeal.main_arg8))

def Claim : Prop :=
  ∃ (hExp : Cert.Exp.Facts) (hExpIdeal : Cert.ExpIdeal.Facts) (hExpRefIdeal : Cert.ExpRefIdeal.Facts) (hCmp : Cert.Cmp.Facts) (hCmpIdeal : Cert.CmpIdeal.Facts) (hCmpRefIdeal : Cert.CmpRefIdeal.Facts) (hOut : Cert.Out.Facts) (hOutIdeal : Cert.OutIdeal.Facts) (hOutRefIdeal : Cert.OutRefIdeal.Facts) (hIn : Cert.In.Facts) (hInIdeal : Cert.InIdeal.Facts) (hInRefIdeal : Cert.InRefIdeal.Facts) (hAda : Cert.Ada.Facts) (hAdaIdeal : Cert.AdaIdeal.Facts) (hAdaRefIdeal : Cert.AdaRefIdeal.Facts) (hRope : Cert.Rope.Facts) (hRopeIdeal : Cert.RopeIdeal.Facts) (hRopeRefIdeal : Cert.RopeRefIdeal.Facts) (hCps : Cert.Cps.Facts) (hCpsIdeal : Cert.CpsIdeal.Facts) (hCpsRefIdeal : Cert.CpsRefIdeal.Facts) (hLog : Cert.Log.Facts) (hLogIdeal : Cert.LogIdeal.Facts) (hLogRefIdeal : Cert.LogRefIdeal.Facts) (hPre_expert_in_range : Cert.Pre_expert_in_range.Facts) (hPre_finite_qk : Cert.Pre_finite_qk.Facts) (hPre_finite_blocks : Cert.Pre_finite_blocks.Facts) (hPre_finite_rows : Cert.Pre_finite_rows.Facts),
    quiescent_Exp (hExp := hExp) (hPre_expert_in_range := hPre_expert_in_range)
    ∧ quiescent_ExpIdeal (hExpIdeal := hExpIdeal) (hPre_expert_in_range := hPre_expert_in_range)
    ∧ quiescent_ExpRefIdeal (hExpRefIdeal := hExpRefIdeal)
    ∧ quiescent_ExpRefIdeal_pre_expert_in_range (hExpRefIdeal := hExpRefIdeal) (hPre_expert_in_range := hPre_expert_in_range)
    ∧ quiescent_Cmp (hCmp := hCmp)
    ∧ quiescent_CmpIdeal (hCmpIdeal := hCmpIdeal)
    ∧ quiescent_CmpIdeal_pre_finite_qk (hCmpIdeal := hCmpIdeal) (hPre_finite_qk := hPre_finite_qk)
    ∧ quiescent_CmpRefIdeal (hCmpRefIdeal := hCmpRefIdeal)
    ∧ quiescent_CmpRefIdeal_pre_finite_qk (hCmpRefIdeal := hCmpRefIdeal) (hPre_finite_qk := hPre_finite_qk)
    ∧ quiescent_Out (hOut := hOut)
    ∧ quiescent_OutIdeal (hOutIdeal := hOutIdeal)
    ∧ quiescent_OutRefIdeal (hOutRefIdeal := hOutRefIdeal)
    ∧ quiescent_In (hIn := hIn)
    ∧ quiescent_InIdeal (hInIdeal := hInIdeal)
    ∧ quiescent_InRefIdeal (hInRefIdeal := hInRefIdeal)
    ∧ quiescent_Ada (hAda := hAda)
    ∧ quiescent_AdaIdeal (hAdaIdeal := hAdaIdeal)
    ∧ quiescent_AdaRefIdeal (hAdaRefIdeal := hAdaRefIdeal)
    ∧ quiescent_Rope (hRope := hRope)
    ∧ quiescent_RopeIdeal (hRopeIdeal := hRopeIdeal)
    ∧ quiescent_RopeRefIdeal (hRopeRefIdeal := hRopeRefIdeal)
    ∧ quiescent_Cps (hCps := hCps)
    ∧ quiescent_CpsIdeal (hCpsIdeal := hCpsIdeal)
    ∧ quiescent_CpsIdeal_pre_finite_blocks (hCpsIdeal := hCpsIdeal) (hPre_finite_blocks := hPre_finite_blocks)
    ∧ quiescent_CpsRefIdeal (hCpsRefIdeal := hCpsRefIdeal)
    ∧ quiescent_CpsRefIdeal_pre_finite_blocks (hCpsRefIdeal := hCpsRefIdeal) (hPre_finite_blocks := hPre_finite_blocks)
    ∧ quiescent_Log (hLog := hLog)
    ∧ quiescent_LogIdeal (hLogIdeal := hLogIdeal)
    ∧ quiescent_LogIdeal_pre_finite_rows (hLogIdeal := hLogIdeal) (hPre_finite_rows := hPre_finite_rows)
    ∧ quiescent_LogRefIdeal (hLogRefIdeal := hLogRefIdeal)
    ∧ quiescent_LogRefIdeal_pre_finite_rows (hLogRefIdeal := hLogRefIdeal) (hPre_finite_rows := hPre_finite_rows)
    ∧ preserves_Exp_ExpIdeal
    ∧ algebraic_ExpIdeal_ExpRefIdeal (hExpIdeal := hExpIdeal) (hExpRefIdeal := hExpRefIdeal) (hPre_expert_in_range := hPre_expert_in_range)
    ∧ preserves_Cmp_CmpIdeal
    ∧ algebraic_CmpIdeal_CmpRefIdeal_pre_finite_qk (hCmpIdeal := hCmpIdeal) (hCmpRefIdeal := hCmpRefIdeal) (hPre_finite_qk := hPre_finite_qk)
    ∧ preserves_Out_OutIdeal
    ∧ algebraic_OutIdeal_OutRefIdeal (hOutIdeal := hOutIdeal) (hOutRefIdeal := hOutRefIdeal)
    ∧ preserves_In_InIdeal
    ∧ algebraic_InIdeal_InRefIdeal (hInIdeal := hInIdeal) (hInRefIdeal := hInRefIdeal)
    ∧ preserves_Ada_AdaIdeal
    ∧ algebraic_AdaIdeal_AdaRefIdeal (hAdaIdeal := hAdaIdeal) (hAdaRefIdeal := hAdaRefIdeal)
    ∧ preserves_Rope_RopeIdeal
    ∧ algebraic_RopeIdeal_RopeRefIdeal (hRopeIdeal := hRopeIdeal) (hRopeRefIdeal := hRopeRefIdeal)
    ∧ preserves_Cps_CpsIdeal
    ∧ algebraic_CpsIdeal_CpsRefIdeal_pre_finite_blocks (hCpsIdeal := hCpsIdeal) (hCpsRefIdeal := hCpsRefIdeal) (hPre_finite_blocks := hPre_finite_blocks)
    ∧ preserves_Log_LogIdeal
    ∧ algebraic_LogIdeal_LogRefIdeal_pre_finite_rows (hLogIdeal := hLogIdeal) (hLogRefIdeal := hLogRefIdeal) (hPre_finite_rows := hPre_finite_rows)
-- ==== Pre_expert_in_range.lean ====
abbrev S160 : Shape := ⟨1, ![160]⟩
abbrev S1 : Shape := ⟨1, ![1]⟩
abbrev S40960x2048 : Shape := ⟨2, ![40960, 2048]⟩
abbrev S32x2048x512 : Shape := ⟨3, ![32, 2048, 512]⟩
abbrev S32x512x2048 : Shape := ⟨3, ![32, 512, 2048]⟩
abbrev S_ : Shape := ⟨0, ![]⟩

class Facts : Prop where
  bcast_S_S160 : S_.BroadcastsInDim S160 (![] : Fin 0 → Fin S160.rank)

variable [Facts]

def fn {F : FTy → Type} [FloatOps F] (main_arg0 : IVec S160 32) (main_arg1 : IVec S1 32) (main_arg2 : FVec F S40960x2048 .f32) (main_arg3 : FVec F S32x2048x512 .f32) (main_arg4 : FVec F S32x2048x512 .f32) (main_arg5 : FVec F S32x512x2048 .f32) : IVec S160 1 :=
  let main_c : IVec S_ 32 := constantI S_ 32 0#32
  let main_v0 : IVec S160 32 := broadcastInDim S160 ![] bcast_S_S160 main_c
  let main_v1 : IVec S160 1 := cmpi .sge main_arg0 main_v0
  let main_c_0 : IVec S_ 32 := constantI S_ 32 32#32
  let main_v2 : IVec S160 32 := broadcastInDim S160 ![] bcast_S_S160 main_c_0
  let main_v3 : IVec S160 1 := cmpi .slt main_arg0 main_v2
  let main_v4 : IVec S160 1 := andi main_v1 main_v3
  main_v4
-- ==== Pre_finite_blocks.lean ====
abbrev S8x256x2048 : Shape := ⟨3, ![8, 256, 2048]⟩
abbrev S4096x128 : Shape := ⟨2, ![4096, 128]⟩
abbrev S32x128 : Shape := ⟨2, ![32, 128]⟩
abbrev S128x128 : Shape := ⟨2, ![128, 128]⟩
abbrev S_ : Shape := ⟨0, ![]⟩

class Facts : Prop where
  bitsLt_bf16_f32 : FTy.bits .bf16 < FTy.bits .f32
  bcast_S_S8x256x2048 : S_.BroadcastsInDim S8x256x2048 (![] : Fin 0 → Fin S8x256x2048.rank)
  bcast_S_S4096x128 : S_.BroadcastsInDim S4096x128 (![] : Fin 0 → Fin S4096x128.rank)
  bcast_S_S32x128 : S_.BroadcastsInDim S32x128 (![] : Fin 0 → Fin S32x128.rank)

variable [Facts]

def fn {F : FTy → Type} [FloatOps F] (main_arg0 : FVec F S8x256x2048 .bf16) (main_arg1 : FVec F S4096x128 .f32) (main_arg2 : FVec F S32x128 .f32) (main_arg3 : FVec F S128x128 .f32) : IVec S8x256x2048 1 × IVec S4096x128 1 × IVec S32x128 1 :=
  let main_v0 : FVec F S8x256x2048 .f32 := (extf .f32 · bitsLt_bf16_f32) main_arg0
  let main_v1 : FVec F S8x256x2048 .f32 := Host.absf main_v0
  let main_cst : FVec F S_ .f32 := constant S_ .f32 0x7F800000#32
  let main_v2 : FVec F S8x256x2048 .f32 := broadcastInDim S8x256x2048 ![] bcast_S_S8x256x2048 main_cst
  let main_v3 : IVec S8x256x2048 1 := cmpf .olt main_v1 main_v2
  let main_v4 : FVec F S4096x128 .f32 := Host.absf main_arg1
  let main_cst_0 : FVec F S_ .f32 := constant S_ .f32 0x7F800000#32
  let main_v5 : FVec F S4096x128 .f32 := broadcastInDim S4096x128 ![] bcast_S_S4096x128 main_cst_0
  let main_v6 : IVec S4096x128 1 := cmpf .olt main_v4 main_v5
  let main_v7 : FVec F S32x128 .f32 := Host.absf main_arg2
  let main_cst_1 : FVec F S_ .f32 := constant S_ .f32 0x7F800000#32
  let main_v8 : FVec F S32x128 .f32 := broadcastInDim S32x128 ![] bcast_S_S32x128 main_cst_1
  let main_v9 : IVec S32x128 1 := cmpf .olt main_v7 main_v8
  (main_v3, main_v6, main_v9)
-- ==== Pre_finite_qk.lean ====
abbrev S16384x6656 : Shape := ⟨2, ![16384, 6656]⟩
abbrev S8x256x128 : Shape := ⟨3, ![8, 256, 128]⟩
abbrev S16384x128 : Shape := ⟨2, ![16384, 128]⟩
abbrev S16384x1024 : Shape := ⟨2, ![16384, 1024]⟩
abbrev S_ : Shape := ⟨0, ![]⟩

class Facts : Prop where
  slices_S16384x6656_S16384x1024_0_0 : S16384x6656.Slices ![0, 0] S16384x1024
  bitsLt_bf16_f32 : FTy.bits .bf16 < FTy.bits .f32
  bcast_S_S16384x1024 : S_.BroadcastsInDim S16384x1024 (![] : Fin 0 → Fin S16384x1024.rank)
  bcast_S_S8x256x128 : S_.BroadcastsInDim S8x256x128 (![] : Fin 0 → Fin S8x256x128.rank)

variable [Facts]

def fn {F : FTy → Type} [FloatOps F] (main_arg0 : FVec F S16384x6656 .bf16) (main_arg1 : FVec F S8x256x128 .bf16) (main_arg2 : FVec F S8x256x128 .bf16) (main_arg3 : FVec F S16384x128 .f32) : IVec S16384x1024 1 × IVec S8x256x128 1 :=
  let main_v0 : FVec F S16384x1024 .bf16 := (extractStridedSlice S16384x1024 ![0, 0] · slices_S16384x6656_S16384x1024_0_0) main_arg0
  let main_v1 : FVec F S16384x1024 .f32 := (extf .f32 · bitsLt_bf16_f32) main_v0
  let main_v2 : FVec F S16384x1024 .f32 := Host.absf main_v1
  let main_cst : FVec F S_ .f32 := constant S_ .f32 0x7F800000#32
  let main_v3 : FVec F S16384x1024 .f32 := broadcastInDim S16384x1024 ![] bcast_S_S16384x1024 main_cst
  let main_v4 : IVec S16384x1024 1 := cmpf .olt main_v2 main_v3
  let main_v5 : FVec F S8x256x128 .f32 := (extf .f32 · bitsLt_bf16_f32) main_arg1
  let main_v6 : FVec F S8x256x128 .f32 := Host.absf main_v5
  let main_cst_0 : FVec F S_ .f32 := constant S_ .f32 0x7F800000#32
  let main_v7 : FVec F S8x256x128 .f32 := broadcastInDim S8x256x128 ![] bcast_S_S8x256x128 main_cst_0
  let main_v8 : IVec S8x256x128 1 := cmpf .olt main_v6 main_v7
  (main_v4, main_v8)
-- ==== Pre_finite_rows.lean ====
abbrev S16384x1024 : Shape := ⟨2, ![16384, 1024]⟩
abbrev S2048x2048 : Shape := ⟨2, ![2048, 2048]⟩
abbrev S16384x2048 : Shape := ⟨2, ![16384, 2048]⟩
abbrev S4x6x2048 : Shape := ⟨3, ![4, 6, 2048]⟩
abbrev S1x2048 : Shape := ⟨2, ![1, 2048]⟩
abbrev S2048x128 : Shape := ⟨2, ![2048, 128]⟩
abbrev S1x128 : Shape := ⟨2, ![1, 128]⟩
abbrev S_ : Shape := ⟨0, ![]⟩
abbrev S4x3x2048 : Shape := ⟨3, ![4, 3, 2048]⟩

class Facts : Prop where
  bitsLt_bf16_f32 : FTy.bits .bf16 < FTy.bits .f32
  bcast_S_S16384x1024 : S_.BroadcastsInDim S16384x1024 (![] : Fin 0 → Fin S16384x1024.rank)
  bcast_S_S2048x2048 : S_.BroadcastsInDim S2048x2048 (![] : Fin 0 → Fin S2048x2048.rank)
  bcast_S_S16384x2048 : S_.BroadcastsInDim S16384x2048 (![] : Fin 0 → Fin S16384x2048.rank)
  slices_S4x6x2048_S4x3x2048_0_2_0 : S4x6x2048.Slices ![0, 2, 0] S4x3x2048
  bcast_S_S4x3x2048 : S_.BroadcastsInDim S4x3x2048 (![] : Fin 0 → Fin S4x3x2048.rank)
  bcast_S_S1x2048 : S_.BroadcastsInDim S1x2048 (![] : Fin 0 → Fin S1x2048.rank)
  bcast_S_S2048x128 : S_.BroadcastsInDim S2048x128 (![] : Fin 0 → Fin S2048x128.rank)

variable [Facts]

def fn_part1 {F : FTy → Type} [FloatOps F] (main_arg6 : FVec F S1x2048 .f32) (main_arg7 : FVec F S2048x128 .f32) (main_v3 : IVec S16384x1024 1) (main_v7 : IVec S16384x1024 1) (main_v10 : IVec S2048x2048 1) (main_v13 : IVec S16384x2048 1) (main_v17 : IVec S4x3x2048 1) (main_v18 : FVec F S1x2048 .f32) : IVec S16384x1024 1 × IVec S16384x1024 1 × IVec S2048x2048 1 × IVec S16384x2048 1 × IVec S4x3x2048 1 × IVec S1x2048 1 × IVec S1x2048 1 × IVec S2048x128 1 :=
  let main_cst_4 : FVec F S_ .f32 := constant S_ .f32 0x7F800000#32
  let main_v19 : FVec F S1x2048 .f32 := broadcastInDim S1x2048 ![] bcast_S_S1x2048 main_cst_4
  let main_v20 : IVec S1x2048 1 := cmpf .olt main_v18 main_v19
  let main_v21 : FVec F S1x2048 .f32 := Host.absf main_arg6
  let main_cst_5 : FVec F S_ .f32 := constant S_ .f32 0x7F800000#32
  let main_v22 : FVec F S1x2048 .f32 := broadcastInDim S1x2048 ![] bcast_S_S1x2048 main_cst_5
  let main_v23 : IVec S1x2048 1 := cmpf .olt main_v21 main_v22
  let main_v24 : FVec F S2048x128 .f32 := Host.absf main_arg7
  let main_cst_6 : FVec F S_ .f32 := constant S_ .f32 0x7F800000#32
  let main_v25 : FVec F S2048x128 .f32 := broadcastInDim S2048x128 ![] bcast_S_S2048x128 main_cst_6
  let main_v26 : IVec S2048x128 1 := cmpf .olt main_v24 main_v25
  (main_v3, main_v7, main_v10, main_v13, main_v17, main_v20, main_v23, main_v26)

def fn {F : FTy → Type} [FloatOps F] (main_arg0 : FVec F S16384x1024 .bf16) (main_arg1 : FVec F S16384x1024 .bf16) (main_arg2 : FVec F S2048x2048 .f32) (main_arg3 : FVec F S16384x2048 .f32) (main_arg4 : FVec F S4x6x2048 .f32) (main_arg5 : FVec F S1x2048 .f32) (main_arg6 : FVec F S1x2048 .f32) (main_arg7 : FVec F S2048x128 .f32) (main_arg8 : FVec F S1x128 .f32) : IVec S16384x1024 1 × IVec S16384x1024 1 × IVec S2048x2048 1 × IVec S16384x2048 1 × IVec S4x3x2048 1 × IVec S1x2048 1 × IVec S1x2048 1 × IVec S2048x128 1 :=
  let main_v0 : FVec F S16384x1024 .f32 := (extf .f32 · bitsLt_bf16_f32) main_arg0
  let main_v1 : FVec F S16384x1024 .f32 := Host.absf main_v0
  let main_cst : FVec F S_ .f32 := constant S_ .f32 0x7F800000#32
  let main_v2 : FVec F S16384x1024 .f32 := broadcastInDim S16384x1024 ![] bcast_S_S16384x1024 main_cst
  let main_v3 : IVec S16384x1024 1 := cmpf .olt main_v1 main_v2
  let main_v4 : FVec F S16384x1024 .f32 := (extf .f32 · bitsLt_bf16_f32) main_arg1
  let main_v5 : FVec F S16384x1024 .f32 := Host.absf main_v4
  let main_cst_0 : FVec F S_ .f32 := constant S_ .f32 0x7F800000#32
  let main_v6 : FVec F S16384x1024 .f32 := broadcastInDim S16384x1024 ![] bcast_S_S16384x1024 main_cst_0
  let main_v7 : IVec S16384x1024 1 := cmpf .olt main_v5 main_v6
  let main_v8 : FVec F S2048x2048 .f32 := Host.absf main_arg2
  let main_cst_1 : FVec F S_ .f32 := constant S_ .f32 0x7F800000#32
  let main_v9 : FVec F S2048x2048 .f32 := broadcastInDim S2048x2048 ![] bcast_S_S2048x2048 main_cst_1
  let main_v10 : IVec S2048x2048 1 := cmpf .olt main_v8 main_v9
  let main_v11 : FVec F S16384x2048 .f32 := Host.absf main_arg3
  let main_cst_2 : FVec F S_ .f32 := constant S_ .f32 0x7F800000#32
  let main_v12 : FVec F S16384x2048 .f32 := broadcastInDim S16384x2048 ![] bcast_S_S16384x2048 main_cst_2
  let main_v13 : IVec S16384x2048 1 := cmpf .olt main_v11 main_v12
  let main_v14 : FVec F S4x3x2048 .f32 := (extractStridedSlice S4x3x2048 ![0, 2, 0] · slices_S4x6x2048_S4x3x2048_0_2_0) main_arg4
  let main_v15 : FVec F S4x3x2048 .f32 := Host.absf main_v14
  let main_cst_3 : FVec F S_ .f32 := constant S_ .f32 0x7F800000#32
  let main_v16 : FVec F S4x3x2048 .f32 := broadcastInDim S4x3x2048 ![] bcast_S_S4x3x2048 main_cst_3
  let main_v17 : IVec S4x3x2048 1 := cmpf .olt main_v15 main_v16
  let main_v18 : FVec F S1x2048 .f32 := Host.absf main_arg5
  fn_part1 (F := F) main_arg6 main_arg7 main_v3 main_v7 main_v10 main_v13 main_v17 main_v18
-- ==== Exp.lean ====
abbrev S160 : Shape := ⟨1, ![160]⟩
abbrev S1 : Shape := ⟨1, ![1]⟩
abbrev S40960x2048 : Shape := ⟨2, ![40960, 2048]⟩
abbrev S32x2048x512 : Shape := ⟨3, ![32, 2048, 512]⟩
abbrev S32x512x2048 : Shape := ⟨3, ![32, 512, 2048]⟩
abbrev S256x2048 : Shape := ⟨2, ![256, 2048]⟩
abbrev S1x2048x512 : Shape := ⟨3, ![1, 2048, 512]⟩
abbrev S1x512x2048 : Shape := ⟨3, ![1, 512, 2048]⟩
abbrev S2048x512 : Shape := ⟨2, ![2048, 512]⟩
abbrev S512x2048 : Shape := ⟨2, ![512, 2048]⟩
abbrev S256x512 : Shape := ⟨2, ![256, 512]⟩

abbrev nBuf : Space → Nat
  | .hbm => 5
  | .vmem => 13
  | .smem => 2
  | _ => 0

abbrev bufTy : (tb : Table) → Fin (tcTables nBuf tb) → BufTy
  | .hbm, ⟨0, _⟩ => ⟨S40960x2048, .f32⟩
  | .hbm, ⟨1, _⟩ => ⟨S32x2048x512, .f32⟩
  | .hbm, ⟨2, _⟩ => ⟨S32x2048x512, .f32⟩
  | .hbm, ⟨3, _⟩ => ⟨S32x512x2048, .f32⟩
  | .hbm, ⟨4, _⟩ => ⟨S40960x2048, .f32⟩
  | .local _ .vmem, ⟨0, _⟩ => ⟨S256x2048, .f32⟩
  | .local _ .vmem, ⟨1, _⟩ => ⟨S256x2048, .f32⟩
  | .local _ .vmem, ⟨2, _⟩ => ⟨S1x2048x512, .f32⟩
  | .local _ .vmem, ⟨3, _⟩ => ⟨S1x2048x512, .f32⟩
  | .local _ .vmem, ⟨4, _⟩ => ⟨S1x2048x512, .f32⟩
  | .local _ .vmem, ⟨5, _⟩ => ⟨S1x2048x512, .f32⟩
  | .local _ .vmem, ⟨6, _⟩ => ⟨S1x512x2048, .f32⟩
  | .local _ .vmem, ⟨7, _⟩ => ⟨S1x512x2048, .f32⟩
  | .local _ .vmem, ⟨8, _⟩ => ⟨S256x2048, .f32⟩
  | .local _ .vmem, ⟨9, _⟩ => ⟨S256x2048, .f32⟩
  | .local _ .vmem, ⟨10, _⟩ => ⟨S2048x512, .bf16⟩
  | .local _ .vmem, ⟨11, _⟩ => ⟨S2048x512, .bf16⟩
  | .local _ .vmem, ⟨12, _⟩ => ⟨S512x2048, .bf16⟩
  | .local _ .smem, ⟨0, _⟩ => ⟨S160, .i32⟩
  | .local _ .smem, ⟨1, _⟩ => ⟨S1, .i32⟩
  | _, _ => ⟨S40960x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_v0 : Ref sig .tc := ⟨.hbm, 4, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![160], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32 : BitVec 32 := 1#32
  let v8 : BitVec 32 := Scalar.subi arg0 c1_i32
  let c0_i32_2 : BitVec 32 := 0#32
  let v9 : BitVec 32 := Scalar.maxsi v8 c0_i32_2
  let v10 : Index := Scalar.indexCast v9
  ![v10.toNat]
def k0_off3 (i : grid0.Coords) : Fin 1 → Nat :=
  let arg0 : BitVec 32 := BitVec.ofNat 32 (i 0).val
  let v13 : Index := Scalar.indexCast arg0
  ![v13.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_cond3 (i : grid0.Coords) (v4 : BitVec 32) : BitVec 1 :=
  let arg0 : BitVec 32 := BitVec.ofNat 32 (i 0).val
  let v5 : BitVec 1 := Scalar.cmpi .sge arg0 v4
  let v6 : BitVec 32 := Scalar.extui v5
  let c0_i32_1 : BitVec 32 := 0#32
  let v7 : BitVec 1 := Scalar.cmpi .ne v6 c0_i32_1
  v7

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S160.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S160) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S160.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S160) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S160.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S160) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ExpRefIdeal.lean ====
abbrev S160 : Shape := ⟨1, ![160]⟩
abbrev S1 : Shape := ⟨1, ![1]⟩
abbrev S40960x2048 : Shape := ⟨2, ![40960, 2048]⟩
abbrev S32x2048x512 : Shape := ⟨3, ![32, 2048, 512]⟩
abbrev S32x512x2048 : Shape := ⟨3, ![32, 512, 2048]⟩
abbrev S160x256x2048 : Shape := ⟨3, ![160, 256, 2048]⟩
abbrev S_ : Shape := ⟨0, ![]⟩
abbrev S160x1 : Shape := ⟨2, ![160, 1]⟩
abbrev S160x2048x512 : Shape := ⟨3, ![160, 2048, 512]⟩
abbrev S160x256x512 : Shape := ⟨3, ![160, 256, 512]⟩
abbrev S160x512x2048 : Shape := ⟨3, ![160, 512, 2048]⟩
abbrev S160x1x1 : Shape := ⟨3, ![160, 1, 1]⟩

abbrev nBuf : Space → Nat
  | .hbm => 58
  | .vmem => 0
  | .smem => 0
  | _ => 0

abbrev bufTy : (tb : Table) → Fin (tcTables nBuf tb) → BufTy
  | .hbm, ⟨0, _⟩ => ⟨S160, .i32⟩
  | .hbm, ⟨1, _⟩ => ⟨S1, .i32⟩
  | .hbm, ⟨2, _⟩ => ⟨S40960x2048, .f32⟩
  | .hbm, ⟨3, _⟩ => ⟨S32x2048x512, .f32⟩
  | .hbm, ⟨4, _⟩ => ⟨S32x2048x512, .f32⟩
  | .hbm, ⟨5, _⟩ => ⟨S32x512x2048, .f32⟩
  | .hbm, ⟨6, _⟩ => ⟨S160x256x2048, .f32⟩
  | .hbm, ⟨7, _⟩ => ⟨S_, .i32⟩
  | .hbm, ⟨8, _⟩ => ⟨S160, .i32⟩
  | .hbm, ⟨9, _⟩ => ⟨S160, .i1⟩
  | .hbm, ⟨10, _⟩ => ⟨S_, .i32⟩
  | .hbm, ⟨11, _⟩ => ⟨S160, .i32⟩
  | .hbm, ⟨12, _⟩ => ⟨S160, .i32⟩
  | .hbm, ⟨13, _⟩ => ⟨S160, .i32⟩
  | .hbm, ⟨14, _⟩ => ⟨S160x1, .i32⟩
  | .hbm, ⟨15, _⟩ => ⟨S160x2048x512, .f32⟩
  | .hbm, ⟨16, _⟩ => ⟨S160x256x512, .f32⟩
  | .hbm, ⟨17, _⟩ => ⟨S_, .i32⟩
  | .hbm, ⟨18, _⟩ => ⟨S160, .i32⟩
  | .hbm, ⟨19, _⟩ => ⟨S160, .i1⟩
  | .hbm, ⟨20, _⟩ => ⟨S_, .i32⟩
  | .hbm, ⟨21, _⟩ => ⟨S160, .i32⟩
  | .hbm, ⟨22, _⟩ => ⟨S160, .i32⟩
  | .hbm, ⟨23, _⟩ => ⟨S160, .i32⟩
  | .hbm, ⟨24, _⟩ => ⟨S160x1, .i32⟩
  | .hbm, ⟨25, _⟩ => ⟨S160x2048x512, .f32⟩
  | .hbm, ⟨26, _⟩ => ⟨S160x256x512, .f32⟩
  | .hbm, ⟨27, _⟩ => ⟨S160x256x512, .f32⟩
  | .hbm, ⟨28, _⟩ => ⟨S160x256x512, .f32⟩
  | .hbm, ⟨29, _⟩ => ⟨S_, .f32⟩
  | .hbm, ⟨30, _⟩ => ⟨S160x256x512, .f32⟩
  | .hbm, ⟨31, _⟩ => ⟨S160x256x512, .f32⟩
  | .hbm, ⟨32, _⟩ => ⟨S_, .f32⟩
  | .hbm, ⟨33, _⟩ => ⟨S160x256x512, .f32⟩
  | .hbm, ⟨34, _⟩ => ⟨S160x256x512, .f32⟩
  | .hbm, ⟨35, _⟩ => ⟨S160x256x512, .f32⟩
  | .hbm, ⟨36, _⟩ => ⟨S160x256x512, .f32⟩
  | .hbm, ⟨37, _⟩ => ⟨S_, .i32⟩
  | .hbm, ⟨38, _⟩ => ⟨S160, .i32⟩
  | .hbm, ⟨39, _⟩ => ⟨S160, .i1⟩
  | .hbm, ⟨40, _⟩ => ⟨S_, .i32⟩
  | .hbm, ⟨41, _⟩ => ⟨S160, .i32⟩
  | .hbm, ⟨42, _⟩ => ⟨S160, .i32⟩
  | .hbm, ⟨43, _⟩ => ⟨S160, .i32⟩
  | .hbm, ⟨44, _⟩ => ⟨S160x1, .i32⟩
  | .hbm, ⟨45, _⟩ => ⟨S160x512x2048, .f32⟩
  | .hbm, ⟨46, _⟩ => ⟨S160x256x2048, .f32⟩
  | .hbm, ⟨47, _⟩ => ⟨S160, .i32⟩
  | .hbm, ⟨48, _⟩ => ⟨S_, .i32⟩
  | .hbm, ⟨49, _⟩ => ⟨S160, .i32⟩
  | .hbm, ⟨50, _⟩ => ⟨S160, .i1⟩
  | .hbm, ⟨51, _⟩ => ⟨S160x1x1, .i1⟩
  | .hbm, ⟨52, _⟩ => ⟨S_, .f32⟩
  | .hbm, ⟨53, _⟩ => ⟨S_, .f32⟩
  | .hbm, ⟨54, _⟩ => ⟨S160x256x2048, .i1⟩
  | .hbm, ⟨55, _⟩ => ⟨S160x256x2048, .f32⟩
  | .hbm, ⟨56, _⟩ => ⟨S160x256x2048, .f32⟩
  | .hbm, ⟨57, _⟩ => ⟨S40960x2048, .f32⟩
  | _, _ => ⟨S160, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_c_1 : Ref sig .tc := ⟨.hbm, 17, rfl⟩
abbrev main_v9 : Ref sig .tc := ⟨.hbm, 18, rfl⟩
abbrev main_v10 : Ref sig .tc := ⟨.hbm, 19, rfl⟩
abbrev main_c_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_call0_v5 : Ref sig .tc := ⟨.hbm, 34, rfl⟩
abbrev main_v17 : Ref sig .tc := ⟨.hbm, 35, rfl⟩
abbrev main_v18 : Ref sig .tc := ⟨.hbm, 36, rfl⟩
abbrev main_c_3 : Ref sig .tc := ⟨.hbm, 37, rfl⟩
abbrev main_v19 : Ref sig .tc := ⟨.hbm, 38, rfl⟩
abbrev main_v20 : Ref sig .tc := ⟨.hbm, 39, rfl⟩
abbrev main_c_4 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_cst : Ref sig .tc := ⟨.hbm, 52, rfl⟩
abbrev main_call1_v0 : Ref sig .tc := ⟨.hbm, 53, rfl⟩
abbrev main_call1_v1 : Ref sig .tc := ⟨.hbm, 54, rfl⟩
abbrev main_call1_v2 : Ref sig .tc := ⟨.hbm, 55, rfl⟩
abbrev main_v32 : Ref sig .tc := ⟨.hbm, 56, rfl⟩
abbrev main_v33 : Ref sig .tc := ⟨.hbm, 57, rfl⟩

abbrev nD : Nat := 1
abbrev τ : Topo := Topo.v7x

variable {F : FTy → Type} [FloatOps F]
-- ==== Cmp.lean ====
abbrev S16384x6656 : Shape := ⟨2, ![16384, 6656]⟩
abbrev S8x256x128 : Shape := ⟨3, ![8, 256, 128]⟩
abbrev S16384x128 : Shape := ⟨2, ![16384, 128]⟩
abbrev S256x128 : Shape := ⟨2, ![256, 128]⟩
abbrev S16384x1024 : Shape := ⟨2, ![16384, 1024]⟩
abbrev S32768x128 : Shape := ⟨2, ![32768, 128]⟩
abbrev S256x512 : Shape := ⟨2, ![256, 512]⟩
abbrev S1x256x128 : Shape := ⟨3, ![1, 256, 128]⟩
abbrev S256x256 : Shape := ⟨2, ![256, 256]⟩
abbrev S256 : Shape := ⟨1, ![256]⟩
abbrev S256x1 : Shape := ⟨2, ![256, 1]⟩
abbrev S128x256 : Shape := ⟨2, ![128, 256]⟩
abbrev S64x256 : Shape := ⟨2, ![64, 256]⟩
abbrev S1x256 : Shape := ⟨2, ![1, 256]⟩

abbrev nBuf : Space → Nat
  | .hbm => 7
  | .vmem => 13
  | .smem => 0
  | _ => 0

abbrev bufTy : (tb : Table) → Fin (tcTables nBuf tb) → BufTy
  | .hbm, ⟨0, _⟩ => ⟨S16384x6656, .bf16⟩
  | .hbm, ⟨1, _⟩ => ⟨S8x256x128, .bf16⟩
  | .hbm, ⟨2, _⟩ => ⟨S8x256x128, .bf16⟩
  | .hbm, ⟨3, _⟩ => ⟨S16384x128, .f32⟩
  | .hbm, ⟨4, _⟩ => ⟨S256x128, .f32⟩
  | .hbm, ⟨5, _⟩ => ⟨S16384x1024, .f32⟩
  | .hbm, ⟨6, _⟩ => ⟨S32768x128, .bf16⟩
  | .local _ .vmem, ⟨0, _⟩ => ⟨S256x512, .bf16⟩
  | .local _ .vmem, ⟨1, _⟩ => ⟨S256x512, .bf16⟩
  | .local _ .vmem, ⟨2, _⟩ => ⟨S1x256x128, .bf16⟩
  | .local _ .vmem, ⟨3, _⟩ => ⟨S1x256x128, .bf16⟩
  | .local _ .vmem, ⟨4, _⟩ => ⟨S1x256x128, .bf16⟩
  | .local _ .vmem, ⟨5, _⟩ => ⟨S1x256x128, .bf16⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x512, .f32⟩
  | .local _ .vmem, ⟨10, _⟩ => ⟨S256x512, .f32⟩
  | .local _ .vmem, ⟨11, _⟩ => ⟨S256x128, .bf16⟩
  | .local _ .vmem, ⟨12, _⟩ => ⟨S256x128, .bf16⟩
  | _, _ => ⟨S16384x6656, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![8, 16], ![false, false]⟩

def cc0_transform_0 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32 : BitVec 32 := 16#32
  let v17 : BitVec 32 := Scalar.muli v16 c16_i32
  let v18 : BitVec 32 := Scalar.addi v17 arg1
  let c2_i32_4 : BitVec 32 := 2#32
  let c0_i32_5 : BitVec 32 := 0#32
  let v19 : BitVec 1 := Scalar.cmpi .eq c2_i32_4 c0_i32_5
  let c1_i32_6 : BitVec 32 := 1#32
  let v20 : BitVec 32 := Scalar.select v19 c1_i32_6 c2_i32_4
  let v21 : BitVec 32 := Scalar.remsi arg0 v20
  let c0_i32_7 : BitVec 32 := 0#32
  let v22 : BitVec 1 := Scalar.cmpi .ne v21 c0_i32_7
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let v26 : BitVec 1 := Scalar.andi v25 v22
  let v27 : BitVec 32 := Scalar.addi v21 v20
  let v28 : BitVec 32 := Scalar.select v26 v27 v21
  let c0_i32_10 : BitVec 32 := 0#32
  ![v18.toNat, v28.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32 : BitVec 32 := 16#32
  let v17 : BitVec 32 := Scalar.muli v16 c16_i32
  let v18 : BitVec 32 := Scalar.addi v17 arg1
  let c0_i32_4 : BitVec 32 := 0#32
  let c0_i32_5 : BitVec 32 := 0#32
  ![v18.toNat, c0_i32_4.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32 : BitVec 32 := 16#32
  let v17 : BitVec 32 := Scalar.muli v16 c16_i32
  let v18 : BitVec 32 := Scalar.addi v17 arg1
  let c2_i32_4 : BitVec 32 := 2#32
  let c0_i32_5 : BitVec 32 := 0#32
  let v19 : BitVec 1 := Scalar.cmpi .eq c2_i32_4 c0_i32_5
  let c1_i32_6 : BitVec 32 := 1#32
  let v20 : BitVec 32 := Scalar.select v19 c1_i32_6 c2_i32_4
  let v21 : BitVec 32 := Scalar.remsi arg0 v20
  let c0_i32_7 : BitVec 32 := 0#32
  let v22 : BitVec 1 := Scalar.cmpi .ne v21 c0_i32_7
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let v26 : BitVec 1 := Scalar.andi v25 v22
  let v27 : BitVec 32 := Scalar.addi v21 v20
  let v28 : BitVec 32 := Scalar.select v26 v27 v21
  let c0_i32_10 : BitVec 32 := 0#32
  ![v18.toNat, v28.toNat]

def cc0_transform_6 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S256x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== CmpRefIdeal.lean ====
abbrev S16384x6656 : Shape := ⟨2, ![16384, 6656]⟩
abbrev S8x256x128 : Shape := ⟨3, ![8, 256, 128]⟩
abbrev S16384x128 : Shape := ⟨2, ![16384, 128]⟩
abbrev S16384x1024 : Shape := ⟨2, ![16384, 1024]⟩
abbrev S4x4096x2x4x128 : Shape := ⟨5, ![4, 4096, 2, 4, 128]⟩
abbrev S8x255x128 : Shape := ⟨3, ![8, 255, 128]⟩
abbrev S4x2x255x128 : Shape := ⟨4, ![4, 2, 255, 128]⟩
abbrev S4096 : Shape := ⟨1, ![4096]⟩
abbrev S255 : Shape := ⟨1, ![255]⟩
abbrev S_ : Shape := ⟨0, ![]⟩
abbrev S1x255 : Shape := ⟨2, ![1, 255]⟩
abbrev S4096x1 : Shape := ⟨2, ![4096, 1]⟩
abbrev S4096x255 : Shape := ⟨2, ![4096, 255]⟩
abbrev S4x2x255x4096x4 : Shape := ⟨5, ![4, 2, 255, 4096, 4]⟩
abbrev S4x2x4x4096x255 : Shape := ⟨5, ![4, 2, 4, 4096, 255]⟩
abbrev S4x2x4x4096 : Shape := ⟨4, ![4, 2, 4, 4096]⟩
abbrev S4x2x4x4096x1 : Shape := ⟨5, ![4, 2, 4, 4096, 1]⟩
abbrev S4x2x128x4x4096 : Shape := ⟨5, ![4, 2, 128, 4, 4096]⟩
abbrev S16384x24 : Shape := ⟨2, ![16384, 24]⟩
abbrev S4x4096x2x4x3 : Shape := ⟨5, ![4, 4096, 2, 4, 3]⟩
abbrev S4x4096x2x4x1 : Shape := ⟨5, ![4, 4096, 2, 4, 1]⟩

abbrev nBuf : Space → Nat
  | .hbm => 78
  | .vmem => 0
  | .smem => 0
  | _ => 0

abbrev bufTy : (tb : Table) → Fin (tcTables nBuf tb) → BufTy
  | .hbm, ⟨0, _⟩ => ⟨S16384x6656, .bf16⟩
  | .hbm, ⟨1, _⟩ => ⟨S8x256x128, .bf16⟩
  | .hbm, ⟨2, _⟩ => ⟨S8x256x128, .bf16⟩
  | .hbm, ⟨3, _⟩ => ⟨S16384x128, .f32⟩
  | .hbm, ⟨4, _⟩ => ⟨S16384x1024, .bf16⟩
  | .hbm, ⟨5, _⟩ => ⟨S16384x1024, .f32⟩
  | .hbm, ⟨6, _⟩ => ⟨S4x4096x2x4x128, .f32⟩
  | .hbm, ⟨7, _⟩ => ⟨S8x256x128, .f32⟩
  | .hbm, ⟨8, _⟩ => ⟨S8x255x128, .f32⟩
  | .hbm, ⟨9, _⟩ => ⟨S4x2x255x128, .f32⟩
  | .hbm, ⟨10, _⟩ => ⟨S8x256x128, .f32⟩
  | .hbm, ⟨11, _⟩ => ⟨S8x255x128, .f32⟩
  | .hbm, ⟨12, _⟩ => ⟨S4x2x255x128, .f32⟩
  | .hbm, ⟨13, _⟩ => ⟨S4096, .i32⟩
  | .hbm, ⟨14, _⟩ => ⟨S255, .i32⟩
  | .hbm, ⟨15, _⟩ => ⟨S_, .i32⟩
  | .hbm, ⟨16, _⟩ => ⟨S255, .i32⟩
  | .hbm, ⟨17, _⟩ => ⟨S255, .i32⟩
  | .hbm, ⟨18, _⟩ => ⟨S_, .i32⟩
  | .hbm, ⟨19, _⟩ => ⟨S255, .i32⟩
  | .hbm, ⟨20, _⟩ => ⟨S255, .i32⟩
  | .hbm, ⟨21, _⟩ => ⟨S_, .i32⟩
  | .hbm, ⟨22, _⟩ => ⟨S255, .i32⟩
  | .hbm, ⟨23, _⟩ => ⟨S255, .i32⟩
  | .hbm, ⟨24, _⟩ => ⟨S1x255, .i32⟩
  | .hbm, ⟨25, _⟩ => ⟨S4096x1, .i32⟩
  | .hbm, ⟨26, _⟩ => ⟨S4096x255, .i32⟩
  | .hbm, ⟨27, _⟩ => ⟨S4096x255, .i32⟩
  | .hbm, ⟨28, _⟩ => ⟨S4096x255, .i1⟩
  | .hbm, ⟨29, _⟩ => ⟨S4x2x255x4096x4, .f32⟩
  | .hbm, ⟨30, _⟩ => ⟨S4x2x4x4096x255, .f32⟩
  | .hbm, ⟨31, _⟩ => ⟨S_, .f32⟩
  | .hbm, ⟨32, _⟩ => ⟨S_, .f32⟩
  | .hbm, ⟨33, _⟩ => ⟨S4x2x4x4096x255, .f32⟩
  | .hbm, ⟨34, _⟩ => ⟨S4x2x4x4096x255, .f32⟩
  | .hbm, ⟨35, _⟩ => ⟨S_, .f32⟩
  | .hbm, ⟨36, _⟩ => ⟨S_, .f32⟩
  | .hbm, ⟨37, _⟩ => ⟨S4x2x4x4096x255, .i1⟩
  | .hbm, ⟨38, _⟩ => ⟨S4x2x4x4096x255, .f32⟩
  | .hbm, ⟨39, _⟩ => ⟨S4x2x4x4096x255, .f32⟩
  | .hbm, ⟨40, _⟩ => ⟨S_, .f32⟩
  | .hbm, ⟨41, _⟩ => ⟨S4x2x4x4096, .f32⟩
  | .hbm, ⟨42, _⟩ => ⟨S4x2x4x4096x1, .f32⟩
  | .hbm, ⟨43, _⟩ => ⟨S4x2x4x4096x1, .f32⟩
  | .hbm, ⟨44, _⟩ => ⟨S_, .f32⟩
  | .hbm, ⟨45, _⟩ => ⟨S4x2x4x4096x1, .f32⟩
  | .hbm, ⟨46, _⟩ => ⟨S4x2x4x4096x1, .i1⟩
  | .hbm, ⟨47, _⟩ => ⟨S_, .f32⟩
  | .hbm, ⟨48, _⟩ => ⟨S_, .f32⟩
  | .hbm, ⟨49, _⟩ => ⟨S4x2x4x4096x1, .f32⟩
  | .hbm, ⟨50, _⟩ => ⟨S4x2x4x4096x1, .f32⟩
  | .hbm, ⟨51, _⟩ => ⟨S4x2x4x4096x255, .f32⟩
  | .hbm, ⟨52, _⟩ => ⟨S4x2x4x4096x255, .f32⟩
  | .hbm, ⟨53, _⟩ => ⟨S4x2x4x4096x255, .f32⟩
  | .hbm, ⟨54, _⟩ => ⟨S_, .f32⟩
  | .hbm, ⟨55, _⟩ => ⟨S4x2x4x4096, .f32⟩
  | .hbm, ⟨56, _⟩ => ⟨S4x2x4x4096x1, .f32⟩
  | .hbm, ⟨57, _⟩ => ⟨S_, .f32⟩
  | .hbm, ⟨58, _⟩ => ⟨S4x2x4x4096x1, .f32⟩
  | .hbm, ⟨59, _⟩ => ⟨S4x2x4x4096x1, .f32⟩
  | .hbm, ⟨60, _⟩ => ⟨S4x2x4x4096x255, .f32⟩
  | .hbm, ⟨61, _⟩ => ⟨S4x2x4x4096x255, .f32⟩
  | .hbm, ⟨62, _⟩ => ⟨S4x2x128x4x4096, .f32⟩
  | .hbm, ⟨63, _⟩ => ⟨S4x4096x2x4x128, .f32⟩
  | .hbm, ⟨64, _⟩ => ⟨S16384x24, .f32⟩
  | .hbm, ⟨65, _⟩ => ⟨S16384x24, .f32⟩
  | .hbm, ⟨66, _⟩ => ⟨S16384x24, .f32⟩
  | .hbm, ⟨67, _⟩ => ⟨S_, .f32⟩
  | .hbm, ⟨68, _⟩ => ⟨S16384x24, .f32⟩
  | .hbm, ⟨69, _⟩ => ⟨S16384x24, .f32⟩
  | .hbm, ⟨70, _⟩ => ⟨S_, .f32⟩
  | .hbm, ⟨71, _⟩ => ⟨S16384x24, .f32⟩
  | .hbm, ⟨72, _⟩ => ⟨S16384x24, .f32⟩
  | .hbm, ⟨73, _⟩ => ⟨S4x4096x2x4x3, .f32⟩
  | .hbm, ⟨74, _⟩ => ⟨S4x4096x2x4x1, .f32⟩
  | .hbm, ⟨75, _⟩ => ⟨S4x4096x2x4x128, .f32⟩
  | .hbm, ⟨76, _⟩ => ⟨S4x4096x2x4x128, .f32⟩
  | .hbm, ⟨77, _⟩ => ⟨S16384x1024, .f32⟩
  | _, _ => ⟨S16384x6656, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_c : Ref sig .tc := ⟨.hbm, 15, rfl⟩
abbrev main_v11 : Ref sig .tc := ⟨.hbm, 16, rfl⟩
abbrev main_v12 : Ref sig .tc := ⟨.hbm, 17, rfl⟩
abbrev main_c_0 : Ref sig .tc := ⟨.hbm, 18, rfl⟩
abbrev main_v13 : Ref sig .tc := ⟨.hbm, 19, rfl⟩
abbrev main_v14 : Ref sig .tc := ⟨.hbm, 20, rfl⟩
abbrev main_c_1 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_cst : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_cst_2 : Ref sig .tc := ⟨.hbm, 35, rfl⟩
abbrev main_call0_v0 : Ref sig .tc := ⟨.hbm, 36, rfl⟩
abbrev main_call0_v1 : Ref sig .tc := ⟨.hbm, 37, rfl⟩
abbrev main_call0_v2 : Ref sig .tc := ⟨.hbm, 38, rfl⟩
abbrev main_v27 : Ref sig .tc := ⟨.hbm, 39, rfl⟩
abbrev main_cst_3 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_4 : Ref sig .tc := ⟨.hbm, 44, rfl⟩
abbrev main_v31 : Ref sig .tc := ⟨.hbm, 45, rfl⟩
abbrev main_v32 : Ref sig .tc := ⟨.hbm, 46, rfl⟩
abbrev main_cst_5 : Ref sig .tc := ⟨.hbm, 47, rfl⟩
abbrev main_call1_v0 : Ref sig .tc := ⟨.hbm, 48, rfl⟩
abbrev main_call1_v1 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_6 : Ref sig .tc := ⟨.hbm, 54, rfl⟩
abbrev main_v37 : Ref sig .tc := ⟨.hbm, 55, rfl⟩
abbrev main_v38 : Ref sig .tc := ⟨.hbm, 56, rfl⟩
abbrev main_cst_7 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_cst_8 : Ref sig .tc := ⟨.hbm, 67, rfl⟩
abbrev main_v48 : Ref sig .tc := ⟨.hbm, 68, rfl⟩
abbrev main_v49 : Ref sig .tc := ⟨.hbm, 69, rfl⟩
abbrev main_cst_9 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩

abbrev nD : Nat := 1
abbrev τ : Topo := Topo.v7x

variable {F : FTy → Type} [FloatOps F]
-- ==== Out.lean ====
abbrev S16384x1024 : Shape := ⟨2, ![16384, 1024]⟩
abbrev S2048x2048 : Shape := ⟨2, ![2048, 2048]⟩
abbrev S16384x2048 : Shape := ⟨2, ![16384, 2048]⟩
abbrev S4x6x2048 : Shape := ⟨3, ![4, 6, 2048]⟩
abbrev S1x2048 : Shape := ⟨2, ![1, 2048]⟩
abbrev S2048x128 : Shape := ⟨2, ![2048, 128]⟩
abbrev S1x128 : Shape := ⟨2, ![1, 128]⟩
abbrev S1024x2048 : Shape := ⟨2, ![1024, 2048]⟩
abbrev S16384x128 : Shape := ⟨2, ![16384, 128]⟩
abbrev S256x1024 : Shape := ⟨2, ![256, 1024]⟩
abbrev S256x2048 : Shape := ⟨2, ![256, 2048]⟩
abbrev S1x6x2048 : Shape := ⟨3, ![1, 6, 2048]⟩
abbrev S256x128 : Shape := ⟨2, ![256, 128]⟩
abbrev S6x2048 : Shape := ⟨2, ![6, 2048]⟩
abbrev S256 : Shape := ⟨1, ![256]⟩
abbrev S256x1 : Shape := ⟨2, ![256, 1]⟩

abbrev nBuf : Space → Nat
  | .hbm => 20
  | .vmem => 21
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S2048x2048, .f32⟩
  | .hbm, ⟨3, _⟩ => ⟨S16384x2048, .f32⟩
  | .hbm, ⟨4, _⟩ => ⟨S4x6x2048, .f32⟩
  | .hbm, ⟨5, _⟩ => ⟨S1x2048, .f32⟩
  | .hbm, ⟨6, _⟩ => ⟨S1x2048, .f32⟩
  | .hbm, ⟨7, _⟩ => ⟨S2048x128, .f32⟩
  | .hbm, ⟨8, _⟩ => ⟨S1x128, .f32⟩
  | .hbm, ⟨9, _⟩ => ⟨S2048x128, .bf16⟩
  | .hbm, ⟨10, _⟩ => ⟨S2048x128, .f32⟩
  | .hbm, ⟨11, _⟩ => ⟨S2048x128, .f32⟩
  | .hbm, ⟨12, _⟩ => ⟨S2048x128, .bf16⟩
  | .hbm, ⟨13, _⟩ => ⟨S1024x2048, .f32⟩
  | .hbm, ⟨14, _⟩ => ⟨S1024x2048, .bf16⟩
  | .hbm, ⟨15, _⟩ => ⟨S1024x2048, .f32⟩
  | .hbm, ⟨16, _⟩ => ⟨S1024x2048, .bf16⟩
  | .hbm, ⟨17, _⟩ => ⟨S16384x2048, .f32⟩
  | .hbm, ⟨18, _⟩ => ⟨S16384x2048, .f32⟩
  | .hbm, ⟨19, _⟩ => ⟨S16384x128, .f32⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S1024x2048, .bf16⟩
  | .local _ .vmem, ⟨5, _⟩ => ⟨S1024x2048, .bf16⟩
  | .local _ .vmem, ⟨6, _⟩ => ⟨S256x2048, .f32⟩
  | .local _ .vmem, ⟨7, _⟩ => ⟨S256x2048, .f32⟩
  | .local _ .vmem, ⟨8, _⟩ => ⟨S1x6x2048, .f32⟩
  | .local _ .vmem, ⟨9, _⟩ => ⟨S1x6x2048, .f32⟩
  | .local _ .vmem, ⟨10, _⟩ => ⟨S1x2048, .f32⟩
  | .local _ .vmem, ⟨11, _⟩ => ⟨S1x2048, .f32⟩
  | .local _ .vmem, ⟨12, _⟩ => ⟨S2048x128, .bf16⟩
  | .local _ .vmem, ⟨13, _⟩ => ⟨S2048x128, .bf16⟩
  | .local _ .vmem, ⟨14, _⟩ => ⟨S1x128, .f32⟩
  | .local _ .vmem, ⟨15, _⟩ => ⟨S256x2048, .f32⟩
  | .local _ .vmem, ⟨16, _⟩ => ⟨S256x2048, .f32⟩
  | .local _ .vmem, ⟨17, _⟩ => ⟨S256x2048, .f32⟩
  | .local _ .vmem, ⟨18, _⟩ => ⟨S256x2048, .f32⟩
  | .local _ .vmem, ⟨19, _⟩ => ⟨S256x128, .f32⟩
  | .local _ .vmem, ⟨20, _⟩ => ⟨S256x128, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8_0 : Ref sig .tc := ⟨.hbm, 17, rfl⟩
abbrev main_v8_1 : Ref sig .tc := ⟨.hbm, 18, rfl⟩
abbrev main_v8_2 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x6x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2048x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2048x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x2048 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== OutRefIdeal.lean ====
abbrev S16384x1024 : Shape := ⟨2, ![16384, 1024]⟩
abbrev S2048x2048 : Shape := ⟨2, ![2048, 2048]⟩
abbrev S16384x2048 : Shape := ⟨2, ![16384, 2048]⟩
abbrev S4x6x2048 : Shape := ⟨3, ![4, 6, 2048]⟩
abbrev S1x2048 : Shape := ⟨2, ![1, 2048]⟩
abbrev S2048x128 : Shape := ⟨2, ![2048, 128]⟩
abbrev S1x128 : Shape := ⟨2, ![1, 128]⟩
abbrev S4x4096x2048 : Shape := ⟨3, ![4, 4096, 2048]⟩
abbrev S4x1x2048 : Shape := ⟨3, ![4, 1, 2048]⟩
abbrev S2048 : Shape := ⟨1, ![2048]⟩
abbrev S_ : Shape := ⟨0, ![]⟩
abbrev S4x4096 : Shape := ⟨2, ![4, 4096]⟩
abbrev S4x4096x1 : Shape := ⟨3, ![4, 4096, 1]⟩
abbrev S1x1x2048 : Shape := ⟨3, ![1, 1, 2048]⟩

abbrev nBuf : Space → Nat
  | .hbm => 63
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S2048x2048, .f32⟩
  | .hbm, ⟨3, _⟩ => ⟨S16384x2048, .f32⟩
  | .hbm, ⟨4, _⟩ => ⟨S4x6x2048, .f32⟩
  | .hbm, ⟨5, _⟩ => ⟨S1x2048, .f32⟩
  | .hbm, ⟨6, _⟩ => ⟨S1x2048, .f32⟩
  | .hbm, ⟨7, _⟩ => ⟨S2048x128, .f32⟩
  | .hbm, ⟨8, _⟩ => ⟨S1x128, .f32⟩
  | .hbm, ⟨9, _⟩ => ⟨S16384x2048, .bf16⟩
  | .hbm, ⟨10, _⟩ => ⟨S16384x2048, .f32⟩
  | .hbm, ⟨11, _⟩ => ⟨S4x4096x2048, .f32⟩
  | .hbm, ⟨12, _⟩ => ⟨S4x4096x2048, .f32⟩
  | .hbm, ⟨13, _⟩ => ⟨S4x1x2048, .f32⟩
  | .hbm, ⟨14, _⟩ => ⟨S4x1x2048, .f32⟩
  | .hbm, ⟨15, _⟩ => ⟨S4x1x2048, .f32⟩
  | .hbm, ⟨16, _⟩ => ⟨S4x4096x2048, .f32⟩
  | .hbm, ⟨17, _⟩ => ⟨S2048, .f32⟩
  | .hbm, ⟨18, _⟩ => ⟨S4x4096x2048, .f32⟩
  | .hbm, ⟨19, _⟩ => ⟨S_, .f32⟩
  | .hbm, ⟨20, _⟩ => ⟨S4x4096, .f32⟩
  | .hbm, ⟨21, _⟩ => ⟨S4x4096x1, .f32⟩
  | .hbm, ⟨22, _⟩ => ⟨S_, .f32⟩
  | .hbm, ⟨23, _⟩ => ⟨S4x4096x1, .f32⟩
  | .hbm, ⟨24, _⟩ => ⟨S4x4096x1, .f32⟩
  | .hbm, ⟨25, _⟩ => ⟨S_, .f32⟩
  | .hbm, ⟨26, _⟩ => ⟨S4x4096x1, .f32⟩
  | .hbm, ⟨27, _⟩ => ⟨S4x4096x1, .f32⟩
  | .hbm, ⟨28, _⟩ => ⟨S4x4096x1, .f32⟩
  | .hbm, ⟨29, _⟩ => ⟨S4x4096x2048, .f32⟩
  | .hbm, ⟨30, _⟩ => ⟨S4x4096x2048, .f32⟩
  | .hbm, ⟨31, _⟩ => ⟨S1x1x2048, .f32⟩
  | .hbm, ⟨32, _⟩ => ⟨S4x4096x2048, .f32⟩
  | .hbm, ⟨33, _⟩ => ⟨S4x4096x2048, .f32⟩
  | .hbm, ⟨34, _⟩ => ⟨S4x4096x2048, .f32⟩
  | .hbm, ⟨35, _⟩ => ⟨S4x4096x2048, .f32⟩
  | .hbm, ⟨36, _⟩ => ⟨S4x4096x2048, .f32⟩
  | .hbm, ⟨37, _⟩ => ⟨S2048, .f32⟩
  | .hbm, ⟨38, _⟩ => ⟨S4x4096x2048, .f32⟩
  | .hbm, ⟨39, _⟩ => ⟨S_, .f32⟩
  | .hbm, ⟨40, _⟩ => ⟨S4x4096, .f32⟩
  | .hbm, ⟨41, _⟩ => ⟨S4x4096x1, .f32⟩
  | .hbm, ⟨42, _⟩ => ⟨S_, .f32⟩
  | .hbm, ⟨43, _⟩ => ⟨S4x4096x1, .f32⟩
  | .hbm, ⟨44, _⟩ => ⟨S4x4096x1, .f32⟩
  | .hbm, ⟨45, _⟩ => ⟨S_, .f32⟩
  | .hbm, ⟨46, _⟩ => ⟨S4x4096x1, .f32⟩
  | .hbm, ⟨47, _⟩ => ⟨S4x4096x1, .f32⟩
  | .hbm, ⟨48, _⟩ => ⟨S4x4096x1, .f32⟩
  | .hbm, ⟨49, _⟩ => ⟨S4x4096x2048, .f32⟩
  | .hbm, ⟨50, _⟩ => ⟨S4x4096x2048, .f32⟩
  | .hbm, ⟨51, _⟩ => ⟨S1x1x2048, .f32⟩
  | .hbm, ⟨52, _⟩ => ⟨S4x4096x2048, .f32⟩
  | .hbm, ⟨53, _⟩ => ⟨S4x4096x2048, .f32⟩
  | .hbm, ⟨54, _⟩ => ⟨S_, .f32⟩
  | .hbm, ⟨55, _⟩ => ⟨S4x1x2048, .f32⟩
  | .hbm, ⟨56, _⟩ => ⟨S4x1x2048, .f32⟩
  | .hbm, ⟨57, _⟩ => ⟨S4x4096x2048, .f32⟩
  | .hbm, ⟨58, _⟩ => ⟨S4x4096x2048, .f32⟩
  | .hbm, ⟨59, _⟩ => ⟨S4x4096x2048, .f32⟩
  | .hbm, ⟨60, _⟩ => ⟨S4x4096x2048, .f32⟩
  | .hbm, ⟨61, _⟩ => ⟨S16384x2048, .f32⟩
  | .hbm, ⟨62, _⟩ => ⟨S16384x2048, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst : Ref sig .tc := ⟨.hbm, 19, rfl⟩
abbrev main_v10 : Ref sig .tc := ⟨.hbm, 20, rfl⟩
abbrev main_v11 : Ref sig .tc := ⟨.hbm, 21, rfl⟩
abbrev main_cst_0 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_2 : Ref sig .tc := ⟨.hbm, 39, rfl⟩
abbrev main_v27 : Ref sig .tc := ⟨.hbm, 40, rfl⟩
abbrev main_v28 : Ref sig .tc := ⟨.hbm, 41, rfl⟩
abbrev main_cst_3 : Ref sig .tc := ⟨.hbm, 42, rfl⟩
abbrev main_v29 : Ref sig .tc := ⟨.hbm, 43, rfl⟩
abbrev main_v30 : Ref sig .tc := ⟨.hbm, 44, rfl⟩
abbrev main_cst_4 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_5 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩

abbrev nD : Nat := 1
abbrev τ : Topo := Topo.v7x

variable {F : FTy → Type} [FloatOps F]
-- ==== In.lean ====
abbrev S16384x2048 : Shape := ⟨2, ![16384, 2048]⟩
abbrev S4x6x2048 : Shape := ⟨3, ![4, 6, 2048]⟩
abbrev S1x2048 : Shape := ⟨2, ![1, 2048]⟩
abbrev S2048x6656 : Shape := ⟨2, ![2048, 6656]⟩
abbrev S2048x128 : Shape := ⟨2, ![2048, 128]⟩
abbrev S16384x128 : Shape := ⟨2, ![16384, 128]⟩
abbrev S16384x6656 : Shape := ⟨2, ![16384, 6656]⟩
abbrev S1024x2048 : Shape := ⟨2, ![1024, 2048]⟩
abbrev S1x6x2048 : Shape := ⟨3, ![1, 6, 2048]⟩
abbrev S2048x512 : Shape := ⟨2, ![2048, 512]⟩
abbrev S1024x128 : Shape := ⟨2, ![1024, 128]⟩
abbrev S1024x512 : Shape := ⟨2, ![1024, 512]⟩
abbrev S6x2048 : Shape := ⟨2, ![6, 2048]⟩
abbrev S1024 : Shape := ⟨1, ![1024]⟩
abbrev S1024x1 : Shape := ⟨2, ![1024, 1]⟩

abbrev nBuf : Space → Nat
  | .hbm => 9
  | .vmem => 17
  | .smem => 0
  | _ => 0

abbrev bufTy : (tb : Table) → Fin (tcTables nBuf tb) → BufTy
  | .hbm, ⟨0, _⟩ => ⟨S16384x2048, .f32⟩
  | .hbm, ⟨1, _⟩ => ⟨S4x6x2048, .f32⟩
  | .hbm, ⟨2, _⟩ => ⟨S1x2048, .f32⟩
  | .hbm, ⟨3, _⟩ => ⟨S2048x6656, .bf16⟩
  | .hbm, ⟨4, _⟩ => ⟨S2048x128, .bf16⟩
  | .hbm, ⟨5, _⟩ => ⟨S16384x128, .f32⟩
  | .hbm, ⟨6, _⟩ => ⟨S16384x128, .f32⟩
  | .hbm, ⟨7, _⟩ => ⟨S16384x6656, .bf16⟩
  | .hbm, ⟨8, _⟩ => ⟨S16384x128, .f32⟩
  | .local _ .vmem, ⟨0, _⟩ => ⟨S1024x2048, .f32⟩
  | .local _ .vmem, ⟨1, _⟩ => ⟨S1024x2048, .f32⟩
  | .local _ .vmem, ⟨2, _⟩ => ⟨S1x6x2048, .f32⟩
  | .local _ .vmem, ⟨3, _⟩ => ⟨S1x6x2048, .f32⟩
  | .local _ .vmem, ⟨4, _⟩ => ⟨S1x2048, .f32⟩
  | .local _ .vmem, ⟨5, _⟩ => ⟨S2048x512, .bf16⟩
  | .local _ .vmem, ⟨6, _⟩ => ⟨S2048x512, .bf16⟩
  | .local _ .vmem, ⟨7, _⟩ => ⟨S2048x128, .bf16⟩
  | .local _ .vmem, ⟨8, _⟩ => ⟨S1024x128, .f32⟩
  | .local _ .vmem, ⟨9, _⟩ => ⟨S1024x128, .f32⟩
  | .local _ .vmem, ⟨10, _⟩ => ⟨S1024x128, .f32⟩
  | .local _ .vmem, ⟨11, _⟩ => ⟨S1024x128, .f32⟩
  | .local _ .vmem, ⟨12, _⟩ => ⟨S1024x512, .bf16⟩
  | .local _ .vmem, ⟨13, _⟩ => ⟨S1024x512, .bf16⟩
  | .local _ .vmem, ⟨14, _⟩ => ⟨S1024x128, .f32⟩
  | .local _ .vmem, ⟨15, _⟩ => ⟨S1024x128, .f32⟩
  | .local _ .vmem, ⟨16, _⟩ => ⟨S1024x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![16, 13], ![false, false]⟩

def k0_cond2 (i : grid0.Coords) : BitVec 1 :=
  let arg1 : BitVec 32 := BitVec.ofNat 32 (i 1).val
  let c2_i32 : BitVec 32 := 2#32
  let v3 : BitVec 1 := Scalar.cmpi .slt arg1 c2_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg1 : BitVec 32 := BitVec.ofNat 32 (i 1).val
  let c2_i32_2 : BitVec 32 := 2#32
  let v6 : BitVec 1 := Scalar.cmpi .sge arg1 c2_i32_2
  let c3_i32 : BitVec 32 := 3#32
  let v7 : BitVec 1 := Scalar.cmpi .slt arg1 c3_i32
  let v8 : BitVec 1 := Scalar.andi v6 v7
  let v9 : BitVec 32 := Scalar.extui v8
  let c0_i32_3 : BitVec 32 := 0#32
  let v10 : BitVec 1 := Scalar.cmpi .ne v9 c0_i32_3
  v10

def k0_cond4 (i : grid0.Coords) : BitVec 1 :=
  let arg1 : BitVec 32 := BitVec.ofNat 32 (i 1).val
  let c3_i32_4 : BitVec 32 := 3#32
  let v11 : BitVec 1 := Scalar.cmpi .eq arg1 c3_i32_4
  let v12 : BitVec 32 := Scalar.extui v11
  let c0_i32_5 : BitVec 32 := 0#32
  let v13 : BitVec 1 := Scalar.cmpi .ne v12 c0_i32_5
  v13

def k0_cond5 (i : grid0.Coords) : BitVec 1 :=
  let arg1 : BitVec 32 := BitVec.ofNat 32 (i 1).val
  let c4_i32 : BitVec 32 := 4#32
  let v14 : BitVec 1 := Scalar.cmpi .sge arg1 c4_i32
  let v15 : BitVec 32 := Scalar.extui v14
  let c0_i32_6 : BitVec 32 := 0#32
  let v16 : BitVec 1 := Scalar.cmpi .ne v15 c0_i32_6
  v16

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x6x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S2048x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1024x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== InRefIdeal.lean ====
abbrev S16384x2048 : Shape := ⟨2, ![16384, 2048]⟩
abbrev S4x6x2048 : Shape := ⟨3, ![4, 6, 2048]⟩
abbrev S1x2048 : Shape := ⟨2, ![1, 2048]⟩
abbrev S2048x6656 : Shape := ⟨2, ![2048, 6656]⟩
abbrev S2048x128 : Shape := ⟨2, ![2048, 128]⟩
abbrev S16384x128 : Shape := ⟨2, ![16384, 128]⟩
abbrev S4x4096x2048 : Shape := ⟨3, ![4, 4096, 2048]⟩
abbrev S4x1x2048 : Shape := ⟨3, ![4, 1, 2048]⟩
abbrev S2048 : Shape := ⟨1, ![2048]⟩
abbrev S_ : Shape := ⟨0, ![]⟩
abbrev S4x4096 : Shape := ⟨2, ![4, 4096]⟩
abbrev S4x4096x1 : Shape := ⟨3, ![4, 4096, 1]⟩
abbrev S1x1x2048 : Shape := ⟨3, ![1, 1, 2048]⟩
abbrev S16384x6656 : Shape := ⟨2, ![16384, 6656]⟩
abbrev S16384x1792 : Shape := ⟨2, ![16384, 1792]⟩
abbrev S16384x14x128 : Shape := ⟨3, ![16384, 14, 128]⟩
abbrev S16384x14x64 : Shape := ⟨3, ![16384, 14, 64]⟩
abbrev S16384x1x128 : Shape := ⟨3, ![16384, 1, 128]⟩
abbrev S16384x1x64 : Shape := ⟨3, ![16384, 1, 64]⟩
abbrev S16384x1024 : Shape := ⟨2, ![16384, 1024]⟩
abbrev S16384x768 : Shape := ⟨2, ![16384, 768]⟩
abbrev S16384x4864 : Shape := ⟨2, ![16384, 4864]⟩

abbrev nBuf : Space → Nat
  | .hbm => 69
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S4x6x2048, .f32⟩
  | .hbm, ⟨2, _⟩ => ⟨S1x2048, .f32⟩
  | .hbm, ⟨3, _⟩ => ⟨S2048x6656, .bf16⟩
  | .hbm, ⟨4, _⟩ => ⟨S2048x128, .bf16⟩
  | .hbm, ⟨5, _⟩ => ⟨S16384x128, .f32⟩
  | .hbm, ⟨6, _⟩ => ⟨S16384x128, .f32⟩
  | .hbm, ⟨7, _⟩ => ⟨S4x4096x2048, .f32⟩
  | .hbm, ⟨8, _⟩ => ⟨S4x1x2048, .f32⟩
  | .hbm, ⟨9, _⟩ => ⟨S4x1x2048, .f32⟩
  | .hbm, ⟨10, _⟩ => ⟨S2048, .f32⟩
  | .hbm, ⟨11, _⟩ => ⟨S4x4096x2048, .f32⟩
  | .hbm, ⟨12, _⟩ => ⟨S_, .f32⟩
  | .hbm, ⟨13, _⟩ => ⟨S4x4096, .f32⟩
  | .hbm, ⟨14, _⟩ => ⟨S4x4096x1, .f32⟩
  | .hbm, ⟨15, _⟩ => ⟨S_, .f32⟩
  | .hbm, ⟨16, _⟩ => ⟨S4x4096x1, .f32⟩
  | .hbm, ⟨17, _⟩ => ⟨S4x4096x1, .f32⟩
  | .hbm, ⟨18, _⟩ => ⟨S_, .f32⟩
  | .hbm, ⟨19, _⟩ => ⟨S4x4096x1, .f32⟩
  | .hbm, ⟨20, _⟩ => ⟨S4x4096x1, .f32⟩
  | .hbm, ⟨21, _⟩ => ⟨S4x4096x1, .f32⟩
  | .hbm, ⟨22, _⟩ => ⟨S4x4096x2048, .f32⟩
  | .hbm, ⟨23, _⟩ => ⟨S4x4096x2048, .f32⟩
  | .hbm, ⟨24, _⟩ => ⟨S1x1x2048, .f32⟩
  | .hbm, ⟨25, _⟩ => ⟨S4x4096x2048, .f32⟩
  | .hbm, ⟨26, _⟩ => ⟨S4x4096x2048, .f32⟩
  | .hbm, ⟨27, _⟩ => ⟨S_, .f32⟩
  | .hbm, ⟨28, _⟩ => ⟨S4x1x2048, .f32⟩
  | .hbm, ⟨29, _⟩ => ⟨S4x1x2048, .f32⟩
  | .hbm, ⟨30, _⟩ => ⟨S4x4096x2048, .f32⟩
  | .hbm, ⟨31, _⟩ => ⟨S4x4096x2048, .f32⟩
  | .hbm, ⟨32, _⟩ => ⟨S4x4096x2048, .f32⟩
  | .hbm, ⟨33, _⟩ => ⟨S4x4096x2048, .f32⟩
  | .hbm, ⟨34, _⟩ => ⟨S16384x2048, .f32⟩
  | .hbm, ⟨35, _⟩ => ⟨S2048x6656, .f32⟩
  | .hbm, ⟨36, _⟩ => ⟨S16384x6656, .f32⟩
  | .hbm, ⟨37, _⟩ => ⟨S2048x128, .f32⟩
  | .hbm, ⟨38, _⟩ => ⟨S16384x128, .f32⟩
  | .hbm, ⟨39, _⟩ => ⟨S16384x1792, .f32⟩
  | .hbm, ⟨40, _⟩ => ⟨S16384x14x128, .f32⟩
  | .hbm, ⟨41, _⟩ => ⟨S16384x14x64, .f32⟩
  | .hbm, ⟨42, _⟩ => ⟨S16384x14x64, .f32⟩
  | .hbm, ⟨43, _⟩ => ⟨S16384x1x128, .f32⟩
  | .hbm, ⟨44, _⟩ => ⟨S16384x1x128, .f32⟩
  | .hbm, ⟨45, _⟩ => ⟨S16384x1x64, .f32⟩
  | .hbm, ⟨46, _⟩ => ⟨S16384x14x64, .f32⟩
  | .hbm, ⟨47, _⟩ => ⟨S16384x14x64, .f32⟩
  | .hbm, ⟨48, _⟩ => ⟨S16384x1x64, .f32⟩
  | .hbm, ⟨49, _⟩ => ⟨S16384x14x64, .f32⟩
  | .hbm, ⟨50, _⟩ => ⟨S16384x14x64, .f32⟩
  | .hbm, ⟨51, _⟩ => ⟨S16384x14x64, .f32⟩
  | .hbm, ⟨52, _⟩ => ⟨S16384x1x64, .f32⟩
  | .hbm, ⟨53, _⟩ => ⟨S16384x14x64, .f32⟩
  | .hbm, ⟨54, _⟩ => ⟨S16384x14x64, .f32⟩
  | .hbm, ⟨55, _⟩ => ⟨S16384x1x64, .f32⟩
  | .hbm, ⟨56, _⟩ => ⟨S16384x14x64, .f32⟩
  | .hbm, ⟨57, _⟩ => ⟨S16384x14x64, .f32⟩
  | .hbm, ⟨58, _⟩ => ⟨S16384x14x64, .f32⟩
  | .hbm, ⟨59, _⟩ => ⟨S16384x14x128, .f32⟩
  | .hbm, ⟨60, _⟩ => ⟨S16384x1792, .f32⟩
  | .hbm, ⟨61, _⟩ => ⟨S16384x1024, .f32⟩
  | .hbm, ⟨62, _⟩ => ⟨S_, .f32⟩
  | .hbm, ⟨63, _⟩ => ⟨S16384x1024, .f32⟩
  | .hbm, ⟨64, _⟩ => ⟨S16384x1024, .f32⟩
  | .hbm, ⟨65, _⟩ => ⟨S16384x768, .f32⟩
  | .hbm, ⟨66, _⟩ => ⟨S16384x4864, .f32⟩
  | .hbm, ⟨67, _⟩ => ⟨S16384x6656, .f32⟩
  | .hbm, ⟨68, _⟩ => ⟨S16384x6656, .bf16⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_cst_3 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩

abbrev nD : Nat := 1
abbrev τ : Topo := Topo.v7x

variable {F : FTy → Type} [FloatOps F]
-- ==== Ada.lean ====
abbrev S8x2048 : Shape := ⟨2, ![8, 2048]⟩
abbrev S2048x12288 : Shape := ⟨2, ![2048, 12288]⟩
abbrev S12288 : Shape := ⟨1, ![12288]⟩
abbrev S1x12288 : Shape := ⟨2, ![1, 12288]⟩
abbrev S8x12288 : Shape := ⟨2, ![8, 12288]⟩
abbrev S2048x512 : Shape := ⟨2, ![2048, 512]⟩
abbrev S1x512 : Shape := ⟨2, ![1, 512]⟩
abbrev S8x512 : Shape := ⟨2, ![8, 512]⟩

abbrev nBuf : Space → Nat
  | .hbm => 5
  | .vmem => 7
  | .smem => 0
  | _ => 0

abbrev bufTy : (tb : Table) → Fin (tcTables nBuf tb) → BufTy
  | .hbm, ⟨0, _⟩ => ⟨S8x2048, .f32⟩
  | .hbm, ⟨1, _⟩ => ⟨S2048x12288, .f32⟩
  | .hbm, ⟨2, _⟩ => ⟨S12288, .f32⟩
  | .hbm, ⟨3, _⟩ => ⟨S1x12288, .f32⟩
  | .hbm, ⟨4, _⟩ => ⟨S8x12288, .f32⟩
  | .local _ .vmem, ⟨0, _⟩ => ⟨S8x2048, .f32⟩
  | .local _ .vmem, ⟨1, _⟩ => ⟨S2048x512, .f32⟩
  | .local _ .vmem, ⟨2, _⟩ => ⟨S2048x512, .f32⟩
  | .local _ .vmem, ⟨3, _⟩ => ⟨S1x512, .f32⟩
  | .local _ .vmem, ⟨4, _⟩ => ⟨S1x512, .f32⟩
  | .local _ .vmem, ⟨5, _⟩ => ⟨S8x512, .f32⟩
  | .local _ .vmem, ⟨6, _⟩ => ⟨S8x512, .f32⟩
  | _, _ => ⟨S8x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![24], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S8x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== AdaRefIdeal.lean ====
abbrev S8x2048 : Shape := ⟨2, ![8, 2048]⟩
abbrev S2048x12288 : Shape := ⟨2, ![2048, 12288]⟩
abbrev S12288 : Shape := ⟨1, ![12288]⟩
abbrev S_ : Shape := ⟨0, ![]⟩
abbrev S8x12288 : Shape := ⟨2, ![8, 12288]⟩
abbrev S1x12288 : Shape := ⟨2, ![1, 12288]⟩

abbrev nBuf : Space → Nat
  | .hbm => 16
  | .vmem => 0
  | .smem => 0
  | _ => 0

abbrev bufTy : (tb : Table) → Fin (tcTables nBuf tb) → BufTy
  | .hbm, ⟨0, _⟩ => ⟨S8x2048, .f32⟩
  | .hbm, ⟨1, _⟩ => ⟨S2048x12288, .f32⟩
  | .hbm, ⟨2, _⟩ => ⟨S12288, .f32⟩
  | .hbm, ⟨3, _⟩ => ⟨S8x2048, .f32⟩
  | .hbm, ⟨4, _⟩ => ⟨S8x2048, .f32⟩
  | .hbm, ⟨5, _⟩ => ⟨S_, .f32⟩
  | .hbm, ⟨6, _⟩ => ⟨S8x2048, .f32⟩
  | .hbm, ⟨7, _⟩ => ⟨S8x2048, .f32⟩
  | .hbm, ⟨8, _⟩ => ⟨S_, .f32⟩
  | .hbm, ⟨9, _⟩ => ⟨S8x2048, .f32⟩
  | .hbm, ⟨10, _⟩ => ⟨S8x2048, .f32⟩
  | .hbm, ⟨11, _⟩ => ⟨S8x2048, .f32⟩
  | .hbm, ⟨12, _⟩ => ⟨S8x12288, .f32⟩
  | .hbm, ⟨13, _⟩ => ⟨S1x12288, .f32⟩
  | .hbm, ⟨14, _⟩ => ⟨S8x12288, .f32⟩
  | .hbm, ⟨15, _⟩ => ⟨S8x12288, .f32⟩
  | _, _ => ⟨S8x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩

abbrev nD : Nat := 1
abbrev τ : Topo := Topo.v7x

variable {F : FTy → Type} [FloatOps F]
-- ==== Rope.lean ====
abbrev S4x4096 : Shape := ⟨2, ![4, 4096]⟩
abbrev S64 : Shape := ⟨1, ![64]⟩
abbrev S_ : Shape := ⟨0, ![]⟩
abbrev S16384x1 : Shape := ⟨2, ![16384, 1]⟩
abbrev S128 : Shape := ⟨1, ![128]⟩
abbrev S1x128 : Shape := ⟨2, ![1, 128]⟩
abbrev S16384x128 : Shape := ⟨2, ![16384, 128]⟩
abbrev S1024x128 : Shape := ⟨2, ![1024, 128]⟩

abbrev nBuf : Space → Nat
  | .hbm => 24
  | .vmem => 6
  | .smem => 0
  | _ => 0

abbrev bufTy : (tb : Table) → Fin (tcTables nBuf tb) → BufTy
  | .hbm, ⟨0, _⟩ => ⟨S4x4096, .i32⟩
  | .hbm, ⟨1, _⟩ => ⟨S64, .f32⟩
  | .hbm, ⟨2, _⟩ => ⟨S_, .f32⟩
  | .hbm, ⟨3, _⟩ => ⟨S64, .f32⟩
  | .hbm, ⟨4, _⟩ => ⟨S64, .f32⟩
  | .hbm, ⟨5, _⟩ => ⟨S_, .f32⟩
  | .hbm, ⟨6, _⟩ => ⟨S64, .f32⟩
  | .hbm, ⟨7, _⟩ => ⟨S64, .f32⟩
  | .hbm, ⟨8, _⟩ => ⟨S64, .f32⟩
  | .hbm, ⟨9, _⟩ => ⟨S_, .f32⟩
  | .hbm, ⟨10, _⟩ => ⟨S64, .f32⟩
  | .hbm, ⟨11, _⟩ => ⟨S64, .f32⟩
  | .hbm, ⟨12, _⟩ => ⟨S_, .f32⟩
  | .hbm, ⟨13, _⟩ => ⟨S64, .f32⟩
  | .hbm, ⟨14, _⟩ => ⟨S64, .f32⟩
  | .hbm, ⟨15, _⟩ => ⟨S16384x1, .i32⟩
  | .hbm, ⟨16, _⟩ => ⟨S16384x1, .f32⟩
  | .hbm, ⟨17, _⟩ => ⟨S128, .f32⟩
  | .hbm, ⟨18, _⟩ => ⟨S1x128, .f32⟩
  | .hbm, ⟨19, _⟩ => ⟨S16384x128, .f32⟩
  | .hbm, ⟨20, _⟩ => ⟨S16384x128, .f32⟩
  | .hbm, ⟨21, _⟩ => ⟨S16384x128, .f32⟩
  | .hbm, ⟨22, _⟩ => ⟨S16384x128, .f32⟩
  | .hbm, ⟨23, _⟩ => ⟨S16384x128, .f32⟩
  | .local _ .vmem, ⟨0, _⟩ => ⟨S1024x128, .f32⟩
  | .local _ .vmem, ⟨1, _⟩ => ⟨S1024x128, .f32⟩
  | .local _ .vmem, ⟨2, _⟩ => ⟨S1024x128, .f32⟩
  | .local _ .vmem, ⟨3, _⟩ => ⟨S1024x128, .f32⟩
  | .local _ .vmem, ⟨4, _⟩ => ⟨S1024x128, .f32⟩
  | .local _ .vmem, ⟨5, _⟩ => ⟨S1024x128, .f32⟩
  | _, _ => ⟨S4x4096, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_cst_0 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_1 : Ref sig .tc := ⟨.hbm, 9, rfl⟩
abbrev main_v6 : Ref sig .tc := ⟨.hbm, 10, rfl⟩
abbrev main_v7 : Ref sig .tc := ⟨.hbm, 11, rfl⟩
abbrev main_cst_2 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17_0 : Ref sig .tc := ⟨.hbm, 22, rfl⟩
abbrev main_v17_1 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== RopeRefIdeal.lean ====
abbrev S4x4096 : Shape := ⟨2, ![4, 4096]⟩
abbrev S64 : Shape := ⟨1, ![64]⟩
abbrev S_ : Shape := ⟨0, ![]⟩
abbrev S4x4096x1 : Shape := ⟨3, ![4, 4096, 1]⟩
abbrev S1x1x64 : Shape := ⟨3, ![1, 1, 64]⟩
abbrev S4x4096x64 : Shape := ⟨3, ![4, 4096, 64]⟩
abbrev S4x4096x128 : Shape := ⟨3, ![4, 4096, 128]⟩
abbrev S16384x128 : Shape := ⟨2, ![16384, 128]⟩

abbrev nBuf : Space → Nat
  | .hbm => 28
  | .vmem => 0
  | .smem => 0
  | _ => 0

abbrev bufTy : (tb : Table) → Fin (tcTables nBuf tb) → BufTy
  | .hbm, ⟨0, _⟩ => ⟨S4x4096, .i32⟩
  | .hbm, ⟨1, _⟩ => ⟨S64, .f32⟩
  | .hbm, ⟨2, _⟩ => ⟨S_, .f32⟩
  | .hbm, ⟨3, _⟩ => ⟨S64, .f32⟩
  | .hbm, ⟨4, _⟩ => ⟨S64, .f32⟩
  | .hbm, ⟨5, _⟩ => ⟨S_, .f32⟩
  | .hbm, ⟨6, _⟩ => ⟨S64, .f32⟩
  | .hbm, ⟨7, _⟩ => ⟨S64, .f32⟩
  | .hbm, ⟨8, _⟩ => ⟨S64, .f32⟩
  | .hbm, ⟨9, _⟩ => ⟨S_, .f32⟩
  | .hbm, ⟨10, _⟩ => ⟨S64, .f32⟩
  | .hbm, ⟨11, _⟩ => ⟨S64, .f32⟩
  | .hbm, ⟨12, _⟩ => ⟨S_, .f32⟩
  | .hbm, ⟨13, _⟩ => ⟨S64, .f32⟩
  | .hbm, ⟨14, _⟩ => ⟨S64, .f32⟩
  | .hbm, ⟨15, _⟩ => ⟨S4x4096, .f32⟩
  | .hbm, ⟨16, _⟩ => ⟨S4x4096x1, .f32⟩
  | .hbm, ⟨17, _⟩ => ⟨S1x1x64, .f32⟩
  | .hbm, ⟨18, _⟩ => ⟨S4x4096x64, .f32⟩
  | .hbm, ⟨19, _⟩ => ⟨S4x4096x64, .f32⟩
  | .hbm, ⟨20, _⟩ => ⟨S4x4096x64, .f32⟩
  | .hbm, ⟨21, _⟩ => ⟨S4x4096x64, .f32⟩
  | .hbm, ⟨22, _⟩ => ⟨S4x4096x64, .f32⟩
  | .hbm, ⟨23, _⟩ => ⟨S4x4096x128, .f32⟩
  | .hbm, ⟨24, _⟩ => ⟨S16384x128, .f32⟩
  | .hbm, ⟨25, _⟩ => ⟨S4x4096x64, .f32⟩
  | .hbm, ⟨26, _⟩ => ⟨S4x4096x128, .f32⟩
  | .hbm, ⟨27, _⟩ => ⟨S16384x128, .f32⟩
  | _, _ => ⟨S4x4096, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_cst_0 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_1 : Ref sig .tc := ⟨.hbm, 9, rfl⟩
abbrev main_v6 : Ref sig .tc := ⟨.hbm, 10, rfl⟩
abbrev main_v7 : Ref sig .tc := ⟨.hbm, 11, rfl⟩
abbrev main_cst_2 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩

abbrev nD : Nat := 1
abbrev τ : Topo := Topo.v7x

variable {F : FTy → Type} [FloatOps F]
-- ==== Cps.lean ====
abbrev S8x256x2048 : Shape := ⟨3, ![8, 256, 2048]⟩
abbrev S4096x128 : Shape := ⟨2, ![4096, 128]⟩
abbrev S32x128 : Shape := ⟨2, ![32, 128]⟩
abbrev S128x128 : Shape := ⟨2, ![128, 128]⟩
abbrev S_ : Shape := ⟨0, ![]⟩
abbrev S8x4096 : Shape := ⟨2, ![8, 4096]⟩
abbrev S4096 : Shape := ⟨1, ![4096]⟩
abbrev S1 : Shape := ⟨1, ![1]⟩
abbrev S8x256x128 : Shape := ⟨3, ![8, 256, 128]⟩
abbrev S1x256x2048 : Shape := ⟨3, ![1, 256, 2048]⟩
abbrev S1x256x128 : Shape := ⟨3, ![1, 256, 128]⟩
abbrev S256x2048 : Shape := ⟨2, ![256, 2048]⟩
abbrev S2048x128 : Shape := ⟨2, ![2048, 128]⟩
abbrev S256x128 : Shape := ⟨2, ![256, 128]⟩
abbrev S8x128 : Shape := ⟨2, ![8, 128]⟩
abbrev S1x128 : Shape := ⟨2, ![1, 128]⟩

abbrev nBuf : Space → Nat
  | .hbm => 14
  | .vmem => 7
  | .smem => 0
  | _ => 0

abbrev bufTy : (tb : Table) → Fin (tcTables nBuf tb) → BufTy
  | .hbm, ⟨0, _⟩ => ⟨S8x256x2048, .bf16⟩
  | .hbm, ⟨1, _⟩ => ⟨S4096x128, .f32⟩
  | .hbm, ⟨2, _⟩ => ⟨S32x128, .f32⟩
  | .hbm, ⟨3, _⟩ => ⟨S128x128, .f32⟩
  | .hbm, ⟨4, _⟩ => ⟨S_, .bf16⟩
  | .hbm, ⟨5, _⟩ => ⟨S8x4096, .bf16⟩
  | .hbm, ⟨6, _⟩ => ⟨S4096, .f32⟩
  | .hbm, ⟨7, _⟩ => ⟨S4096, .bf16⟩
  | .hbm, ⟨8, _⟩ => ⟨S_, .i32⟩
  | .hbm, ⟨9, _⟩ => ⟨S1, .i32⟩
  | .hbm, ⟨10, _⟩ => ⟨S8x4096, .bf16⟩
  | .hbm, ⟨11, _⟩ => ⟨S4096x128, .bf16⟩
  | .hbm, ⟨12, _⟩ => ⟨S128x128, .bf16⟩
  | .hbm, ⟨13, _⟩ => ⟨S8x256x128, .bf16⟩
  | .local _ .vmem, ⟨0, _⟩ => ⟨S1x256x2048, .bf16⟩
  | .local _ .vmem, ⟨1, _⟩ => ⟨S1x256x2048, .bf16⟩
  | .local _ .vmem, ⟨2, _⟩ => ⟨S4096x128, .bf16⟩
  | .local _ .vmem, ⟨3, _⟩ => ⟨S8x4096, .bf16⟩
  | .local _ .vmem, ⟨4, _⟩ => ⟨S128x128, .bf16⟩
  | .local _ .vmem, ⟨5, _⟩ => ⟨S1x256x128, .bf16⟩
  | .local _ .vmem, ⟨6, _⟩ => ⟨S1x256x128, .bf16⟩
  | _, _ => ⟨S8x256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== CpsRefIdeal.lean ====
abbrev S8x256x2048 : Shape := ⟨3, ![8, 256, 2048]⟩
abbrev S4096x128 : Shape := ⟨2, ![4096, 128]⟩
abbrev S32x128 : Shape := ⟨2, ![32, 128]⟩
abbrev S128x128 : Shape := ⟨2, ![128, 128]⟩
abbrev S8x255x2048 : Shape := ⟨3, ![8, 255, 2048]⟩
abbrev S8x255x4096 : Shape := ⟨3, ![8, 255, 4096]⟩
abbrev S4096 : Shape := ⟨1, ![4096]⟩
abbrev S1x1x4096 : Shape := ⟨3, ![1, 1, 4096]⟩
abbrev S8x255x128 : Shape := ⟨3, ![8, 255, 128]⟩
abbrev S_ : Shape := ⟨0, ![]⟩
abbrev S8x1x128 : Shape := ⟨3, ![8, 1, 128]⟩
abbrev S8x256x128 : Shape := ⟨3, ![8, 256, 128]⟩

abbrev nBuf : Space → Nat
  | .hbm => 27
  | .vmem => 0
  | .smem => 0
  | _ => 0

abbrev bufTy : (tb : Table) → Fin (tcTables nBuf tb) → BufTy
  | .hbm, ⟨0, _⟩ => ⟨S8x256x2048, .bf16⟩
  | .hbm, ⟨1, _⟩ => ⟨S4096x128, .f32⟩
  | .hbm, ⟨2, _⟩ => ⟨S32x128, .f32⟩
  | .hbm, ⟨3, _⟩ => ⟨S128x128, .f32⟩
  | .hbm, ⟨4, _⟩ => ⟨S8x256x2048, .f32⟩
  | .hbm, ⟨5, _⟩ => ⟨S8x255x2048, .f32⟩
  | .hbm, ⟨6, _⟩ => ⟨S8x255x2048, .f32⟩
  | .hbm, ⟨7, _⟩ => ⟨S8x255x4096, .f32⟩
  | .hbm, ⟨8, _⟩ => ⟨S4096, .f32⟩
  | .hbm, ⟨9, _⟩ => ⟨S1x1x4096, .f32⟩
  | .hbm, ⟨10, _⟩ => ⟨S8x255x4096, .f32⟩
  | .hbm, ⟨11, _⟩ => ⟨S8x255x4096, .f32⟩
  | .hbm, ⟨12, _⟩ => ⟨S8x255x128, .f32⟩
  | .hbm, ⟨13, _⟩ => ⟨S8x255x128, .f32⟩
  | .hbm, ⟨14, _⟩ => ⟨S8x255x128, .f32⟩
  | .hbm, ⟨15, _⟩ => ⟨S_, .f32⟩
  | .hbm, ⟨16, _⟩ => ⟨S8x255x128, .f32⟩
  | .hbm, ⟨17, _⟩ => ⟨S8x255x128, .f32⟩
  | .hbm, ⟨18, _⟩ => ⟨S_, .f32⟩
  | .hbm, ⟨19, _⟩ => ⟨S8x255x128, .f32⟩
  | .hbm, ⟨20, _⟩ => ⟨S8x255x128, .f32⟩
  | .hbm, ⟨21, _⟩ => ⟨S8x255x128, .f32⟩
  | .hbm, ⟨22, _⟩ => ⟨S8x255x128, .f32⟩
  | .hbm, ⟨23, _⟩ => ⟨S_, .f32⟩
  | .hbm, ⟨24, _⟩ => ⟨S8x1x128, .f32⟩
  | .hbm, ⟨25, _⟩ => ⟨S8x256x128, .f32⟩
  | .hbm, ⟨26, _⟩ => ⟨S8x256x128, .bf16⟩
  | _, _ => ⟨S8x256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_call0_v0 : Ref sig .tc := ⟨.hbm, 13, rfl⟩
abbrev main_call0_v1 : Ref sig .tc := ⟨.hbm, 14, rfl⟩
abbrev main_call0_cst : Ref sig .tc := ⟨.hbm, 15, rfl⟩
abbrev main_call0_v2 : Ref sig .tc := ⟨.hbm, 16, rfl⟩
abbrev main_call0_v3 : Ref sig .tc := ⟨.hbm, 17, rfl⟩
abbrev main_call0_cst_0 : Ref sig .tc := ⟨.hbm, 18, rfl⟩
abbrev main_call0_v4 : Ref sig .tc := ⟨.hbm, 19, rfl⟩
abbrev main_call0_v5 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩

abbrev nD : Nat := 1
abbrev τ : Topo := Topo.v7x

variable {F : FTy → Type} [FloatOps F]
-- ==== Log.lean ====
abbrev S16384x1024 : Shape := ⟨2, ![16384, 1024]⟩
abbrev S2048x2048 : Shape := ⟨2, ![2048, 2048]⟩
abbrev S16384x2048 : Shape := ⟨2, ![16384, 2048]⟩
abbrev S4x6x2048 : Shape := ⟨3, ![4, 6, 2048]⟩
abbrev S1x2048 : Shape := ⟨2, ![1, 2048]⟩
abbrev S2048x128 : Shape := ⟨2, ![2048, 128]⟩
abbrev S1x128 : Shape := ⟨2, ![1, 128]⟩
abbrev S1024x2048 : Shape := ⟨2, ![1024, 2048]⟩
abbrev S16384x128 : Shape := ⟨2, ![16384, 128]⟩
abbrev S256x1024 : Shape := ⟨2, ![256, 1024]⟩
abbrev S256x2048 : Shape := ⟨2, ![256, 2048]⟩
abbrev S1x6x2048 : Shape := ⟨3, ![1, 6, 2048]⟩
abbrev S256x128 : Shape := ⟨2, ![256, 128]⟩
abbrev S6x2048 : Shape := ⟨2, ![6, 2048]⟩
abbrev S256 : Shape := ⟨1, ![256]⟩
abbrev S256x1 : Shape := ⟨2, ![256, 1]⟩

abbrev nBuf : Space → Nat
  | .hbm => 20
  | .vmem => 21
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S2048x2048, .f32⟩
  | .hbm, ⟨3, _⟩ => ⟨S16384x2048, .f32⟩
  | .hbm, ⟨4, _⟩ => ⟨S4x6x2048, .f32⟩
  | .hbm, ⟨5, _⟩ => ⟨S1x2048, .f32⟩
  | .hbm, ⟨6, _⟩ => ⟨S1x2048, .f32⟩
  | .hbm, ⟨7, _⟩ => ⟨S2048x128, .f32⟩
  | .hbm, ⟨8, _⟩ => ⟨S1x128, .f32⟩
  | .hbm, ⟨9, _⟩ => ⟨S2048x128, .bf16⟩
  | .hbm, ⟨10, _⟩ => ⟨S2048x128, .f32⟩
  | .hbm, ⟨11, _⟩ => ⟨S2048x128, .f32⟩
  | .hbm, ⟨12, _⟩ => ⟨S2048x128, .bf16⟩
  | .hbm, ⟨13, _⟩ => ⟨S1024x2048, .f32⟩
  | .hbm, ⟨14, _⟩ => ⟨S1024x2048, .bf16⟩
  | .hbm, ⟨15, _⟩ => ⟨S1024x2048, .f32⟩
  | .hbm, ⟨16, _⟩ => ⟨S1024x2048, .bf16⟩
  | .hbm, ⟨17, _⟩ => ⟨S16384x2048, .f32⟩
  | .hbm, ⟨18, _⟩ => ⟨S16384x2048, .f32⟩
  | .hbm, ⟨19, _⟩ => ⟨S16384x128, .f32⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S1024x2048, .bf16⟩
  | .local _ .vmem, ⟨5, _⟩ => ⟨S1024x2048, .bf16⟩
  | .local _ .vmem, ⟨6, _⟩ => ⟨S256x2048, .f32⟩
  | .local _ .vmem, ⟨7, _⟩ => ⟨S256x2048, .f32⟩
  | .local _ .vmem, ⟨8, _⟩ => ⟨S1x6x2048, .f32⟩
  | .local _ .vmem, ⟨9, _⟩ => ⟨S1x6x2048, .f32⟩
  | .local _ .vmem, ⟨10, _⟩ => ⟨S1x2048, .f32⟩
  | .local _ .vmem, ⟨11, _⟩ => ⟨S1x2048, .f32⟩
  | .local _ .vmem, ⟨12, _⟩ => ⟨S2048x128, .bf16⟩
  | .local _ .vmem, ⟨13, _⟩ => ⟨S2048x128, .bf16⟩
  | .local _ .vmem, ⟨14, _⟩ => ⟨S1x128, .f32⟩
  | .local _ .vmem, ⟨15, _⟩ => ⟨S256x2048, .f32⟩
  | .local _ .vmem, ⟨16, _⟩ => ⟨S256x2048, .f32⟩
  | .local _ .vmem, ⟨17, _⟩ => ⟨S256x2048, .f32⟩
  | .local _ .vmem, ⟨18, _⟩ => ⟨S256x2048, .f32⟩
  | .local _ .vmem, ⟨19, _⟩ => ⟨S256x128, .f32⟩
  | .local _ .vmem, ⟨20, _⟩ => ⟨S256x128, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8_0 : Ref sig .tc := ⟨.hbm, 17, rfl⟩
abbrev main_v8_1 : Ref sig .tc := ⟨.hbm, 18, rfl⟩
abbrev main_v8_2 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x6x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2048x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2048x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x2048 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== LogRefIdeal.lean ====
abbrev S16384x1024 : Shape := ⟨2, ![16384, 1024]⟩
abbrev S2048x2048 : Shape := ⟨2, ![2048, 2048]⟩
abbrev S16384x2048 : Shape := ⟨2, ![16384, 2048]⟩
abbrev S4x6x2048 : Shape := ⟨3, ![4, 6, 2048]⟩
abbrev S1x2048 : Shape := ⟨2, ![1, 2048]⟩
abbrev S2048x128 : Shape := ⟨2, ![2048, 128]⟩
abbrev S1x128 : Shape := ⟨2, ![1, 128]⟩
abbrev S4x4096x2048 : Shape := ⟨3, ![4, 4096, 2048]⟩
abbrev S4x1x2048 : Shape := ⟨3, ![4, 1, 2048]⟩
abbrev S2048 : Shape := ⟨1, ![2048]⟩
abbrev S_ : Shape := ⟨0, ![]⟩
abbrev S4x4096 : Shape := ⟨2, ![4, 4096]⟩
abbrev S4x4096x1 : Shape := ⟨3, ![4, 4096, 1]⟩
abbrev S1x1x2048 : Shape := ⟨3, ![1, 1, 2048]⟩
abbrev S16384x128 : Shape := ⟨2, ![16384, 128]⟩

abbrev nBuf : Space → Nat
  | .hbm => 66
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S2048x2048, .f32⟩
  | .hbm, ⟨3, _⟩ => ⟨S16384x2048, .f32⟩
  | .hbm, ⟨4, _⟩ => ⟨S4x6x2048, .f32⟩
  | .hbm, ⟨5, _⟩ => ⟨S1x2048, .f32⟩
  | .hbm, ⟨6, _⟩ => ⟨S1x2048, .f32⟩
  | .hbm, ⟨7, _⟩ => ⟨S2048x128, .f32⟩
  | .hbm, ⟨8, _⟩ => ⟨S1x128, .f32⟩
  | .hbm, ⟨9, _⟩ => ⟨S16384x2048, .bf16⟩
  | .hbm, ⟨10, _⟩ => ⟨S16384x2048, .f32⟩
  | .hbm, ⟨11, _⟩ => ⟨S4x4096x2048, .f32⟩
  | .hbm, ⟨12, _⟩ => ⟨S4x4096x2048, .f32⟩
  | .hbm, ⟨13, _⟩ => ⟨S4x1x2048, .f32⟩
  | .hbm, ⟨14, _⟩ => ⟨S4x1x2048, .f32⟩
  | .hbm, ⟨15, _⟩ => ⟨S4x1x2048, .f32⟩
  | .hbm, ⟨16, _⟩ => ⟨S4x4096x2048, .f32⟩
  | .hbm, ⟨17, _⟩ => ⟨S2048, .f32⟩
  | .hbm, ⟨18, _⟩ => ⟨S4x4096x2048, .f32⟩
  | .hbm, ⟨19, _⟩ => ⟨S_, .f32⟩
  | .hbm, ⟨20, _⟩ => ⟨S4x4096, .f32⟩
  | .hbm, ⟨21, _⟩ => ⟨S4x4096x1, .f32⟩
  | .hbm, ⟨22, _⟩ => ⟨S_, .f32⟩
  | .hbm, ⟨23, _⟩ => ⟨S4x4096x1, .f32⟩
  | .hbm, ⟨24, _⟩ => ⟨S4x4096x1, .f32⟩
  | .hbm, ⟨25, _⟩ => ⟨S_, .f32⟩
  | .hbm, ⟨26, _⟩ => ⟨S4x4096x1, .f32⟩
  | .hbm, ⟨27, _⟩ => ⟨S4x4096x1, .f32⟩
  | .hbm, ⟨28, _⟩ => ⟨S4x4096x1, .f32⟩
  | .hbm, ⟨29, _⟩ => ⟨S4x4096x2048, .f32⟩
  | .hbm, ⟨30, _⟩ => ⟨S4x4096x2048, .f32⟩
  | .hbm, ⟨31, _⟩ => ⟨S1x1x2048, .f32⟩
  | .hbm, ⟨32, _⟩ => ⟨S4x4096x2048, .f32⟩
  | .hbm, ⟨33, _⟩ => ⟨S4x4096x2048, .f32⟩
  | .hbm, ⟨34, _⟩ => ⟨S4x4096x2048, .f32⟩
  | .hbm, ⟨35, _⟩ => ⟨S4x4096x2048, .f32⟩
  | .hbm, ⟨36, _⟩ => ⟨S4x4096x2048, .f32⟩
  | .hbm, ⟨37, _⟩ => ⟨S2048, .f32⟩
  | .hbm, ⟨38, _⟩ => ⟨S4x4096x2048, .f32⟩
  | .hbm, ⟨39, _⟩ => ⟨S_, .f32⟩
  | .hbm, ⟨40, _⟩ => ⟨S4x4096, .f32⟩
  | .hbm, ⟨41, _⟩ => ⟨S4x4096x1, .f32⟩
  | .hbm, ⟨42, _⟩ => ⟨S_, .f32⟩
  | .hbm, ⟨43, _⟩ => ⟨S4x4096x1, .f32⟩
  | .hbm, ⟨44, _⟩ => ⟨S4x4096x1, .f32⟩
  | .hbm, ⟨45, _⟩ => ⟨S_, .f32⟩
  | .hbm, ⟨46, _⟩ => ⟨S4x4096x1, .f32⟩
  | .hbm, ⟨47, _⟩ => ⟨S4x4096x1, .f32⟩
  | .hbm, ⟨48, _⟩ => ⟨S4x4096x1, .f32⟩
  | .hbm, ⟨49, _⟩ => ⟨S4x4096x2048, .f32⟩
  | .hbm, ⟨50, _⟩ => ⟨S4x4096x2048, .f32⟩
  | .hbm, ⟨51, _⟩ => ⟨S1x1x2048, .f32⟩
  | .hbm, ⟨52, _⟩ => ⟨S4x4096x2048, .f32⟩
  | .hbm, ⟨53, _⟩ => ⟨S4x4096x2048, .f32⟩
  | .hbm, ⟨54, _⟩ => ⟨S_, .f32⟩
  | .hbm, ⟨55, _⟩ => ⟨S4x1x2048, .f32⟩
  | .hbm, ⟨56, _⟩ => ⟨S4x1x2048, .f32⟩
  | .hbm, ⟨57, _⟩ => ⟨S4x4096x2048, .f32⟩
  | .hbm, ⟨58, _⟩ => ⟨S4x4096x2048, .f32⟩
  | .hbm, ⟨59, _⟩ => ⟨S4x4096x2048, .f32⟩
  | .hbm, ⟨60, _⟩ => ⟨S4x4096x2048, .f32⟩
  | .hbm, ⟨61, _⟩ => ⟨S16384x2048, .f32⟩
  | .hbm, ⟨62, _⟩ => ⟨S16384x2048, .f32⟩
  | .hbm, ⟨63, _⟩ => ⟨S16384x128, .f32⟩
  | .hbm, ⟨64, _⟩ => ⟨S16384x128, .f32⟩
  | .hbm, ⟨65, _⟩ => ⟨S16384x128, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst : Ref sig .tc := ⟨.hbm, 19, rfl⟩
abbrev main_v10 : Ref sig .tc := ⟨.hbm, 20, rfl⟩
abbrev main_v11 : Ref sig .tc := ⟨.hbm, 21, rfl⟩
abbrev main_cst_0 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_2 : Ref sig .tc := ⟨.hbm, 39, rfl⟩
abbrev main_v27 : Ref sig .tc := ⟨.hbm, 40, rfl⟩
abbrev main_v28 : Ref sig .tc := ⟨.hbm, 41, rfl⟩
abbrev main_cst_3 : Ref sig .tc := ⟨.hbm, 42, rfl⟩
abbrev main_v29 : Ref sig .tc := ⟨.hbm, 43, rfl⟩
abbrev main_v30 : Ref sig .tc := ⟨.hbm, 44, rfl⟩
abbrev main_cst_4 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_5 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩

abbrev nD : Nat := 1
abbrev τ : Topo := Topo.v7x

variable {F : FTy → Type} [FloatOps F]
-- ==== Proof.ExpIdealBody.lean ====
module

public import proofs.«01_k».proof.Proof.Gen.ExpIdeal.Flash.Runs
public import Idealize.ShloMosaic.Lib.Pipeline.ValueKit
public import Idealize.ShloMosaic.Lib.Pointwise

@[expose] public section

/-! What one grid point of the expert kernel leaves behind, in each of its three ways: a used tile that loads its
    expert's weights, a used tile that finds them in the scratch, and a tile past the used ones. -/

set_option maxRecDepth 16384

noncomputable section

open Idealize.ShloMosaic Idealize.ShloMosaic.TcCoe

namespace Cert.ExpIdealBody

open Cert.ExpIdeal Cert.ExpIdeal.Gen

/-- The number of used tiles, as the body reads it. -/
abbrev usedWord (T1 : S1.Idx → BitVec 32) : BitVec 32 :=
  View.readAt (Elt Ideal) (tbM0_1).view (Rect.unit (s := S1) ![0] S1.size inb_S1_S1_0).toLoadRect T1 (Shape.Idx.first (numel1_S1.symm ▸ Nat.one_pos))

/-- The tile's expert, as the body reads it. -/
abbrev expertWord (i : grid0.Coords) (T0 : S160.Idx → BitVec 32) : BitVec 32 :=
  View.readAt (Elt Ideal) (tbM0_0).view (Rect.unit (s := S160) (k0_off3 i) S1.size (k0_off3_inb i)).toLoadRect T0 (Shape.Idx.first (numel1_S1.symm ▸ Nat.one_pos))

/-- The expert of the tile before, as the body reads it. -/
abbrev beforeWord (i : grid0.Coords) (T0 : S160.Idx → BitVec 32) : BitVec 32 :=
  View.readAt (Elt Ideal) (tbM0_0).view (Rect.unit (s := S160) (k0_off2 i) S1.size (k0_off2_inb i)).toLoadRect T0 (Shape.Idx.first (numel1_S1.symm ▸ Nat.one_pos))

/-- The tile is used. -/
abbrev Used (i : grid0.Coords) (T1 : S1.Idx → BitVec 32) : Prop := k0_cond1 i (usedWord T1) = 1#1

/-- The tile lies past the used ones. -/
abbrev Past (i : grid0.Coords) (T1 : S1.Idx → BitVec 32) : Prop := k0_cond3 i (usedWord T1) = 1#1

/-- The tile is the first, or of another expert than the tile before. -/
abbrev Fresh (i : grid0.Coords) (T0 : S160.Idx → BitVec 32) : Prop :=
  Scalar.cmpi .ne (Scalar.extui (Scalar.ori (Scalar.cmpi .eq (BitVec.ofNat 32 (i 0).val) 0#32)
    (Scalar.cmpi .ne (expertWord i T0) (beforeWord i T0)))) 0#32 = 1#1

variable (c : Dev nD) (i : grid0.Coords) (arg3 : Memref sig .tc .vmem S256x2048 .f32) (harg3 : arg3.IsWhole)
  (arg4 : Memref sig .tc .vmem S1x2048x512 .f32) (harg4 : arg4.IsWhole)
  (arg5 : Memref sig .tc .vmem S1x2048x512 .f32) (harg5 : arg5.IsWhole)
  (arg6 : Memref sig .tc .vmem S1x512x2048 .f32) (harg6 : arg6.IsWhole)
  (arg7 : Memref sig .tc .vmem S256x2048 .f32) (harg7 : arg7.IsWhole)
  (T0 : S160.Idx → Elt Ideal .i32) (T1 : S1.Idx → Elt Ideal .i32)
  (x0 : S256x2048.Idx → Elt Ideal .f32) (x1 x2 : S1x2048x512.Idx → Elt Ideal .f32) (x3 : S1x512x2048.Idx → Elt Ideal .f32)
  (xa0 : Buf (Elt Ideal) ((c : Thread nD τ).loc cc0_scratch0)) (xa1 : Buf (Elt Ideal) ((c : Thread nD τ).loc cc0_scratch1))
  (xa2 : Buf (Elt Ideal) ((c : Thread nD τ).loc cc0_scratch2))

theorem z3 : (![0, 0, 0] : Fin 3 → ℕ) = fun _ => 0 := funext fun a => by fin_cases a <;> rfl
theorem z2 : (![0, 0] : Fin 2 → ℕ) = fun _ => 0 := funext fun a => by fin_cases a <;> rfl

theorem ld3 (x : Vec Ideal S1x2048x512 .f32) :
    View.ld x (Rect.unit ![0, 0, 0] S1x2048x512.size inb_S1x2048x512_S1x2048x512_0_0_0) = x := View.ld_unit_zero (S := S1x2048x512) z3 _ x
theorem ld3' (x : Vec Ideal S1x512x2048 .f32) :
    View.ld x (Rect.unit ![0, 0, 0] S1x512x2048.size inb_S1x512x2048_S1x512x2048_0_0_0) = x := View.ld_unit_zero (S := S1x512x2048) z3 _ x

/-- A buffer stored whole holds what was stored. -/
theorem whole_writes {b : Ref sig .tc} (f : b.ty.Contents (Elt Ideal)) {off : Fin b.ty.shape.rank → ℕ}
    (inb : ∀ a, off a + b.ty.shape.size a ≤ b.ty.shape.size a) (h : off = fun _ => 0) (w : b.ty.shape.Idx → Elt Ideal b.ty.elt) :
    (View.whole b).writes (Elt Ideal) f [⟨Rect.unit off b.ty.shape.size inb, w⟩] = w := by
  subst h
  exact View.read_writes_whole (View.whole b) f w

/-- A used tile that loads its weights leaves them, rounded, in the scratch. -/
theorem keep_A0 (h1 : Used i T1) (hc : Fresh i T0) (h3 : ¬Past i T1) :
    (kernelRun0_A c i arg3 harg3 arg4 harg4 arg5 harg5 arg6 harg6 arg7 harg7 T0 T1 x0 x1 x2 x3 h1 hc h3).2.1 = k0_pay1 x1 := by
  unfold kernelRun0_A
  dsimp only
  sl_unfold_words
  simp only [View.readAt_eq_ld, View.read_rep]
  rw [ld3]
  exact whole_writes _ _ z2 _

theorem keep_A1 (h1 : Used i T1) (hc : Fresh i T0) (h3 : ¬Past i T1) :
    (kernelRun0_A c i arg3 harg3 arg4 harg4 arg5 harg5 arg6 harg6 arg7 harg7 T0 T1 x0 x1 x2 x3 h1 hc h3).2.2.1 = k0_pay2 x2 := by
  unfold kernelRun0_A
  dsimp only
  sl_unfold_words
  simp only [View.readAt_eq_ld, View.read_rep]
  rw [ld3]
  exact whole_writes _ _ z2 _
theorem keep_A2 (h1 : Used i T1) (hc : Fresh i T0) (h3 : ¬Past i T1) :
    (kernelRun0_A c i arg3 harg3 arg4 harg4 arg5 harg5 arg6 harg6 arg7 harg7 T0 T1 x0 x1 x2 x3 h1 hc h3).2.2.2.1 = k0_pay3 x3 := by
  unfold kernelRun0_A
  dsimp only
  sl_unfold_words
  simp only [View.readAt_eq_ld, View.read_rep]
  rw [ld3']
  exact whole_writes _ _ z2 _

/-- A used tile that loads its weights leaves its rows through them. -/
theorem out_A (h1 : Used i T1) (hc : Fresh i T0) (h3 : ¬Past i T1) :
    out0_A_4 c i arg3 harg3 arg4 harg4 arg5 harg5 arg6 harg6 arg7 harg7 T0 T1 x0 x1 x2 x3 h1 hc h3
      = k0_pay4 x0 (k0_pay1 x1) (k0_pay2 x2) (k0_pay3 x3) := by
  unfold out0_A_4
  rw [View.read_writes_eq_canon _ _ _ (cover0_A_4 c i arg3 harg3 arg4 harg4 arg5 harg5 arg6 harg6 arg7 harg7 T0 T1 x0 x1 x2 x3 h1 hc h3)]
  unfold kernelRun0_A
  dsimp only
  sl_unfold_words
  simp only [View.readAt_eq_ld, View.read_rep]
  rw [View.canon_unit_zero (S := S256x2048) z2, View.readCov_unit_zero (S := S2048x512) _ z2,
    View.readCov_unit_zero (S := S2048x512) _ z2, View.readCov_unit_zero (S := S512x2048) _ z2, ld3, ld3, ld3',
    View.ld_unit_zero (S := S256x2048) z2]

/-- A used tile that finds its weights leaves its rows through them. -/
theorem out_B (h1 : Used i T1) (hc : ¬Fresh i T0) (h3 : ¬Past i T1) :
    out0_B_4 c i arg3 harg3 arg4 harg4 arg5 harg5 arg6 harg6 arg7 harg7 T0 T1 x0 x1 x2 x3 xa0 xa1 xa2 h1 hc h3
      = k0_pay4 x0 xa0 xa1 xa2 := by
  unfold out0_B_4
  rw [View.read_writes_eq_canon _ _ _ (cover0_B_4 c i arg3 harg3 arg4 harg4 arg5 harg5 arg6 harg6 arg7 harg7 T0 T1 x0 x1 x2 x3 xa0 xa1 xa2 h1 hc h3)]
  unfold kernelRun0_B
  dsimp only
  sl_unfold_words
  simp only [View.readAt_eq_ld, View.read_rep]
  rw [View.canon_unit_zero (S := S256x2048) z2, View.ld_unit_zero (S := S256x2048) z2]
  erw [View.ld_unit_zero (S := S2048x512) z2, View.ld_unit_zero (S := S2048x512) z2, View.ld_unit_zero (S := S512x2048) z2]
  rfl

/-- A tile past the used ones leaves zeros. -/
theorem out_C (h1 : ¬Used i T1) (h3 : Past i T1) :
    out0_C_4 c i arg3 harg3 arg4 harg4 arg5 harg5 arg6 harg6 arg7 harg7 T0 T1 x0 x1 x2 x3 xa0 xa1 xa2 h1 h3 = k0_pay5 (F := Ideal) := by
  unfold out0_C_4
  rw [View.read_writes_eq_canon _ _ _ (cover0_C_4 c i arg3 harg3 arg4 harg4 arg5 harg5 arg6 harg6 arg7 harg7 T0 T1 x0 x1 x2 x3 xa0 xa1 xa2 h1 h3)]
  unfold kernelRun0_C
  dsimp only
  exact View.canon_unit_zero (S := S256x2048) z2 _ _

/-- The used tile that finds its weights leaves the scratch alone. -/
theorem keep_B (h1 : Used i T1) (hc : ¬Fresh i T0) (h3 : ¬Past i T1) :
    (kernelRun0_B c i arg3 harg3 arg4 harg4 arg5 harg5 arg6 harg6 arg7 harg7 T0 T1 x0 x1 x2 x3 xa0 xa1 xa2 h1 hc h3).2.1 = xa0 := rfl

end Cert.ExpIdealBody
-- ==== Proof.ExpIdealWords.lean ====
module

public import proofs.«01_k».proof.Proof.ExpIdealBody
public import Idealize.ShloMosaic.Lib.WordCmp

@[expose] public section

/-! The words the expert kernel reads from its two tables, and the decisions it takes of them. -/

set_option maxRecDepth 16384

noncomputable section

open Idealize.ShloMosaic Idealize.ShloMosaic.TcCoe

namespace Cert.ExpIdealWords

open Cert.ExpIdeal Cert.ExpIdeal.Gen Cert.ExpIdealBody

theorem bit (b : BitVec 1) : Scalar.cmpi .ne (Scalar.extui b : BitVec 32) 0#32 = b := by
  revert b; decide

theorem pt_toInt : ∀ i : grid0.Coords, (BitVec.ofNat 32 (i 0).val).toInt = ((i 0).val : ℤ) := by decide +kernel
theorem off2_eq : ∀ i : grid0.Coords, k0_off2 i 0 = (i 0).val - 1 := by decide +kernel
theorem off3_eq : ∀ i : grid0.Coords, k0_off3 i 0 = (i 0).val := by decide +kernel
theorem coords_val : ∀ t : Fin grid0.N, (grid0.coords t 0).val = t.val := by decide +kernel

/-- The first decision: the point's number is below the word. -/
theorem cond1_iff (i : grid0.Coords) (w : BitVec 32) : k0_cond1 i w = 1#1 ↔ ((i 0).val : ℤ) < w.toInt := by
  unfold k0_cond1
  dsimp only
  rw [bit, ← pt_toInt i]
  show BitVec.ofBool (decide _) = 1#1 ↔ _
  by_cases h : (BitVec.ofNat 32 (i 0).val).toInt < w.toInt
  · simp [h]
  · simp [h]

/-- The last decision: the point's number is not below the word. -/
theorem cond3_iff (i : grid0.Coords) (w : BitVec 32) : k0_cond3 i w = 1#1 ↔ w.toInt ≤ ((i 0).val : ℤ) := by
  unfold k0_cond3
  dsimp only
  rw [bit, ← pt_toInt i]
  show BitVec.ofBool (decide _) = 1#1 ↔ _
  by_cases h : w.toInt ≤ (BitVec.ofNat 32 (i 0).val).toInt
  · simp [h]
  · simp [h]

theorem not_past {i : grid0.Coords} {T1 : S1.Idx → BitVec 32} (h : Used i T1) : ¬Past i T1 := fun h' => by
  have h1 := (cond1_iff i _).1 h
  have h3 := (cond3_iff i _).1 h'
  omega

theorem past {i : grid0.Coords} {T1 : S1.Idx → BitVec 32} (h : ¬Used i T1) : Past i T1 :=
  (cond3_iff i _).2 (not_lt.1 fun h' => h ((cond1_iff i _).2 h'))

/-- The body decides one way or the other, whatever the word. -/
theorem decides (i : grid0.Coords) (w : BitVec 32) : (!(k0_cond1 i w == 1#1) && !(k0_cond3 i w == 1#1)) = false := by
  by_cases h : ((i 0).val : ℤ) < w.toInt
  · rw [(cond1_iff i w).2 h]; rfl
  · rw [(cond3_iff i w).2 (not_lt.1 h), Bool.and_comm]; rfl

/-- The point before a used one is used. -/
theorem used_before {i j : grid0.Coords} {T1 : S1.Idx → BitVec 32} (hij : (j 0).val ≤ (i 0).val) (h : Used i T1) : Used j T1 := by
  have h1 := (cond1_iff i _).1 h
  exact (cond1_iff j _).2 (by omega)

/-- The place of the tile's expert in the table. -/
abbrev place (n : Fin 160) : S160.Idx := ix1 n

theorem usedWord_eq (T1 : S1.Idx → BitVec 32) : usedWord T1 = T1 (ix1 (0 : Fin 1)) := by
  show T1 _ = T1 _
  congr 1
  funext a; apply Fin.ext
  match a with
  | ⟨0, _⟩ => rfl

theorem expertWord_eq (i : grid0.Coords) (T0 : S160.Idx → BitVec 32) (n : Fin 160) (hn : n.val = (i 0).val) :
    expertWord i T0 = T0 (place n) := by
  show T0 _ = T0 _
  congr 1
  funext a; apply Fin.ext
  match a with
  | ⟨0, _⟩ => show k0_off3 i 0 + 1 * 0 = n.val; rw [off3_eq, hn]; omega

theorem beforeWord_eq (i : grid0.Coords) (T0 : S160.Idx → BitVec 32) (n : Fin 160) (hn : n.val = (i 0).val - 1) :
    beforeWord i T0 = T0 (place n) := by
  show T0 _ = T0 _
  congr 1
  funext a; apply Fin.ext
  match a with
  | ⟨0, _⟩ => show k0_off2 i 0 + 1 * 0 = n.val; rw [off2_eq, hn]; omega

/-- A tile that is not fresh is not the first, and has the expert of the tile before. -/
theorem stale {i : grid0.Coords} {T0 : S160.Idx → BitVec 32} (h : ¬Fresh i T0) :
    (i 0).val ≠ 0 ∧ expertWord i T0 = beforeWord i T0 := by
  unfold Fresh at h
  rw [bit] at h
  constructor
  · intro h0
    apply h
    rw [h0]
    generalize Scalar.cmpi .ne (expertWord i T0) (beforeWord i T0) = b
    revert b; decide
  · by_contra hne
    apply h
    have : Scalar.cmpi .ne (expertWord i T0) (beforeWord i T0) = 1#1 := by
      show BitVec.ofBool (expertWord i T0 != beforeWord i T0) = 1#1
      exact congrArg BitVec.ofBool (bne_iff_ne.2 hne)
    rw [this]
    generalize Scalar.cmpi .eq (BitVec.ofNat 32 (i 0).val) 0#32 = b
    revert b; decide

/-- The blocks of weights the index maps name: the expert's, whole. -/
theorem map1 (pf : pre0.Contents (Elt Ideal)) (i : grid0.Coords) (n : Fin 160) (hn : n.val = (i 0).val) :
    cc0_transform_1 k0_off1_inb numel1_S1 pf i = ![BitVec.toNat (pf 0 (place n) : BitVec 32), 0, 0] := by
  show (![BitVec.toNat (pf 0 _ : BitVec 32), 0, 0] : Fin 3 → ℕ) = _
  congr 3
  funext a; apply Fin.ext
  match a with
  | ⟨0, _⟩ => show k0_off3 i 0 + 1 * 0 = n.val; rw [off3_eq, hn]; omega
theorem map2 (pf : pre0.Contents (Elt Ideal)) (i : grid0.Coords) (n : Fin 160) (hn : n.val = (i 0).val) :
    cc0_transform_2 k0_off1_inb numel1_S1 pf i = ![BitVec.toNat (pf 0 (place n) : BitVec 32), 0, 0] := map1 pf i n hn
theorem map3 (pf : pre0.Contents (Elt Ideal)) (i : grid0.Coords) (n : Fin 160) (hn : n.val = (i 0).val) :
    cc0_transform_3 k0_off1_inb numel1_S1 pf i = ![BitVec.toNat (pf 0 (place n) : BitVec 32), 0, 0] := map1 pf i n hn

/-- Tables whose experts are below 32 are admissible. -/
theorem admissible (pf : pre0.Contents (Elt Ideal)) (h : ∀ n : Fin 160, (pf 0 (place n) : BitVec 32).toNat < 32) : ok0 (F := Ideal) pf := by
  refine ⟨fun i => ⟨fun a => ?_, .inl rfl⟩, fun i => ⟨fun a => ?_, .inl rfl⟩, fun i => ⟨fun a => ?_, .inl rfl⟩⟩
  · rw [map1 pf i ⟨(i 0).val, (i 0).isLt⟩ rfl]
    have := h ⟨(i 0).val, (i 0).isLt⟩
    match a with
    | ⟨0, _⟩ => show (BitVec.toNat (pf 0 (place _) : BitVec 32) + 1) * 1 ≤ 32; omega
    | ⟨1, _⟩ => show (0 + 1) * 2048 ≤ 2048; omega
    | ⟨2, _⟩ => show (0 + 1) * 512 ≤ 512; omega
  · rw [map2 pf i ⟨(i 0).val, (i 0).isLt⟩ rfl]
    have := h ⟨(i 0).val, (i 0).isLt⟩
    match a with
    | ⟨0, _⟩ => show (BitVec.toNat (pf 0 (place _) : BitVec 32) + 1) * 1 ≤ 32; omega
    | ⟨1, _⟩ => show (0 + 1) * 2048 ≤ 2048; omega
    | ⟨2, _⟩ => show (0 + 1) * 512 ≤ 512; omega
  · rw [map3 pf i ⟨(i 0).val, (i 0).isLt⟩ rfl]
    have := h ⟨(i 0).val, (i 0).isLt⟩
    match a with
    | ⟨0, _⟩ => show (BitVec.toNat (pf 0 (place _) : BitVec 32) + 1) * 1 ≤ 32; omega
    | ⟨1, _⟩ => show (0 + 1) * 512 ≤ 512; omega
    | ⟨2, _⟩ => show (0 + 1) * 2048 ≤ 2048; omega

end Cert.ExpIdealWords
-- ==== Proof.ExpIdealRun.lean ====
module

public import proofs.«01_k».proof.Proof.ExpIdealWords
public import Idealize.ShloMosaic.Lib.Pipeline.Quiescent
public import Idealize.ShloMosaic.Lib.Claim
public import Idealize.ShloMosaic.Lib.Pipeline.Kit
public import Idealize.ShloMosaic.Lib.Pipeline.TableIdle
public import Idealize.ShloMosaic.Lib.Pipeline.FrameBody
public import Idealize.ShloMosaic.Lib.Tactic
public import Idealize.ShloMosaic.Adequacy
public import Idealize.ShloMosaic.Init

@[expose] public section

/-! The expert kernel's run, at any tables whose experts are in range: what each grid point leaves in the block of
    results it owns, and what the scratch weights hold between the points. -/

set_option maxRecDepth 16384

noncomputable section

namespace Cert.ExpIdealRun

open Cert.ExpIdeal Cert.ExpIdeal.Gen Cert.ExpIdealBody Cert.ExpIdealWords
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- The resources the proof speaks of. -/
abbrev Res := MT nD τ sig Unit (Elt Ideal) ℕ (UR sig nD τ) ℕ

abbrev EP : Emb (UR sig nD τ) Res := emb₁

/-! The tables the run is at: any admissible ones. -/
variable (a : (pcfg0 (F := Ideal)).Adm)
variable (m : (ℓ : Loc nD τ sig) → Buf (Elt Ideal) ℓ) (ρ : Dev nD → PrngReg)

abbrev cfgA : Pipeline.Cfg sig Λ₀ := cfg0 (F := Ideal) a
abbrev pcs : Fin 1 → Pipeline.Cfg sig Λ₀ := Pipeline.pin (pcfgs (F := Ideal)) fun _ => a
abbrev tb0 : S160.Idx → Elt Ideal .i32 := a.1 0
abbrev tb1 : S1.Idx → Elt Ideal .i32 := a.1 1
abbrev crd (t : Fin (cfgA a).N) : (cfgA a).grid.Coords := (cfgA a).grid.coords t

/-! The staging memrefs the body is handed at a point. -/
abbrev ms0 (t : Fin (cfgA a).N) : Memref sig .tc .vmem S256x2048 .f32 := spec0_0.stage ((cfgA a).slots t (0 : Fin 5))
abbrev hs0 (t : Fin (cfgA a).N) : (ms0 a t).IsWhole := hstage0_0 (((cfgA a).slots t (0 : Fin 5)).cast nbuf0_0)
abbrev ms1 (t : Fin (cfgA a).N) : Memref sig .tc .vmem S1x2048x512 .f32 := spec0_1.stage ((cfgA a).slots t (1 : Fin 5))
abbrev hs1 (t : Fin (cfgA a).N) : (ms1 a t).IsWhole := hstage0_1 (((cfgA a).slots t (1 : Fin 5)).cast nbuf0_1)
abbrev ms2 (t : Fin (cfgA a).N) : Memref sig .tc .vmem S1x2048x512 .f32 := spec0_2.stage ((cfgA a).slots t (2 : Fin 5))
abbrev hs2 (t : Fin (cfgA a).N) : (ms2 a t).IsWhole := hstage0_2 (((cfgA a).slots t (2 : Fin 5)).cast nbuf0_2)
abbrev ms3 (t : Fin (cfgA a).N) : Memref sig .tc .vmem S1x512x2048 .f32 := spec0_3.stage ((cfgA a).slots t (3 : Fin 5))
abbrev hs3 (t : Fin (cfgA a).N) : (ms3 a t).IsWhole := hstage0_3 (((cfgA a).slots t (3 : Fin 5)).cast nbuf0_3)
abbrev ms4 (t : Fin (cfgA a).N) : Memref sig .tc .vmem S256x2048 .f32 := spec0_4.stage ((cfgA a).slots t (4 : Fin 5))
abbrev hs4 (t : Fin (cfgA a).N) : (ms4 a t).IsWhole := hstage0_4 (((cfgA a).slots t (4 : Fin 5)).cast nbuf0_4)

/-- Window `w`'s block at point `t`, read off its array at launch. -/
def iblk (c : Dev nD) (w : Fin (cfgA a).W) (t : Fin (cfgA a).N) : (((cfgA a).win w).xblock (crd a t)).Idx → Elt Ideal ((cfgA a).win w).elt :=
  (((cfgA a).win w).blk t).view.read (Elt Ideal) ((s₀ m ρ).mem (((cfgA a).win w).arr.view.loc (c : Thread nD τ)))

/-- The rounded weights of point `t`'s expert. -/
def gate (c : Dev nD) (t : Fin (cfgA a).N) : FVec Ideal S2048x512 .bf16 := k0_pay1 (F := Ideal) (iblk a m ρ c (1 : Fin 5) t)
def up (c : Dev nD) (t : Fin (cfgA a).N) : FVec Ideal S2048x512 .bf16 := k0_pay2 (F := Ideal) (iblk a m ρ c (2 : Fin 5) t)
def down (c : Dev nD) (t : Fin (cfgA a).N) : FVec Ideal S512x2048 .bf16 := k0_pay3 (F := Ideal) (iblk a m ρ c (3 : Fin 5) t)

open Classical in
/-- The rows point `t` leaves: a used tile's through its expert's weights, zeros past them. -/
def rows (c : Dev nD) (t : Fin (cfgA a).N) : S256x2048.Idx → Elt Ideal .f32 :=
  if Used (crd a t) (tb1 a) then k0_pay4 (F := Ideal) (iblk a m ρ c (0 : Fin 5) t) (gate a m ρ c t) (up a m ρ c t) (down a m ρ c t)
  else k0_pay5 (F := Ideal)

/-- Between the points: after a used tile the scratch holds its expert's rounded weights. -/
def Phi (c : Dev nD) (t : Fin ((cfgA a).N + 1)) : sProp Res :=
  iprop(∃ a0 : Buf (Elt Ideal) ((c : Thread nD τ).loc cc0_scratch0), ∃ a1 : Buf (Elt Ideal) ((c : Thread nD τ).loc cc0_scratch1),
    ∃ a2 : Buf (Elt Ideal) ((c : Thread nD τ).loc cc0_scratch2),
    ⌜∀ s : Fin (cfgA a).N, s.val + 1 = t.val → Used (crd a s) (tb1 a) → a0 = gate a m ρ c s ∧ a1 = up a m ρ c s ∧ a2 = down a m ρ c s⌝
    ∗ (scM0_0.view.loc (c : Thread nD τ) ↦{fullShare} a0) ∗ (scM0_1.view.loc (c : Thread nD τ) ↦{fullShare} a1)
    ∗ (scM0_2.view.loc (c : Thread nD τ) ↦{fullShare} a2)
    ∗ (tbM0_0.view.loc (c : Thread nD τ) ↦{fullShare.right} tb0 a) ∗ (tbM0_1.view.loc (c : Thread nD τ) ↦{fullShare.right} tb1 a))

/-- The proof data of the one pipeline on core `c`. -/
def dats (_ : Fin 1) (c : Dev nD) : Dat τ (Elt Ideal) Unit ℕ (UR sig nD τ) ℕ (cfgA a) c where
  A w := (s₀ m ρ).mem (((cfgA a).win w).arr.view.loc (c : Thread nD τ))
  after w t := match w with
    | ⟨0, _⟩ => iblk a m ρ c (0 : Fin 5) t
    | ⟨1, _⟩ => iblk a m ρ c (1 : Fin 5) t
    | ⟨2, _⟩ => iblk a m ρ c (2 : Fin 5) t
    | ⟨3, _⟩ => iblk a m ρ c (3 : Fin 5) t
    | ⟨4, _⟩ => rows a m ρ c t
  Φ t := Phi a m ρ c t
  q _ := fullShare
  owed _ := 0

theorem after0 (c : Dev nD) (t : Fin (cfgA a).N) : (dats a m ρ 0 c).after (0 : Fin 5) t = iblk a m ρ c (0 : Fin 5) t := rfl
theorem after1 (c : Dev nD) (t : Fin (cfgA a).N) : (dats a m ρ 0 c).after (1 : Fin 5) t = iblk a m ρ c (1 : Fin 5) t := rfl
theorem after2 (c : Dev nD) (t : Fin (cfgA a).N) : (dats a m ρ 0 c).after (2 : Fin 5) t = iblk a m ρ c (2 : Fin 5) t := rfl
theorem after3 (c : Dev nD) (t : Fin (cfgA a).N) : (dats a m ρ 0 c).after (3 : Fin 5) t = iblk a m ρ c (3 : Fin 5) t := rfl
theorem after4 (c : Dev nD) (t : Fin (cfgA a).N) : (dats a m ρ 0 c).after (4 : Fin 5) t = rows a m ρ c t := rfl

/-! An input window holds its block, fetched there or not. -/
theorem before0 (c : Dev nD) (t : Fin (cfgA a).N) (d) : (dats a m ρ 0 c).before (0 : Fin 5) t d = iblk a m ρ c (0 : Fin 5) t :=
  ((dats a m ρ 0 c).before_in_eq_fetched (0 : Fin 5) rfl (fun _ => rfl) (fun _ _ _ => rfl) (fun t => by rw [after0]; unfold Dat.blockOf iblk; rfl) t d).trans
    (by unfold Dat.fetched Dat.blockOf iblk; rfl)
theorem before1 (c : Dev nD) (t : Fin (cfgA a).N) (d) : (dats a m ρ 0 c).before (1 : Fin 5) t d = iblk a m ρ c (1 : Fin 5) t :=
  ((dats a m ρ 0 c).before_in_eq_fetched (1 : Fin 5) rfl (fun _ => rfl) (fun _ _ _ => rfl) (fun t => by rw [after1]; unfold Dat.blockOf iblk; rfl) t d).trans
    (by unfold Dat.fetched Dat.blockOf iblk; rfl)
theorem before2 (c : Dev nD) (t : Fin (cfgA a).N) (d) : (dats a m ρ 0 c).before (2 : Fin 5) t d = iblk a m ρ c (2 : Fin 5) t :=
  ((dats a m ρ 0 c).before_in_eq_fetched (2 : Fin 5) rfl (fun _ => rfl) (fun _ _ _ => rfl) (fun t => by rw [after2]; unfold Dat.blockOf iblk; rfl) t d).trans
    (by unfold Dat.fetched Dat.blockOf iblk; rfl)
theorem before3 (c : Dev nD) (t : Fin (cfgA a).N) (d) : (dats a m ρ 0 c).before (3 : Fin 5) t d = iblk a m ρ c (3 : Fin 5) t :=
  ((dats a m ρ 0 c).before_in_eq_fetched (3 : Fin 5) rfl (fun _ => rfl) (fun _ _ _ => rfl) (fun t => by rw [after3]; unfold Dat.blockOf iblk; rfl) t d).trans
    (by unfold Dat.fetched Dat.blockOf iblk; rfl)

/-- Two points of one block index read one block. -/
theorem iblk_congr (c : Dev nD) {t s : Fin (cfgA a).N} :
    (((cfgA a).win (1 : Fin 5)).index t = ((cfgA a).win (1 : Fin 5)).index s → gate a m ρ c t = gate a m ρ c s)
    ∧ (((cfgA a).win (2 : Fin 5)).index t = ((cfgA a).win (2 : Fin 5)).index s → up a m ρ c t = up a m ρ c s)
    ∧ (((cfgA a).win (3 : Fin 5)).index t = ((cfgA a).win (3 : Fin 5)).index s → down a m ρ c t = down a m ρ c s) := by
  refine ⟨fun h => ?_, fun h => ?_, fun h => ?_⟩
  · have e := (dats a m ρ 0 c).fetched_congr (1 : Fin 5) h rfl (iblk a m ρ c (1 : Fin 5) t)
    exact congrArg (k0_pay1 (F := Ideal)) (((show _ = (dats a m ρ 0 c).fetched (1 : Fin 5) t _ by unfold Dat.fetched Dat.blockOf iblk; rfl).trans e).trans (by unfold Dat.fetched Dat.blockOf iblk; rfl))
  · have e := (dats a m ρ 0 c).fetched_congr (2 : Fin 5) h rfl (iblk a m ρ c (2 : Fin 5) t)
    exact congrArg (k0_pay2 (F := Ideal)) (((show _ = (dats a m ρ 0 c).fetched (2 : Fin 5) t _ by unfold Dat.fetched Dat.blockOf iblk; rfl).trans e).trans (by unfold Dat.fetched Dat.blockOf iblk; rfl))
  · have e := (dats a m ρ 0 c).fetched_congr (3 : Fin 5) h rfl (iblk a m ρ c (3 : Fin 5) t)
    exact congrArg (k0_pay3 (F := Ideal)) (((show _ = (dats a m ρ 0 c).fetched (3 : Fin 5) t _ by unfold Dat.fetched Dat.blockOf iblk; rfl).trans e).trans (by unfold Dat.fetched Dat.blockOf iblk; rfl))

theorem crd_val (t : Fin (cfgA a).N) : ((crd a t) 0).val = t.val := coords_val t

/-- A tile that finds its weights finds those the tile before used. -/
theorem found (c : Dev nD) (t : Fin (cfgA a).N) (h : ¬Fresh (crd a t) (tb0 a)) :
    ∃ s : Fin (cfgA a).N, s.val + 1 = t.val ∧ gate a m ρ c s = gate a m ρ c t ∧ up a m ρ c s = up a m ρ c t ∧ down a m ρ c s = down a m ρ c t := by
  obtain ⟨h0, he⟩ := stale h
  rw [crd_val] at h0
  have hN : t.val < 160 := t.isLt
  let s : Fin (cfgA a).N := ⟨t.val - 1, show t.val - 1 < 160 by omega⟩
  have hs : ((crd a s) 0).val = t.val - 1 := crd_val a s
  rw [expertWord_eq (crd a t) (tb0 a) ⟨t.val, hN⟩ (crd_val a t).symm,
    beforeWord_eq (crd a t) (tb0 a) ⟨t.val - 1, by omega⟩ (by rw [crd_val])] at he
  have e1 : cc0_transform_1 k0_off1_inb numel1_S1 a.1 (crd a s) = cc0_transform_1 k0_off1_inb numel1_S1 a.1 (crd a t) := by
    rw [map1 a.1 (crd a t) ⟨t.val, hN⟩ (crd_val a t).symm, map1 a.1 (crd a s) ⟨t.val - 1, by omega⟩ hs.symm]
    exact congrArg (fun w : BitVec 32 => (![w.toNat, 0, 0] : Fin 3 → ℕ)) he.symm
  refine ⟨s, by show t.val - 1 + 1 = t.val; omega, (iblk_congr a m ρ c).1 e1, (iblk_congr a m ρ c).2.1 e1, (iblk_congr a m ρ c).2.2 e1⟩

/-- No point leaves the window of results idle. -/
theorem busy (t : Fin (cfgA a).N) : (cfgA a).idle (4 : Fin 5) ((cfgA a).grid.coords t) = false := decides (crd a t) (a.1.atD 1 ![0])

/-- The body at point `t` on its staging memrefs, as the pipeline calls it. -/
abbrev bodyAt (t : Fin (cfgA a).N) : Prog (TpuEff nD τ sig (Elt Ideal) Λ₀ .tc) PUnit :=
  cc0_moe_experts (crd a t) (Memref.whole main_arg0) (Memref.isWhole_whole _) (Memref.whole main_arg1) (Memref.isWhole_whole _) (ms0 a t) (hs0 a t) (ms1 a t) (hs1 a t) (ms2 a t) (hs2 a t) (ms3 a t) (hs3 a t) (ms4 a t) (hs4 a t) (Memref.whole cc0_scratch0) (Memref.isWhole_whole _) (Memref.whole cc0_scratch1) (Memref.isWhole_whole _) (Memref.whole cc0_scratch2) (Memref.isWhole_whole _)

set_option maxHeartbeats 4000000 in
/-- The body keeps the invariant and leaves every window what the proof data says. -/
theorem sound_body (c : Dev nD) (t : Fin (cfgA a).N) :
    iprop((dats a m ρ 0 c).Φ t.castSucc ∗ (dats a m ρ 0 c).owesAt () t.castSucc
        ∗ (∃ d, owns (c : Thread nD τ) (ms0 a t) fullShare ((dats a m ρ 0 c).before (0 : Fin 5) t d))
        ∗ (∃ d, owns (c : Thread nD τ) (ms1 a t) fullShare ((dats a m ρ 0 c).before (1 : Fin 5) t d))
        ∗ (∃ d, owns (c : Thread nD τ) (ms2 a t) fullShare ((dats a m ρ 0 c).before (2 : Fin 5) t d))
        ∗ (∃ d, owns (c : Thread nD τ) (ms3 a t) fullShare ((dats a m ρ 0 c).before (3 : Fin 5) t d))
        ∗ (∃ d, owns (c : Thread nD τ) (ms4 a t) fullShare ((dats a m ρ 0 c).before (4 : Fin 5) t d)))
      ⊢ wp frame (wpE (defs₀ (F := Ideal)) Variants.none c none) Set.univ (bodyAt a t) fun _ =>
          iprop((dats a m ρ 0 c).Φ t.succ ∗ (dats a m ρ 0 c).owesAt () t.succ
            ∗ bigSep Finset.univ fun w : Fin (cfgA a).W =>
                match (cfgA a).idle w ((cfgA a).grid.coords t) with
                | true =>
                  match ((cfgA a).win w).flush t with
                  | false => iprop(∃ d, owns (c : Thread nD τ) (((cfgA a).win w).stage ((cfgA a).slots t w)) fullShare ((dats a m ρ 0 c).before w t d))
                  | true => owns (c : Thread nD τ) (((cfgA a).win w).stage ((cfgA a).slots t w)) fullShare ((dats a m ρ 0 c).after w t)
                | false => owns (c : Thread nD τ) (((cfgA a).win w).stage ((cfgA a).slots t w)) fullShare ((dats a m ρ 0 c).after w t)) := by
  rw [bigSep_W0]
  have i4 := busy a t
  rewrite [i4]
  simp only [before0, before1, before2, before3, after0, after1, after2, after3, after4]
  rewrite [show (dats a m ρ 0 c).Φ t.succ = Phi a m ρ c t.succ from rfl, show (dats a m ρ 0 c).Φ t.castSucc = Phi a m ρ c t.castSucc from rfl,
    show (dats a m ρ 0 c).owesAt () t.succ = (dats a m ρ 0 c).owesAt () t.castSucc from rfl]
  unfold Phi
  iintro ⟨⟨%a0, %a1, %a2, %hk, HS0, HS1, HS2, HT0, HT1⟩, Ho, ⟨%d0, H0⟩, ⟨%d1, H1⟩, ⟨%d2, H2⟩, ⟨%d3, H3⟩, ⟨%d4, H4⟩⟩
  by_cases hu : Used (crd a t) (tb1 a)
  · have hp := not_past hu
    by_cases hf : Fresh (crd a t) (tb0 a)
    · have k0 := keep_A0 c (crd a t) (ms0 a t) (hs0 a t) (ms1 a t) (hs1 a t) (ms2 a t) (hs2 a t) (ms3 a t) (hs3 a t) (ms4 a t) (hs4 a t) (tb0 a) (tb1 a) (iblk a m ρ c (0 : Fin 5) t) (iblk a m ρ c (1 : Fin 5) t) (iblk a m ρ c (2 : Fin 5) t) (iblk a m ρ c (3 : Fin 5) t) hu hf hp
      have k1 := keep_A1 c (crd a t) (ms0 a t) (hs0 a t) (ms1 a t) (hs1 a t) (ms2 a t) (hs2 a t) (ms3 a t) (hs3 a t) (ms4 a t) (hs4 a t) (tb0 a) (tb1 a) (iblk a m ρ c (0 : Fin 5) t) (iblk a m ρ c (1 : Fin 5) t) (iblk a m ρ c (2 : Fin 5) t) (iblk a m ρ c (3 : Fin 5) t) hu hf hp
      have k2 := keep_A2 c (crd a t) (ms0 a t) (hs0 a t) (ms1 a t) (hs1 a t) (ms2 a t) (hs2 a t) (ms3 a t) (hs3 a t) (ms4 a t) (hs4 a t) (tb0 a) (tb1 a) (iblk a m ρ c (0 : Fin 5) t) (iblk a m ρ c (1 : Fin 5) t) (iblk a m ρ c (2 : Fin 5) t) (iblk a m ρ c (3 : Fin 5) t) hu hf hp
      have ko := out_A c (crd a t) (ms0 a t) (hs0 a t) (ms1 a t) (hs1 a t) (ms2 a t) (hs2 a t) (ms3 a t) (hs3 a t) (ms4 a t) (hs4 a t) (tb0 a) (tb1 a) (iblk a m ρ c (0 : Fin 5) t) (iblk a m ρ c (1 : Fin 5) t) (iblk a m ρ c (2 : Fin 5) t) (iblk a m ρ c (3 : Fin 5) t) hu hf hp
      iapply ((kernelRun0_A c (crd a t) (ms0 a t) (hs0 a t) (ms1 a t) (hs1 a t) (ms2 a t) (hs2 a t) (ms3 a t) (hs3 a t) (ms4 a t) (hs4 a t) (tb0 a) (tb1 a) (iblk a m ρ c (0 : Fin 5) t) (iblk a m ρ c (1 : Fin 5) t) (iblk a m ρ c (2 : Fin 5) t) (iblk a m ρ c (3 : Fin 5) t) hu hf hp).2.2.2.2 a0 a1 a2 _)
      isplitl [H0]; · iapply rep_of_owns; iexact H0
      isplitl [H1]; · iapply rep_of_owns; iexact H1
      isplitl [H2]; · iapply rep_of_owns; iexact H2
      isplitl [H3]; · iapply rep_of_owns; iexact H3
      isplitl [HT0]; · iexact HT0
      isplitl [HT1]; · iexact HT1
      isplitl [H4]; · iexists _; iexact H4
      isplitl [HS0]; · iexact HS0
      isplitl [HS1]; · iexact HS1
      isplitl [HS2]; · iexact HS2
      iintro ⟨H0, H1, H2, H3, HT0, HT1, ⟨%e4, H4⟩, HS0, HS1, HS2⟩
      isplitl [HS0 HS1 HS2 HT0 HT1]
      · iexists _; iexists _; iexists _; isplitr; swap
        · isplitl [HS0]; · iexact HS0
          isplitl [HS1]; · iexact HS1
          isplitl [HS2]; · iexact HS2
          isplitl [HT0]; · iexact HT0
          iexact HT1
        · ipureintro; intro s hs hu'
          have hst : s = t := Fin.ext (by have := hs; rw [Fin.val_succ] at this; omega)
          subst hst
          exact ⟨k0, k1, k2⟩
      isplitl [Ho]; · iexact Ho
      isplitl [H0]; · iapply owns_of_rep; iexact H0
      isplitl [H1]; · iapply owns_of_rep; iexact H1
      isplitl [H2]; · iapply owns_of_rep; iexact H2
      isplitl [H3]; · iapply owns_of_rep; iexact H3
      unfold owns; iexists _; isplitr; swap
      · iexact H4
      · ipureintro
        refine (View.read_writes_of_cover _ _ VO0_4 VO0_4.junk _ (cover0_A_4 c _ _ _ _ _ _ _ _ _ _ _ _ _ _ _ _ _ _ _ _ )).trans ?_
        unfold rows; rw [if_pos hu]; exact ko
    · obtain ⟨s, hs, eg, eu, ed⟩ := found a m ρ c t hf
      have hus : Used (crd a s) (tb1 a) := used_before (by rw [crd_val, crd_val]; omega) hu
      obtain ⟨g0, g1, g2⟩ := hk s hs hus
      have ko := out_B c (crd a t) (ms0 a t) (hs0 a t) (ms1 a t) (hs1 a t) (ms2 a t) (hs2 a t) (ms3 a t) (hs3 a t) (ms4 a t) (hs4 a t) (tb0 a) (tb1 a) (iblk a m ρ c (0 : Fin 5) t) (iblk a m ρ c (1 : Fin 5) t) (iblk a m ρ c (2 : Fin 5) t) (iblk a m ρ c (3 : Fin 5) t) a0 a1 a2 hu hf hp
      iapply ((kernelRun0_B c (crd a t) (ms0 a t) (hs0 a t) (ms1 a t) (hs1 a t) (ms2 a t) (hs2 a t) (ms3 a t) (hs3 a t) (ms4 a t) (hs4 a t) (tb0 a) (tb1 a) (iblk a m ρ c (0 : Fin 5) t) (iblk a m ρ c (1 : Fin 5) t) (iblk a m ρ c (2 : Fin 5) t) (iblk a m ρ c (3 : Fin 5) t) a0 a1 a2 hu hf hp).2.2.2.2 _)
      isplitl [H0]; · iapply rep_of_owns; iexact H0
      isplitl [H1]; · iapply rep_of_owns; iexact H1
      isplitl [H2]; · iapply rep_of_owns; iexact H2
      isplitl [H3]; · iapply rep_of_owns; iexact H3
      isplitl [HT0]; · iexact HT0
      isplitl [HT1]; · iexact HT1
      isplitl [H4]; · iexists _; iexact H4
      isplitl [HS0]; · iexact HS0
      isplitl [HS1]; · iexact HS1
      isplitl [HS2]; · iexact HS2
      iintro ⟨H0, H1, H2, H3, HT0, HT1, ⟨%e4, H4⟩, HS0, HS1, HS2⟩
      isplitl [HS0 HS1 HS2 HT0 HT1]
      · iexists _; iexists _; iexists _; isplitr; swap
        · isplitl [HS0]; · iexact HS0
          isplitl [HS1]; · iexact HS1
          isplitl [HS2]; · iexact HS2
          isplitl [HT0]; · iexact HT0
          iexact HT1
        · ipureintro; intro s' hs' hu'
          have hst : s' = t := Fin.ext (by have := hs'; rw [Fin.val_succ] at this; omega)
          subst hst
          exact ⟨g0.trans eg, g1.trans eu, g2.trans ed⟩
      isplitl [Ho]; · iexact Ho
      isplitl [H0]; · iapply owns_of_rep; iexact H0
      isplitl [H1]; · iapply owns_of_rep; iexact H1
      isplitl [H2]; · iapply owns_of_rep; iexact H2
      isplitl [H3]; · iapply owns_of_rep; iexact H3
      unfold owns; iexists _; isplitr; swap
      · iexact H4
      · ipureintro
        refine (View.read_writes_of_cover _ _ VO0_4 VO0_4.junk _ (cover0_B_4 c _ _ _ _ _ _ _ _ _ _ _ _ _ _ _ _ _ _ _ _ _ _ _ )).trans ?_
        unfold rows; rw [if_pos hu, ← eg, ← eu, ← ed, ← g0, ← g1, ← g2]; exact ko
  · have hp := past hu
    have ko := out_C c (crd a t) (ms0 a t) (hs0 a t) (ms1 a t) (hs1 a t) (ms2 a t) (hs2 a t) (ms3 a t) (hs3 a t) (ms4 a t) (hs4 a t) (tb0 a) (tb1 a) (iblk a m ρ c (0 : Fin 5) t) (iblk a m ρ c (1 : Fin 5) t) (iblk a m ρ c (2 : Fin 5) t) (iblk a m ρ c (3 : Fin 5) t) a0 a1 a2 hu hp
    iapply ((kernelRun0_C c (crd a t) (ms0 a t) (hs0 a t) (ms1 a t) (hs1 a t) (ms2 a t) (hs2 a t) (ms3 a t) (hs3 a t) (ms4 a t) (hs4 a t) (tb0 a) (tb1 a) (iblk a m ρ c (0 : Fin 5) t) (iblk a m ρ c (1 : Fin 5) t) (iblk a m ρ c (2 : Fin 5) t) (iblk a m ρ c (3 : Fin 5) t) a0 a1 a2 hu hp).2.2.2.2 _)
    isplitl [H0]; · iapply rep_of_owns; iexact H0
    isplitl [H1]; · iapply rep_of_owns; iexact H1
    isplitl [H2]; · iapply rep_of_owns; iexact H2
    isplitl [H3]; · iapply rep_of_owns; iexact H3
    isplitl [HT0]; · iexact HT0
    isplitl [HT1]; · iexact HT1
    isplitl [H4]; · iexists _; iexact H4
    isplitl [HS0]; · iexact HS0
    isplitl [HS1]; · iexact HS1
    isplitl [HS2]; · iexact HS2
    iintro ⟨H0, H1, H2, H3, HT0, HT1, ⟨%e4, H4⟩, HS0, HS1, HS2⟩
    isplitl [HS0 HS1 HS2 HT0 HT1]
    · iexists _; iexists _; iexists _; isplitr; swap
      · isplitl [HS0]; · iexact HS0
        isplitl [HS1]; · iexact HS1
        isplitl [HS2]; · iexact HS2
        isplitl [HT0]; · iexact HT0
        iexact HT1
      · ipureintro; intro s hs hu'
        have hst : s = t := Fin.ext (by have := hs; rw [Fin.val_succ] at this; omega)
        subst hst
        exact absurd hu' hu
    isplitl [Ho]; · iexact Ho
    isplitl [H0]; · iapply owns_of_rep; iexact H0
    isplitl [H1]; · iapply owns_of_rep; iexact H1
    isplitl [H2]; · iapply owns_of_rep; iexact H2
    isplitl [H3]; · iapply owns_of_rep; iexact H3
    unfold owns; iexists _; isplitr; swap
    · iexact H4
    · ipureintro
      refine (View.read_writes_of_cover _ _ VO0_4 VO0_4.junk _ (cover0_C_4 c _ _ _ _ _ _ _ _ _ _ _ _ _ _ _ _ _ _ _ _ _ _ )).trans ?_
      unfold rows; rw [if_neg hu]; exact ko

/-- The library's body obligation, at every point. -/
theorem body_obligation (c : Dev nD) : BodyObligation (dats a m ρ 0 c) (defs₀ (F := Ideal)) Variants.none () Set.univ := fun t => by
  rw [bigSep_W0]
  exact sound_body a m ρ c t

/-! The launch. -/

def u₀ : UR sig nD τ :=
  initOf (Pipeline.cells (pcs a) ((launch0 (F := Ideal)).cellOf_inj fun _ => a))
    (Pipeline.launchToks (pcs a) ((launch0 (F := Ideal)).cellOf_inj fun _ => a))

theorem share_eq (c : Dev nD) (w : Fin (cfgA a).W) : (dats a m ρ 0 c).share w = fullShare := by unfold Dat.share; split <;> rfl

/-- The two tables, one by one. -/
theorem prefHeld_eq (c : Dev nD) (q : Fin 2 → PosShare TreeShare) (v : pre0.Contents (Elt Ideal)) :
    (Pipeline.prefHeld (Ix := Unit) (Name := ℕ) (U := UR sig nD τ) (Lvl := ℕ) pre0 c q v : sProp Res)
      = iprop((((c : Thread nD τ).loc main_arg0) ↦{q 0} v 0) ∗ (((c : Thread nD τ).loc main_arg1) ↦{q 1} v 1)) := by
  unfold Pipeline.prefHeld
  rw [show (Finset.univ : Finset (Fin 2)) = insert (0 : Fin 2) {(1 : Fin 2)} from by decide,
    bigSep_insert (by decide), bigSep_singleton]
  rfl

/-- At the first point nothing is known of the scratch. -/
theorem phi_intro (c : Dev nD) :
    iprop(BI.emp ∗ Pipeline.prefHeld pre0 c (fun _ => fullShare.right) a.1 ∗ Pipeline.scopedRest spec0 c) ⊢ (dats a m ρ 0 c).Φ 0 := by
  rw [prefHeld_eq, scopedRest0_eq, show (dats a m ρ 0 c).Φ 0 = Phi a m ρ c 0 from rfl]
  unfold Phi
  iintro ⟨-, ⟨HT0, HT1⟩, ⟨%a0, HS0⟩, ⟨%a1, HS1⟩, ⟨%a2, HS2⟩⟩
  iexists a0; iexists a1; iexists a2; isplitr; swap
  · isplitl [HS0]; · iexact HS0
    isplitl [HS1]; · iexact HS1
    isplitl [HS2]; · iexact HS2
    isplitl [HT0]; · iexact HT0
    iexact HT1
  · ipureintro; intro s hs _; exact absurd hs (Nat.succ_ne_zero _)

/-- After the last point the scratch is given back. -/
theorem phi_exit (c : Dev nD) : (dats a m ρ 0 c).Φ (Fin.last (cfgA a).N) ⊢ iprop(BI.emp ∗ Pipeline.scopedRest spec0 c) := by
  rw [scopedRest0_eq, show (dats a m ρ 0 c).Φ (Fin.last (cfgA a).N) = Phi a m ρ c (Fin.last _) from rfl]
  unfold Phi
  iintro ⟨%a0, %a1, %a2, -, HS0, HS1, HS2, -, -⟩
  isplitr; · iempintro
  isplitl [HS0]
  · iexists a0; iexact HS0
  isplitl [HS1]
  · iexists a1; iexact HS1
  iexists a2; iexact HS2

/-- Every array at what the pipeline computes, every table as it was. -/
def Post : PUnit × MemSt nD τ sig (Elt Ideal) → Prop := fun r =>
  ∀ c : Dev nD, (∀ w : Fin (cfgA a).W, r.2.mem (((cfgA a).win w).arr.view.loc (c : Thread nD τ)) = (dats a m ρ 0 c).arrAt w (cfgA a).N)
    ∧ ∀ j, r.2.mem ((c : Thread nD τ).loc (pre0.ref j)) = a.1 j

set_option backward.isDefEq.respectTransparency.types false in
set_option maxHeartbeats 4000000 in
/-- From a memory that holds the tables the program runs to the end, with that post and every counter at zero. -/
theorem run (hm : ∀ (c : Dev nD) (j : Fin 2), m ((c : Thread nD τ).loc (pre0.ref j)) = a.1 j) :
    θ_run (defs (F := Ideal)) (onTc (τ := τ) (main (F := Ideal))) (s₀ m ρ) (fun r => Post a m ρ r ∧ r.2.sem = fun _ => 0) :=
  Pipeline.θ_run_region_noSem_pf_quiescent pcfgs (fun _ => a) (dats a m ρ) () ((launch0 (F := Ideal)).cellOf_inj fun _ => a) (0 : Fin 1)
    (launch0 (F := Ideal)).win.to₀ (launch0 (F := Ideal)).pre EP defs₀ Variants.none m ρ main
    (hbody := fun c => (body_obligation a m ρ c).loose) (hne := (launch0 (F := Ideal)).block_pos)
    (harr := (launch0 (F := Ideal)).arr_whole) (hstage := (launch0 (F := Ideal)).stage_whole) (howed := fun _ _ => rfl)
    (u₀ := u₀ a) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs a) (dats a m ρ) 0 (launch0 (F := Ideal)).win.arr_inj c (launch0 (F := Ideal)).arr_whole
      (share_eq a m ρ c) _ _ fun _ => rfl)
    (hpf := hm)
    (X := fun _ => iprop(emp)) (Y := fun _ => iprop(emp)) (Z := fun _ => iprop(emp))
    (hX := fun c => by rw [unscopedRestP0_eq]; iintro -; isplitr <;> iempintro)
    (hin := phi_intro a m ρ)
    (hout := phi_exit a m ρ)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- What the run leaves: the result array as computed, the arguments and the counters as they were. -/
theorem outcome (hm : ∀ (c : Dev nD) (j : Fin 2), m ((c : Thread nD τ).loc (pre0.ref j)) = a.1 j) :
    θ_run (defs (F := Ideal)) (onTc (τ := τ) (main (F := Ideal))) ⟨m, fun _ => 0, ρ⟩ (fun r => (∀ c : Dev nD,
      r.2.mem ((c.tc : Thread nD τ).loc main_v0) = (dats a m ρ 0 c).arrAt (4 : Fin 5) (cfgA a).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => ⟨(h.1 c).1 (4 : Fin 5), ((h.1 c).2 0).trans (hm c 0).symm, ((h.1 c).2 1).trans (hm c 1).symm,
    ((h.1 c).1 (0 : Fin 5)).trans ((dats a m ρ 0 c).arrAt_in (0 : Fin 5) rfl _), ((h.1 c).1 (1 : Fin 5)).trans ((dats a m ρ 0 c).arrAt_in (1 : Fin 5) rfl _),
    ((h.1 c).1 (2 : Fin 5)).trans ((dats a m ρ 0 c).arrAt_in (2 : Fin 5) rfl _), ((h.1 c).1 (3 : Fin 5)).trans ((dats a m ρ 0 c).arrAt_in (3 : Fin 5) rfl _)⟩, h.2⟩)
    (run a m ρ hm)

/-- The tables a memory holds, admissible where its experts are in range. -/
def tables (h : ∀ n : Fin 160, (m (((0 : Dev nD) : Thread nD τ).loc main_arg0) (place n) : BitVec 32).toNat < 32) : (pcfg0 (F := Ideal)).Adm :=
  ⟨fun j => m (((0 : Dev nD) : Thread nD τ).loc (pre0.ref j)), admissible _ h⟩

theorem tables_held (h : ∀ n : Fin 160, (m (((0 : Dev nD) : Thread nD τ).loc main_arg0) (place n) : BitVec 32).toNat < 32)
    (c : Dev nD) (j : Fin 2) : m ((c : Thread nD τ).loc (pre0.ref j)) = (tables m h).1 j := by
  have hc : c = (0 : Dev nD) := Subsingleton.elim _ _
  subst hc; rfl

end Cert.ExpIdealRun
-- ==== Proof.ExpMath.lean ====
module

public import Idealize.ShloMosaic.Lib.Pointwise
public import Idealize.ShloMosaic.Lib.ValueIdxCore
public import Idealize.ShloMosaic.PureOps.Ideal

@[expose] public section

/-! The mathematics of the routed experts: a gated two-layer perceptron over extended reals, a read of the expert a
    tile names, and the choice between a used tile's rows and zeros. -/

noncomputable section

open Idealize.ShloMosaic

namespace Cert.ExpMath

/-- The sigmoid-weighted unit. -/
def silu (z : EReal) : EReal := z * Ideal.div 1 (1 + Ideal.exp (-z))

/-- One entry of an expert's output for a row `x`: the gated hidden row against a column of the last weights. -/
def mlp (x : Fin 2048 → EReal) (g u : Fin 2048 → Fin 512 → EReal) (d : Fin 512 → EReal) : EReal :=
  ∑ f : Fin 512, silu (∑ k : Fin 2048, x k * g k f) * (∑ k : Fin 2048, x k * u k f) * d f

/-- The expert a table's word names, clamped into the 32 there are. -/
def expert (w : BitVec 32) : Fin 32 := ⟨min w.toInt.toNat 31, by omega⟩

/-- A word in range names its own number. -/
theorem expert_val (w : BitVec 32) (h : w.toNat < 32) : (expert w).val = w.toNat := by
  show min w.toInt.toNat 31 = w.toNat
  rw [BitVec.toInt_eq_toNat_of_lt (by omega)]
  omega

/-- The experts' output at row `n` and lane `d`: the row through the weights its tile's expert names, zero past the
    tiles in use. -/
def out (te : (⟨1, ![160]⟩ : Shape).Idx → BitVec 32) (nu : (⟨1, ![1]⟩ : Shape).Idx → BitVec 32)
    (xs : (⟨2, ![40960, 2048]⟩ : Shape).Idx → EReal) (wg wu : (⟨3, ![32, 2048, 512]⟩ : Shape).Idx → EReal)
    (wd : (⟨3, ![32, 512, 2048]⟩ : Shape).Idx → EReal) (n : Fin 40960) (d : Fin 2048) : EReal :=
  if ((n.val / 256 : ℕ) : ℤ) < (nu (ix1 (0 : Fin 1))).toInt then
    mlp (fun k => xs (ix2 n k))
      (fun k f => wg (ix3 (expert (te (ix1 (⟨n.val / 256, by omega⟩ : Fin 160)))) k f))
      (fun k f => wu (ix3 (expert (te (ix1 (⟨n.val / 256, by omega⟩ : Fin 160)))) k f))
      (fun f => wd (ix3 (expert (te (ix1 (⟨n.val / 256, by omega⟩ : Fin 160)))) f d))
  else 0

/-- A select on a signed comparison is the choice it names. -/
theorem select_slt {α : Type} (x y : BitVec 32) (a b : α) :
    Scalar.select (IntOp.cmpi .slt x y) a b = if x.toInt < y.toInt then a else b := by
  rw [show IntOp.cmpi .slt x y = BitVec.ofBool (decide (x.toInt < y.toInt)) from rfl]
  by_cases h : x.toInt < y.toInt
  · rw [decide_eq_true h, if_pos h]; rfl
  · rw [decide_eq_false h, if_neg h]; rfl

/-- The read of whole expert blocks: dimension numbers of a lookup by one index along the first axis. -/
abbrev blockDims (N R A B : Nat)
    (wf : GatherDims.WF ⟨3, ![N, A, B]⟩ ⟨2, ![R, 1]⟩ ⟨3, ![R, A, B]⟩ [1, 2] [0] [] [0] [] 1 ![1, A, B]) :
    GatherDims ⟨3, ![N, A, B]⟩ ⟨2, ![R, 1]⟩ ⟨3, ![R, A, B]⟩ where
  offsetDims := [1, 2]
  collapsedSliceDims := [0]
  operandBatchingDims := []
  startIndicesBatchingDims := []
  startIndexMap := [0]
  indexVectorDim := 1
  sliceSizes := ![1, A, B]
  wf := wf

/-- Block `t` of the lookup is the operand's block at index `t`, read signed and clamped. -/
theorem block_apply {α : Type} {N R A B : Nat} (hN : 0 < N)
    (wf : GatherDims.WF ⟨3, ![N, A, B]⟩ ⟨2, ![R, 1]⟩ ⟨3, ![R, A, B]⟩ [1, 2] [0] [] [0] [] 1 ![1, A, B])
    (x : (⟨3, ![N, A, B]⟩ : Shape).Idx → α) (idx : IVec ⟨2, ![R, 1]⟩ 32) (t : Fin R) (p : Fin A) (q : Fin B) :
    Host.gather (blockDims N R A B wf) x idx (ix3 t p q)
      = x (ix3 ⟨min (idx (ix2 t 0)).toInt.toNat (N - 1), by omega⟩ p q) := by
  unfold Host.gather
  congr 1
  funext a
  refine Fin.ext ?_
  show (blockDims N R A B wf).start (ix3 t p q) idx a + (blockDims N R A B wf).batchCoord (ix3 t p q) a
      + (blockDims N R A B wf).offCoord (ix3 t p q) a = _
  rw [GatherDims.batchCoord_eq_zero _ _ _ List.not_mem_nil]
  have h012 : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases h012 with rfl | rfl | rfl
  · rw [GatherDims.offCoord_eq_zero _ _ _ (fun h => ((GatherDims.mem_sKept _ _).mp h).1 (List.mem_singleton.mpr rfl))]
    simp only [Nat.add_zero]
    unfold GatherDims.start
    rw [dif_pos (show (0 : Fin 3) ∈ (blockDims N R A B wf).startIndexMap from List.mem_singleton.mpr rfl)]
    have hsi : (blockDims N R A B wf).siIdx (ix3 t p q) ⟨List.idxOf (0 : Fin 3) (blockDims N R A B wf).startIndexMap,
        List.idxOf_lt_length_iff.2 (List.mem_singleton.mpr rfl)⟩ = ix2 t 0 := by
      funext b; refine Fin.ext ?_
      match b with
      | ⟨0, _⟩ => rfl
      | ⟨1, _⟩ => rfl
    rw [hsi]
    rfl
  · unfold GatherDims.start
    rw [dif_neg (show ¬(1 : Fin 3) ∈ [(0 : Fin 3)] from by decide)]
    unfold GatherDims.offCoord
    rw [dif_pos ((GatherDims.mem_sKept _ _).2 ⟨(show ¬(1 : Fin 3) ∈ [(0 : Fin 3)] from by decide), List.not_mem_nil⟩)]
    simp only [Nat.zero_add]
    rfl
  · unfold GatherDims.start
    rw [dif_neg (show ¬(2 : Fin 3) ∈ [(0 : Fin 3)] from by decide)]
    unfold GatherDims.offCoord
    rw [dif_pos ((GatherDims.mem_sKept _ _).2 ⟨(show ¬(2 : Fin 3) ∈ [(0 : Fin 3)] from by decide), List.not_mem_nil⟩)]
    simp only [Nat.zero_add]
    rfl

end Cert.ExpMath
-- ==== Proof.ExpBlock.lean ====
module

public import proofs.«01_k».proof.Proof.Gen.ExpIdeal.Skeleton
public import proofs.«01_k».proof.Proof.ExpMath

@[expose] public section

/-! What one grid point of the expert kernel computes, element by element. -/

set_option maxRecDepth 16384

noncomputable section

open Idealize.ShloMosaic Idealize.ShloMosaic.TcCoe

namespace Cert.ExpBlock

open Cert.ExpIdeal Cert.ExpIdeal.Gen

theorem gate_apply (w : Vec Ideal S1x2048x512 .f32) (k : Fin 2048) (f : Fin 512) :
    (k0_pay1 (F := Ideal) w : S2048x512.Idx → EReal) (ix2 k f) = (w : S1x2048x512.Idx → EReal) (ix3 0 k f) := by
  pointwise [k0_pay1]

theorem up_apply (w : Vec Ideal S1x2048x512 .f32) (k : Fin 2048) (f : Fin 512) :
    (k0_pay2 (F := Ideal) w : S2048x512.Idx → EReal) (ix2 k f) = (w : S1x2048x512.Idx → EReal) (ix3 0 k f) := by
  pointwise [k0_pay2]

theorem down_apply (w : Vec Ideal S1x512x2048 .f32) (f : Fin 512) (d : Fin 2048) :
    (k0_pay3 (F := Ideal) w : S512x2048.Idx → EReal) (ix2 f d) = (w : S1x512x2048.Idx → EReal) (ix3 0 f d) := by
  pointwise [k0_pay3]

/-- A used tile's rows: the expert's perceptron on each. -/
theorem rows_apply (x : Vec Ideal S256x2048 .f32) (g u : Vec Ideal S2048x512 .bf16) (w : Vec Ideal S512x2048 .bf16)
    (r : Fin 256) (d : Fin 2048) :
    (k0_pay4 (F := Ideal) x g u w : S256x2048.Idx → EReal) (ix2 r d)
      = ExpMath.mlp (fun k => (x : S256x2048.Idx → EReal) (ix2 r k)) (fun k f => (g : S2048x512.Idx → EReal) (ix2 k f))
          (fun k f => (u : S2048x512.Idx → EReal) (ix2 k f)) (fun f => (w : S512x2048.Idx → EReal) (ix2 f d)) := by
  unfold ExpMath.mlp ExpMath.silu
  pointwise [k0_pay4]
  simp only [sub_eq_add_neg, zero_add]

/-- A tile past the used ones: zeros. -/
theorem zero_apply (r : Fin 256) (d : Fin 2048) : (k0_pay5 (F := Ideal) : S256x2048.Idx → EReal) (ix2 r d) = 0 := by
  pointwise [k0_pay5]

end Cert.ExpBlock
-- ==== Proof.ExpFinal.lean ====
module

public import proofs.«01_k».proof.Proof.ExpIdealRun
public import proofs.«01_k».proof.Proof.ExpBlock
public import Idealize.ShloMosaic.Lib.Pipeline.ValueKit.Geometry

@[expose] public section

/-! The array of expert outputs after the kernel's run, element by element, as a function of the arguments. -/

set_option maxRecDepth 16384

noncomputable section

open Idealize.ShloMosaic Idealize.ShloMosaic.TcCoe Idealize.SL.Sem
open Idealize.ShloMosaic.Pipeline (Dat)

namespace Cert.ExpFinal

open Cert.ExpIdeal Cert.ExpIdeal.Gen Cert.ExpIdealBody Cert.ExpIdealWords Cert.ExpIdealRun

variable (a : (pcfg0 (F := Ideal)).Adm) (m : (ℓ : Loc nD τ sig) → Buf (Elt Ideal) ℓ) (ρ : Dev nD → PrngReg)

theorem idx4 (t : Fin (cfgA a).N) : ((cfgA a).win (4 : Fin 5)).index t 0 = t.val ∧ ((cfgA a).win (4 : Fin 5)).index t 1 = 0 := by
  have key : ∀ s : Fin grid0.N, cc0_transform_4 (grid0.coords s) 0 = s.val ∧ cc0_transform_4 (grid0.coords s) 1 = 0 := by decide +kernel
  exact key t

theorem idx0 (t : Fin (cfgA a).N) : ((cfgA a).win (0 : Fin 5)).index t 0 = t.val ∧ ((cfgA a).win (0 : Fin 5)).index t 1 = 0 := by
  have key : ∀ s : Fin grid0.N, cc0_transform_0 (grid0.coords s) 0 = s.val ∧ cc0_transform_0 (grid0.coords s) 1 = 0 := by decide +kernel
  exact key t

/-- Every point writes its block back. -/
theorem flush4 (t : Fin (cfgA a).N) : ((cfgA a).win (4 : Fin 5)).flush t = true := by
  have key : ∀ s : Fin grid0.N, spec0_4.flushAt (G := grid0) cc0_transform_4 s = true := by decide +kernel
  exact key t

/-- The written blocks cover the array. -/
theorem covers4 : ((cfgA a).win (4 : Fin 5)).Covers := by
  refine ⟨fun x => ?_, fun β => ?_⟩
  · match x with
    | ⟨0, _⟩ => exact (by decide : 0 < 256)
    | ⟨1, _⟩ => exact (by decide : 0 < 2048)
  · have b0 : (β 0).val < (40960 + 256 - 1) / 256 := (β 0).isLt
    have b1 : (β 1).val < (2048 + 2048 - 1) / 2048 := (β 1).isLt
    have h0 : (β 0).val < 160 := by omega
    have h1 : (β 1).val = 0 := by omega
    refine ⟨⟨(β 0).val, h0⟩, flush4 a _, fun x => ?_⟩
    obtain ⟨e0, e1⟩ := idx4 a ⟨(β 0).val, h0⟩
    match x with
    | ⟨0, _⟩ => exact ⟨e0, Or.inl rfl⟩
    | ⟨1, _⟩ => exact ⟨e1.trans h1.symm, Or.inl rfl⟩

/-- A point's block of rows, read in the array. -/
theorem iblk0 (c : Dev nD) (t : Fin (cfgA a).N) (r : Fin 256) (k : Fin 2048) (n : Fin 40960) (hn : n.val = t.val * 256 + r.val) :
    (iblk a m ρ c (0 : Fin 5) t : S256x2048.Idx → EReal) (ix2 r k) = (m ((c : Thread nD τ).loc main_arg2) : S40960x2048.Idx → EReal) (ix2 n k) := by
  obtain ⟨h0, h1⟩ := idx0 a t
  unfold iblk
  rw [View.read_apply]
  show m (c.tc.loc main_arg2) _ = m (c.tc.loc main_arg2) _
  congr 1
  funext x
  apply Fin.ext
  match x with
  | ⟨0, _⟩ => show ((cfgA a).win (0 : Fin 5)).index t 0 * 256 + 1 * r.val = n.val; rw [h0]; omega
  | ⟨1, _⟩ => show ((cfgA a).win (0 : Fin 5)).index t 1 * 2048 + 1 * k.val = k.val; rw [h1]; omega

/-- The expert of a point's tile. -/
abbrev tileExpert (t : Fin (cfgA a).N) : Fin 32 := ExpMath.expert (tb0 a (ix1 (⟨t.val, t.isLt⟩ : Fin 160)))

/-! The tables' experts are in range. -/

variable (hr : ∀ n : Fin 160, (tb0 a (ix1 n) : BitVec 32).toNat < 32)

include hr in
theorem idxW (t : Fin (cfgA a).N) :
    ((cfgA a).win (1 : Fin 5)).index t = ![(tileExpert a t).val, 0, 0]
    ∧ ((cfgA a).win (2 : Fin 5)).index t = ![(tileExpert a t).val, 0, 0]
    ∧ ((cfgA a).win (3 : Fin 5)).index t = ![(tileExpert a t).val, 0, 0] := by
  have e := ExpMath.expert_val _ (hr (⟨t.val, t.isLt⟩ : Fin 160))
  rw [show (tileExpert a t).val = _ from e]
  exact ⟨map1 a.1 (crd a t) ⟨t.val, t.isLt⟩ (crd_val a t).symm, map2 a.1 (crd a t) ⟨t.val, t.isLt⟩ (crd_val a t).symm,
    map3 a.1 (crd a t) ⟨t.val, t.isLt⟩ (crd_val a t).symm⟩

include hr in
/-- A point's block of gate weights, read in the array. -/
theorem iblk1 (c : Dev nD) (t : Fin (cfgA a).N) (k : Fin 2048) (f : Fin 512) :
    (iblk a m ρ c (1 : Fin 5) t : S1x2048x512.Idx → EReal) (ix3 0 k f)
      = (m ((c : Thread nD τ).loc main_arg3) : S32x2048x512.Idx → EReal) (ix3 (tileExpert a t) k f) := by
  have h := (idxW a hr t).1
  unfold iblk
  rw [View.read_apply]
  show m (c.tc.loc main_arg3) _ = m (c.tc.loc main_arg3) _
  congr 1
  funext x
  apply Fin.ext
  match x with
  | ⟨0, _⟩ => show ((cfgA a).win (1 : Fin 5)).index t 0 * 1 + 1 * 0 = (tileExpert a t).val; rw [h]; show (tileExpert a t).val * 1 + 1 * 0 = _; omega
  | ⟨1, _⟩ => show ((cfgA a).win (1 : Fin 5)).index t 1 * 2048 + 1 * k.val = k.val; rw [h]; show 0 * 2048 + 1 * k.val = _; omega
  | ⟨2, _⟩ => show ((cfgA a).win (1 : Fin 5)).index t 2 * 512 + 1 * f.val = f.val; rw [h]; show 0 * 512 + 1 * f.val = _; omega

include hr in
/-- A point's block of up weights, read in the array. -/
theorem iblk2 (c : Dev nD) (t : Fin (cfgA a).N) (k : Fin 2048) (f : Fin 512) :
    (iblk a m ρ c (2 : Fin 5) t : S1x2048x512.Idx → EReal) (ix3 0 k f)
      = (m ((c : Thread nD τ).loc main_arg4) : S32x2048x512.Idx → EReal) (ix3 (tileExpert a t) k f) := by
  have h := (idxW a hr t).2.1
  unfold iblk
  rw [View.read_apply]
  show m (c.tc.loc main_arg4) _ = m (c.tc.loc main_arg4) _
  congr 1
  funext x
  apply Fin.ext
  match x with
  | ⟨0, _⟩ => show ((cfgA a).win (2 : Fin 5)).index t 0 * 1 + 1 * 0 = (tileExpert a t).val; rw [h]; show (tileExpert a t).val * 1 + 1 * 0 = _; omega
  | ⟨1, _⟩ => show ((cfgA a).win (2 : Fin 5)).index t 1 * 2048 + 1 * k.val = k.val; rw [h]; show 0 * 2048 + 1 * k.val = _; omega
  | ⟨2, _⟩ => show ((cfgA a).win (2 : Fin 5)).index t 2 * 512 + 1 * f.val = f.val; rw [h]; show 0 * 512 + 1 * f.val = _; omega

include hr in
/-- A point's block of down weights, read in the array. -/
theorem iblk3 (c : Dev nD) (t : Fin (cfgA a).N) (f : Fin 512) (d : Fin 2048) :
    (iblk a m ρ c (3 : Fin 5) t : S1x512x2048.Idx → EReal) (ix3 0 f d)
      = (m ((c : Thread nD τ).loc main_arg5) : S32x512x2048.Idx → EReal) (ix3 (tileExpert a t) f d) := by
  have h := (idxW a hr t).2.2
  unfold iblk
  rw [View.read_apply]
  show m (c.tc.loc main_arg5) _ = m (c.tc.loc main_arg5) _
  congr 1
  funext x
  apply Fin.ext
  match x with
  | ⟨0, _⟩ => show ((cfgA a).win (3 : Fin 5)).index t 0 * 1 + 1 * 0 = (tileExpert a t).val; rw [h]; show (tileExpert a t).val * 1 + 1 * 0 = _; omega
  | ⟨1, _⟩ => show ((cfgA a).win (3 : Fin 5)).index t 1 * 512 + 1 * f.val = f.val; rw [h]; show 0 * 512 + 1 * f.val = _; omega
  | ⟨2, _⟩ => show ((cfgA a).win (3 : Fin 5)).index t 2 * 2048 + 1 * d.val = d.val; rw [h]; show 0 * 2048 + 1 * d.val = _; omega

/-- A used point's rows and the result agree where their parts do. -/
theorem mlp_congr {x x' : Fin 2048 → EReal} {g g' u u' : Fin 2048 → Fin 512 → EReal} {w w' : Fin 512 → EReal}
    (hx : ∀ k, x k = x' k) (hg : ∀ k f, g k f = g' k f) (hu : ∀ k f, u k f = u' k f) (hw : ∀ f, w f = w' f) :
    ExpMath.mlp x g u w = ExpMath.mlp x' g' u' w' := by
  unfold ExpMath.mlp
  simp only [hx, hg, hu, hw]

/-- A tile is used where its number is below the table's count. -/
theorem used_iff (t : Fin (cfgA a).N) : Used (crd a t) (tb1 a) ↔ (t.val : ℤ) < (tb1 a (ix1 (0 : Fin 1)) : BitVec 32).toInt := by
  refine (cond1_iff (crd a t) (usedWord (tb1 a))).trans ?_
  rw [usedWord_eq, crd_val]

include hr in
/-- What a point leaves, at an element, is the experts' output there. -/
theorem rows_eq (c : Dev nD) (t : Fin (cfgA a).N) (r : Fin 256) (d : Fin 2048) (n : Fin 40960) (hn : n.val = t.val * 256 + r.val) :
    (rows a m ρ c t : S256x2048.Idx → EReal) (ix2 r d)
      = ExpMath.out (tb0 a) (tb1 a) (m ((c : Thread nD τ).loc main_arg2)) (m ((c : Thread nD τ).loc main_arg3))
          (m ((c : Thread nD τ).loc main_arg4)) (m ((c : Thread nD τ).loc main_arg5)) n d := by
  have ht : (⟨n.val / 256, by omega⟩ : Fin 160) = ⟨t.val, t.isLt⟩ := Fin.ext (by show n.val / 256 = t.val; omega)
  have hq : n.val / 256 = t.val := by omega
  unfold ExpMath.out
  rw [ht, hq]
  unfold rows
  by_cases hu : Used (crd a t) (tb1 a)
  · rw [if_pos hu, if_pos ((used_iff a t).1 hu)]
    refine (ExpBlock.rows_apply _ _ _ _ r d).trans ?_
    refine mlp_congr (fun k => iblk0 a m ρ c t r k n hn) (fun k f => ?_) (fun k f => ?_) (fun f => ?_)
    · exact (ExpBlock.gate_apply _ k f).trans (iblk1 a m ρ hr c t k f)
    · exact (ExpBlock.up_apply _ k f).trans (iblk2 a m ρ hr c t k f)
    · exact (ExpBlock.down_apply _ f d).trans (iblk3 a m ρ hr c t f d)
  · rw [if_neg hu, if_neg (fun h => hu ((used_iff a t).2 h))]
    exact ExpBlock.zero_apply r d

include hr in
/-- The array of results after the run. -/
theorem final4 (c : Dev nD) :
    (dats a m ρ 0 c).arrAt (4 : Fin 5) (cfgA a).N
      = fun i : S40960x2048.Idx => ExpMath.out (tb0 a) (tb1 a) (m ((c : Thread nD τ).loc main_arg2)) (m ((c : Thread nD τ).loc main_arg3))
          (m ((c : Thread nD τ).loc main_arg4)) (m ((c : Thread nD τ).loc main_arg5)) (i 0) (i 1) := by
  refine (dats a m ρ 0 c).arrAt_eq_of_covers (4 : Fin 5) _ (covers4 a) fun t hf y => ?_
  obtain ⟨h0, h1⟩ := idx4 a t
  blk_simp
  have key : ∀ (z : S256x2048.Idx) (n : Fin 40960) (d : Fin 2048), n.val = t.val * 256 + (z 0).val → d.val = (z 1).val →
      (rows a m ρ c t : S256x2048.Idx → EReal) z
        = ExpMath.out (tb0 a) (tb1 a) (m ((c : Thread nD τ).loc main_arg2)) (m ((c : Thread nD τ).loc main_arg3))
          (m ((c : Thread nD τ).loc main_arg4)) (m ((c : Thread nD τ).loc main_arg5)) n d := by
    intro z n d hn hd
    obtain rfl : d = z 1 := Fin.ext hd
    conv_lhs => rw [eq_ix2 z]
    exact rows_eq a m ρ hr c t (z 0) (z 1) n hn
  refine key y _ _ ?_ ?_
  · show ((cfgA a).win (4 : Fin 5)).index t 0 * 256 + 1 * (y 0).val = _; rw [h0]; omega
  · show ((cfgA a).win (4 : Fin 5)).index t 1 * 2048 + 1 * (y 1).val = _; rw [h1]; omega

end Cert.ExpFinal
-- ==== Proof.ExpBody.lean ====
module

public import proofs.«01_k».proof.Proof.Gen.Exp.Flash.Runs
public import Idealize.ShloMosaic.Lib.Pipeline.ValueKit
public import Idealize.ShloMosaic.Lib.Pointwise

@[expose] public section

/-! What one grid point of the expert kernel leaves behind, in each of its three ways: a used tile that loads its
    expert's weights, a used tile that finds them in the scratch, and a tile past the used ones. -/

set_option maxRecDepth 16384

noncomputable section

open Idealize.ShloMosaic Idealize.ShloMosaic.TcCoe

namespace Cert.ExpBody

open Cert.Exp Cert.Exp.Gen

/-- The number of used tiles, as the body reads it. -/
abbrev usedWord (T1 : S1.Idx → BitVec 32) : BitVec 32 :=
  View.readAt (Elt Bits) (tbM0_1).view (Rect.unit (s := S1) ![0] S1.size inb_S1_S1_0).toLoadRect T1 (Shape.Idx.first (numel1_S1.symm ▸ Nat.one_pos))

/-- The tile's expert, as the body reads it. -/
abbrev expertWord (i : grid0.Coords) (T0 : S160.Idx → BitVec 32) : BitVec 32 :=
  View.readAt (Elt Bits) (tbM0_0).view (Rect.unit (s := S160) (k0_off3 i) S1.size (k0_off3_inb i)).toLoadRect T0 (Shape.Idx.first (numel1_S1.symm ▸ Nat.one_pos))

/-- The expert of the tile before, as the body reads it. -/
abbrev beforeWord (i : grid0.Coords) (T0 : S160.Idx → BitVec 32) : BitVec 32 :=
  View.readAt (Elt Bits) (tbM0_0).view (Rect.unit (s := S160) (k0_off2 i) S1.size (k0_off2_inb i)).toLoadRect T0 (Shape.Idx.first (numel1_S1.symm ▸ Nat.one_pos))

/-- The tile is used. -/
abbrev Used (i : grid0.Coords) (T1 : S1.Idx → BitVec 32) : Prop := k0_cond1 i (usedWord T1) = 1#1

/-- The tile lies past the used ones. -/
abbrev Past (i : grid0.Coords) (T1 : S1.Idx → BitVec 32) : Prop := k0_cond3 i (usedWord T1) = 1#1

/-- The tile is the first, or of another expert than the tile before. -/
abbrev Fresh (i : grid0.Coords) (T0 : S160.Idx → BitVec 32) : Prop :=
  Scalar.cmpi .ne (Scalar.extui (Scalar.ori (Scalar.cmpi .eq (BitVec.ofNat 32 (i 0).val) 0#32)
    (Scalar.cmpi .ne (expertWord i T0) (beforeWord i T0)))) 0#32 = 1#1

variable (c : Dev nD) (i : grid0.Coords) (arg3 : Memref sig .tc .vmem S256x2048 .f32) (harg3 : arg3.IsWhole)
  (arg4 : Memref sig .tc .vmem S1x2048x512 .f32) (harg4 : arg4.IsWhole)
  (arg5 : Memref sig .tc .vmem S1x2048x512 .f32) (harg5 : arg5.IsWhole)
  (arg6 : Memref sig .tc .vmem S1x512x2048 .f32) (harg6 : arg6.IsWhole)
  (arg7 : Memref sig .tc .vmem S256x2048 .f32) (harg7 : arg7.IsWhole)
  (T0 : S160.Idx → Elt Bits .i32) (T1 : S1.Idx → Elt Bits .i32)
  (x0 : S256x2048.Idx → Elt Bits .f32) (x1 x2 : S1x2048x512.Idx → Elt Bits .f32) (x3 : S1x512x2048.Idx → Elt Bits .f32)
  (xa0 : Buf (Elt Bits) ((c : Thread nD τ).loc cc0_scratch0)) (xa1 : Buf (Elt Bits) ((c : Thread nD τ).loc cc0_scratch1))
  (xa2 : Buf (Elt Bits) ((c : Thread nD τ).loc cc0_scratch2))

theorem z3 : (![0, 0, 0] : Fin 3 → ℕ) = fun _ => 0 := funext fun a => by fin_cases a <;> rfl
theorem z2 : (![0, 0] : Fin 2 → ℕ) = fun _ => 0 := funext fun a => by fin_cases a <;> rfl

theorem ld3 (x : Vec Bits S1x2048x512 .f32) :
    View.ld x (Rect.unit ![0, 0, 0] S1x2048x512.size inb_S1x2048x512_S1x2048x512_0_0_0) = x := View.ld_unit_zero (S := S1x2048x512) z3 _ x
theorem ld3' (x : Vec Bits S1x512x2048 .f32) :
    View.ld x (Rect.unit ![0, 0, 0] S1x512x2048.size inb_S1x512x2048_S1x512x2048_0_0_0) = x := View.ld_unit_zero (S := S1x512x2048) z3 _ x

/-- A buffer stored whole holds what was stored. -/
theorem whole_writes {b : Ref sig .tc} (f : b.ty.Contents (Elt Bits)) {off : Fin b.ty.shape.rank → ℕ}
    (inb : ∀ a, off a + b.ty.shape.size a ≤ b.ty.shape.size a) (h : off = fun _ => 0) (w : b.ty.shape.Idx → Elt Bits b.ty.elt) :
    (View.whole b).writes (Elt Bits) f [⟨Rect.unit off b.ty.shape.size inb, w⟩] = w := by
  subst h
  exact View.read_writes_whole (View.whole b) f w

/-- A used tile that loads its weights leaves them, rounded, in the scratch. -/
theorem keep_A0 (h1 : Used i T1) (hc : Fresh i T0) (h3 : ¬Past i T1) :
    (kernelRun0_A c i arg3 harg3 arg4 harg4 arg5 harg5 arg6 harg6 arg7 harg7 T0 T1 x0 x1 x2 x3 h1 hc h3).2.1 = k0_pay1 x1 := by
  unfold kernelRun0_A
  dsimp only
  sl_unfold_words
  simp only [View.readAt_eq_ld, View.read_rep]
  rw [ld3]
  exact whole_writes _ _ z2 _

theorem keep_A1 (h1 : Used i T1) (hc : Fresh i T0) (h3 : ¬Past i T1) :
    (kernelRun0_A c i arg3 harg3 arg4 harg4 arg5 harg5 arg6 harg6 arg7 harg7 T0 T1 x0 x1 x2 x3 h1 hc h3).2.2.1 = k0_pay2 x2 := by
  unfold kernelRun0_A
  dsimp only
  sl_unfold_words
  simp only [View.readAt_eq_ld, View.read_rep]
  rw [ld3]
  exact whole_writes _ _ z2 _
theorem keep_A2 (h1 : Used i T1) (hc : Fresh i T0) (h3 : ¬Past i T1) :
    (kernelRun0_A c i arg3 harg3 arg4 harg4 arg5 harg5 arg6 harg6 arg7 harg7 T0 T1 x0 x1 x2 x3 h1 hc h3).2.2.2.1 = k0_pay3 x3 := by
  unfold kernelRun0_A
  dsimp only
  sl_unfold_words
  simp only [View.readAt_eq_ld, View.read_rep]
  rw [ld3']
  exact whole_writes _ _ z2 _

/-- A used tile that loads its weights leaves its rows through them. -/
theorem out_A (h1 : Used i T1) (hc : Fresh i T0) (h3 : ¬Past i T1) :
    out0_A_4 c i arg3 harg3 arg4 harg4 arg5 harg5 arg6 harg6 arg7 harg7 T0 T1 x0 x1 x2 x3 h1 hc h3
      = k0_pay4 x0 (k0_pay1 x1) (k0_pay2 x2) (k0_pay3 x3) := by
  unfold out0_A_4
  rw [View.read_writes_eq_canon _ _ _ (cover0_A_4 c i arg3 harg3 arg4 harg4 arg5 harg5 arg6 harg6 arg7 harg7 T0 T1 x0 x1 x2 x3 h1 hc h3)]
  unfold kernelRun0_A
  dsimp only
  sl_unfold_words
  simp only [View.readAt_eq_ld, View.read_rep]
  rw [View.canon_unit_zero (S := S256x2048) z2, View.readCov_unit_zero (S := S2048x512) _ z2,
    View.readCov_unit_zero (S := S2048x512) _ z2, View.readCov_unit_zero (S := S512x2048) _ z2, ld3, ld3, ld3',
    View.ld_unit_zero (S := S256x2048) z2]

/-- A used tile that finds its weights leaves its rows through them. -/
theorem out_B (h1 : Used i T1) (hc : ¬Fresh i T0) (h3 : ¬Past i T1) :
    out0_B_4 c i arg3 harg3 arg4 harg4 arg5 harg5 arg6 harg6 arg7 harg7 T0 T1 x0 x1 x2 x3 xa0 xa1 xa2 h1 hc h3
      = k0_pay4 x0 xa0 xa1 xa2 := by
  unfold out0_B_4
  rw [View.read_writes_eq_canon _ _ _ (cover0_B_4 c i arg3 harg3 arg4 harg4 arg5 harg5 arg6 harg6 arg7 harg7 T0 T1 x0 x1 x2 x3 xa0 xa1 xa2 h1 hc h3)]
  unfold kernelRun0_B
  dsimp only
  sl_unfold_words
  simp only [View.readAt_eq_ld, View.read_rep]
  rw [View.canon_unit_zero (S := S256x2048) z2, View.ld_unit_zero (S := S256x2048) z2]
  erw [View.ld_unit_zero (S := S2048x512) z2, View.ld_unit_zero (S := S2048x512) z2, View.ld_unit_zero (S := S512x2048) z2]
  rfl

/-- A tile past the used ones leaves zeros. -/
theorem out_C (h1 : ¬Used i T1) (h3 : Past i T1) :
    out0_C_4 c i arg3 harg3 arg4 harg4 arg5 harg5 arg6 harg6 arg7 harg7 T0 T1 x0 x1 x2 x3 xa0 xa1 xa2 h1 h3 = k0_pay5 (F := Bits) := by
  unfold out0_C_4
  rw [View.read_writes_eq_canon _ _ _ (cover0_C_4 c i arg3 harg3 arg4 harg4 arg5 harg5 arg6 harg6 arg7 harg7 T0 T1 x0 x1 x2 x3 xa0 xa1 xa2 h1 h3)]
  unfold kernelRun0_C
  dsimp only
  exact View.canon_unit_zero (S := S256x2048) z2 _ _

/-- The used tile that finds its weights leaves the scratch alone. -/
theorem keep_B (h1 : Used i T1) (hc : ¬Fresh i T0) (h3 : ¬Past i T1) :
    (kernelRun0_B c i arg3 harg3 arg4 harg4 arg5 harg5 arg6 harg6 arg7 harg7 T0 T1 x0 x1 x2 x3 xa0 xa1 xa2 h1 hc h3).2.1 = xa0 := rfl

end Cert.ExpBody
-- ==== Proof.ExpWords.lean ====
module

public import proofs.«01_k».proof.Proof.ExpBody
public import Idealize.ShloMosaic.Lib.WordCmp

@[expose] public section

/-! The words the expert kernel reads from its two tables, and the decisions it takes of them. -/

set_option maxRecDepth 16384

noncomputable section

open Idealize.ShloMosaic Idealize.ShloMosaic.TcCoe

namespace Cert.ExpWords

open Cert.Exp Cert.Exp.Gen Cert.ExpBody

theorem bit (b : BitVec 1) : Scalar.cmpi .ne (Scalar.extui b : BitVec 32) 0#32 = b := by
  revert b; decide

theorem pt_toInt : ∀ i : grid0.Coords, (BitVec.ofNat 32 (i 0).val).toInt = ((i 0).val : ℤ) := by decide +kernel
theorem off2_eq : ∀ i : grid0.Coords, k0_off2 i 0 = (i 0).val - 1 := by decide +kernel
theorem off3_eq : ∀ i : grid0.Coords, k0_off3 i 0 = (i 0).val := by decide +kernel
theorem coords_val : ∀ t : Fin grid0.N, (grid0.coords t 0).val = t.val := by decide +kernel

/-- The first decision: the point's number is below the word. -/
theorem cond1_iff (i : grid0.Coords) (w : BitVec 32) : k0_cond1 i w = 1#1 ↔ ((i 0).val : ℤ) < w.toInt := by
  unfold k0_cond1
  dsimp only
  rw [bit, ← pt_toInt i]
  show BitVec.ofBool (decide _) = 1#1 ↔ _
  by_cases h : (BitVec.ofNat 32 (i 0).val).toInt < w.toInt
  · simp [h]
  · simp [h]

/-- The last decision: the point's number is not below the word. -/
theorem cond3_iff (i : grid0.Coords) (w : BitVec 32) : k0_cond3 i w = 1#1 ↔ w.toInt ≤ ((i 0).val : ℤ) := by
  unfold k0_cond3
  dsimp only
  rw [bit, ← pt_toInt i]
  show BitVec.ofBool (decide _) = 1#1 ↔ _
  by_cases h : w.toInt ≤ (BitVec.ofNat 32 (i 0).val).toInt
  · simp [h]
  · simp [h]

theorem not_past {i : grid0.Coords} {T1 : S1.Idx → BitVec 32} (h : Used i T1) : ¬Past i T1 := fun h' => by
  have h1 := (cond1_iff i _).1 h
  have h3 := (cond3_iff i _).1 h'
  omega

theorem past {i : grid0.Coords} {T1 : S1.Idx → BitVec 32} (h : ¬Used i T1) : Past i T1 :=
  (cond3_iff i _).2 (not_lt.1 fun h' => h ((cond1_iff i _).2 h'))

/-- The body decides one way or the other, whatever the word. -/
theorem decides (i : grid0.Coords) (w : BitVec 32) : (!(k0_cond1 i w == 1#1) && !(k0_cond3 i w == 1#1)) = false := by
  by_cases h : ((i 0).val : ℤ) < w.toInt
  · rw [(cond1_iff i w).2 h]; rfl
  · rw [(cond3_iff i w).2 (not_lt.1 h), Bool.and_comm]; rfl

/-- The point before a used one is used. -/
theorem used_before {i j : grid0.Coords} {T1 : S1.Idx → BitVec 32} (hij : (j 0).val ≤ (i 0).val) (h : Used i T1) : Used j T1 := by
  have h1 := (cond1_iff i _).1 h
  exact (cond1_iff j _).2 (by omega)

/-- The place of the tile's expert in the table. -/
abbrev place (n : Fin 160) : S160.Idx := ix1 n

theorem usedWord_eq (T1 : S1.Idx → BitVec 32) : usedWord T1 = T1 (ix1 (0 : Fin 1)) := by
  show T1 _ = T1 _
  congr 1
  funext a; apply Fin.ext
  match a with
  | ⟨0, _⟩ => rfl

theorem expertWord_eq (i : grid0.Coords) (T0 : S160.Idx → BitVec 32) (n : Fin 160) (hn : n.val = (i 0).val) :
    expertWord i T0 = T0 (place n) := by
  show T0 _ = T0 _
  congr 1
  funext a; apply Fin.ext
  match a with
  | ⟨0, _⟩ => show k0_off3 i 0 + 1 * 0 = n.val; rw [off3_eq, hn]; omega

theorem beforeWord_eq (i : grid0.Coords) (T0 : S160.Idx → BitVec 32) (n : Fin 160) (hn : n.val = (i 0).val - 1) :
    beforeWord i T0 = T0 (place n) := by
  show T0 _ = T0 _
  congr 1
  funext a; apply Fin.ext
  match a with
  | ⟨0, _⟩ => show k0_off2 i 0 + 1 * 0 = n.val; rw [off2_eq, hn]; omega

/-- A tile that is not fresh is not the first, and has the expert of the tile before. -/
theorem stale {i : grid0.Coords} {T0 : S160.Idx → BitVec 32} (h : ¬Fresh i T0) :
    (i 0).val ≠ 0 ∧ expertWord i T0 = beforeWord i T0 := by
  unfold Fresh at h
  rw [bit] at h
  constructor
  · intro h0
    apply h
    rw [h0]
    generalize Scalar.cmpi .ne (expertWord i T0) (beforeWord i T0) = b
    revert b; decide
  · by_contra hne
    apply h
    have : Scalar.cmpi .ne (expertWord i T0) (beforeWord i T0) = 1#1 := by
      show BitVec.ofBool (expertWord i T0 != beforeWord i T0) = 1#1
      exact congrArg BitVec.ofBool (bne_iff_ne.2 hne)
    rw [this]
    generalize Scalar.cmpi .eq (BitVec.ofNat 32 (i 0).val) 0#32 = b
    revert b; decide

/-- The blocks of weights the index maps name: the expert's, whole. -/
theorem map1 (pf : pre0.Contents (Elt Bits)) (i : grid0.Coords) (n : Fin 160) (hn : n.val = (i 0).val) :
    cc0_transform_1 k0_off1_inb numel1_S1 pf i = ![BitVec.toNat (pf 0 (place n) : BitVec 32), 0, 0] := by
  show (![BitVec.toNat (pf 0 _ : BitVec 32), 0, 0] : Fin 3 → ℕ) = _
  congr 3
  funext a; apply Fin.ext
  match a with
  | ⟨0, _⟩ => show k0_off3 i 0 + 1 * 0 = n.val; rw [off3_eq, hn]; omega
theorem map2 (pf : pre0.Contents (Elt Bits)) (i : grid0.Coords) (n : Fin 160) (hn : n.val = (i 0).val) :
    cc0_transform_2 k0_off1_inb numel1_S1 pf i = ![BitVec.toNat (pf 0 (place n) : BitVec 32), 0, 0] := map1 pf i n hn
theorem map3 (pf : pre0.Contents (Elt Bits)) (i : grid0.Coords) (n : Fin 160) (hn : n.val = (i 0).val) :
    cc0_transform_3 k0_off1_inb numel1_S1 pf i = ![BitVec.toNat (pf 0 (place n) : BitVec 32), 0, 0] := map1 pf i n hn

/-- Tables whose experts are below 32 are admissible. -/
theorem admissible (pf : pre0.Contents (Elt Bits)) (h : ∀ n : Fin 160, (pf 0 (place n) : BitVec 32).toNat < 32) : ok0 (F := Bits) pf := by
  refine ⟨fun i => ⟨fun a => ?_, .inl rfl⟩, fun i => ⟨fun a => ?_, .inl rfl⟩, fun i => ⟨fun a => ?_, .inl rfl⟩⟩
  · rw [map1 pf i ⟨(i 0).val, (i 0).isLt⟩ rfl]
    have := h ⟨(i 0).val, (i 0).isLt⟩
    match a with
    | ⟨0, _⟩ => show (BitVec.toNat (pf 0 (place _) : BitVec 32) + 1) * 1 ≤ 32; omega
    | ⟨1, _⟩ => show (0 + 1) * 2048 ≤ 2048; omega
    | ⟨2, _⟩ => show (0 + 1) * 512 ≤ 512; omega
  · rw [map2 pf i ⟨(i 0).val, (i 0).isLt⟩ rfl]
    have := h ⟨(i 0).val, (i 0).isLt⟩
    match a with
    | ⟨0, _⟩ => show (BitVec.toNat (pf 0 (place _) : BitVec 32) + 1) * 1 ≤ 32; omega
    | ⟨1, _⟩ => show (0 + 1) * 2048 ≤ 2048; omega
    | ⟨2, _⟩ => show (0 + 1) * 512 ≤ 512; omega
  · rw [map3 pf i ⟨(i 0).val, (i 0).isLt⟩ rfl]
    have := h ⟨(i 0).val, (i 0).isLt⟩
    match a with
    | ⟨0, _⟩ => show (BitVec.toNat (pf 0 (place _) : BitVec 32) + 1) * 1 ≤ 32; omega
    | ⟨1, _⟩ => show (0 + 1) * 512 ≤ 512; omega
    | ⟨2, _⟩ => show (0 + 1) * 2048 ≤ 2048; omega

end Cert.ExpWords
-- ==== Proof.ExpRun.lean ====
module

public import proofs.«01_k».proof.Proof.ExpWords
public import Idealize.ShloMosaic.Lib.Pipeline.Quiescent
public import Idealize.ShloMosaic.Lib.Claim
public import Idealize.ShloMosaic.Lib.Pipeline.Kit
public import Idealize.ShloMosaic.Lib.Pipeline.TableIdle
public import Idealize.ShloMosaic.Lib.Pipeline.FrameBody
public import Idealize.ShloMosaic.Lib.Tactic
public import Idealize.ShloMosaic.Adequacy
public import Idealize.ShloMosaic.Init

@[expose] public section

/-! The expert kernel's run, at any tables whose experts are in range: what each grid point leaves in the block of
    results it owns, and what the scratch weights hold between the points. -/

set_option maxRecDepth 16384

noncomputable section

namespace Cert.ExpRun

open Cert.Exp Cert.Exp.Gen Cert.ExpBody Cert.ExpWords
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- The resources the proof speaks of. -/
abbrev Res := MT nD τ sig Unit (Elt Bits) ℕ (UR sig nD τ) ℕ

abbrev EP : Emb (UR sig nD τ) Res := emb₁

/-! The tables the run is at: any admissible ones. -/
variable (a : (pcfg0 (F := Bits)).Adm)
variable (m : (ℓ : Loc nD τ sig) → Buf (Elt Bits) ℓ) (ρ : Dev nD → PrngReg)

abbrev cfgA : Pipeline.Cfg sig Λ₀ := cfg0 (F := Bits) a
abbrev pcs : Fin 1 → Pipeline.Cfg sig Λ₀ := Pipeline.pin (pcfgs (F := Bits)) fun _ => a
abbrev tb0 : S160.Idx → Elt Bits .i32 := a.1 0
abbrev tb1 : S1.Idx → Elt Bits .i32 := a.1 1
abbrev crd (t : Fin (cfgA a).N) : (cfgA a).grid.Coords := (cfgA a).grid.coords t

/-! The staging memrefs the body is handed at a point. -/
abbrev ms0 (t : Fin (cfgA a).N) : Memref sig .tc .vmem S256x2048 .f32 := spec0_0.stage ((cfgA a).slots t (0 : Fin 5))
abbrev hs0 (t : Fin (cfgA a).N) : (ms0 a t).IsWhole := hstage0_0 (((cfgA a).slots t (0 : Fin 5)).cast nbuf0_0)
abbrev ms1 (t : Fin (cfgA a).N) : Memref sig .tc .vmem S1x2048x512 .f32 := spec0_1.stage ((cfgA a).slots t (1 : Fin 5))
abbrev hs1 (t : Fin (cfgA a).N) : (ms1 a t).IsWhole := hstage0_1 (((cfgA a).slots t (1 : Fin 5)).cast nbuf0_1)
abbrev ms2 (t : Fin (cfgA a).N) : Memref sig .tc .vmem S1x2048x512 .f32 := spec0_2.stage ((cfgA a).slots t (2 : Fin 5))
abbrev hs2 (t : Fin (cfgA a).N) : (ms2 a t).IsWhole := hstage0_2 (((cfgA a).slots t (2 : Fin 5)).cast nbuf0_2)
abbrev ms3 (t : Fin (cfgA a).N) : Memref sig .tc .vmem S1x512x2048 .f32 := spec0_3.stage ((cfgA a).slots t (3 : Fin 5))
abbrev hs3 (t : Fin (cfgA a).N) : (ms3 a t).IsWhole := hstage0_3 (((cfgA a).slots t (3 : Fin 5)).cast nbuf0_3)
abbrev ms4 (t : Fin (cfgA a).N) : Memref sig .tc .vmem S256x2048 .f32 := spec0_4.stage ((cfgA a).slots t (4 : Fin 5))
abbrev hs4 (t : Fin (cfgA a).N) : (ms4 a t).IsWhole := hstage0_4 (((cfgA a).slots t (4 : Fin 5)).cast nbuf0_4)

/-- Window `w`'s block at point `t`, read off its array at launch. -/
def iblk (c : Dev nD) (w : Fin (cfgA a).W) (t : Fin (cfgA a).N) : (((cfgA a).win w).xblock (crd a t)).Idx → Elt Bits ((cfgA a).win w).elt :=
  (((cfgA a).win w).blk t).view.read (Elt Bits) ((s₀ m ρ).mem (((cfgA a).win w).arr.view.loc (c : Thread nD τ)))

/-- The rounded weights of point `t`'s expert. -/
def gate (c : Dev nD) (t : Fin (cfgA a).N) : FVec Bits S2048x512 .bf16 := k0_pay1 (F := Bits) (iblk a m ρ c (1 : Fin 5) t)
def up (c : Dev nD) (t : Fin (cfgA a).N) : FVec Bits S2048x512 .bf16 := k0_pay2 (F := Bits) (iblk a m ρ c (2 : Fin 5) t)
def down (c : Dev nD) (t : Fin (cfgA a).N) : FVec Bits S512x2048 .bf16 := k0_pay3 (F := Bits) (iblk a m ρ c (3 : Fin 5) t)

open Classical in
/-- The rows point `t` leaves: a used tile's through its expert's weights, zeros past them. -/
def rows (c : Dev nD) (t : Fin (cfgA a).N) : S256x2048.Idx → Elt Bits .f32 :=
  if Used (crd a t) (tb1 a) then k0_pay4 (F := Bits) (iblk a m ρ c (0 : Fin 5) t) (gate a m ρ c t) (up a m ρ c t) (down a m ρ c t)
  else k0_pay5 (F := Bits)

/-- Between the points: after a used tile the scratch holds its expert's rounded weights. -/
def Phi (c : Dev nD) (t : Fin ((cfgA a).N + 1)) : sProp Res :=
  iprop(∃ a0 : Buf (Elt Bits) ((c : Thread nD τ).loc cc0_scratch0), ∃ a1 : Buf (Elt Bits) ((c : Thread nD τ).loc cc0_scratch1),
    ∃ a2 : Buf (Elt Bits) ((c : Thread nD τ).loc cc0_scratch2),
    ⌜∀ s : Fin (cfgA a).N, s.val + 1 = t.val → Used (crd a s) (tb1 a) → a0 = gate a m ρ c s ∧ a1 = up a m ρ c s ∧ a2 = down a m ρ c s⌝
    ∗ (scM0_0.view.loc (c : Thread nD τ) ↦{fullShare} a0) ∗ (scM0_1.view.loc (c : Thread nD τ) ↦{fullShare} a1)
    ∗ (scM0_2.view.loc (c : Thread nD τ) ↦{fullShare} a2)
    ∗ (tbM0_0.view.loc (c : Thread nD τ) ↦{fullShare.right} tb0 a) ∗ (tbM0_1.view.loc (c : Thread nD τ) ↦{fullShare.right} tb1 a))

/-- The proof data of the one pipeline on core `c`. -/
def dats (_ : Fin 1) (c : Dev nD) : Dat τ (Elt Bits) Unit ℕ (UR sig nD τ) ℕ (cfgA a) c where
  A w := (s₀ m ρ).mem (((cfgA a).win w).arr.view.loc (c : Thread nD τ))
  after w t := match w with
    | ⟨0, _⟩ => iblk a m ρ c (0 : Fin 5) t
    | ⟨1, _⟩ => iblk a m ρ c (1 : Fin 5) t
    | ⟨2, _⟩ => iblk a m ρ c (2 : Fin 5) t
    | ⟨3, _⟩ => iblk a m ρ c (3 : Fin 5) t
    | ⟨4, _⟩ => rows a m ρ c t
  Φ t := Phi a m ρ c t
  q _ := fullShare
  owed _ := 0

theorem after0 (c : Dev nD) (t : Fin (cfgA a).N) : (dats a m ρ 0 c).after (0 : Fin 5) t = iblk a m ρ c (0 : Fin 5) t := rfl
theorem after1 (c : Dev nD) (t : Fin (cfgA a).N) : (dats a m ρ 0 c).after (1 : Fin 5) t = iblk a m ρ c (1 : Fin 5) t := rfl
theorem after2 (c : Dev nD) (t : Fin (cfgA a).N) : (dats a m ρ 0 c).after (2 : Fin 5) t = iblk a m ρ c (2 : Fin 5) t := rfl
theorem after3 (c : Dev nD) (t : Fin (cfgA a).N) : (dats a m ρ 0 c).after (3 : Fin 5) t = iblk a m ρ c (3 : Fin 5) t := rfl
theorem after4 (c : Dev nD) (t : Fin (cfgA a).N) : (dats a m ρ 0 c).after (4 : Fin 5) t = rows a m ρ c t := rfl

/-! An input window holds its block, fetched there or not. -/
theorem before0 (c : Dev nD) (t : Fin (cfgA a).N) (d) : (dats a m ρ 0 c).before (0 : Fin 5) t d = iblk a m ρ c (0 : Fin 5) t :=
  ((dats a m ρ 0 c).before_in_eq_fetched (0 : Fin 5) rfl (fun _ => rfl) (fun _ _ _ => rfl) (fun t => by rw [after0]; unfold Dat.blockOf iblk; rfl) t d).trans
    (by unfold Dat.fetched Dat.blockOf iblk; rfl)
theorem before1 (c : Dev nD) (t : Fin (cfgA a).N) (d) : (dats a m ρ 0 c).before (1 : Fin 5) t d = iblk a m ρ c (1 : Fin 5) t :=
  ((dats a m ρ 0 c).before_in_eq_fetched (1 : Fin 5) rfl (fun _ => rfl) (fun _ _ _ => rfl) (fun t => by rw [after1]; unfold Dat.blockOf iblk; rfl) t d).trans
    (by unfold Dat.fetched Dat.blockOf iblk; rfl)
theorem before2 (c : Dev nD) (t : Fin (cfgA a).N) (d) : (dats a m ρ 0 c).before (2 : Fin 5) t d = iblk a m ρ c (2 : Fin 5) t :=
  ((dats a m ρ 0 c).before_in_eq_fetched (2 : Fin 5) rfl (fun _ => rfl) (fun _ _ _ => rfl) (fun t => by rw [after2]; unfold Dat.blockOf iblk; rfl) t d).trans
    (by unfold Dat.fetched Dat.blockOf iblk; rfl)
theorem before3 (c : Dev nD) (t : Fin (cfgA a).N) (d) : (dats a m ρ 0 c).before (3 : Fin 5) t d = iblk a m ρ c (3 : Fin 5) t :=
  ((dats a m ρ 0 c).before_in_eq_fetched (3 : Fin 5) rfl (fun _ => rfl) (fun _ _ _ => rfl) (fun t => by rw [after3]; unfold Dat.blockOf iblk; rfl) t d).trans
    (by unfold Dat.fetched Dat.blockOf iblk; rfl)

/-- Two points of one block index read one block. -/
theorem iblk_congr (c : Dev nD) {t s : Fin (cfgA a).N} :
    (((cfgA a).win (1 : Fin 5)).index t = ((cfgA a).win (1 : Fin 5)).index s → gate a m ρ c t = gate a m ρ c s)
    ∧ (((cfgA a).win (2 : Fin 5)).index t = ((cfgA a).win (2 : Fin 5)).index s → up a m ρ c t = up a m ρ c s)
    ∧ (((cfgA a).win (3 : Fin 5)).index t = ((cfgA a).win (3 : Fin 5)).index s → down a m ρ c t = down a m ρ c s) := by
  refine ⟨fun h => ?_, fun h => ?_, fun h => ?_⟩
  · have e := (dats a m ρ 0 c).fetched_congr (1 : Fin 5) h rfl (iblk a m ρ c (1 : Fin 5) t)
    exact congrArg (k0_pay1 (F := Bits)) (((show _ = (dats a m ρ 0 c).fetched (1 : Fin 5) t _ by unfold Dat.fetched Dat.blockOf iblk; rfl).trans e).trans (by unfold Dat.fetched Dat.blockOf iblk; rfl))
  · have e := (dats a m ρ 0 c).fetched_congr (2 : Fin 5) h rfl (iblk a m ρ c (2 : Fin 5) t)
    exact congrArg (k0_pay2 (F := Bits)) (((show _ = (dats a m ρ 0 c).fetched (2 : Fin 5) t _ by unfold Dat.fetched Dat.blockOf iblk; rfl).trans e).trans (by unfold Dat.fetched Dat.blockOf iblk; rfl))
  · have e := (dats a m ρ 0 c).fetched_congr (3 : Fin 5) h rfl (iblk a m ρ c (3 : Fin 5) t)
    exact congrArg (k0_pay3 (F := Bits)) (((show _ = (dats a m ρ 0 c).fetched (3 : Fin 5) t _ by unfold Dat.fetched Dat.blockOf iblk; rfl).trans e).trans (by unfold Dat.fetched Dat.blockOf iblk; rfl))

theorem crd_val (t : Fin (cfgA a).N) : ((crd a t) 0).val = t.val := coords_val t

/-- A tile that finds its weights finds those the tile before used. -/
theorem found (c : Dev nD) (t : Fin (cfgA a).N) (h : ¬Fresh (crd a t) (tb0 a)) :
    ∃ s : Fin (cfgA a).N, s.val + 1 = t.val ∧ gate a m ρ c s = gate a m ρ c t ∧ up a m ρ c s = up a m ρ c t ∧ down a m ρ c s = down a m ρ c t := by
  obtain ⟨h0, he⟩ := stale h
  rw [crd_val] at h0
  have hN : t.val < 160 := t.isLt
  let s : Fin (cfgA a).N := ⟨t.val - 1, show t.val - 1 < 160 by omega⟩
  have hs : ((crd a s) 0).val = t.val - 1 := crd_val a s
  rw [expertWord_eq (crd a t) (tb0 a) ⟨t.val, hN⟩ (crd_val a t).symm,
    beforeWord_eq (crd a t) (tb0 a) ⟨t.val - 1, by omega⟩ (by rw [crd_val])] at he
  have e1 : cc0_transform_1 k0_off1_inb numel1_S1 a.1 (crd a s) = cc0_transform_1 k0_off1_inb numel1_S1 a.1 (crd a t) := by
    rw [map1 a.1 (crd a t) ⟨t.val, hN⟩ (crd_val a t).symm, map1 a.1 (crd a s) ⟨t.val - 1, by omega⟩ hs.symm]
    exact congrArg (fun w : BitVec 32 => (![w.toNat, 0, 0] : Fin 3 → ℕ)) he.symm
  refine ⟨s, by show t.val - 1 + 1 = t.val; omega, (iblk_congr a m ρ c).1 e1, (iblk_congr a m ρ c).2.1 e1, (iblk_congr a m ρ c).2.2 e1⟩

/-- No point leaves the window of results idle. -/
theorem busy (t : Fin (cfgA a).N) : (cfgA a).idle (4 : Fin 5) ((cfgA a).grid.coords t) = false := decides (crd a t) (a.1.atD 1 ![0])

/-- The body at point `t` on its staging memrefs, as the pipeline calls it. -/
abbrev bodyAt (t : Fin (cfgA a).N) : Prog (TpuEff nD τ sig (Elt Bits) Λ₀ .tc) PUnit :=
  cc0_moe_experts (crd a t) (Memref.whole main_arg0) (Memref.isWhole_whole _) (Memref.whole main_arg1) (Memref.isWhole_whole _) (ms0 a t) (hs0 a t) (ms1 a t) (hs1 a t) (ms2 a t) (hs2 a t) (ms3 a t) (hs3 a t) (ms4 a t) (hs4 a t) (Memref.whole cc0_scratch0) (Memref.isWhole_whole _) (Memref.whole cc0_scratch1) (Memref.isWhole_whole _) (Memref.whole cc0_scratch2) (Memref.isWhole_whole _)

set_option maxHeartbeats 4000000 in
/-- The body keeps the invariant and leaves every window what the proof data says. -/
theorem sound_body (c : Dev nD) (t : Fin (cfgA a).N) :
    iprop((dats a m ρ 0 c).Φ t.castSucc ∗ (dats a m ρ 0 c).owesAt () t.castSucc
        ∗ (∃ d, owns (c : Thread nD τ) (ms0 a t) fullShare ((dats a m ρ 0 c).before (0 : Fin 5) t d))
        ∗ (∃ d, owns (c : Thread nD τ) (ms1 a t) fullShare ((dats a m ρ 0 c).before (1 : Fin 5) t d))
        ∗ (∃ d, owns (c : Thread nD τ) (ms2 a t) fullShare ((dats a m ρ 0 c).before (2 : Fin 5) t d))
        ∗ (∃ d, owns (c : Thread nD τ) (ms3 a t) fullShare ((dats a m ρ 0 c).before (3 : Fin 5) t d))
        ∗ (∃ d, owns (c : Thread nD τ) (ms4 a t) fullShare ((dats a m ρ 0 c).before (4 : Fin 5) t d)))
      ⊢ wp frame (wpE (defs₀ (F := Bits)) Variants.none c none) Set.univ (bodyAt a t) fun _ =>
          iprop((dats a m ρ 0 c).Φ t.succ ∗ (dats a m ρ 0 c).owesAt () t.succ
            ∗ bigSep Finset.univ fun w : Fin (cfgA a).W =>
                match (cfgA a).idle w ((cfgA a).grid.coords t) with
                | true =>
                  match ((cfgA a).win w).flush t with
                  | false => iprop(∃ d, owns (c : Thread nD τ) (((cfgA a).win w).stage ((cfgA a).slots t w)) fullShare ((dats a m ρ 0 c).before w t d))
                  | true => owns (c : Thread nD τ) (((cfgA a).win w).stage ((cfgA a).slots t w)) fullShare ((dats a m ρ 0 c).after w t)
                | false => owns (c : Thread nD τ) (((cfgA a).win w).stage ((cfgA a).slots t w)) fullShare ((dats a m ρ 0 c).after w t)) := by
  rw [bigSep_W0]
  have i4 := busy a t
  rewrite [i4]
  simp only [before0, before1, before2, before3, after0, after1, after2, after3, after4]
  rewrite [show (dats a m ρ 0 c).Φ t.succ = Phi a m ρ c t.succ from rfl, show (dats a m ρ 0 c).Φ t.castSucc = Phi a m ρ c t.castSucc from rfl,
    show (dats a m ρ 0 c).owesAt () t.succ = (dats a m ρ 0 c).owesAt () t.castSucc from rfl]
  unfold Phi
  iintro ⟨⟨%a0, %a1, %a2, %hk, HS0, HS1, HS2, HT0, HT1⟩, Ho, ⟨%d0, H0⟩, ⟨%d1, H1⟩, ⟨%d2, H2⟩, ⟨%d3, H3⟩, ⟨%d4, H4⟩⟩
  by_cases hu : Used (crd a t) (tb1 a)
  · have hp := not_past hu
    by_cases hf : Fresh (crd a t) (tb0 a)
    · have k0 := keep_A0 c (crd a t) (ms0 a t) (hs0 a t) (ms1 a t) (hs1 a t) (ms2 a t) (hs2 a t) (ms3 a t) (hs3 a t) (ms4 a t) (hs4 a t) (tb0 a) (tb1 a) (iblk a m ρ c (0 : Fin 5) t) (iblk a m ρ c (1 : Fin 5) t) (iblk a m ρ c (2 : Fin 5) t) (iblk a m ρ c (3 : Fin 5) t) hu hf hp
      have k1 := keep_A1 c (crd a t) (ms0 a t) (hs0 a t) (ms1 a t) (hs1 a t) (ms2 a t) (hs2 a t) (ms3 a t) (hs3 a t) (ms4 a t) (hs4 a t) (tb0 a) (tb1 a) (iblk a m ρ c (0 : Fin 5) t) (iblk a m ρ c (1 : Fin 5) t) (iblk a m ρ c (2 : Fin 5) t) (iblk a m ρ c (3 : Fin 5) t) hu hf hp
      have k2 := keep_A2 c (crd a t) (ms0 a t) (hs0 a t) (ms1 a t) (hs1 a t) (ms2 a t) (hs2 a t) (ms3 a t) (hs3 a t) (ms4 a t) (hs4 a t) (tb0 a) (tb1 a) (iblk a m ρ c (0 : Fin 5) t) (iblk a m ρ c (1 : Fin 5) t) (iblk a m ρ c (2 : Fin 5) t) (iblk a m ρ c (3 : Fin 5) t) hu hf hp
      have ko := out_A c (crd a t) (ms0 a t) (hs0 a t) (ms1 a t) (hs1 a t) (ms2 a t) (hs2 a t) (ms3 a t) (hs3 a t) (ms4 a t) (hs4 a t) (tb0 a) (tb1 a) (iblk a m ρ c (0 : Fin 5) t) (iblk a m ρ c (1 : Fin 5) t) (iblk a m ρ c (2 : Fin 5) t) (iblk a m ρ c (3 : Fin 5) t) hu hf hp
      iapply ((kernelRun0_A c (crd a t) (ms0 a t) (hs0 a t) (ms1 a t) (hs1 a t) (ms2 a t) (hs2 a t) (ms3 a t) (hs3 a t) (ms4 a t) (hs4 a t) (tb0 a) (tb1 a) (iblk a m ρ c (0 : Fin 5) t) (iblk a m ρ c (1 : Fin 5) t) (iblk a m ρ c (2 : Fin 5) t) (iblk a m ρ c (3 : Fin 5) t) hu hf hp).2.2.2.2 a0 a1 a2 _)
      isplitl [H0]; · iapply rep_of_owns; iexact H0
      isplitl [H1]; · iapply rep_of_owns; iexact H1
      isplitl [H2]; · iapply rep_of_owns; iexact H2
      isplitl [H3]; · iapply rep_of_owns; iexact H3
      isplitl [HT0]; · iexact HT0
      isplitl [HT1]; · iexact HT1
      isplitl [H4]; · iexists _; iexact H4
      isplitl [HS0]; · iexact HS0
      isplitl [HS1]; · iexact HS1
      isplitl [HS2]; · iexact HS2
      iintro ⟨H0, H1, H2, H3, HT0, HT1, ⟨%e4, H4⟩, HS0, HS1, HS2⟩
      isplitl [HS0 HS1 HS2 HT0 HT1]
      · iexists _; iexists _; iexists _; isplitr; swap
        · isplitl [HS0]; · iexact HS0
          isplitl [HS1]; · iexact HS1
          isplitl [HS2]; · iexact HS2
          isplitl [HT0]; · iexact HT0
          iexact HT1
        · ipureintro; intro s hs hu'
          have hst : s = t := Fin.ext (by have := hs; rw [Fin.val_succ] at this; omega)
          subst hst
          exact ⟨k0, k1, k2⟩
      isplitl [Ho]; · iexact Ho
      isplitl [H0]; · iapply owns_of_rep; iexact H0
      isplitl [H1]; · iapply owns_of_rep; iexact H1
      isplitl [H2]; · iapply owns_of_rep; iexact H2
      isplitl [H3]; · iapply owns_of_rep; iexact H3
      unfold owns; iexists _; isplitr; swap
      · iexact H4
      · ipureintro
        refine (View.read_writes_of_cover _ _ VO0_4 VO0_4.junk _ (cover0_A_4 c _ _ _ _ _ _ _ _ _ _ _ _ _ _ _ _ _ _ _ _ )).trans ?_
        unfold rows; rw [if_pos hu]; exact ko
    · obtain ⟨s, hs, eg, eu, ed⟩ := found a m ρ c t hf
      have hus : Used (crd a s) (tb1 a) := used_before (by rw [crd_val, crd_val]; omega) hu
      obtain ⟨g0, g1, g2⟩ := hk s hs hus
      have ko := out_B c (crd a t) (ms0 a t) (hs0 a t) (ms1 a t) (hs1 a t) (ms2 a t) (hs2 a t) (ms3 a t) (hs3 a t) (ms4 a t) (hs4 a t) (tb0 a) (tb1 a) (iblk a m ρ c (0 : Fin 5) t) (iblk a m ρ c (1 : Fin 5) t) (iblk a m ρ c (2 : Fin 5) t) (iblk a m ρ c (3 : Fin 5) t) a0 a1 a2 hu hf hp
      iapply ((kernelRun0_B c (crd a t) (ms0 a t) (hs0 a t) (ms1 a t) (hs1 a t) (ms2 a t) (hs2 a t) (ms3 a t) (hs3 a t) (ms4 a t) (hs4 a t) (tb0 a) (tb1 a) (iblk a m ρ c (0 : Fin 5) t) (iblk a m ρ c (1 : Fin 5) t) (iblk a m ρ c (2 : Fin 5) t) (iblk a m ρ c (3 : Fin 5) t) a0 a1 a2 hu hf hp).2.2.2.2 _)
      isplitl [H0]; · iapply rep_of_owns; iexact H0
      isplitl [H1]; · iapply rep_of_owns; iexact H1
      isplitl [H2]; · iapply rep_of_owns; iexact H2
      isplitl [H3]; · iapply rep_of_owns; iexact H3
      isplitl [HT0]; · iexact HT0
      isplitl [HT1]; · iexact HT1
      isplitl [H4]; · iexists _; iexact H4
      isplitl [HS0]; · iexact HS0
      isplitl [HS1]; · iexact HS1
      isplitl [HS2]; · iexact HS2
      iintro ⟨H0, H1, H2, H3, HT0, HT1, ⟨%e4, H4⟩, HS0, HS1, HS2⟩
      isplitl [HS0 HS1 HS2 HT0 HT1]
      · iexists _; iexists _; iexists _; isplitr; swap
        · isplitl [HS0]; · iexact HS0
          isplitl [HS1]; · iexact HS1
          isplitl [HS2]; · iexact HS2
          isplitl [HT0]; · iexact HT0
          iexact HT1
        · ipureintro; intro s' hs' hu'
          have hst : s' = t := Fin.ext (by have := hs'; rw [Fin.val_succ] at this; omega)
          subst hst
          exact ⟨g0.trans eg, g1.trans eu, g2.trans ed⟩
      isplitl [Ho]; · iexact Ho
      isplitl [H0]; · iapply owns_of_rep; iexact H0
      isplitl [H1]; · iapply owns_of_rep; iexact H1
      isplitl [H2]; · iapply owns_of_rep; iexact H2
      isplitl [H3]; · iapply owns_of_rep; iexact H3
      unfold owns; iexists _; isplitr; swap
      · iexact H4
      · ipureintro
        refine (View.read_writes_of_cover _ _ VO0_4 VO0_4.junk _ (cover0_B_4 c _ _ _ _ _ _ _ _ _ _ _ _ _ _ _ _ _ _ _ _ _ _ _ )).trans ?_
        unfold rows; rw [if_pos hu, ← eg, ← eu, ← ed, ← g0, ← g1, ← g2]; exact ko
  · have hp := past hu
    have ko := out_C c (crd a t) (ms0 a t) (hs0 a t) (ms1 a t) (hs1 a t) (ms2 a t) (hs2 a t) (ms3 a t) (hs3 a t) (ms4 a t) (hs4 a t) (tb0 a) (tb1 a) (iblk a m ρ c (0 : Fin 5) t) (iblk a m ρ c (1 : Fin 5) t) (iblk a m ρ c (2 : Fin 5) t) (iblk a m ρ c (3 : Fin 5) t) a0 a1 a2 hu hp
    iapply ((kernelRun0_C c (crd a t) (ms0 a t) (hs0 a t) (ms1 a t) (hs1 a t) (ms2 a t) (hs2 a t) (ms3 a t) (hs3 a t) (ms4 a t) (hs4 a t) (tb0 a) (tb1 a) (iblk a m ρ c (0 : Fin 5) t) (iblk a m ρ c (1 : Fin 5) t) (iblk a m ρ c (2 : Fin 5) t) (iblk a m ρ c (3 : Fin 5) t) a0 a1 a2 hu hp).2.2.2.2 _)
    isplitl [H0]; · iapply rep_of_owns; iexact H0
    isplitl [H1]; · iapply rep_of_owns; iexact H1
    isplitl [H2]; · iapply rep_of_owns; iexact H2
    isplitl [H3]; · iapply rep_of_owns; iexact H3
    isplitl [HT0]; · iexact HT0
    isplitl [HT1]; · iexact HT1
    isplitl [H4]; · iexists _; iexact H4
    isplitl [HS0]; · iexact HS0
    isplitl [HS1]; · iexact HS1
    isplitl [HS2]; · iexact HS2
    iintro ⟨H0, H1, H2, H3, HT0, HT1, ⟨%e4, H4⟩, HS0, HS1, HS2⟩
    isplitl [HS0 HS1 HS2 HT0 HT1]
    · iexists _; iexists _; iexists _; isplitr; swap
      · isplitl [HS0]; · iexact HS0
        isplitl [HS1]; · iexact HS1
        isplitl [HS2]; · iexact HS2
        isplitl [HT0]; · iexact HT0
        iexact HT1
      · ipureintro; intro s hs hu'
        have hst : s = t := Fin.ext (by have := hs; rw [Fin.val_succ] at this; omega)
        subst hst
        exact absurd hu' hu
    isplitl [Ho]; · iexact Ho
    isplitl [H0]; · iapply owns_of_rep; iexact H0
    isplitl [H1]; · iapply owns_of_rep; iexact H1
    isplitl [H2]; · iapply owns_of_rep; iexact H2
    isplitl [H3]; · iapply owns_of_rep; iexact H3
    unfold owns; iexists _; isplitr; swap
    · iexact H4
    · ipureintro
      refine (View.read_writes_of_cover _ _ VO0_4 VO0_4.junk _ (cover0_C_4 c _ _ _ _ _ _ _ _ _ _ _ _ _ _ _ _ _ _ _ _ _ _ )).trans ?_
      unfold rows; rw [if_neg hu]; exact ko

/-- The library's body obligation, at every point. -/
theorem body_obligation (c : Dev nD) : BodyObligation (dats a m ρ 0 c) (defs₀ (F := Bits)) Variants.none () Set.univ := fun t => by
  rw [bigSep_W0]
  exact sound_body a m ρ c t

/-! The launch. -/

def u₀ : UR sig nD τ :=
  initOf (Pipeline.cells (pcs a) ((launch0 (F := Bits)).cellOf_inj fun _ => a))
    (Pipeline.launchToks (pcs a) ((launch0 (F := Bits)).cellOf_inj fun _ => a))

theorem share_eq (c : Dev nD) (w : Fin (cfgA a).W) : (dats a m ρ 0 c).share w = fullShare := by unfold Dat.share; split <;> rfl

/-- The two tables, one by one. -/
theorem prefHeld_eq (c : Dev nD) (q : Fin 2 → PosShare TreeShare) (v : pre0.Contents (Elt Bits)) :
    (Pipeline.prefHeld (Ix := Unit) (Name := ℕ) (U := UR sig nD τ) (Lvl := ℕ) pre0 c q v : sProp Res)
      = iprop((((c : Thread nD τ).loc main_arg0) ↦{q 0} v 0) ∗ (((c : Thread nD τ).loc main_arg1) ↦{q 1} v 1)) := by
  unfold Pipeline.prefHeld
  rw [show (Finset.univ : Finset (Fin 2)) = insert (0 : Fin 2) {(1 : Fin 2)} from by decide,
    bigSep_insert (by decide), bigSep_singleton]
  rfl

/-- At the first point nothing is known of the scratch. -/
theorem phi_intro (c : Dev nD) :
    iprop(BI.emp ∗ Pipeline.prefHeld pre0 c (fun _ => fullShare.right) a.1 ∗ Pipeline.scopedRest spec0 c) ⊢ (dats a m ρ 0 c).Φ 0 := by
  rw [prefHeld_eq, scopedRest0_eq, show (dats a m ρ 0 c).Φ 0 = Phi a m ρ c 0 from rfl]
  unfold Phi
  iintro ⟨-, ⟨HT0, HT1⟩, ⟨%a0, HS0⟩, ⟨%a1, HS1⟩, ⟨%a2, HS2⟩⟩
  iexists a0; iexists a1; iexists a2; isplitr; swap
  · isplitl [HS0]; · iexact HS0
    isplitl [HS1]; · iexact HS1
    isplitl [HS2]; · iexact HS2
    isplitl [HT0]; · iexact HT0
    iexact HT1
  · ipureintro; intro s hs _; exact absurd hs (Nat.succ_ne_zero _)

/-- After the last point the scratch is given back. -/
theorem phi_exit (c : Dev nD) : (dats a m ρ 0 c).Φ (Fin.last (cfgA a).N) ⊢ iprop(BI.emp ∗ Pipeline.scopedRest spec0 c) := by
  rw [scopedRest0_eq, show (dats a m ρ 0 c).Φ (Fin.last (cfgA a).N) = Phi a m ρ c (Fin.last _) from rfl]
  unfold Phi
  iintro ⟨%a0, %a1, %a2, -, HS0, HS1, HS2, -, -⟩
  isplitr; · iempintro
  isplitl [HS0]
  · iexists a0; iexact HS0
  isplitl [HS1]
  · iexists a1; iexact HS1
  iexists a2; iexact HS2

/-- Every array at what the pipeline computes, every table as it was. -/
def Post : PUnit × MemSt nD τ sig (Elt Bits) → Prop := fun r =>
  ∀ c : Dev nD, (∀ w : Fin (cfgA a).W, r.2.mem (((cfgA a).win w).arr.view.loc (c : Thread nD τ)) = (dats a m ρ 0 c).arrAt w (cfgA a).N)
    ∧ ∀ j, r.2.mem ((c : Thread nD τ).loc (pre0.ref j)) = a.1 j

set_option backward.isDefEq.respectTransparency.types false in
set_option maxHeartbeats 4000000 in
/-- From a memory that holds the tables the program runs to the end, with that post and every counter at zero. -/
theorem run (hm : ∀ (c : Dev nD) (j : Fin 2), m ((c : Thread nD τ).loc (pre0.ref j)) = a.1 j) :
    θ_run (defs (F := Bits)) (onTc (τ := τ) (main (F := Bits))) (s₀ m ρ) (fun r => Post a m ρ r ∧ r.2.sem = fun _ => 0) :=
  Pipeline.θ_run_region_noSem_pf_quiescent pcfgs (fun _ => a) (dats a m ρ) () ((launch0 (F := Bits)).cellOf_inj fun _ => a) (0 : Fin 1)
    (launch0 (F := Bits)).win.to₀ (launch0 (F := Bits)).pre EP defs₀ Variants.none m ρ main
    (hbody := fun c => (body_obligation a m ρ c).loose) (hne := (launch0 (F := Bits)).block_pos)
    (harr := (launch0 (F := Bits)).arr_whole) (hstage := (launch0 (F := Bits)).stage_whole) (howed := fun _ _ => rfl)
    (u₀ := u₀ a) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs a) (dats a m ρ) 0 (launch0 (F := Bits)).win.arr_inj c (launch0 (F := Bits)).arr_whole
      (share_eq a m ρ c) _ _ fun _ => rfl)
    (hpf := hm)
    (X := fun _ => iprop(emp)) (Y := fun _ => iprop(emp)) (Z := fun _ => iprop(emp))
    (hX := fun c => by rw [unscopedRestP0_eq]; iintro -; isplitr <;> iempintro)
    (hin := phi_intro a m ρ)
    (hout := phi_exit a m ρ)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- What the run leaves: the result array as computed, the arguments and the counters as they were. -/
theorem outcome (hm : ∀ (c : Dev nD) (j : Fin 2), m ((c : Thread nD τ).loc (pre0.ref j)) = a.1 j) :
    θ_run (defs (F := Bits)) (onTc (τ := τ) (main (F := Bits))) ⟨m, fun _ => 0, ρ⟩ (fun r => (∀ c : Dev nD,
      r.2.mem ((c.tc : Thread nD τ).loc main_v0) = (dats a m ρ 0 c).arrAt (4 : Fin 5) (cfgA a).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => ⟨(h.1 c).1 (4 : Fin 5), ((h.1 c).2 0).trans (hm c 0).symm, ((h.1 c).2 1).trans (hm c 1).symm,
    ((h.1 c).1 (0 : Fin 5)).trans ((dats a m ρ 0 c).arrAt_in (0 : Fin 5) rfl _), ((h.1 c).1 (1 : Fin 5)).trans ((dats a m ρ 0 c).arrAt_in (1 : Fin 5) rfl _),
    ((h.1 c).1 (2 : Fin 5)).trans ((dats a m ρ 0 c).arrAt_in (2 : Fin 5) rfl _), ((h.1 c).1 (3 : Fin 5)).trans ((dats a m ρ 0 c).arrAt_in (3 : Fin 5) rfl _)⟩, h.2⟩)
    (run a m ρ hm)

/-- The tables a memory holds, admissible where its experts are in range. -/
def tables (h : ∀ n : Fin 160, (m (((0 : Dev nD) : Thread nD τ).loc main_arg0) (place n) : BitVec 32).toNat < 32) : (pcfg0 (F := Bits)).Adm :=
  ⟨fun j => m (((0 : Dev nD) : Thread nD τ).loc (pre0.ref j)), admissible _ h⟩

theorem tables_held (h : ∀ n : Fin 160, (m (((0 : Dev nD) : Thread nD τ).loc main_arg0) (place n) : BitVec 32).toNat < 32)
    (c : Dev nD) (j : Fin 2) : m ((c : Thread nD τ).loc (pre0.ref j)) = (tables m h).1 j := by
  have hc : c = (0 : Dev nD) := Subsingleton.elim _ _
  subst hc; rfl

end Cert.ExpRun
-- ==== Proof.ExpPre.lean ====
module

public import proofs.«01_k».proof.Pre_expert_in_range
public import proofs.«01_k».proof.Proof.ExpMath
public import Idealize.ShloMosaic.PureOps.BitExact

@[expose] public section

/-! The precondition, read: every tile's word names one of the 32 experts. -/

set_option maxRecDepth 16384

noncomputable section

open Idealize.ShloMosaic

namespace Cert.ExpPre

open Cert.Pre_expert_in_range

/-- A word between zero and 31, read signed, is below 32 read unsigned. -/
theorem small (w : BitVec 32)
    (h : IntOp.andi (BitVec.ofBool (decide ((0#32 : BitVec 32).toInt ≤ w.toInt))) (BitVec.ofBool (decide (w.toInt < (32#32 : BitVec 32).toInt))) = 1#1) :
    w.toNat < 32 := by
  by_cases h0 : (0#32 : BitVec 32).toInt ≤ w.toInt
  · by_cases h1 : w.toInt < (32#32 : BitVec 32).toInt
    · have e0 : (0#32 : BitVec 32).toInt = 0 := by decide
      have e1 : (32#32 : BitVec 32).toInt = 32 := by decide
      rw [e0] at h0
      rw [e1] at h1
      have hw := w.isLt
      rw [BitVec.toInt_eq_toNat_cond] at h0 h1
      split at h0 <;> rename_i hc
      · rw [if_pos hc] at h1; omega
      · omega
    · rw [decide_eq_false h1] at h
      exact absurd h (by cases decide ((0#32 : BitVec 32).toInt ≤ w.toInt) <;> decide)
  · rw [decide_eq_false h0] at h
    exact absurd h (by cases decide (w.toInt < (32#32 : BitVec 32).toInt) <;> decide)

variable [Facts] {F : FTy → Type} [FloatOps F]

/-- Every tile's expert is in range. -/
theorem experts (x0 : IVec S160 32) (x1 : IVec S1 32) (x2 : FVec F S40960x2048 .f32) (x3 x4 : FVec F S32x2048x512 .f32)
    (x5 : FVec F S32x512x2048 .f32) (h : fn (F := F) x0 x1 x2 x3 x4 x5 = fun _ => 1#1) (t : Fin 160) : (x0 (ix1 t)).toNat < 32 := by
  exact small _ (congrFun h (ix1 t))

end Cert.ExpPre
-- ==== Proof.ExpReference.lean ====
module

public import proofs.«01_k».proof.Proof.Gen.ExpRefIdeal.Read
public import proofs.«01_k».proof.Proof.ExpMath

@[expose] public section

/-! The reference of the routed experts, element by element: each row through the weights its tile's expert names,
    zeros past the used tiles. -/

set_option maxRecDepth 16384

noncomputable section

open Idealize.ShloMosaic Idealize.ShloMosaic.TcCoe

namespace Cert.ExpReference

open Cert.ExpRefIdeal Cert.ExpRefIdeal.Gen Cert.ExpRefIdeal.Read

variable (te : S160.Idx → BitVec 32) (nu : S1.Idx → BitVec 32) (xs : S40960x2048.Idx → EReal)
    (wg wu : S32x2048x512.Idx → EReal) (wd : S32x512x2048.Idx → EReal)

/-- An index that is not negative is looked up as it is. -/
theorem index_eq (h : ∀ t : Fin 160, (te (ix1 t)).toNat < 32) (t : Fin 160) :
    val_main_v6 (F := Ideal) te (ix2 t 0) = te (ix1 t) ∧ val_main_v14 (F := Ideal) te (ix2 t 0) = te (ix1 t)
      ∧ val_main_v24 (F := Ideal) te (ix2 t 0) = te (ix1 t) := by
  have hn : ¬(te (ix1 t)).toInt < (0#32 : BitVec 32).toInt := by
    rw [BitVec.toInt_eq_toNat_of_lt (by have := h t; omega)]
    exact not_lt.2 (Int.natCast_nonneg _)
  have key : ∀ i : S160.Idx, i = ix1 t → Scalar.select (IntOp.cmpi .slt (te i) 0#32) (IntOp.addi (te i) 32#32) (te i) = te (ix1 t) := by
    rintro i rfl
    rw [ExpMath.select_slt, if_neg hn]
  have ei : ∀ i : S160.Idx, (i 0).val = t.val → i = ix1 t := fun i hi => by
    rw [eq_ix1 i]
    exact congrArg ix1 (Fin.ext hi)
  refine ⟨?_, ?_, ?_⟩
  · rw [val_main_v6_apply]; exact key _ (ei _ rfl)
  · rw [val_main_v14_apply]; exact key _ (ei _ rfl)
  · rw [val_main_v24_apply]; exact key _ (ei _ rfl)

theorem gate_apply (h : ∀ t : Fin 160, (te (ix1 t)).toNat < 32) (t : Fin 160) (k : Fin 2048) (f : Fin 512) :
    val_main_v7 (F := Ideal) te wg (ix3 t k f) = wg (ix3 (ExpMath.expert (te (ix1 t))) k f) := by
  unfold val_main_v7
  refine (ExpMath.block_apply (N := 32) (R := 160) (A := 2048) (B := 512) (by decide) _ wg _ t k f).trans ?_
  refine congrArg wg (congrArg (fun e => ix3 e k f) (Fin.ext ?_))
  show min (val_main_v6 (F := Ideal) te (ix2 t 0)).toInt.toNat 31 = min (te (ix1 t)).toInt.toNat 31
  rw [(index_eq te h t).1]

theorem up_apply (h : ∀ t : Fin 160, (te (ix1 t)).toNat < 32) (t : Fin 160) (k : Fin 2048) (f : Fin 512) :
    val_main_v15 (F := Ideal) te wu (ix3 t k f) = wu (ix3 (ExpMath.expert (te (ix1 t))) k f) := by
  unfold val_main_v15
  refine (ExpMath.block_apply (N := 32) (R := 160) (A := 2048) (B := 512) (by decide) _ wu _ t k f).trans ?_
  refine congrArg wu (congrArg (fun e => ix3 e k f) (Fin.ext ?_))
  show min (val_main_v14 (F := Ideal) te (ix2 t 0)).toInt.toNat 31 = min (te (ix1 t)).toInt.toNat 31
  rw [(index_eq te h t).2.1]

theorem down_apply (h : ∀ t : Fin 160, (te (ix1 t)).toNat < 32) (t : Fin 160) (f : Fin 512) (d : Fin 2048) :
    val_main_v25 (F := Ideal) te wd (ix3 t f d) = wd (ix3 (ExpMath.expert (te (ix1 t))) f d) := by
  unfold val_main_v25
  refine (ExpMath.block_apply (N := 32) (R := 160) (A := 512) (B := 2048) (by decide) _ wd _ t f d).trans ?_
  refine congrArg wd (congrArg (fun e => ix3 e f d) (Fin.ext ?_))
  show min (val_main_v24 (F := Ideal) te (ix2 t 0)).toInt.toNat 31 = min (te (ix1 t)).toInt.toNat 31
  rw [(index_eq te h t).2.2]

/-- The rows, tile by tile. -/
theorem tile_apply (t : Fin 160) (r : Fin 256) (k : Fin 2048) (n : Fin 40960) (hn : n.val = t.val * 256 + r.val) :
    val_main_v0 (F := Ideal) xs (ix3 t r k) = xs (ix2 n k) := by
  rw [val_main_v0_apply]
  refine congrArg xs (funext fun a => Fin.ext ?_)
  match a with
  | ⟨0, _⟩ => show ((t.val * 256 + r.val) * 2048 + k.val) / 2048 = n.val; have := k.isLt; omega
  | ⟨1, _⟩ => show ((t.val * 256 + r.val) * 2048 + k.val) % 2048 = k.val; have := k.isLt; omega

/-- A hidden entry before its gate. -/
theorem pre_apply (h : ∀ t : Fin 160, (te (ix1 t)).toNat < 32) (t : Fin 160) (r : Fin 256) (f : Fin 512) (n : Fin 40960)
    (hn : n.val = t.val * 256 + r.val) :
    val_main_v8 (F := Ideal) te xs wg (ix3 t r f)
        = (∑ k : Fin 2048, xs (ix2 n k) * wg (ix3 (ExpMath.expert (te (ix1 t))) k f) : EReal)
      ∧ val_main_v16 (F := Ideal) te xs wu (ix3 t r f)
        = (∑ k : Fin 2048, xs (ix2 n k) * wu (ix3 (ExpMath.expert (te (ix1 t))) k f) : EReal) := by
  constructor
  · rw [val_main_v8_apply]
    refine Finset.sum_congr rfl fun k _ => ?_
    rw [eq_ix3 (lidx_main_v8 (ix3 t r f) k), eq_ix3 (ridx_main_v8 (ix3 t r f) k)]
    exact congrArg₂ (· * ·) (tile_apply xs t r k n hn) (gate_apply te wg h t k f)
  · rw [val_main_v16_apply]
    refine Finset.sum_congr rfl fun k _ => ?_
    rw [eq_ix3 (lidx_main_v16 (ix3 t r f) k), eq_ix3 (ridx_main_v16 (ix3 t r f) k)]
    exact congrArg₂ (· * ·) (tile_apply xs t r k n hn) (up_apply te wu h t k f)

/-- A hidden entry. -/
theorem hidden_apply (i : S160x256x512.Idx) :
    val_main_v18 (F := Ideal) te xs wg wu i
      = (ExpMath.silu (val_main_v8 (F := Ideal) te xs wg i) * val_main_v16 (F := Ideal) te xs wu i : EReal) := by
  rw [val_main_v18_apply, val_main_v17_apply, val_main_call0_v5_apply, val_main_call0_v4_apply, val_main_call0_v3_apply,
    val_main_call0_v2_apply, val_main_call0_v1_apply, val_main_call0_v0_apply]
  generalize val_main_v8 (F := Ideal) te xs wg i = z
  generalize val_main_v16 (F := Ideal) te xs wu i = u
  unfold ExpMath.silu
  pointwise [val_main_call0_cst, val_main_call0_cst_0]

/-- The reference's result, element by element. -/
theorem out_apply (h : ∀ t : Fin 160, (te (ix1 t)).toNat < 32) (n : Fin 40960) (d : Fin 2048) :
    val_main_v33 (F := Ideal) te nu xs wg wu wd (ix2 n d) = ExpMath.out te nu xs wg wu wd n d := by
  have hi : idx_main_v33 (ix2 n d) = ix3 (⟨n.val / 256, by omega⟩ : Fin 160) (⟨n.val % 256, by omega⟩ : Fin 256) d := by
    funext a
    apply Fin.ext
    have := d.isLt
    match a with
    | ⟨0, _⟩ => show (n.val * 2048 + d.val) / 524288 = n.val / 256; omega
    | ⟨1, _⟩ => show (n.val * 2048 + d.val) / 2048 % 256 = n.val % 256; omega
    | ⟨2, _⟩ => show (n.val * 2048 + d.val) % 2048 = d.val; omega
  have hn : n.val = (⟨n.val / 256, by omega⟩ : Fin 160).val * 256 + (⟨n.val % 256, by omega⟩ : Fin 256).val := by
    show n.val = n.val / 256 * 256 + n.val % 256; omega
  rw [val_main_v33_apply, hi]
  unfold ExpMath.out
  revert hn
  generalize (⟨n.val % 256, _⟩ : Fin 256) = r
  rw [show ((n.val / 256 : ℕ) : ℤ) = (((⟨n.val / 256, by omega⟩ : Fin 160).val : ℕ) : ℤ) from rfl]
  generalize (⟨n.val / 256, _⟩ : Fin 160) = t
  intro hn
  rw [val_main_v32_apply]
  have hc : val_main_call1_v1 (F := Ideal) nu (ix3 t r d) = IntOp.cmpi .slt (BitVec.ofNat 32 t.val) (nu (ix1 (0 : Fin 1))) := by
    rw [val_main_call1_v1_apply, val_main_v31_apply, val_main_v30_apply, val_main_v29_apply]
    unfold val_main_v28 val_main_v27
    pointwise []
  rw [hc, ExpMath.select_slt]
  have ht : (BitVec.ofNat 32 t.val).toInt = (t.val : ℤ) := by
    have := t.isLt
    rw [BitVec.toInt_eq_toNat_of_lt (by rw [BitVec.toNat_ofNat]; omega), BitVec.toNat_ofNat]
    congr 1; omega
  rw [ht]
  refine if_congr Iff.rfl ?_ ?_
  · rw [val_main_v26_apply]
    unfold ExpMath.mlp
    refine Finset.sum_congr rfl fun f _ => ?_
    rw [eq_ix3 (lidx_main_v26 (ix3 t r d) f), eq_ix3 (ridx_main_v26 (ix3 t r d) f)]
    refine congrArg₂ (· * ·) ?_ (down_apply te wd h t f d)
    refine (hidden_apply te xs wg wu _).trans ?_
    obtain ⟨e1, e2⟩ := pre_apply te xs wg wu h t r f n hn
    exact congrArg₂ (fun p q => ExpMath.silu p * q) e1 e2
  · rw [val_main_call1_v2_apply]
    unfold val_main_call1_v0 val_main_cst
    rw [id_eq]
    pointwise []

end Cert.ExpReference
-- ==== Proof.ExpAlgebraic.lean ====
module

public import proofs.«01_k».proof.Defs
public import proofs.«01_k».proof.Proof.ExpFinal
public import proofs.«01_k».proof.Proof.ExpRun
public import proofs.«01_k».proof.Proof.ExpPre
public import proofs.«01_k».proof.Proof.ExpReference
public import proofs.«01_k».proof.Proof.Gen.Pre_expert_in_range
public import proofs.«01_k».proof.Proof.Gen.ExpRefIdeal.Run

@[expose] public section

/-! The claims about the routed experts: the kernel runs and keeps its arguments at every table in range, and the
    array it leaves is the reference's. -/

noncomputable section

open Idealize.ShloMosaic Idealize.ShloMosaic.TcCoe Idealize.SL.Sem

namespace Cert.ExpAlgebraic

/-- The kernel runs, on machine words. -/
theorem frame_bits : Cert.quiescent_Exp (hExp := Cert.Exp.Gen.facts) (hPre_expert_in_range := Cert.Pre_expert_in_range.Gen.facts) := by
  intro m g hpre
  have hr : ∀ n : Fin 160, (m (((0 : Dev Cert.Exp.nD) : Thread Cert.Exp.nD Cert.Exp.τ).loc Cert.Exp.main_arg0) (ix1 n) : BitVec 32).toNat < 32 :=
    fun n => ExpPre.experts _ _ _ _ _ _ (hpre 0) n
  exact (θ_run Cert.Exp.defs _ _).mono (fun r h => ⟨fun c => (h.1 c).2, h.2⟩)
    (ExpRun.outcome (ExpRun.tables m hr) m g (ExpRun.tables_held m hr))

/-- The kernel runs, on extended reals. -/
theorem frame_ideal : Cert.quiescent_ExpIdeal (hExpIdeal := Cert.ExpIdeal.Gen.facts)
    (hPre_expert_in_range := Cert.Pre_expert_in_range.Gen.facts) := by
  intro m g hpre
  have hr : ∀ n : Fin 160, (m (((0 : Dev Cert.ExpIdeal.nD) : Thread Cert.ExpIdeal.nD Cert.ExpIdeal.τ).loc Cert.ExpIdeal.main_arg0) (ix1 n) : BitVec 32).toNat < 32 :=
    fun n => ExpPre.experts _ _ _ _ _ _ (hpre 0) n
  exact (θ_run Cert.ExpIdeal.defs _ _).mono (fun r h => ⟨fun c => (h.1 c).2, h.2⟩)
    (ExpIdealRun.outcome (ExpIdealRun.tables m hr) m g (ExpIdealRun.tables_held m hr))

/-- The reference runs. -/
theorem frame_ref : Cert.quiescent_ExpRefIdeal (hExpRefIdeal := Cert.ExpRefIdeal.Gen.facts) := fun m ρ _ =>
  (θ_run Cert.ExpRefIdeal.defs _ _).mono (fun r h => ⟨fun c => (h c).2, sem_eq_zero_of_no_sems (by decide) r.2⟩)
    (Cert.ExpRefIdeal.Value.run (F := Ideal) m ρ)

/-- The experts' outputs are the reference's. -/
theorem algebraic : Cert.algebraic_ExpIdeal_ExpRefIdeal (hExpIdeal := Cert.ExpIdeal.Gen.facts)
    (hExpRefIdeal := Cert.ExpRefIdeal.Gen.facts) (hPre_expert_in_range := Cert.Pre_expert_in_range.Gen.facts) := by
  intro m g m' g' hpre hagree
  have hr : ∀ n : Fin 160, (m (((0 : Dev Cert.ExpIdeal.nD) : Thread Cert.ExpIdeal.nD Cert.ExpIdeal.τ).loc Cert.ExpIdeal.main_arg0) (ix1 n) : BitVec 32).toNat < 32 :=
    fun n => ExpPre.experts _ _ _ _ _ _ (hpre 0) n
  refine ⟨fun c => (ExpIdealRun.dats (ExpIdealRun.tables m hr) m g 0 c).arrAt (4 : Fin 5) (ExpIdealRun.cfgA (ExpIdealRun.tables m hr)).N,
    (θ_run Cert.ExpIdeal.defs _ _).mono (fun r h => h.1)
      (ExpIdealRun.outcome (ExpIdealRun.tables m hr) m g (ExpIdealRun.tables_held m hr)),
    (θ_run Cert.ExpRefIdeal.defs _ _).mono (fun r h c => ⟨((h c).1).trans ?_, (h c).2⟩) (Cert.ExpRefIdeal.Value.run m' g')⟩
  have hc : c = (0 : Dev Cert.ExpIdeal.nD) := Subsingleton.elim _ _
  subst hc
  rw [Cert.ExpRefIdeal.Read.val_main_v33_eq]
  obtain ⟨e0, e1, e2, e3, e4, e5⟩ := hagree 0
  rw [e0, e1, e2, e3, e4, e5]
  refine Eq.trans ?_ (ExpFinal.final4 (ExpIdealRun.tables m hr) m g hr 0).symm
  funext i
  rw [eq_ix2 i]
  exact ExpReference.out_apply _ _ _ _ _ _ hr (i 0) (i 1)

end Cert.ExpAlgebraic
-- ==== Proof.CmpMath.lean ====
module

public import Idealize.ShloMosaic.Lib.Pointwise
public import Idealize.ShloMosaic.Lib.IdealHost

@[expose] public section

/-! The arithmetic of the compressed attention's softmax over the extended reals: the base-two softmax over 256 columns
    of which the last is masked is the natural softmax over 255 columns of the scores times `log 2`. -/

noncomputable section

open Idealize.ShloMosaic

namespace Cert.CmpMath

theorem negInf : Ideal.ofBits .f32 4286578688#32 = ⊥ := by simp [Ideal.ofBits, Ideal.ieee]
theorem posInf : Ideal.ofBits .f32 2139095040#32 = ⊤ := by simp [Ideal.ofBits, Ideal.ieee]
theorem two : Ideal.ofBits .f32 1073741824#32 = ((2 : ℝ) : EReal) := by
  simp [Ideal.ofBits, Ideal.ieee, -EReal.coe_mul]
  norm_num
theorem logTwo : Ideal.log (Ideal.ofBits .f32 1073741824#32) = ((Real.log 2 : ℝ) : EReal) := by
  rw [two, Ideal.log_coe, if_neg (by norm_num)]

/-- The floor `10⁻³⁰` under the softmax's sum. -/
abbrev eps : EReal := Ideal.ofBits .f32 228737632#32
theorem eps_pos : 0 < eps := by
  unfold eps
  simp [Ideal.ofBits, Ideal.ieee, -EReal.coe_mul]

variable {n : ℕ}

/-- The largest score of a row. -/
def rowMax (s : Fin n → EReal) : EReal := Finset.univ.fold max ⊥ s
/-- The kernel's shift: the largest score, or zero in a row without one. -/
def kShift (s : Fin n → EReal) : EReal := if rowMax s = ⊥ then 0 else rowMax s
/-- The kernel's softmax: powers of two over the floored sum. -/
def kProb (s : Fin n → EReal) (c : Fin n) : EReal :=
  Ideal.div (Ideal.exp2 (s c - kShift s)) (max (∑ x, Ideal.exp2 (s x - kShift s)) eps)
/-- The reference's shift: the largest score where it is finite. -/
def rShift (s : Fin n → EReal) : EReal := if max (rowMax s) (-rowMax s) < ⊤ then rowMax s else 0
/-- The reference's softmax: exponentials over the floored sum. -/
def rProb (s : Fin n → EReal) (c : Fin n) : EReal :=
  Ideal.div (Ideal.exp (s c - rShift s)) (max (∑ x, Ideal.exp (s x - rShift s)) eps)

theorem rowMax_le (s : Fin n → EReal) (b : EReal) : rowMax s ≤ b ↔ ∀ c, s c ≤ b := by
  unfold rowMax
  rw [Finset.fold_max_le]
  simp

theorem rowMax_eq (s : Fin n → EReal) (c : Fin n) (h : ∀ x, s x ≤ s c) : rowMax s = s c :=
  le_antisymm ((rowMax_le s _).2 h) ((rowMax_le s _).1 le_rfl c)

theorem rowMax_bot (s : Fin n → EReal) (h : ∀ x, s x = ⊥) : rowMax s = ⊥ :=
  le_bot_iff.1 ((rowMax_le s _).2 fun x => (h x).le)

theorem exp2_exp (a b : ℝ) : Ideal.exp2 ((a : EReal) - b) = Ideal.exp ((a : EReal) * (Real.log 2 : ℝ) - (b * Real.log 2 : ℝ)) := by
  rw [← EReal.coe_sub, Ideal.exp2_coe, ← EReal.coe_mul, ← EReal.coe_sub, Ideal.exp_coe]
  congr 1
  show (2 : ℝ) ^ (a - b) = _
  rw [Real.rpow_def_of_pos (by norm_num)]
  congr 1; ring

section
variable (a : Fin (n + 1) → ℝ) (P : Fin (n + 1) → Prop) [DecidablePred P] (hl : ¬P (Fin.last n))
  (sK : Fin (n + 1) → EReal) (hK : ∀ c, sK c = if P c then (a c : EReal) else ⊥)
  (sR : Fin n → EReal) (hR : ∀ c, sR c = if P c.castSucc then (a c.castSucc : EReal) * (Real.log 2 : ℝ) else ⊥)
include hl hK hR

/-- The two rows of shifted weights agree column by column, and the masked last column weighs nothing. -/
theorem weights : (∀ c : Fin n, Ideal.exp2 (sK c.castSucc - kShift sK) = Ideal.exp (sR c - rShift sR))
    ∧ Ideal.exp2 (sK (Fin.last n) - kShift sK) = 0 := by
  have hlog : 0 < Real.log 2 := Real.log_pos (by norm_num)
  by_cases hP : ∃ c, P c
  · obtain ⟨c₀, h₀, hmax⟩ : ∃ c₀, P c₀ ∧ ∀ x, P x → a x ≤ a c₀ := by
      obtain ⟨c, hc⟩ := hP
      obtain ⟨c₀, h1, h2⟩ := Finset.exists_max_image (Finset.univ.filter P) a ⟨c, by simpa using hc⟩
      exact ⟨c₀, by simpa using h1, fun x hx => h2 x (by simpa using hx)⟩
    obtain ⟨d, rfl⟩ : ∃ d : Fin n, d.castSucc = c₀ := by
      refine ⟨c₀.castPred fun h => hl (h ▸ h₀), Fin.castSucc_castPred _ _⟩
    have mK : rowMax sK = (a d.castSucc : EReal) := by
      rw [rowMax_eq sK d.castSucc, hK, if_pos h₀]
      intro x
      rw [hK, hK, if_pos h₀]
      split
      · exact EReal.coe_le_coe_iff.2 (hmax x ‹_›)
      · exact bot_le
    have mR : rowMax sR = (a d.castSucc * Real.log 2 : ℝ) := by
      rw [rowMax_eq sR d, hR, if_pos h₀, EReal.coe_mul]
      intro x
      rw [hR, hR, if_pos h₀]
      split
      · rw [← EReal.coe_mul, ← EReal.coe_mul]
        exact EReal.coe_le_coe_iff.2 (mul_le_mul_of_nonneg_right (hmax _ ‹_›) hlog.le)
      · exact bot_le
    have kS : kShift sK = (a d.castSucc : EReal) := by
      unfold kShift; rw [mK, if_neg (EReal.coe_ne_bot _)]
    have rS : rShift sR = (a d.castSucc * Real.log 2 : ℝ) := by
      unfold rShift
      rw [mR, if_pos (max_lt (EReal.coe_lt_top _) (by rw [← EReal.coe_neg]; exact EReal.coe_lt_top _))]
    rw [kS, rS]
    refine ⟨fun c => ?_, ?_⟩
    · rw [hK, hR]
      split
      · exact exp2_exp _ _
      · simp
    · rw [hK, if_neg hl]; simp
  · have hP' : ∀ c, ¬P c := fun c h => hP ⟨c, h⟩
    have bK : ∀ c, sK c = ⊥ := fun c => by rw [hK, if_neg (hP' c)]
    have bR : ∀ c, sR c = ⊥ := fun c => by rw [hR, if_neg (hP' _)]
    have kS : kShift sK = 0 := by unfold kShift; rw [if_pos (rowMax_bot _ bK)]
    have rS : rShift sR = 0 := by
      unfold rShift; rw [rowMax_bot _ bR, if_neg (by simp)]
    rw [kS, rS]
    exact ⟨fun c => by rw [bK, bR]; simp, by rw [bK]; simp⟩

/-- The kernel's softmax at a column of the reference's is the reference's. -/
theorem prob_eq (c : Fin n) : kProb sK c.castSucc = rProb sR c := by
  obtain ⟨h1, h2⟩ := weights a P hl sK hK sR hR
  unfold kProb rProb
  rw [Fin.sum_univ_castSucc, h2, add_zero, h1, Finset.sum_congr rfl fun x _ => h1 x]

/-- The kernel's softmax at its masked last column is zero. -/
theorem prob_last : kProb sK (Fin.last n) = 0 := by
  unfold kProb
  rw [(weights a P hl sK hK sR hR).2, Ideal.div, if_neg (ne_of_gt (lt_of_lt_of_le eps_pos (le_max_right _ _))), zero_mul]

/-- The softmax against values: the last column drops out of the kernel's sum. -/
theorem sum_prob (v : Fin (n + 1) → EReal) :
    ∑ c, kProb sK c * v c = ∑ c : Fin n, rProb sR c * v c.castSucc := by
  rw [Fin.sum_univ_castSucc, prob_last a P hl sK hK sR hR, zero_mul, add_zero]
  exact Finset.sum_congr rfl fun c _ => by rw [prob_eq a P hl sK hK sR hR]

end

/-- A choice by a signed comparison of words is the choice by the comparison of the integers they hold. -/
theorem select_sle {α : Type} (x y : BitVec 32) (p : Prop) [Decidable p] (h : x.toInt ≤ y.toInt ↔ p) (u v : α) :
    Scalar.select (IntOp.cmpi .sle x y) u v = if p then u else v := by
  by_cases hp : p
  · have : x.sle y = true := by rw [BitVec.sle_eq_decide]; simpa using h.2 hp
    simp [Scalar.select, IntOp.cmpi, this, hp]
  · have : x.sle y = false := by rw [BitVec.sle_eq_decide]; simpa using fun hh => hp (h.1 hh)
    simp [Scalar.select, IntOp.cmpi, this, hp]

/-- A finite sum of products of reals is a real. -/
theorem sum_real {k : ℕ} (f g : Fin k → EReal) (hf : ∀ i, ∃ r : ℝ, f i = r) (hg : ∀ i, ∃ r : ℝ, g i = r) :
    ∃ r : ℝ, ∑ i, f i * g i = (r : EReal) := by
  refine Finset.sum_induction _ (fun x : EReal => ∃ r : ℝ, x = r) ?_ ⟨0, rfl⟩ fun i _ => ?_
  · rintro _ _ ⟨a, rfl⟩ ⟨b, rfl⟩
    exact ⟨a + b, (EReal.coe_add a b).symm⟩
  · obtain ⟨a, ha⟩ := hf i
    obtain ⟨b, hb⟩ := hg i
    exact ⟨a * b, by rw [ha, hb, EReal.coe_mul]⟩

/-- Below `+∞` in magnitude is to be a real. -/
theorem real_of_abs (x : EReal) (h : max x (-x) < ⊤) : ∃ r : ℝ, x = r := by
  induction x with
  | bot => simp at h
  | top => simp at h
  | coe r => exact ⟨r, rfl⟩

end Cert.CmpMath
-- ==== Proof.CmpHead.lean ====
module

public import proofs.«01_k».proof.Proof.Gen.CmpIdeal.Skeleton
public import Idealize.ShloMosaic.Lib.Pointwise
public import proofs.«01_k».proof.Proof.CmpMath

@[expose] public section

/-! One head of the compressed attention as the kernel's body computes it: the four heads of a grid point are one
    vector function of the head's queries and of the gate lane it picks, and that function is read at an element. -/

set_option maxRecDepth 16384

noncomputable section

open Idealize.ShloMosaic Idealize.ShloMosaic.TcCoe

namespace Cert.CmpHead

open Cert.CmpIdeal Cert.CmpIdeal.Gen

variable {F : FTy → Type} [FloatOps F]

/-- The scores of one head: queries against the compressed keys, `−∞` where the key's block ends after the token. -/
def scores (i : grid0.Coords) (k : Vec F S1x256x128 .bf16) (q : Vec F S256x128 .bf16) : FVec F S256x256 .f32 :=
  select (k0_pay4 i)
    (matmul dot_S256x128_S256x128_S256x256_1_1_0_0_n_n none q (k0_pay2 k) (constant S256x256 .f32 0x00000000#32))
    (broadcast S256x256 (Scalar.ofBits .f32 0xFF800000#32))

/-- The row maxima of the scores. -/
def rowMax (s : FVec F S256x256 .f32) : FVec F S256x1 .f32 :=
  shapeCast S256x1 (multiReduction .maximumf [1] S256 s 0xFF800000#32 reduces_S256x256_S256 (.inl rfl) rfl)
    shapeCasts_S256_S256x1

/-- The base-two softmax of the scores. -/
def probs (s : FVec F S256x256 .f32) : FVec F S256x256 .f32 :=
  k0_pay9 s (rowMax s) (broadcast S256x1 (Scalar.ofBits .f32 0xFF800000#32))

/-- One head's output: the softmax against the compressed values, times the logistic function of gate lane `w`. -/
def head (p : FVec F S256x256 .f32) (v : Vec F S1x256x128 .bf16) (g : Vec F S256x128 .f32) (w : BitVec 32) :
    FVec F S256x128 .f32 :=
  mulf
    (matmul dot_S256x256_S256x128_S256x128_1_0_0_1_n_n none (truncf .bf16 p bitsLt_bf16_f32) (k0_pay3 v)
      (constant S256x128 .f32 0x00000000#32))
    (broadcastTo S256x128 (divf (broadcast S256x1 (Scalar.ofBits .f32 0x3F800000#32))
      (addf (broadcast S256x1 (Scalar.ofBits .f32 0x3F800000#32))
        (exp (subf (broadcast S256x1 (Scalar.ofBits .f32 0x00000000#32))
          (shapeCast S256x1 (multiReduction .add [1] S256
            (select (cmpi .eq (iota .tc S256x128 32 [1] iota_S256x128_d1_w32) (broadcast S256x128 w)) g
              (broadcast S256x128 (Scalar.ofBits .f32 0x00000000#32))) 0x00000000#32 reduces_S256x128_S256 (.inl rfl) rfl)
            shapeCasts_S256_S256x1))))) broadcasts_S256x1_S256x128)

/-- The gate lane of head `h` in group word `g`. -/
abbrev lane (g h : BitVec 32) : BitVec 32 := Scalar.muli (Scalar.addi (Scalar.muli g 4#32) h) 3#32

/-- The softmax at an element is the row's base-two softmax there. -/
theorem probs_apply (s : FVec Ideal S256x256 .f32) (r : Fin 256) (c : Fin 256) :
    probs s (ix2 r c) = CmpMath.kProb (fun x : Fin 256 => s (ix2 r x)) c := by
  pointwise [probs, rowMax, k0_pay9]
  rw [CmpMath.negInf]
  rfl

/-- The head's output at an element. -/
theorem head_apply (p : FVec Ideal S256x256 .f32) (v : Vec Ideal S1x256x128 .bf16) (g : Vec Ideal S256x128 .f32)
    (w : BitVec 32) (r : Fin 256) (d : Fin 128) :
    head p v g w (ix2 r d)
      = (∑ x : Fin 256, p (ix2 r x) * v (ix3 0 x d)) *
      Ideal.div 1
        (1 + Ideal.exp (0 - ∑ x : Fin 128, Scalar.select (IntOp.cmpi .eq (BitVec.ofNat 32 ↑x) w) (g (ix2 r x)) 0)) := by
  pointwise [head, k0_pay3]

/-- The sum that picks a lane is that lane. -/
theorem pick (f : Fin 128 → EReal) (w : BitVec 32) (l : Fin 128) (hw : w = BitVec.ofNat 32 l.val) :
    ∑ x : Fin 128, Scalar.select (IntOp.cmpi .eq (BitVec.ofNat 32 x.val) w) (f x) 0 = f l := by
  rw [Finset.sum_eq_single l]
  · simp [Scalar.select, IntOp.cmpi, hw]
  · intro x _ hx
    have : ¬BitVec.ofNat 32 x.val = BitVec.ofNat 32 l.val := fun h => hx (Fin.ext (by
      have := congrArg BitVec.toNat h
      simp only [BitVec.toNat_ofNat] at this
      omega))
    have hb : (BitVec.ofNat 32 x.val == BitVec.ofNat 32 l.val) = false := by simpa using this
    simp [Scalar.select, IntOp.cmpi, hw, hb]
  · simp

/-- The scores at an element: masked by the token's position in its sequence. -/
theorem scores_apply (i : grid0.Coords) (k : Vec Ideal S1x256x128 .bf16) (q : Vec Ideal S256x128 .bf16)
    (r : Fin 256) (c : Fin 256) :
    scores i k q (ix2 r c)
      = if 16 * c.val + 31 ≤ (i 1).val * 256 + r.val then ∑ x : Fin 128, q (ix2 r x) * k (ix3 0 c x) else ⊥ := by
  pointwise [scores, k0_pay4, k0_pay2]
  rw [CmpMath.negInf]
  refine CmpMath.select_sle _ _ _ ?_ _ _
  have hi : (i 1).val < 16 := (i 1).isLt
  have hr := r.isLt
  have hc := c.isLt
  have e1 : (IntOp.addi (IntOp.muli (BitVec.ofNat 32 c.val) 16#32) 31#32).toNat = 16 * c.val + 31 := by
    simp only [IntOp.addi, IntOp.muli, BitVec.toNat_add, BitVec.toNat_mul, BitVec.toNat_ofNat]
    omega
  have e2 : (IntOp.addi (Scalar.muli (BitVec.ofNat 32 (i 1).val) 256#32) (BitVec.ofNat 32 r.val)).toNat
      = (i 1).val * 256 + r.val := by
    simp only [IntOp.addi, Scalar.muli, IntOp.muli, BitVec.toNat_add, BitVec.toNat_mul, BitVec.toNat_ofNat]
    omega
  rw [BitVec.toInt_eq_toNat_of_lt (by omega), BitVec.toInt_eq_toNat_of_lt (by omega), e1, e2]
  omega

end Cert.CmpHead
-- ==== Proof.CmpBlock.lean ====
module

public import proofs.«01_k».proof.Proof.Gen.CmpIdeal.Value
public import proofs.«01_k».proof.Proof.CmpHead
public import Idealize.ShloMosaic.Lib.Pipeline.ValueKit

@[expose] public section

/-! What the body of the compressed attention leaves in the output block of a grid point:
    the four heads of the group, one 128-column stretch each. -/

set_option maxRecDepth 16384

noncomputable section

open Idealize.ShloMosaic Idealize.ShloMosaic.TcCoe

namespace Cert.CmpBlock

open Cert.CmpIdeal Cert.CmpIdeal.Gen Cert.CmpHead

section
variable {F : FTy → Type} [FloatOps F]

/-- The group a grid point works on: its first coordinate modulo two, as the body's words compute it. -/
abbrev groupWord (i : grid0.Coords) : BitVec 32 :=
  Scalar.select
    (Scalar.andi (Scalar.xori (Scalar.cmpi .slt (Scalar.remsi (BitVec.ofNat 32 (i 0).val) (Scalar.select (Scalar.cmpi .eq 2#32 0#32) 1#32 2#32)) 0#32)
        (Scalar.cmpi .slt (Scalar.select (Scalar.cmpi .eq 2#32 0#32) 1#32 2#32) 0#32))
      (Scalar.cmpi .ne (Scalar.remsi (BitVec.ofNat 32 (i 0).val) (Scalar.select (Scalar.cmpi .eq 2#32 0#32) 1#32 2#32)) 0#32))
    (Scalar.addi (Scalar.remsi (BitVec.ofNat 32 (i 0).val) (Scalar.select (Scalar.cmpi .eq 2#32 0#32) 1#32 2#32))
      (Scalar.select (Scalar.cmpi .eq 2#32 0#32) 1#32 2#32))
    (Scalar.remsi (BitVec.ofNat 32 (i 0).val) (Scalar.select (Scalar.cmpi .eq 2#32 0#32) 1#32 2#32))

/-- One head's stretch, from the blocks the body loads: `q` the head's queries, `h` its number. -/
abbrev headOf (i : grid0.Coords) (h : BitVec 32) (q : Vec F S256x128 .bf16) (x1 x2 : Vec F S1x256x128 .bf16)
    (x3 : Vec F S256x128 .f32) : FVec F S256x128 .f32 :=
  head (probs (scores i (View.ld x1 (Rect.unit ![0, 0, 0] ![1, 256, 128] inb_S1x256x128_S1x256x128_0_0_0)) q))
    (View.ld x2 (Rect.unit ![0, 0, 0] ![1, 256, 128] inb_S1x256x128_S1x256x128_0_0_0))
    (View.ld x3 (Rect.unit ![0, 0] ![256, 128] inb_S256x128_S256x128_0_0)) (lane (groupWord i) h)

/-- The four stretches of the output block, last stored first. -/
def pieces (i : grid0.Coords) (x0 : Vec F S256x512 .bf16) (x1 x2 : Vec F S1x256x128 .bf16) (x3 : Vec F S256x128 .f32) :
    List (View.Piece (Elt F) S256x512 .f32) :=
  [⟨Rect.unit ![0, 384] ![256, 128] inb_S256x512_S256x128_0_384,
      headOf i 3#32 (View.ld x0 (Rect.unit ![0, 384] ![256, 128] inb_S256x512_S256x128_0_384)) x1 x2 x3⟩,
    ⟨Rect.unit ![0, 256] ![256, 128] inb_S256x512_S256x128_0_256,
      headOf i 2#32 (View.ld x0 (Rect.unit ![0, 256] ![256, 128] inb_S256x512_S256x128_0_256)) x1 x2 x3⟩,
    ⟨Rect.unit ![0, 128] ![256, 128] inb_S256x512_S256x128_0_128,
      headOf i 1#32 (View.ld x0 (Rect.unit ![0, 128] ![256, 128] inb_S256x512_S256x128_0_128)) x1 x2 x3⟩,
    ⟨Rect.unit ![0, 0] ![256, 128] inb_S256x512_S256x128_0_0,
      headOf i 0#32 (View.ld x0 (Rect.unit ![0, 0] ![256, 128] inb_S256x512_S256x128_0_0)) x1 x2 x3⟩]

/-- What the body leaves in the output block is the four stretches. -/
theorem out_eq (i : grid0.Coords) (x0 : Vec F S256x512 .bf16) (x1 x2 : Vec F S1x256x128 .bf16) (x3 : Vec F S256x128 .f32)
    (x4 : Vec F S256x128 .f32) : out0_5 i x0 x1 x2 x3 x4 = View.canon (pieces i x0 x1 x2 x3) := rfl

end

/-- The value of the output block at an element, from the blocks of queries, keys, values and gates. -/
def val (i : grid0.Coords) (x0 : Vec Ideal S256x512 .bf16) (x1 x2 : Vec Ideal S1x256x128 .bf16)
    (x3 : Vec Ideal S256x128 .f32) (r : Fin 256) (e : Fin 512) : EReal :=
  (∑ x : Fin 256, CmpMath.kProb (fun c : Fin 256 =>
      if 16 * c.val + 31 ≤ (i 1).val * 256 + r.val then
        ∑ k : Fin 128, x0 (ix2 r (⟨e.val / 128 * 128 + k.val, by omega⟩ : Fin 512)) * x1 (ix3 0 c k) else ⊥) x
      * x2 (ix3 0 x (⟨e.val % 128, by omega⟩ : Fin 128)))
    * Ideal.div 1 (1 + Ideal.exp (0 - x3 (ix2 r (⟨((i 0).val % 2 * 4 + e.val / 128) * 3, by omega⟩ : Fin 128))))

/-- The group word holds the group. -/
theorem lane_eq (i : grid0.Coords) (h : ℕ) (hh : h < 4) :
    lane (groupWord i) (BitVec.ofNat 32 h) = BitVec.ofNat 32 (((i 0).val % 2 * 4 + h) * 3) := by
  have hi : (i 0).val < 8 := (i 0).isLt
  unfold groupWord
  generalize (i 0).val = a at hi ⊢
  interval_cases a <;> interval_cases h <;> decide

/-- A head's stretch at an element is the block's value there. -/
theorem headOf_apply (i : grid0.Coords) (h : ℕ) (hh : h < 4) (q : Vec Ideal S256x128 .bf16)
    (x0 : Vec Ideal S256x512 .bf16) (x1 x2 : Vec Ideal S1x256x128 .bf16) (x3 : Vec Ideal S256x128 .f32)
    (hq : ∀ (r : Fin 256) (k : Fin 128), q (ix2 r k) = x0 (ix2 r (⟨h * 128 + k.val, by omega⟩ : Fin 512)))
    (r : Fin 256) (d : Fin 128) :
    headOf i (BitVec.ofNat 32 h) q x1 x2 x3 (ix2 r d) = val i x0 x1 x2 x3 r (⟨h * 128 + d.val, by omega⟩ : Fin 512) := by
  have e1 : (h * 128 + d.val) / 128 = h := by omega
  have e2 : (⟨(h * 128 + d.val) % 128, by omega⟩ : Fin 128) = d := Fin.ext (by show (h * 128 + d.val) % 128 = _; omega)
  have hz3 : (![0, 0, 0] : Fin 3 → ℕ) = fun _ => 0 := funext fun a => by fin_cases a <;> rfl
  have hz2 : (![0, 0] : Fin 2 → ℕ) = fun _ => 0 := funext fun a => by fin_cases a <;> rfl
  have l1 : ∀ x : Vec Ideal S1x256x128 .bf16,
      View.ld x (Rect.unit ![0, 0, 0] ![1, 256, 128] inb_S1x256x128_S1x256x128_0_0_0) = x :=
    fun x => View.ld_unit_zero (S := S1x256x128) hz3 _ x
  have l3 : View.ld x3 (Rect.unit ![0, 0] ![256, 128] inb_S256x128_S256x128_0_0) = x3 :=
    View.ld_unit_zero (S := S256x128) hz2 _ x3
  unfold headOf val
  rw [l1, l1, l3, head_apply, pick _ _ (⟨((i 0).val % 2 * 4 + h) * 3, by omega⟩ : Fin 128) (lane_eq i h hh)]
  simp only [e1, e2]
  simp only [probs_apply, scores_apply, hq]

/-- The output block at an element. -/
theorem canon_apply (i : grid0.Coords) (x0 : Vec Ideal S256x512 .bf16) (x1 x2 : Vec Ideal S1x256x128 .bf16)
    (x3 : Vec Ideal S256x128 .f32) (y : S256x512.Idx) (hy : ∃ p ∈ pieces i x0 x1 x2 x3, y ∈ p.1.set) :
    View.canon (pieces i x0 x1 x2 x3) y = val i x0 x1 x2 x3 (y 0) (y 1) := by
  refine View.canon_apply_of_pieces (fun y => val i x0 x1 x2 x3 (y 0) (y 1)) _ (fun p hp x => ?_) y hy
  have key : ∀ (h : ℕ) (hh : h < 4) (inb : ∀ a, (![0, h * 128] : Fin 2 → ℕ) a + (![256, 128] : Fin 2 → ℕ) a ≤ S256x512.size a)
      (x : (Rect.unit (s := S256x512) ![0, h * 128] ![256, 128] inb).shape.Idx),
      headOf i (BitVec.ofNat 32 h) (View.ld x0 (Rect.unit ![0, h * 128] ![256, 128] inb)) x1 x2 x3 x
        = val i x0 x1 x2 x3 (((Rect.unit (s := S256x512) ![0, h * 128] ![256, 128] inb).emb x) 0)
            (((Rect.unit (s := S256x512) ![0, h * 128] ![256, 128] inb).emb x) 1) := by
    intro h hh inb x
    have hx : x = ix2 (x 0 : Fin 256) (x 1 : Fin 128) := eq_ix2 x
    rw [hx]
    refine (headOf_apply i h hh _ x0 x1 x2 x3 (fun r k => ?_) _ _).trans ?_
    · refine View.ld_unit_apply_of x0 _ _ inb _ _ fun a => ?_
      match a with
      | ⟨0, _⟩ => show r.val = 0 + r.val; omega
      | ⟨1, _⟩ => rfl
    · congr 1
      · exact Fin.ext (show (x 0).val = 0 + 1 * (x 0).val by omega)
      · exact Fin.ext (show h * 128 + (x 1).val = h * 128 + 1 * (x 1).val by omega)
  simp only [pieces, List.mem_cons, List.not_mem_nil, or_false] at hp
  rcases hp with rfl | rfl | rfl | rfl
  · exact key 3 (by omega) inb_S256x512_S256x128_0_384 x
  · exact key 2 (by omega) inb_S256x512_S256x128_0_256 x
  · exact key 1 (by omega) inb_S256x512_S256x128_0_128 x
  · exact key 0 (by omega) inb_S256x512_S256x128_0_0 x

/-- The four stretches cover the output block. -/
theorem cover (i : grid0.Coords) (x0 : Vec Ideal S256x512 .bf16) (x1 x2 : Vec Ideal S1x256x128 .bf16)
    (x3 : Vec Ideal S256x128 .f32) (y : S256x512.Idx) : ∃ p ∈ pieces i x0 x1 x2 x3, y ∈ p.1.set :=
  View.cover_of_tiledL (pieces i x0 x1 x2 x3) S256x128.size (by sl_kernel_rfl) y

end Cert.CmpBlock
-- ==== Proof.CmpFinal.lean ====
module

public import proofs.«01_k».proof.Proof.CmpBlock

@[expose] public section

/-! The array of gated head outputs after the kernel's run, element by element, as a function of the arguments. -/

set_option maxRecDepth 16384

noncomputable section

open Idealize.ShloMosaic Idealize.ShloMosaic.TcCoe Idealize.SL.Sem
open Idealize.ShloMosaic.Pipeline (Dat)

namespace Cert.CmpFinal

open Cert.CmpIdeal Cert.CmpIdeal.Gen

theorem idx5 : ∀ t : Fin cfg0.N, win0_5.index t 0 = t.val / 32 * 16 + t.val % 16 ∧ win0_5.index t 1 = t.val / 16 % 2 :=
  (by decide +kernel : ∀ t : Fin grid0.N, win0_5.index t 0 = t.val / 32 * 16 + t.val % 16 ∧ win0_5.index t 1 = t.val / 16 % 2)
theorem idx0 : ∀ t : Fin cfg0.N, win0_0.index t 0 = t.val / 32 * 16 + t.val % 16 ∧ win0_0.index t 1 = t.val / 16 % 2 :=
  (by decide +kernel : ∀ t : Fin grid0.N, win0_0.index t 0 = t.val / 32 * 16 + t.val % 16 ∧ win0_0.index t 1 = t.val / 16 % 2)
theorem idx1 : ∀ t : Fin cfg0.N, win0_1.index t 0 = t.val / 16 ∧ win0_1.index t 1 = 0 ∧ win0_1.index t 2 = 0 :=
  (by decide +kernel : ∀ t : Fin grid0.N, win0_1.index t 0 = t.val / 16 ∧ win0_1.index t 1 = 0 ∧ win0_1.index t 2 = 0)
theorem idx2 : ∀ t : Fin cfg0.N, win0_2.index t 0 = t.val / 16 ∧ win0_2.index t 1 = 0 ∧ win0_2.index t 2 = 0 :=
  (by decide +kernel : ∀ t : Fin grid0.N, win0_2.index t 0 = t.val / 16 ∧ win0_2.index t 1 = 0 ∧ win0_2.index t 2 = 0)
theorem idx3 : ∀ t : Fin cfg0.N, win0_3.index t 0 = t.val / 32 * 16 + t.val % 16 ∧ win0_3.index t 1 = 0 :=
  (by decide +kernel : ∀ t : Fin grid0.N, win0_3.index t 0 = t.val / 32 * 16 + t.val % 16 ∧ win0_3.index t 1 = 0)
theorem coords : ∀ t : Fin cfg0.N, (grid0.coords t 0).val = t.val / 16 ∧ (grid0.coords t 1).val = t.val % 16 :=
  (by decide +kernel : ∀ t : Fin grid0.N, (grid0.coords t 0).val = t.val / 16 ∧ (grid0.coords t 1).val = t.val % 16)

variable (m : (ℓ : Loc nD τ sig) → Buf (Elt Ideal) ℓ) (ρ : Dev nD → PrngReg)

/-- What a grid point leaves in its output block, at an element. -/
theorem after_apply (c : Dev nD) (t : Fin cfg0.N) (y : S256x512.Idx) :
    out0_5 (grid0.coords t) (iblk m c 0 t) (iblk m c 1 t) (iblk m c 2 t) (iblk m c 3 t) (iblk m c 4 t) y
      = CmpBlock.val (grid0.coords t) (iblk m c 0 t) (iblk m c 1 t) (iblk m c 2 t) (iblk m c 3 t) (y 0) (y 1) := by
  rw [CmpBlock.out_eq]
  exact CmpBlock.canon_apply _ _ _ _ _ _ (CmpBlock.cover _ _ _ _ _ _)

/-- The kernel's result at token `n` and lane `e`, from the arguments. -/
def out (x0 : S16384x6656.Idx → EReal) (x1 x2 : S8x256x128.Idx → EReal) (x3 : S16384x128.Idx → EReal)
    (n : Fin 16384) (e : Fin 1024) : EReal :=
  (∑ x : Fin 256, CmpMath.kProb (fun c : Fin 256 =>
      if 16 * c.val + 31 ≤ n.val % 4096 then
        ∑ k : Fin 128, x0 (ix2 n (⟨e.val / 128 * 128 + k.val, by omega⟩ : Fin 6656))
          * x1 (ix3 (⟨n.val / 4096 * 2 + e.val / 512, by omega⟩ : Fin 8) c k) else ⊥) x
      * x2 (ix3 (⟨n.val / 4096 * 2 + e.val / 512, by omega⟩ : Fin 8) x (⟨e.val % 128, by omega⟩ : Fin 128)))
    * Ideal.div 1 (1 + Ideal.exp (0 - x3 (ix2 n (⟨(e.val / 512 * 4 + e.val / 128 % 4) * 3, by omega⟩ : Fin 128))))

/-- The result array. -/
def result (c : Dev nD) : S16384x1024.Idx → EReal := fun i =>
  out (m ((c : Thread nD τ).loc main_arg0)) (m ((c : Thread nD τ).loc main_arg1)) (m ((c : Thread nD τ).loc main_arg2))
    (m ((c : Thread nD τ).loc main_arg3)) (i 0) (i 1)

/-- The point's block of projections, read in the array. -/
theorem iblk0 (c : Dev nD) (t : Fin cfg0.N) (r : Fin 256) (k : Fin 512) (n : Fin 16384) (j : Fin 6656)
    (hn : n.val = (t.val / 32 * 16 + t.val % 16) * 256 + r.val) (hj : j.val = t.val / 16 % 2 * 512 + k.val) :
    (iblk m c 0 t : S256x512.Idx → EReal) (ix2 r k) = (m ((c : Thread nD τ).loc main_arg0) : S16384x6656.Idx → EReal) (ix2 n j) := by
  obtain ⟨h0, h1⟩ := idx0 t
  unfold iblk
  rw [View.read_apply]
  show V m c main_arg0 _ = _
  unfold V
  show m (c.tc.loc main_arg0) _ = m (c.tc.loc main_arg0) _
  congr 1
  funext a
  apply Fin.ext
  match a with
  | ⟨0, _⟩ => show win0_0.index t 0 * 256 + 1 * r.val = n.val; rw [h0]; omega
  | ⟨1, _⟩ => show win0_0.index t 1 * 512 + 1 * k.val = j.val; rw [h1]; omega

/-- The point's block of keys, read in the array. -/
theorem iblk1 (c : Dev nD) (t : Fin cfg0.N) (x : Fin 256) (k : Fin 128) (b : Fin 8) (hb : b.val = t.val / 16) :
    (iblk m c 1 t : S1x256x128.Idx → EReal) (ix3 0 x k) = (m ((c : Thread nD τ).loc main_arg1) : S8x256x128.Idx → EReal) (ix3 b x k) := by
  obtain ⟨h0, h1, h2⟩ := idx1 t
  unfold iblk
  rw [View.read_apply]
  show V m c main_arg1 _ = _
  unfold V
  show m (c.tc.loc main_arg1) _ = m (c.tc.loc main_arg1) _
  congr 1
  funext a
  apply Fin.ext
  match a with
  | ⟨0, _⟩ => show win0_1.index t 0 * 1 + 1 * 0 = b.val; rw [h0]; omega
  | ⟨1, _⟩ => show win0_1.index t 1 * 256 + 1 * x.val = x.val; rw [h1]; omega
  | ⟨2, _⟩ => show win0_1.index t 2 * 128 + 1 * k.val = k.val; rw [h2]; omega

/-- The point's block of values, read in the array. -/
theorem iblk2 (c : Dev nD) (t : Fin cfg0.N) (x : Fin 256) (k : Fin 128) (b : Fin 8) (hb : b.val = t.val / 16) :
    (iblk m c 2 t : S1x256x128.Idx → EReal) (ix3 0 x k) = (m ((c : Thread nD τ).loc main_arg2) : S8x256x128.Idx → EReal) (ix3 b x k) := by
  obtain ⟨h0, h1, h2⟩ := idx2 t
  unfold iblk
  rw [View.read_apply]
  show V m c main_arg2 _ = _
  unfold V
  show m (c.tc.loc main_arg2) _ = m (c.tc.loc main_arg2) _
  congr 1
  funext a
  apply Fin.ext
  match a with
  | ⟨0, _⟩ => show win0_2.index t 0 * 1 + 1 * 0 = b.val; rw [h0]; omega
  | ⟨1, _⟩ => show win0_2.index t 1 * 256 + 1 * x.val = x.val; rw [h1]; omega
  | ⟨2, _⟩ => show win0_2.index t 2 * 128 + 1 * k.val = k.val; rw [h2]; omega

/-- The point's block of gates, read in the array. -/
theorem iblk3 (c : Dev nD) (t : Fin cfg0.N) (r : Fin 256) (k : Fin 128) (n : Fin 16384)
    (hn : n.val = (t.val / 32 * 16 + t.val % 16) * 256 + r.val) :
    (iblk m c 3 t : S256x128.Idx → EReal) (ix2 r k) = (m ((c : Thread nD τ).loc main_arg3) : S16384x128.Idx → EReal) (ix2 n k) := by
  obtain ⟨h0, h1⟩ := idx3 t
  unfold iblk
  rw [View.read_apply]
  show V m c main_arg3 _ = _
  unfold V
  show m (c.tc.loc main_arg3) _ = m (c.tc.loc main_arg3) _
  congr 1
  funext a
  apply Fin.ext
  match a with
  | ⟨0, _⟩ => show win0_3.index t 0 * 256 + 1 * r.val = n.val; rw [h0]; omega
  | ⟨1, _⟩ => show win0_3.index t 1 * 128 + 1 * k.val = k.val; rw [h1]; omega

/-- The form of a block's value and the form of the result agree where their parts do. -/
theorem val_out (i : grid0.Coords) (b0 : S256x512.Idx → EReal) (b1 b2 : S1x256x128.Idx → EReal) (b3 : S256x128.Idx → EReal)
    (r : Fin 256) (e : Fin 512) (x0 : S16384x6656.Idx → EReal) (x1 x2 : S8x256x128.Idx → EReal) (x3 : S16384x128.Idx → EReal)
    (n : Fin 16384) (j : Fin 1024)
    (h0 : ∀ k : Fin 128, b0 (ix2 r (⟨e.val / 128 * 128 + k.val, by omega⟩ : Fin 512))
      = x0 (ix2 n (⟨j.val / 128 * 128 + k.val, by omega⟩ : Fin 6656)))
    (h1 : ∀ (x : Fin 256) (k : Fin 128), b1 (ix3 0 x k) = x1 (ix3 (⟨n.val / 4096 * 2 + j.val / 512, by omega⟩ : Fin 8) x k))
    (h2 : ∀ x : Fin 256, b2 (ix3 0 x (⟨e.val % 128, by omega⟩ : Fin 128))
      = x2 (ix3 (⟨n.val / 4096 * 2 + j.val / 512, by omega⟩ : Fin 8) x (⟨j.val % 128, by omega⟩ : Fin 128)))
    (h3 : b3 (ix2 r (⟨((i 0).val % 2 * 4 + e.val / 128) * 3, by omega⟩ : Fin 128))
      = x3 (ix2 n (⟨(j.val / 512 * 4 + j.val / 128 % 4) * 3, by omega⟩ : Fin 128)))
    (hs : (i 1).val * 256 + r.val = n.val % 4096) :
    CmpBlock.val i b0 b1 b2 b3 r e = out x0 x1 x2 x3 n j := by
  unfold CmpBlock.val out
  simp only [h0, h1, h2, h3, hs]

/-- A block's value at an element is the result's value at the element's place in the array. -/
theorem val_eq (c : Dev nD) (t : Fin cfg0.N) (r : Fin 256) (e : Fin 512) (n : Fin 16384) (j : Fin 1024)
    (hn : n.val = (t.val / 32 * 16 + t.val % 16) * 256 + r.val) (hj : j.val = t.val / 16 % 2 * 512 + e.val) :
    CmpBlock.val (grid0.coords t) (iblk m c 0 t) (iblk m c 1 t) (iblk m c 2 t) (iblk m c 3 t) r e
      = out (m ((c : Thread nD τ).loc main_arg0)) (m ((c : Thread nD τ).loc main_arg1)) (m ((c : Thread nD τ).loc main_arg2))
          (m ((c : Thread nD τ).loc main_arg3)) n j := by
  obtain ⟨c0, c1⟩ := coords t
  have ht : t.val < 128 := t.isLt
  have a0 : n.val / 4096 * 2 + j.val / 512 = t.val / 16 := by omega
  refine val_out _ _ _ _ _ _ _ _ _ _ _ _ _ (fun k => ?_) (fun x k => ?_) (fun x => ?_) ?_ ?_
  · exact iblk0 m c t r _ n _ hn (by
      show j.val / 128 * 128 + k.val = t.val / 16 % 2 * 512 + (e.val / 128 * 128 + k.val); omega)
  · exact iblk1 m c t x k _ a0
  · have a2 : (⟨e.val % 128, by omega⟩ : Fin 128) = ⟨j.val % 128, by omega⟩ := Fin.ext (by show e.val % 128 = j.val % 128; omega)
    rw [a2]
    exact iblk2 m c t x _ _ a0
  · have a3 : (⟨((grid0.coords t 0).val % 2 * 4 + e.val / 128) * 3, by omega⟩ : Fin 128)
        = ⟨(j.val / 512 * 4 + j.val / 128 % 4) * 3, by omega⟩ :=
      Fin.ext (by show ((grid0.coords t 0).val % 2 * 4 + e.val / 128) * 3 = _; rw [c0]; show _ = (j.val / 512 * 4 + j.val / 128 % 4) * 3; omega)
    rw [a3]
    exact iblk3 m c t r _ n hn
  · rw [c1]; omega

/-- The array of gated head outputs after the run. -/
theorem final5 (c : Dev nD) : (dats m 0 c).arrAt 5 cfg0.N = result m c := by
  refine (dats m 0 c).arrAt_eq_of_covers 5 _ (by decide +kernel) fun t hf y => ?_
  blk_simp
  rw [after0_5, after_apply]
  obtain ⟨h0, h1⟩ := idx5 t
  refine val_eq m c t _ _ _ _ ?_ ?_
  · show win0_5.index t 0 * 256 + 1 * (y 0).val = _; rw [h0]; omega
  · show win0_5.index t 1 * 512 + 1 * (y 1).val = _; rw [h1]; omega

end Cert.CmpFinal
-- ==== Proof.CmpRefScores.lean ====
module

public import proofs.«01_k».proof.Proof.Gen.CmpRefIdeal.Run
public import proofs.«01_k».proof.Proof.Gen.CmpRefIdeal.Read
public import Idealize.ShloMosaic.Lib.Pointwise
public import proofs.«01_k».proof.Proof.CmpMath

@[expose] public section

/-! The reference's masked scores, read at an element. -/

set_option maxRecDepth 16384

noncomputable section

open Idealize.ShloMosaic Idealize.ShloMosaic.TcCoe

namespace Cert.CmpRefScores

open Cert.CmpRefIdeal Cert.CmpRefIdeal.Gen Cert.CmpRefIdeal.Read

variable (x0 : (⟨S16384x6656, .bf16⟩ : BufTy).Contents (Elt Ideal)) (x1 x2 : (⟨S8x256x128, .bf16⟩ : BufTy).Contents (Elt Ideal))
  (x3 : (⟨S16384x128, .f32⟩ : BufTy).Contents (Elt Ideal))

/-- The reference's masked scores at an element. -/
theorem scores_apply (b : Fin 4) (g : Fin 2) (h : Fin 4) (s : Fin 4096) (c : Fin 255) :
    val_main_v27 (F := Ideal) x0 x1 (ix5 b g h s c)
      = if 16 * c.val + 31 ≤ s.val then
          (∑ x : Fin 128, x1 (ix3 (⟨b.val * 2 + g.val, by omega⟩ : Fin 8) (⟨c.val, by omega⟩ : Fin 256) x)
            * x0 (ix2 (⟨b.val * 4096 + s.val, by omega⟩ : Fin 16384)
                (⟨g.val * 512 + h.val * 128 + x.val, by omega⟩ : Fin 6656))) * ((Real.log 2 : ℝ) : EReal)
        else ⊥ := by
  pointwise [val_main_v27, val_main_call0_v2, val_main_call0_v1, val_main_call0_v0, val_main_cst_2, val_main_v26,
    val_main_v25, val_main_v24, val_main_cst, val_main_v23, val_main_v22, val_main_v21, val_main_v20, val_main_v19,
    val_main_v18, val_main_v17, val_main_v16, val_main_v15, val_main_c_1, val_main_v14, val_main_v13, val_main_c_0,
    val_main_v12, val_main_v11, val_main_c, val_main_v10, val_main_v9, val_main_v5, val_main_v4, val_main_v3,
    val_main_v2, val_main_v1, val_main_v0]
  rw [CmpMath.logTwo]
  refine (CmpMath.select_sle _ _ (16 * c.val + 31 ≤ s.val) ?_ _ _).trans ?_
  · have hs := s.isLt
    have hc := c.isLt
    have e1 : (IntOp.subi (IntOp.addi (IntOp.muli (BitVec.ofNat 32 c.val) 16#32) 32#32) 1#32).toNat
        = 16 * c.val + 31 := by
      simp only [IntOp.addi, IntOp.subi, IntOp.muli, BitVec.toNat_sub, BitVec.toNat_add, BitVec.toNat_mul, BitVec.toNat_ofNat]
      omega
    have e2 : (BitVec.ofNat 32 s.val).toNat = s.val := by
      simp only [BitVec.toNat_ofNat]
      omega
    rw [BitVec.toInt_eq_toNat_of_lt (by omega), BitVec.toInt_eq_toNat_of_lt (by omega), e1, e2]
    omega
  · rw [← CmpMath.negInf]
    rfl

end Cert.CmpRefScores
-- ==== Proof.CmpRefProbs.lean ====
module

public import proofs.«01_k».proof.Proof.Gen.CmpRefIdeal.Run
public import proofs.«01_k».proof.Proof.Gen.CmpRefIdeal.Read
public import Idealize.ShloMosaic.Lib.Pointwise
public import proofs.«01_k».proof.Proof.CmpMath

@[expose] public section

/-! The reference's softmax read at an element, from its masked scores. -/

set_option maxRecDepth 16384

noncomputable section

open Idealize.ShloMosaic Idealize.ShloMosaic.TcCoe

namespace Cert.CmpRefProbs

open Cert.CmpRefIdeal Cert.CmpRefIdeal.Gen Cert.CmpRefIdeal.Read

variable (x0 : (⟨S16384x6656, .bf16⟩ : BufTy).Contents (Elt Ideal)) (x1 x2 : (⟨S8x256x128, .bf16⟩ : BufTy).Contents (Elt Ideal))
  (x3 : (⟨S16384x128, .f32⟩ : BufTy).Contents (Elt Ideal))

/-- The row maxima of the reference. -/
theorem max_apply (b : Fin 4) (g : Fin 2) (h : Fin 4) (s : Fin 4096) :
    val_main_v28 (F := Ideal) x0 x1 (ix4 b g h s)
      = CmpMath.rowMax fun c : Fin 255 => val_main_v27 (F := Ideal) x0 x1 (ix5 b g h s c) := by
  unfold val_main_v28 val_main_cst_3
  generalize val_main_v27 (F := Ideal) x0 x1 = y
  pointwise
  rw [CmpMath.negInf]
  rfl

/-- The choice that guards the shift, at an element. -/
theorem guard_apply (y u w : FVec Ideal S4x2x4x4096x1 .f32) (i : S4x2x4x4096x1.Idx) (h1 : u i = ⊤) (h2 : w i = 0) :
    select (cmpf .olt (Host.absf y) u) y w i = if max (y i) (-y i) < ⊤ then y i else 0 := by
  rw [← h1, ← h2]
  pointwise
  rfl

/-- The shift of the reference's rows. -/
theorem shift_apply (b : Fin 4) (g : Fin 2) (h : Fin 4) (s : Fin 4096) :
    val_main_v33 (F := Ideal) x0 x1 (ix5 b g h s 0)
      = CmpMath.rShift fun c : Fin 255 => val_main_v27 (F := Ideal) x0 x1 (ix5 b g h s c) := by
  have e : val_main_v29 (F := Ideal) x0 x1 (ix5 b g h s 0) = val_main_v28 (F := Ideal) x0 x1 (ix4 b g h s) := by
    unfold val_main_v29
    generalize val_main_v28 (F := Ideal) x0 x1 = y
    pointwise
  rw [max_apply] at e
  unfold CmpMath.rShift
  rw [← e]
  exact guard_apply _ _ _ _ (by rw [val_main_v31_apply, val_main_cst_4_apply]; exact CmpMath.posInf)
    (by rw [val_main_call1_v1_apply, val_main_call1_v0_apply, val_main_cst_5_apply]; exact Ideal.ofBits_zero_f32)

/-- The shifted exponentials of the reference. -/
theorem exp_apply (b : Fin 4) (g : Fin 2) (h : Fin 4) (s : Fin 4096) (c : Fin 255) :
    val_main_v36 (F := Ideal) x0 x1 (ix5 b g h s c)
      = Ideal.exp (val_main_v27 (F := Ideal) x0 x1 (ix5 b g h s c)
          - CmpMath.rShift fun c : Fin 255 => val_main_v27 (F := Ideal) x0 x1 (ix5 b g h s c)) := by
  rw [← shift_apply]
  unfold val_main_v36 val_main_v35 val_main_v34
  generalize val_main_v27 (F := Ideal) x0 x1 = y
  generalize val_main_v33 (F := Ideal) x0 x1 = z
  pointwise

/-- The floored sums of the reference. -/
theorem sum_apply (b : Fin 4) (g : Fin 2) (h : Fin 4) (s : Fin 4096) :
    val_main_v40 (F := Ideal) x0 x1 (ix5 b g h s 0)
      = max (∑ c : Fin 255, val_main_v36 (F := Ideal) x0 x1 (ix5 b g h s c)) CmpMath.eps := by
  unfold val_main_v40 val_main_v38 val_main_v37
  generalize val_main_v36 (F := Ideal) x0 x1 = y
  pointwise [val_main_v39, val_main_cst_7, val_main_cst_6]

/-- The reference's softmax at an element. -/
theorem probs_apply (b : Fin 4) (g : Fin 2) (h : Fin 4) (s : Fin 4096) (c : Fin 255) :
    val_main_v42 (F := Ideal) x0 x1 (ix5 b g h s c)
      = CmpMath.rProb (fun c : Fin 255 => val_main_v27 (F := Ideal) x0 x1 (ix5 b g h s c)) c := by
  have e : val_main_v42 (F := Ideal) x0 x1 (ix5 b g h s c)
      = Ideal.div (val_main_v36 (F := Ideal) x0 x1 (ix5 b g h s c)) (val_main_v40 (F := Ideal) x0 x1 (ix5 b g h s 0)) := by
    unfold val_main_v42 val_main_v41
    generalize val_main_v36 (F := Ideal) x0 x1 = y
    generalize val_main_v40 (F := Ideal) x0 x1 = z
    pointwise
  rw [e, sum_apply]
  simp only [exp_apply]
  rfl

end Cert.CmpRefProbs
-- ==== Proof.CmpRefOut.lean ====
module

public import proofs.«01_k».proof.Proof.Gen.CmpRefIdeal.Run
public import proofs.«01_k».proof.Proof.Gen.CmpRefIdeal.Read
public import Idealize.ShloMosaic.Lib.Pointwise
public import proofs.«01_k».proof.Proof.CmpMath

@[expose] public section

/-! The reference's result read at an element, from its softmax. -/

set_option maxRecDepth 16384

noncomputable section

open Idealize.ShloMosaic Idealize.ShloMosaic.TcCoe

namespace Cert.CmpRefOut

open Cert.CmpRefIdeal Cert.CmpRefIdeal.Gen Cert.CmpRefIdeal.Read

variable (x0 : (⟨S16384x6656, .bf16⟩ : BufTy).Contents (Elt Ideal)) (x1 x2 : (⟨S8x256x128, .bf16⟩ : BufTy).Contents (Elt Ideal))
  (x3 : (⟨S16384x128, .f32⟩ : BufTy).Contents (Elt Ideal))

/-- The reference's result at an element: the logistic of the head's first gate times the softmax against the values. -/
theorem out_apply (n : Fin 16384) (e : Fin 1024) :
    val_main_v56 (F := Ideal) x0 x1 x2 x3 (ix2 n e)
      = Ideal.div 1 (1 + Ideal.exp (-x3 (ix2 n (⟨e.val / 512 * 12 + e.val / 128 % 4 * 3, by omega⟩ : Fin 128)))) *
      ∑ x : Fin 255,
        x2 (ix3 (⟨n.val / 4096 * 2 + e.val / 512, by omega⟩ : Fin 8) (⟨x.val, by omega⟩ : Fin 256) (⟨e.val % 128, by omega⟩ : Fin 128)) *
          val_main_v42 (F := Ideal) x0 x1 (ix5 (⟨n.val / 4096, by omega⟩ : Fin 4) (⟨e.val / 512, by omega⟩ : Fin 2)
            (⟨e.val / 128 % 4, by omega⟩ : Fin 4) (⟨n.val % 4096, by omega⟩ : Fin 4096) x) := by
  pointwise [val_main_v56, val_main_v55, val_main_v54, val_main_v53, val_main_v52, val_main_v51,
    val_main_v50, val_main_cst_9, val_main_v49, val_main_v48, val_main_cst_8, val_main_v47, val_main_v46,
    val_main_v45, val_main_v44, val_main_v43, val_main_v8, val_main_v7, val_main_v6]

end Cert.CmpRefOut
-- ==== Proof.CmpValue.lean ====
module

public import proofs.«01_k».proof.Proof.CmpFinal
public import proofs.«01_k».proof.Proof.CmpRefScores
public import proofs.«01_k».proof.Proof.CmpRefProbs
public import proofs.«01_k».proof.Proof.CmpRefOut

@[expose] public section

/-! Where the queries and the keys are finite, the kernel's result is the reference's. -/

set_option maxRecDepth 16384

noncomputable section

open Idealize.ShloMosaic Idealize.ShloMosaic.TcCoe Idealize.SL.Sem

namespace Cert.CmpValue

open Cert.CmpRefIdeal Cert.CmpRefIdeal.Read

/-- The two forms of the gated attention, over any query, keys, values and gate word: the base-two softmax over 256 columns of
which the last is never visible, and the natural softmax over the first 255. -/
theorem forms (q : Fin 128 → EReal) (K : Fin 256 → Fin 128 → EReal) (V : Fin 256 → EReal) (g : EReal) (s : ℕ) (hs : s < 4096)
    (hq : ∀ k, ∃ r : ℝ, q k = r) (hK : ∀ c k, ∃ r : ℝ, K c k = r) :
    (∑ x : Fin 256, CmpMath.kProb (fun c : Fin 256 => if 16 * c.val + 31 ≤ s then ∑ k : Fin 128, q k * K c k else ⊥) x * V x)
        * Ideal.div 1 (1 + Ideal.exp (0 - g))
      = Ideal.div 1 (1 + Ideal.exp (-g)) * ∑ x : Fin 255, V x.castSucc * CmpMath.rProb (fun c : Fin 255 =>
          if 16 * c.val + 31 ≤ s then (∑ k : Fin 128, K c.castSucc k * q k) * (Real.log 2 : ℝ) else ⊥) x := by
  have hr : ∀ c : Fin 256, ∃ r : ℝ, ∑ k : Fin 128, q k * K c k = r := fun c => CmpMath.sum_real _ _ hq (hK c)
  choose a ha using hr
  rw [zero_sub, mul_comm]
  congr 1
  simp only [ha]
  rw [CmpMath.sum_prob a (fun c : Fin 256 => 16 * c.val + 31 ≤ s) (by show ¬ (16 * 255 + 31 ≤ s); omega) _ (fun c => rfl)
    (fun c : Fin 255 => if 16 * c.val + 31 ≤ s then (∑ k : Fin 128, K c.castSucc k * q k) * (Real.log 2 : ℝ) else ⊥)
    (fun c => ?_) V]
  · exact Finset.sum_congr rfl fun x _ => mul_comm _ _
  · have : ∑ k : Fin 128, K c.castSucc k * q k = a c.castSucc := by
      rw [← ha]; exact Finset.sum_congr rfl fun x _ => mul_comm _ _
    rw [this]
    rfl

/-- The kernel's value is the reference's, element by element. -/
theorem out_eq (x0 : S16384x6656.Idx → EReal) (x1 x2 : S8x256x128.Idx → EReal) (x3 : S16384x128.Idx → EReal)
    (h0 : ∀ (n : Fin 16384) (k : Fin 1024), ∃ r : ℝ, x0 (ix2 n (⟨k.val, by omega⟩ : Fin 6656)) = r)
    (h1 : ∀ i, ∃ r : ℝ, x1 i = r) (n : Fin 16384) (e : Fin 1024) :
    CmpFinal.out x0 x1 x2 x3 n e = (val_main_v56 (F := Ideal) x0 x1 x2 x3 : S16384x1024.Idx → EReal) (ix2 n e) := by
  rw [CmpRefOut.out_apply]
  simp only [CmpRefProbs.probs_apply, CmpRefScores.scores_apply]
  unfold CmpFinal.out
  refine (forms (fun k => x0 (ix2 n (⟨e.val / 128 * 128 + k.val, by omega⟩ : Fin 6656)))
    (fun c k => x1 (ix3 (⟨n.val / 4096 * 2 + e.val / 512, by omega⟩ : Fin 8) c k))
    (fun x => x2 (ix3 (⟨n.val / 4096 * 2 + e.val / 512, by omega⟩ : Fin 8) x (⟨e.val % 128, by omega⟩ : Fin 128))) _ (n.val % 4096)
    (Nat.mod_lt _ (by norm_num)) (fun k => h0 n ⟨e.val / 128 * 128 + k.val, by omega⟩) (fun c k => h1 _)).trans ?_
  have e0 : ∀ x : Fin 128, (⟨e.val / 512 * 512 + e.val / 128 % 4 * 128 + x.val, by omega⟩ : Fin 6656)
      = ⟨e.val / 128 * 128 + x.val, by omega⟩ := fun x => Fin.ext (by
        show e.val / 512 * 512 + e.val / 128 % 4 * 128 + x.val = e.val / 128 * 128 + x.val; omega)
  have e1 : (⟨n.val / 4096 * 4096 + n.val % 4096, by omega⟩ : Fin 16384) = n := Fin.ext (by
        show n.val / 4096 * 4096 + n.val % 4096 = n.val; omega)
  have e2 : (⟨(e.val / 512 * 4 + e.val / 128 % 4) * 3, by omega⟩ : Fin 128)
      = ⟨e.val / 512 * 12 + e.val / 128 % 4 * 3, by omega⟩ := Fin.ext (by
        show (e.val / 512 * 4 + e.val / 128 % 4) * 3 = e.val / 512 * 12 + e.val / 128 % 4 * 3; omega)
  simp only [e0, e1, e2]
  rfl

end Cert.CmpValue
-- ==== Proof.CmpPre.lean ====
module

public import proofs.«01_k».proof.Proof.CmpMath
public import proofs.«01_k».proof.Pre_finite_qk
public import Idealize.ShloMosaic.Lib.Pointwise

@[expose] public section

/-! The precondition, read: queries and keys are real numbers. -/

set_option maxRecDepth 16384

noncomputable section

open Idealize.ShloMosaic

namespace Cert.CmpPre

open Cert.Pre_finite_qk

/-- A comparison with plus infinity that holds says that the number is real. -/
theorem real_of_cmp (x : EReal) (h : BitVec.ofBool (decide (max x (-x) < Ideal.ofBits .f32 0x7F800000#32)) = 1#1) :
    ∃ r : ℝ, x = r := by
  refine CmpMath.real_of_abs x ?_
  rw [CmpMath.posInf] at h
  by_contra hn
  rw [decide_eq_false hn] at h
  exact absurd h (by decide)

variable [Facts] (x0 : Vec Ideal S16384x6656 .bf16) (x1 x2 : Vec Ideal S8x256x128 .bf16) (x3 : Vec Ideal S16384x128 .f32)

/-- The queries are real. -/
theorem queries (h : (fn (F := Ideal) x0 x1 x2 x3).1 = fun _ => 1#1) (n : Fin 16384) (k : Fin 1024) :
    ∃ r : ℝ, (x0 : S16384x6656.Idx → EReal) (ix2 n (⟨k.val, by omega⟩ : Fin 6656)) = r := by
  have h' := congrFun h (ix2 n k)
  refine real_of_cmp _ (Eq.trans ?_ h')
  symm
  unfold fn
  dsimp only
  pointwise []
  rfl

/-- The keys are real. -/
theorem keys (h : (fn (F := Ideal) x0 x1 x2 x3).2 = fun _ => 1#1) (i : S8x256x128.Idx) :
    ∃ r : ℝ, (x1 : S8x256x128.Idx → EReal) i = r := by
  have h' := congrFun h i
  refine real_of_cmp _ (Eq.trans ?_ h')
  symm
  unfold fn
  dsimp only
  pointwise []
  rfl

end Cert.CmpPre
-- ==== Proof.CmpAlgebraic.lean ====
module

public import proofs.«01_k».proof.Defs
public import proofs.«01_k».proof.Proof.CmpValue
public import proofs.«01_k».proof.Proof.CmpPre
public import proofs.«01_k».proof.Proof.Gen.Pre_finite_qk

@[expose] public section

/-! The value claim of the compressed attention: the kernel's run and the reference's run leave the same array. -/

noncomputable section

open Idealize.ShloMosaic Idealize.ShloMosaic.TcCoe Idealize.SL.Sem

namespace Cert.CmpAlgebraic

/-- Where the queries and the keys are finite, the gated head outputs are the reference's. -/
theorem algebraic : Cert.algebraic_CmpIdeal_CmpRefIdeal_pre_finite_qk (hCmpIdeal := Cert.CmpIdeal.Gen.facts)
    (hCmpRefIdeal := Cert.CmpRefIdeal.Gen.facts) (hPre_finite_qk := Cert.Pre_finite_qk.Gen.facts) := by
  intro m g m' g' hpre hagree
  refine ⟨fun c => CmpFinal.result m c,
    (θ_run Cert.CmpIdeal.defs _ _).mono (fun r h c => ⟨((h c).1).trans (CmpFinal.final5 m c), (h c).2.2⟩)
      (Cert.CmpIdeal.Value.run_blocks m g),
    (θ_run Cert.CmpRefIdeal.defs _ _).mono (fun r h c => ⟨((h c).1).trans ?_, (h c).2⟩) (Cert.CmpRefIdeal.Value.run m' g')⟩
  rw [Cert.CmpRefIdeal.Read.val_main_v56_eq]
  obtain ⟨e0, e1, e2, e3⟩ := hagree c
  rw [e0, e1, e2, e3]
  obtain ⟨p0, p1⟩ := hpre c
  funext i
  rw [eq_ix2 i]
  exact (CmpValue.out_eq _ _ _ _ (fun n k => CmpPre.queries _ _ _ _ p0 n k) (fun i => CmpPre.keys _ _ _ _ p1 i) (i 0) (i 1)).symm

end Cert.CmpAlgebraic
-- ==== Proof.OutMath.lean ====
module

public import Idealize.ShloMosaic.Lib.Pointwise
public import Idealize.ShloMosaic.Lib.IdealHost

@[expose] public section

/-! The arithmetic of the output projection, over the extended reals: one token's row through the projection, the norm,
    the gated residual, and the norm and modulation before the experts. -/

noncomputable section

open Idealize.ShloMosaic

namespace Cert.OutMath

/-- A row divided by its root mean square, times a weight. -/
def rms (y g : Fin 2048 → EReal) (e : Fin 2048) : EReal :=
  y e * Ideal.rsqrt (Ideal.div (∑ k, y k * y k) (Ideal.ofBits .f32 1157627904#32) + Ideal.ofBits .f32 897988541#32) * g e

/-- The two halves of the heads' outputs, each through its half of the projection. -/
def mixed (a b : Fin 1024 → EReal) (w : Fin 2048 → Fin 2048 → EReal) (e : Fin 2048) : EReal :=
  ∑ k : Fin 1024, a k * w ⟨k.val, by omega⟩ e + ∑ k : Fin 1024, b k * w ⟨1024 + k.val, by omega⟩ e

/-- The residual: the token plus the gated norm of its projection. -/
def residual (x gate y g : Fin 2048 → EReal) (e : Fin 2048) : EReal := x e + gate e * rms y g e

/-- The norm before the experts, scaled and shifted. -/
def modulated (x scale shift g : Fin 2048 → EReal) (e : Fin 2048) : EReal := rms x g e * (1 + scale e) + shift e

/-- A sum over the joined halves is the sum over each. -/
theorem sum_halves (f : Fin 2048 → EReal) :
    ∑ k, f k = ∑ k : Fin 1024, f ⟨k.val, by omega⟩ + ∑ k : Fin 1024, f ⟨1024 + k.val, by omega⟩ :=
  Fin.sum_univ_add (a := 1024) (b := 1024) f

end Cert.OutMath
-- ==== Proof.OutBlock.lean ====
module

public import proofs.«01_k».proof.Proof.Gen.OutIdeal.Frame
public import proofs.«01_k».proof.Proof.OutMath
public import Idealize.ShloMosaic.Lib.Pipeline.ValueKit

@[expose] public section

/-! What the body of the output projection leaves in the blocks of a grid point, element by element. -/

set_option maxRecDepth 16384

noncomputable section

open Idealize.ShloMosaic Idealize.ShloMosaic.TcCoe

namespace Cert.OutBlock

open Cert.OutIdeal Cert.OutIdeal.Gen

/-- The residual row of a block, from the blocks the body loads. -/
def res (mod : Vec Ideal S1x6x2048 .f32) (a : Vec Ideal S256x1024 .bf16) (wa : Vec Ideal S1024x2048 .bf16)
    (b : Vec Ideal S256x1024 .bf16) (wb : Vec Ideal S1024x2048 .bf16) (x : Vec Ideal S256x2048 .f32)
    (g : Vec Ideal S1x2048 .f32) (r : Fin 256) : Fin 2048 → EReal :=
  OutMath.residual (fun e => x (ix2 r e)) (fun e => mod (ix3 0 2 e))
    (fun e => ∑ k : Fin 1024, a (ix2 r k) * wa (ix2 k e) + ∑ k : Fin 1024, b (ix2 r k) * wb (ix2 k e)) (fun e => g (ix2 0 e))

theorem pay4_apply (mod : Vec Ideal S1x6x2048 .f32) (a : Vec Ideal S256x1024 .bf16) (wa : Vec Ideal S1024x2048 .bf16)
    (b : Vec Ideal S256x1024 .bf16) (wb : Vec Ideal S1024x2048 .bf16) (x : Vec Ideal S256x2048 .f32)
    (g : Vec Ideal S1x2048 .f32) (r : Fin 256) (e : Fin 2048) :
    k0_pay4 (F := Ideal) mod a wa b wb x g (ix2 r e) = res mod a wa b wb x g r e := by
  pointwise [k0_pay4, k0_pay3]
  rfl

theorem pay5_apply (mod : Vec Ideal S1x6x2048 .f32) (a : Vec Ideal S256x1024 .bf16) (wa : Vec Ideal S1024x2048 .bf16)
    (b : Vec Ideal S256x1024 .bf16) (wb : Vec Ideal S1024x2048 .bf16) (x : Vec Ideal S256x2048 .f32)
    (g : Vec Ideal S1x2048 .f32) (r : Fin 256) :
    k0_pay5 (F := Ideal) mod a wa b wb x g (ix1 r) = ∑ k, res mod a wa b wb x g r k * res mod a wa b wb x g r k := by
  simp only [← pay4_apply]
  unfold k0_pay5
  generalize k0_pay4 (F := Ideal) mod a wa b wb x g = y
  pointwise []

theorem pay1_apply (mod : Vec Ideal S1x6x2048 .f32) (y : FVec Ideal S256x2048 .f32) (g : Vec Ideal S1x2048 .f32)
    (s : FVec Ideal S256 .f32) (r : Fin 256) (e : Fin 2048) (hs : s (ix1 r) = ∑ k : Fin 2048, y (ix2 r k) * y (ix2 r k)) :
    k0_pay1 (F := Ideal) (k0_pay3 mod) y g s (ix2 r e)
      = OutMath.modulated (fun e => y (ix2 r e)) (fun e => mod (ix3 0 4 e)) (fun e => mod (ix3 0 3 e)) (fun e => g (ix2 0 e)) e := by
  unfold OutMath.modulated OutMath.rms
  rw [← hs]
  pointwise [k0_pay1, k0_pay3]

end Cert.OutBlock
-- ==== Proof.OutFinal.lean ====
module

public import proofs.«01_k».proof.Proof.OutBlock
public import Idealize.ShloMosaic.Lib.Pipeline.ValueKit.Geometry

@[expose] public section

/-! The arrays of residual rows and of rows for the experts after the kernel's run, element by element, as functions of
    the arguments. -/

set_option maxRecDepth 16384

noncomputable section

open Idealize.ShloMosaic Idealize.ShloMosaic.TcCoe Idealize.SL.Sem
open Idealize.ShloMosaic.Pipeline (Dat)

namespace Cert.OutFinal

open Cert.OutIdeal Cert.OutIdeal.Gen

/-! Every token block is visited once, in order; the modulation's block is the token block's sequence. -/

theorem idxRow : ∀ t : Fin cfg0.N, (win0_11.index t 0 = t.val ∧ win0_11.index t 1 = 0) ∧ (win0_12.index t 0 = t.val ∧ win0_12.index t 1 = 0)
    ∧ (win0_0.index t 0 = t.val ∧ win0_0.index t 1 = 0) ∧ (win0_1.index t 0 = t.val ∧ win0_1.index t 1 = 0)
    ∧ (win0_4.index t 0 = t.val ∧ win0_4.index t 1 = 0) :=
  (by decide +kernel : ∀ t : Fin grid0.N, (win0_11.index t 0 = t.val ∧ win0_11.index t 1 = 0) ∧ (win0_12.index t 0 = t.val ∧ win0_12.index t 1 = 0)
    ∧ (win0_0.index t 0 = t.val ∧ win0_0.index t 1 = 0) ∧ (win0_1.index t 0 = t.val ∧ win0_1.index t 1 = 0)
    ∧ (win0_4.index t 0 = t.val ∧ win0_4.index t 1 = 0))
theorem idxWhole : ∀ t : Fin cfg0.N, (win0_2.index t 0 = 0 ∧ win0_2.index t 1 = 0) ∧ (win0_3.index t 0 = 0 ∧ win0_3.index t 1 = 0)
    ∧ (win0_6.index t 0 = 0 ∧ win0_6.index t 1 = 0) ∧ (win0_7.index t 0 = 0 ∧ win0_7.index t 1 = 0)
    ∧ (win0_5.index t 0 = t.val / 16 ∧ win0_5.index t 1 = 0 ∧ win0_5.index t 2 = 0) :=
  (by decide +kernel : ∀ t : Fin grid0.N, (win0_2.index t 0 = 0 ∧ win0_2.index t 1 = 0) ∧ (win0_3.index t 0 = 0 ∧ win0_3.index t 1 = 0)
    ∧ (win0_6.index t 0 = 0 ∧ win0_6.index t 1 = 0) ∧ (win0_7.index t 0 = 0 ∧ win0_7.index t 1 = 0)
    ∧ (win0_5.index t 0 = t.val / 16 ∧ win0_5.index t 1 = 0 ∧ win0_5.index t 2 = 0))

variable (m : (ℓ : Loc nD τ sig) → Buf (Elt Ideal) ℓ) (c : Dev nD)

/-! The arguments, as arrays of extended reals. -/
abbrev arg0 : S16384x1024.Idx → EReal := m ((c : Thread nD τ).loc main_arg0)
abbrev arg1 : S16384x1024.Idx → EReal := m ((c : Thread nD τ).loc main_arg1)
abbrev arg2 : S2048x2048.Idx → EReal := m ((c : Thread nD τ).loc main_arg2)
abbrev arg3 : S16384x2048.Idx → EReal := m ((c : Thread nD τ).loc main_arg3)
abbrev arg4 : S4x6x2048.Idx → EReal := m ((c : Thread nD τ).loc main_arg4)
abbrev arg5 : S1x2048.Idx → EReal := m ((c : Thread nD τ).loc main_arg5)
abbrev arg6 : S1x2048.Idx → EReal := m ((c : Thread nD τ).loc main_arg6)

/-! A point's blocks of the token arrays. -/

theorem iblk0 (t : Fin cfg0.N) (r : Fin 256) (k : Fin 1024) (n : Fin 16384) (hn : n.val = t.val * 256 + r.val) :
    (iblk m c 0 t : S256x1024.Idx → EReal) (ix2 r k) = arg0 m c (ix2 n k) := by
  obtain ⟨-, -, ⟨h0, h1⟩, -, -⟩ := idxRow t
  unfold iblk
  rw [View.read_apply]
  refine (congrFun (V_main_arg0 m c) _).trans (congrArg (arg0 m c) (funext fun a => Fin.ext ?_))
  match a with
  | ⟨0, _⟩ => show win0_0.index t 0 * 256 + 1 * r.val = n.val; rw [h0]; omega
  | ⟨1, _⟩ => show win0_0.index t 1 * 1024 + 1 * k.val = k.val; rw [h1]; omega

theorem iblk1 (t : Fin cfg0.N) (r : Fin 256) (k : Fin 1024) (n : Fin 16384) (hn : n.val = t.val * 256 + r.val) :
    (iblk m c 1 t : S256x1024.Idx → EReal) (ix2 r k) = arg1 m c (ix2 n k) := by
  obtain ⟨-, -, -, ⟨h0, h1⟩, -⟩ := idxRow t
  unfold iblk
  rw [View.read_apply]
  refine (congrFun (V_main_arg1 m c) _).trans (congrArg (arg1 m c) (funext fun a => Fin.ext ?_))
  match a with
  | ⟨0, _⟩ => show win0_1.index t 0 * 256 + 1 * r.val = n.val; rw [h0]; omega
  | ⟨1, _⟩ => show win0_1.index t 1 * 1024 + 1 * k.val = k.val; rw [h1]; omega

theorem iblk4 (t : Fin cfg0.N) (r : Fin 256) (k : Fin 2048) (n : Fin 16384) (hn : n.val = t.val * 256 + r.val) :
    (iblk m c 4 t : S256x2048.Idx → EReal) (ix2 r k) = arg3 m c (ix2 n k) := by
  obtain ⟨-, -, -, -, h0, h1⟩ := idxRow t
  unfold iblk
  rw [View.read_apply]
  refine (congrFun (V_main_arg3 m c) _).trans (congrArg (arg3 m c) (funext fun a => Fin.ext ?_))
  match a with
  | ⟨0, _⟩ => show win0_4.index t 0 * 256 + 1 * r.val = n.val; rw [h0]; omega
  | ⟨1, _⟩ => show win0_4.index t 1 * 2048 + 1 * k.val = k.val; rw [h1]; omega

/-! The modulation's block, and the norms' weights. -/

theorem iblk5 (t : Fin cfg0.N) (j : Fin 6) (e : Fin 2048) (b : Fin 4) (hb : b.val = t.val / 16) :
    (iblk m c 5 t : S1x6x2048.Idx → EReal) (ix3 0 j e) = arg4 m c (ix3 b j e) := by
  obtain ⟨-, -, -, -, h0, h1, h2⟩ := idxWhole t
  unfold iblk
  rw [View.read_apply]
  refine (congrFun (V_main_arg4 m c) _).trans (congrArg (arg4 m c) (funext fun a => Fin.ext ?_))
  match a with
  | ⟨0, _⟩ => show win0_5.index t 0 * 1 + 1 * 0 = b.val; rw [h0]; omega
  | ⟨1, _⟩ => show win0_5.index t 1 * 6 + 1 * j.val = j.val; rw [h1]; omega
  | ⟨2, _⟩ => show win0_5.index t 2 * 2048 + 1 * e.val = e.val; rw [h2]; omega

theorem iblk6 (t : Fin cfg0.N) (e : Fin 2048) : (iblk m c 6 t : S1x2048.Idx → EReal) (ix2 0 e) = arg5 m c (ix2 0 e) := by
  obtain ⟨-, -, ⟨h0, h1⟩, -, -⟩ := idxWhole t
  unfold iblk
  rw [View.read_apply]
  refine (congrFun (V_main_arg5 m c) _).trans (congrArg (arg5 m c) (funext fun a => Fin.ext ?_))
  match a with
  | ⟨0, _⟩ => show win0_6.index t 0 * 1 + 1 * 0 = 0; rw [h0]
  | ⟨1, _⟩ => show win0_6.index t 1 * 2048 + 1 * e.val = e.val; rw [h1]; omega

theorem iblk7 (t : Fin cfg0.N) (e : Fin 2048) : (iblk m c 7 t : S1x2048.Idx → EReal) (ix2 0 e) = arg6 m c (ix2 0 e) := by
  obtain ⟨-, -, -, ⟨h0, h1⟩, -⟩ := idxWhole t
  unfold iblk
  rw [View.read_apply]
  refine (congrFun (V_main_arg6 m c) _).trans (congrArg (arg6 m c) (funext fun a => Fin.ext ?_))
  match a with
  | ⟨0, _⟩ => show win0_7.index t 0 * 1 + 1 * 0 = 0; rw [h0]
  | ⟨1, _⟩ => show win0_7.index t 1 * 2048 + 1 * e.val = e.val; rw [h1]; omega

/-! The halves of the projection's weights, which the host cuts before the launch. -/

theorem V_main_v5 : (V m c main_v5 : S1024x2048.Idx → EReal)
    = truncf (F := Ideal) .bf16 (extractStridedSlice S1024x2048 ![0, 0] (arg2 m c : FVec Ideal S2048x2048 .f32) slices_S2048x2048_S1024x2048_0_0) bitsLt_bf16_f32 := by
  unfold V hostOps0
  after_results_simp <;> rfl

theorem V_main_v7 : (V m c main_v7 : S1024x2048.Idx → EReal)
    = truncf (F := Ideal) .bf16 (extractStridedSlice S1024x2048 ![1024, 0] (arg2 m c : FVec Ideal S2048x2048 .f32) slices_S2048x2048_S1024x2048_1024_0) bitsLt_bf16_f32 := by
  unfold V hostOps0
  after_results_simp <;> rfl

theorem iblk2 (t : Fin cfg0.N) (k : Fin 1024) (e : Fin 2048) :
    (iblk m c 2 t : S1024x2048.Idx → EReal) (ix2 k e) = arg2 m c (ix2 (⟨k.val, by omega⟩ : Fin 2048) e) := by
  obtain ⟨⟨h0, h1⟩, -, -, -, -⟩ := idxWhole t
  unfold iblk
  rw [View.read_apply]
  refine (congrFun (V_main_v5 m c) _).trans (extractStridedSlice_apply (s := S2048x2048) (t := S1024x2048) ![0, 0] (arg2 m c) slices_S2048x2048_S1024x2048_0_0 _ _ fun a => ?_)
  match a with
  | ⟨0, _⟩ => show k.val = 0 + (win0_2.index t 0 * 1024 + 1 * k.val); rw [h0]; omega
  | ⟨1, _⟩ => show e.val = 0 + (win0_2.index t 1 * 2048 + 1 * e.val); rw [h1]; omega

theorem iblk3 (t : Fin cfg0.N) (k : Fin 1024) (e : Fin 2048) :
    (iblk m c 3 t : S1024x2048.Idx → EReal) (ix2 k e) = arg2 m c (ix2 (⟨1024 + k.val, by omega⟩ : Fin 2048) e) := by
  obtain ⟨-, ⟨h0, h1⟩, -, -, -⟩ := idxWhole t
  unfold iblk
  rw [View.read_apply]
  refine (congrFun (V_main_v7 m c) _).trans (extractStridedSlice_apply (s := S2048x2048) (t := S1024x2048) ![1024, 0] (arg2 m c) slices_S2048x2048_S1024x2048_1024_0 _ _ fun a => ?_)
  match a with
  | ⟨0, _⟩ => show 1024 + k.val = 1024 + (win0_3.index t 0 * 1024 + 1 * k.val); rw [h0]; omega
  | ⟨1, _⟩ => show e.val = 0 + (win0_3.index t 1 * 2048 + 1 * e.val); rw [h1]; omega

/-! The arrays after the run. -/

/-- The residual row of token `n`. -/
def res (n : Fin 16384) : Fin 2048 → EReal :=
  OutMath.residual (fun e => arg3 m c (ix2 n e)) (fun e => arg4 m c (ix3 (⟨n.val / 4096, by omega⟩ : Fin 4) 2 e))
    (OutMath.mixed (fun k => arg0 m c (ix2 n k)) (fun k => arg1 m c (ix2 n k)) (fun k e => arg2 m c (ix2 k e)))
    (fun e => arg5 m c (ix2 0 e))

/-- The row of token `n` for the experts. -/
def mod (n : Fin 16384) : Fin 2048 → EReal :=
  OutMath.modulated (res m c n) (fun e => arg4 m c (ix3 (⟨n.val / 4096, by omega⟩ : Fin 4) 4 e))
    (fun e => arg4 m c (ix3 (⟨n.val / 4096, by omega⟩ : Fin 4) 3 e)) (fun e => arg6 m c (ix2 0 e))

/-- A block's residual row is the token's. -/
theorem res_eq (t : Fin cfg0.N) (r : Fin 256) (n : Fin 16384) (hn : n.val = t.val * 256 + r.val) :
    OutBlock.res (iblk m c 5 t) (iblk m c 0 t) (iblk m c 2 t) (iblk m c 1 t) (iblk m c 3 t) (iblk m c 4 t) (iblk m c 6 t) r
      = res m c n := by
  have hb : (⟨n.val / 4096, by omega⟩ : Fin 4).val = t.val / 16 := by show n.val / 4096 = _; omega
  unfold OutBlock.res res
  congr 1
  · exact funext fun e => iblk4 m c t r e n hn
  · exact funext fun e => iblk5 m c t 2 e _ hb
  · funext e
    unfold OutMath.mixed
    exact congrArg₂ (· + ·)
      (Finset.sum_congr rfl fun k _ => congrArg₂ (· * ·) (iblk0 m c t r k n hn) (iblk2 m c t k e))
      (Finset.sum_congr rfl fun k _ => congrArg₂ (· * ·) (iblk1 m c t r k n hn) (iblk3 m c t k e))
  · exact funext fun e => iblk6 m c t e

theorem zero2 : (![0, 0] : Fin 2 → ℕ) = fun _ => 0 := funext fun a => by fin_cases a <;> rfl
theorem zero3 : (![0, 0, 0] : Fin 3 → ℕ) = fun _ => 0 := funext fun a => by fin_cases a <;> rfl

section
variable (x0 x1 : Vec Ideal S256x1024 .bf16) (x2 x3 : Vec Ideal S1024x2048 .bf16) (x4 : Vec Ideal S256x2048 .f32)
  (x5 : Vec Ideal S1x6x2048 .f32) (x6 x7 : Vec Ideal S1x2048 .f32) (x8 x9 : Vec Ideal S2048x128 .bf16) (x10 : Vec Ideal S1x128 .f32)

theorem out11_eq : out0_11 x0 x1 x2 x3 x4 x5 x6 x7 x8 x9 x10 = k0_pay4 (F := Ideal) x5 x0 x2 x1 x3 x4 x6 := by
  unfold out0_11
  refine (View.canon_cons_unit_zero (S := S256x2048) zero2 _ _ _).trans ?_
  rw [View.ld_unit_zero (S := S1x6x2048) zero3, View.ld_unit_zero (S := S256x1024) zero2, View.ld_unit_zero (S := S1024x2048) zero2,
    View.ld_unit_zero (S := S256x1024) zero2, View.ld_unit_zero (S := S1024x2048) zero2, View.ld_unit_zero (S := S256x2048) zero2,
    View.ld_unit_zero (S := S1x2048) zero2]

theorem out12_eq : out0_12 x0 x1 x2 x3 x4 x5 x6 x7 x8 x9 x10
    = k0_pay1 (F := Ideal) (k0_pay3 x5) (k0_pay4 x5 x0 x2 x1 x3 x4 x6) x7 (k0_pay5 x5 x0 x2 x1 x3 x4 x6) := by
  unfold out0_12 k0_pay6 k0_pay7 k0_pay8
  refine (View.canon_cons_unit_zero (S := S256x2048) zero2 _ _ _).trans ?_
  rw [View.ld_unit_zero (S := S1x6x2048) zero3, View.ld_unit_zero (S := S256x1024) zero2, View.ld_unit_zero (S := S1024x2048) zero2,
    View.ld_unit_zero (S := S256x1024) zero2, View.ld_unit_zero (S := S1024x2048) zero2, View.ld_unit_zero (S := S256x2048) zero2,
    View.ld_unit_zero (S := S1x2048) zero2, View.ld_unit_zero (S := S1x2048) zero2]

end

/-- The array of residual rows after the run. -/
theorem final11 : (dats m 0 c).arrAt 11 cfg0.N = (fun i => res m c (i 0) (i 1) : S16384x2048.Idx → EReal) := by
  refine (dats m 0 c).arrAt_eq_of_covers 11 _ (by decide +kernel) fun t hf y => ?_
  blk_simp
  rw [after0_11, out11_eq]
  obtain ⟨⟨h0, h1⟩, -⟩ := idxRow t
  refine (congrArg _ (eq_ix2 y)).trans ((OutBlock.pay4_apply _ _ _ _ _ _ _ (y 0) (y 1)).trans ?_)
  refine (congrFun (res_eq m c t _ _ ?_) _).trans (congrArg _ ?_)
  · show win0_11.index t 0 * 256 + 1 * (y 0).val = _; rw [h0]; omega
  · refine Fin.ext ?_; show (y 1).val = win0_11.index t 1 * 2048 + 1 * (y 1).val; rw [h1]; omega

/-- A block's row for the experts is the token's. -/
theorem block12 (t : Fin cfg0.N) (r : Fin 256) (e : Fin 2048) (n : Fin 16384) (hn : n.val = t.val * 256 + r.val) :
    (k0_pay1 (F := Ideal) (k0_pay3 (iblk m c 5 t))
      (k0_pay4 (iblk m c 5 t) (iblk m c 0 t) (iblk m c 2 t) (iblk m c 1 t) (iblk m c 3 t) (iblk m c 4 t) (iblk m c 6 t)) (iblk m c 7 t)
      (k0_pay5 (iblk m c 5 t) (iblk m c 0 t) (iblk m c 2 t) (iblk m c 1 t) (iblk m c 3 t) (iblk m c 4 t) (iblk m c 6 t)) : S256x2048.Idx → EReal) (ix2 r e)
      = mod m c n e := by
  have hb : (⟨n.val / 4096, by omega⟩ : Fin 4).val = t.val / 16 := by show n.val / 4096 = _; omega
  refine (OutBlock.pay1_apply _ _ _ _ r e ?_).trans ?_
  · refine (OutBlock.pay5_apply _ _ _ _ _ _ _ r).trans (Finset.sum_congr rfl fun k _ => ?_)
    exact congrArg₂ (· * ·) (OutBlock.pay4_apply _ _ _ _ _ _ _ r k).symm (OutBlock.pay4_apply _ _ _ _ _ _ _ r k).symm
  · unfold mod
    congr 1
    · exact (funext fun k => OutBlock.pay4_apply _ _ _ _ _ _ _ r k).trans (res_eq m c t r n hn)
    · exact funext fun e => iblk5 m c t 4 e _ hb
    · exact funext fun e => iblk5 m c t 3 e _ hb
    · exact funext fun e => iblk7 m c t e

/-- The array of rows for the experts after the run. -/
theorem final12 : (dats m 0 c).arrAt 12 cfg0.N = (fun i => mod m c (i 0) (i 1) : S16384x2048.Idx → EReal) := by
  refine (dats m 0 c).arrAt_eq_of_covers 12 _ (by decide +kernel) fun t hf y => ?_
  blk_simp
  rw [after0_12, out12_eq]
  obtain ⟨-, ⟨h0, h1⟩, -⟩ := idxRow t
  refine (congrArg _ (eq_ix2 y)).trans ((block12 m c t (y 0) (y 1) _ ?_).trans (congrArg _ ?_))
  · show win0_12.index t 0 * 256 + 1 * (y 0).val = _; rw [h0]; omega
  · refine Fin.ext ?_; show (y 1).val = win0_12.index t 1 * 2048 + 1 * (y 1).val; rw [h1]; omega

end Cert.OutFinal
-- ==== Proof.OutReference.lean ====
module

public import proofs.«01_k».proof.Proof.Gen.OutRefIdeal.Run
public import proofs.«01_k».proof.Proof.Gen.OutRefIdeal.Read
public import Idealize.ShloMosaic.Lib.Pointwise
public import proofs.«01_k».proof.Proof.OutMath

@[expose] public section

/-! The reference of the output projection, element by element. -/

set_option maxRecDepth 16384

noncomputable section

open Idealize.ShloMosaic Idealize.ShloMosaic.TcCoe

namespace Cert.OutReference

open Cert.OutRefIdeal Cert.OutRefIdeal.Gen Cert.OutRefIdeal.Read

variable (x0 x1 : S16384x1024.Idx → EReal) (x2 : S2048x2048.Idx → EReal) (x3 : S16384x2048.Idx → EReal)
    (x4 : S4x6x2048.Idx → EReal) (x5 x6 : S1x2048.Idx → EReal)

/-- The residual row of token `n`, from the arguments. -/
def res (n : Fin 16384) : Fin 2048 → EReal :=
  OutMath.residual (fun e => x3 (ix2 n e)) (fun e => x4 (ix3 (⟨n.val / 4096, by omega⟩ : Fin 4) 2 e))
    (OutMath.mixed (fun k => x0 (ix2 n k)) (fun k => x1 (ix2 n k)) (fun k e => x2 (ix2 k e))) (fun e => x5 (ix2 0 e))

/-- The row that goes to the experts, from the arguments. -/
def mod (n : Fin 16384) : Fin 2048 → EReal :=
  OutMath.modulated (res x0 x1 x2 x3 x4 x5 n) (fun e => x4 (ix3 (⟨n.val / 4096, by omega⟩ : Fin 4) 4 e))
    (fun e => x4 (ix3 (⟨n.val / 4096, by omega⟩ : Fin 4) 3 e)) (fun e => x6 (ix2 0 e))

/-- The joined heads' outputs: the first half, then the second. -/
theorem joined (n : Fin 16384) (k : Fin 1024) :
    val_main_v0 (F := Ideal) x0 x1 (ix2 n (⟨k.val, by omega⟩ : Fin 2048)) = x0 (ix2 n k)
      ∧ val_main_v0 (F := Ideal) x0 x1 (ix2 n (⟨1024 + k.val, by omega⟩ : Fin 2048)) = x1 (ix2 n k) := by
  unfold val_main_v0
  refine ⟨concatenate_pair_apply_left (t := S16384x2048) 1 x0 x1 _ _ rfl (ix2 n k) (fun b => ?_),
    concatenate_pair_apply_right (t := S16384x2048) 1 x0 x1 _ _ rfl rfl (ix2 n k) (fun b hb => ?_) ?_⟩
  · match b with
    | ⟨0, _⟩ => rfl
    | ⟨1, _⟩ => rfl
  · match b with
    | ⟨0, _⟩ => rfl
    | ⟨1, _⟩ => exact absurd rfl hb
  · show k.val + 1024 = 1024 + k.val
    omega

/-- The projection. -/
theorem proj_apply (b : Fin 4) (s : Fin 4096) (e : Fin 2048) (n : Fin 16384) (hn : n.val = b.val * 4096 + s.val) :
    val_main_v3 (F := Ideal) x0 x1 x2 (ix3 b s e)
      = OutMath.mixed (fun k => x0 (ix2 n k)) (fun k => x1 (ix2 n k)) (fun k e => x2 (ix2 k e)) e := by
  have hv : ∀ k : Fin 2048, val_main_v2 (F := Ideal) x0 x1 (ix3 b s k) = val_main_v0 (F := Ideal) x0 x1 (ix2 n k) := fun k => by
    rw [val_main_v2_apply, val_main_v1_apply]
    refine congrArg (val_main_v0 (F := Ideal) x0 x1) (funext fun a => Fin.ext ?_)
    have := k.isLt
    match a with
    | ⟨0, _⟩ => show ((b.val * 4096 + s.val) * 2048 + k.val) / 2048 = n.val; omega
    | ⟨1, _⟩ => show ((b.val * 4096 + s.val) * 2048 + k.val) % 2048 = k.val; omega
  rw [val_main_v3_apply, OutMath.sum_halves]
  unfold OutMath.mixed
  have hterm : ∀ k : Fin 2048, val_main_v2 (F := Ideal) x0 x1 (lidx_main_v3 (ix3 b s e) k) * x2 (ridx_main_v3 (ix3 b s e) k)
      = val_main_v0 (F := Ideal) x0 x1 (ix2 n k) * x2 (ix2 k e) := fun k => by
    rw [eq_ix3 (lidx_main_v3 (ix3 b s e) k), eq_ix2 (ridx_main_v3 (ix3 b s e) k)]
    exact congrArg (· * _) (hv k)
  refine congrArg₂ (· + ·) (Finset.sum_congr rfl fun k _ => ?_) (Finset.sum_congr rfl fun k _ => ?_)
  · rw [hterm, (joined x0 x1 n k).1]
  · rw [hterm, (joined x0 x1 n k).2]

/-- A token's row of the residual stream. -/
theorem stream_apply (b : Fin 4) (s : Fin 4096) (e : Fin 2048) (n : Fin 16384) (hn : n.val = b.val * 4096 + s.val) :
    val_main_v7 (F := Ideal) x3 (ix3 b s e) = x3 (ix2 n e) := by
  rw [val_main_v7_apply]
  refine congrArg x3 (funext fun a => Fin.ext ?_)
  have := e.isLt
  match a with
  | ⟨0, _⟩ => show ((b.val * 4096 + s.val) * 2048 + e.val) / 2048 = n.val; omega
  | ⟨1, _⟩ => show ((b.val * 4096 + s.val) * 2048 + e.val) % 2048 = e.val; omega

/-- The sum of a projection row's squares. -/
theorem squares_apply (b : Fin 4) (s : Fin 4096) :
    val_main_v10 (F := Ideal) x0 x1 x2 (ix2 b s)
      = ∑ k : Fin 2048, val_main_v3 (F := Ideal) x0 x1 x2 (ix3 b s k) * val_main_v3 (F := Ideal) x0 x1 x2 (ix3 b s k) := by
  rw [val_main_v10_apply, val_main_cst_apply]
  refine (congrArg (· + _) Ideal.ofBits_zero_f32).trans ((zero_add _).trans (Finset.sum_congr rfl fun k _ => ?_))
  rw [val_main_v9_apply, eq_ix3 (idx_main_v10 (ix2 b s) k)]
  rfl

/-- The weights of the norm. -/
theorem weight_apply (b : Fin 4) (s : Fin 4096) (e : Fin 2048) :
    val_main_v20 (F := Ideal) x5 (ix3 b s e) = x5 (ix2 0 e) := by
  rw [val_main_v20_apply, val_main_v19_apply, val_main_v8_apply]
  refine congrArg x5 (funext fun a => Fin.ext ?_)
  match a with
  | ⟨0, _⟩ => rfl
  | ⟨1, _⟩ => exact Nat.mod_eq_of_lt e.isLt

/-- The projection's rows, normalized. -/
theorem norm_apply (b : Fin 4) (s : Fin 4096) (e : Fin 2048) :
    val_main_v21 (F := Ideal) x0 x1 x2 x5 (ix3 b s e)
      = OutMath.rms (fun e => val_main_v3 (F := Ideal) x0 x1 x2 (ix3 b s e)) (fun e => x5 (ix2 0 e)) e := by
  unfold OutMath.rms
  beta_reduce
  rw [val_main_v21_apply, val_main_v18_apply, weight_apply, val_main_v17_apply, val_main_v16_apply, val_main_v15_apply,
    val_main_v13_apply, val_main_v14_apply, val_main_v12_apply, val_main_cst_0_apply, val_main_cst_1_apply, val_main_v11_apply,
    eq_ix2 (idx_main_v11 (idx_main_v17 (ix3 b s e)))]
  rw [← squares_apply x0 x1 x2 b s]
  rfl

/-- The gate. -/
theorem gate_apply (b : Fin 4) (s : Fin 4096) (e : Fin 2048) : val_main_v22 (F := Ideal) x4 (ix3 b s e) = x4 (ix3 b 2 e) := by
  pointwise [val_main_v22, val_main_v4]

/-- The residual, over the projection and the residual stream. -/
theorem add_apply (b : Fin 4) (s : Fin 4096) (e : Fin 2048) :
    val_main_v24 (F := Ideal) x0 x1 x2 x3 x4 x5 (ix3 b s e)
      = OutMath.residual (fun e => val_main_v7 (F := Ideal) x3 (ix3 b s e)) (fun e => x4 (ix3 b 2 e))
        (fun e => val_main_v3 (F := Ideal) x0 x1 x2 (ix3 b s e)) (fun e => x5 (ix2 0 e)) e := by
  rw [val_main_v24_apply, val_main_v23_apply, gate_apply, norm_apply]
  rfl

/-- The residual. -/
theorem res_apply (b : Fin 4) (s : Fin 4096) (e : Fin 2048) (n : Fin 16384) (hn : n.val = b.val * 4096 + s.val) :
    val_main_v24 (F := Ideal) x0 x1 x2 x3 x4 x5 (ix3 b s e) = res x0 x1 x2 x3 x4 x5 n e := by
  have hb : (⟨n.val / 4096, by omega⟩ : Fin 4) = b := Fin.ext (by show n.val / 4096 = b.val; omega)
  rw [add_apply]
  unfold res
  rw [hb]
  congr 1
  · exact funext fun e => stream_apply x3 b s e n hn
  · exact funext fun e => proj_apply x0 x1 x2 b s e n hn

/-- The row that goes to the experts. -/
theorem mod_apply (b : Fin 4) (s : Fin 4096) (e : Fin 2048) (n : Fin 16384) (hn : n.val = b.val * 4096 + s.val) :
    val_main_v44 (F := Ideal) x0 x1 x2 x3 x4 x5 x6 (ix3 b s e) = mod x0 x1 x2 x3 x4 x5 x6 n e := by
  have hb : (⟨n.val / 4096, by omega⟩ : Fin 4) = b := Fin.ext (by show n.val / 4096 = b.val; omega)
  unfold mod OutMath.modulated OutMath.rms
  rw [hb]
  beta_reduce
  simp only [← res_apply x0 x1 x2 x3 x4 x5 b s _ n hn]
  unfold val_main_v44 val_main_v42 val_main_v38 val_main_v35 val_main_v34 val_main_v33 val_main_v32 val_main_v30 val_main_v28
    val_main_v27 val_main_v26
  generalize val_main_v24 (F := Ideal) x0 x1 x2 x3 x4 x5 = y
  pointwise [val_main_v43, val_main_v41, val_main_v40, val_main_v39, val_main_cst_5, val_main_v37, val_main_v36, val_main_v31,
    val_main_cst_4, val_main_v29, val_main_cst_3, val_main_cst_2, val_main_v25, val_main_v6, val_main_v5]

/-- The reference's two results. -/
theorem out_apply (n : Fin 16384) (e : Fin 2048) :
    val_main_v45 (F := Ideal) x0 x1 x2 x3 x4 x5 (ix2 n e) = res x0 x1 x2 x3 x4 x5 n e
      ∧ val_main_v46 (F := Ideal) x0 x1 x2 x3 x4 x5 x6 (ix2 n e) = mod x0 x1 x2 x3 x4 x5 x6 n e := by
  have hi : idx_main_v45 (ix2 n e) = ix3 (⟨n.val / 4096, by omega⟩ : Fin 4) (⟨n.val % 4096, by omega⟩ : Fin 4096) e := by
    funext a
    apply Fin.ext
    have := e.isLt
    match a with
    | ⟨0, _⟩ => show (n.val * 2048 + e.val) / 8388608 = n.val / 4096; omega
    | ⟨1, _⟩ => show (n.val * 2048 + e.val) / 2048 % 4096 = n.val % 4096; omega
    | ⟨2, _⟩ => show (n.val * 2048 + e.val) % 2048 = e.val; omega
  have hn : n.val = n.val / 4096 * 4096 + n.val % 4096 := by omega
  rw [val_main_v45_apply, val_main_v46_apply, show idx_main_v46 (ix2 n e) = _ from hi, hi]
  exact ⟨res_apply _ _ _ _ _ _ _ _ e n hn, mod_apply _ _ _ _ _ _ _ _ _ e n hn⟩

end Cert.OutReference
-- ==== Proof.OutAlgebraic.lean ====
module

public import proofs.«01_k».proof.Defs
public import proofs.«01_k».proof.Proof.OutFinal
public import proofs.«01_k».proof.Proof.OutReference

@[expose] public section

/-! The value claim of the output projection: the kernel's run and the reference's run leave the same two arrays. -/

set_option maxRecDepth 16384

noncomputable section

open Idealize.ShloMosaic Idealize.ShloMosaic.TcCoe Idealize.SL.Sem
open Idealize.ShloMosaic.Pipeline (Dat)

namespace Cert.OutAlgebraic

section
open Cert.OutIdeal Cert.OutIdeal.Gen
variable (m : (ℓ : Loc nD τ sig) → Buf (Elt Ideal) ℓ) (ρ : Dev nD → PrngReg)

/-- The kernel's run: the two arrays, and the arguments as they were. -/
theorem run : θ_run defs (onTc (τ := τ) (main (F := Ideal))) ⟨m, fun _ => 0, ρ⟩ (fun r => ∀ c : Dev nD,
      r.2.mem ((c.tc : Thread nD τ).loc main_v8_0) = (fun i => OutFinal.res m c (i 0) (i 1) : S16384x2048.Idx → EReal)
      ∧ r.2.mem ((c.tc : Thread nD τ).loc main_v8_1) = (fun i => OutFinal.mod m c (i 0) (i 1) : S16384x2048.Idx → EReal)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨((h c).1 11).trans (OutFinal.final11 m c), ((h c).1 12).trans (OutFinal.final12 m c),
    ((h c).1 0).trans (((dats m 0 c).arrAt_in 0 rfl _).trans ((A_eq m c 0).trans (V_main_arg0 m c))),
    ((h c).1 1).trans (((dats m 0 c).arrAt_in 1 rfl _).trans ((A_eq m c 1).trans (V_main_arg1 m c))),
    ((h c).2 main_arg2 (Pipeline.mem_restRefs_of main_arg2 (by decide) (by decide))).trans (V_main_arg2 m c),
    ((h c).1 4).trans (((dats m 0 c).arrAt_in 4 rfl _).trans ((A_eq m c 4).trans (V_main_arg3 m c))),
    ((h c).1 5).trans (((dats m 0 c).arrAt_in 5 rfl _).trans ((A_eq m c 5).trans (V_main_arg4 m c))),
    ((h c).1 6).trans (((dats m 0 c).arrAt_in 6 rfl _).trans ((A_eq m c 6).trans (V_main_arg5 m c))),
    ((h c).1 7).trans (((dats m 0 c).arrAt_in 7 rfl _).trans ((A_eq m c 7).trans (V_main_arg6 m c))),
    ((h c).2 main_arg7 (Pipeline.mem_restRefs_of main_arg7 (by decide) (by decide))).trans (V_main_arg7 m c),
    ((h c).1 10).trans (((dats m 0 c).arrAt_in 10 rfl _).trans ((A_eq m c 10).trans (V_main_arg8 m c)))⟩) (run_main m ρ)

end

/-- The residual rows and the rows for the experts are the reference's, for all arguments. -/
theorem algebraic : Cert.algebraic_OutIdeal_OutRefIdeal (hOutIdeal := Cert.OutIdeal.Gen.facts)
    (hOutRefIdeal := Cert.OutRefIdeal.Gen.facts) := by
  intro m g m' g' hpre hagree
  refine ⟨_, _, run m g,
    (θ_run Cert.OutRefIdeal.defs _ _).mono (fun r h c => ⟨((h c).1).trans ?_, ((h c).2.1).trans ?_, (h c).2.2⟩)
      (Cert.OutRefIdeal.Value.run (F := Ideal) m' g')⟩
  · rw [Cert.OutRefIdeal.Read.val_main_v45_eq]
    obtain ⟨e0, e1, e2, e3, e4, e5, e6, e7, e8⟩ := hagree c
    rw [e0, e1, e2, e3, e4, e5]
    funext i
    rw [eq_ix2 i]
    exact (OutReference.out_apply _ _ _ _ _ _ (OutFinal.arg6 m c) (i 0) (i 1)).1
  · rw [Cert.OutRefIdeal.Read.val_main_v46_eq]
    obtain ⟨e0, e1, e2, e3, e4, e5, e6, e7, e8⟩ := hagree c
    rw [e0, e1, e2, e3, e4, e5, e6]
    funext i
    rw [eq_ix2 i]
    exact (OutReference.out_apply _ _ _ _ _ _ _ (i 0) (i 1)).2

end Cert.OutAlgebraic
-- ==== Proof.InIdealBody.lean ====
module

public import proofs.«01_k».proof.Proof.Gen.InIdeal.Frame
public import proofs.«01_k».proof.Proof.Gen.InIdeal.Skeleton
public import Idealize.ShloMosaic.Lib.Pipeline.ValueKit
public import Idealize.ShloMosaic.Lib.Pointwise

@[expose] public section

/-! What one grid point of the input projection runs: the first point of a row of blocks fills the scratch and the
    gates, every point projects the scratch in one of four ways. -/

set_option maxRecDepth 16384
set_option Elab.async false

noncomputable section

namespace Cert.InIdealBody

open Cert.InIdeal Cert.InIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The resources the proof speaks of. -/
abbrev Res (F : FTy → Type) [FloatOps F] := MT nD τ sig Unit (Elt F) ℕ (UR sig nD τ) ℕ

/-- The scratch rows. -/
abbrev scM : Memref sig .tc .vmem S1024x2048 .bf16 := Memref.whole cc0_scratch0

variable (c : Dev nD) (i : grid0.Coords)
  (arg2 : Memref sig .tc .vmem S1024x2048 .f32) (harg2 : arg2.IsWhole)
  (arg3 : Memref sig .tc .vmem S1x6x2048 .f32) (harg3 : arg3.IsWhole)
  (arg4 : Memref sig .tc .vmem S1x2048 .f32) (harg4 : arg4.IsWhole)
  (arg5 : Memref sig .tc .vmem S2048x512 .bf16) (harg5 : arg5.IsWhole)
  (arg6 : Memref sig .tc .vmem S2048x128 .bf16) (harg6 : arg6.IsWhole)
  (arg7 : Memref sig .tc .vmem S1024x128 .f32) (harg7 : arg7.IsWhole)
  (arg8 : Memref sig .tc .vmem S1024x128 .f32) (harg8 : arg8.IsWhole)
  (arg9 : Memref sig .tc .vmem S1024x512 .bf16) (harg9 : arg9.IsWhole)
  (arg10 : Memref sig .tc .vmem S1024x128 .f32) (harg10 : arg10.IsWhole)
  (x0 : S1024x2048.Idx → Elt F .f32) (x1 : S1x6x2048.Idx → Elt F .f32) (x2 : S1x2048.Idx → Elt F .f32)
  (x3 : S2048x512.Idx → Elt F .bf16) (x4 : S2048x128.Idx → Elt F .bf16) (x5 x6 : S1024x128.Idx → Elt F .f32)
  (xa : Buf (Elt F) ((c : Thread nD τ).loc cc0_scratch0))

/-- The body on its memrefs. -/
abbrev body : Prog (TpuEff nD τ sig (Elt F) Λ₀ .tc) PUnit :=
  cc0_inproj i arg2 harg2 arg3 harg3 arg4 harg4 arg5 harg5 arg6 harg6 arg7 harg7 arg8 harg8 arg9 harg9 arg10 harg10 scM (Memref.isWhole_whole _)

/-- A point that is not the first of its row of blocks runs from the scratch and leaves the pieces `out`. -/
def Later (out : List (View.Piece (Elt F) S1024x512 .bf16)) : Prop :=
  ∀ K : PUnit → sProp (Res F),
    iprop((arg5.view.loc (c : Thread nD τ) ↦[arg5.view.set]{fullShare} arg5.view.rep x3)
      ∗ (arg7.view.loc (c : Thread nD τ) ↦[arg7.view.set]{fullShare} arg7.view.rep x5)
      ∗ (arg8.view.loc (c : Thread nD τ) ↦[arg8.view.set]{fullShare} arg8.view.rep x6)
      ∗ (∃ d, owns (c : Thread nD τ) arg9 fullShare d)
      ∗ (scM.view.loc (c : Thread nD τ) ↦{fullShare} xa)
      ∗ (iprop((arg5.view.loc (c : Thread nD τ) ↦[arg5.view.set]{fullShare} arg5.view.rep x3)
          ∗ (arg7.view.loc (c : Thread nD τ) ↦[arg7.view.set]{fullShare} arg7.view.rep x5)
          ∗ (arg8.view.loc (c : Thread nD τ) ↦[arg8.view.set]{fullShare} arg8.view.rep x6)
          ∗ (∃ f, arg9.view.loc (c : Thread nD τ) ↦[arg9.view.set]{fullShare} arg9.view.writes (Elt F) f out)
          ∗ (scM.view.loc (c : Thread nD τ) ↦{fullShare} xa)) -∗ K ⟨⟩))
      ⊢ wp frame (wpE (defs₀ (F := F)) Variants.none c none) Set.univ
          (body i arg2 harg2 arg3 harg3 arg4 harg4 arg5 harg5 arg6 harg6 arg7 harg7 arg8 harg8 arg9 harg9 arg10 harg10) K

set_option backward.proofsInPublic true in
set_option maxHeartbeats 8000000 in
/-- A point whose columns are all plain. -/
def runE (h1 : ¬k0_cond1 i = 1#1) (h2 : ¬k0_cond2 i = 1#1) (h3 : ¬k0_cond3 i = 1#1) (h4 : ¬k0_cond4 i = 1#1) (h5 : k0_cond5 i = 1#1) :
    { out : List (View.Piece (Elt F) S1024x512 .bf16) //
      Later c i arg2 harg2 arg3 harg3 arg4 harg4 arg5 harg5 arg6 harg6 arg7 harg7 arg8 harg8 arg9 harg9 arg10 harg10 x3 x5 x6 xa out } :=
  ⟨_, fun K => by
    unfold owns body
    rw [cc0_inproj_eq_skeleton]; unfold cc0_inproj_skel
    iintro ⟨H3, H5, H6, ⟨%d7, %f7, -, H7⟩, HS, Hk⟩
    have hS0 : scM.IsWhole := Memref.isWhole_whole _
    sl_exec! (disch := first | (guard_target = ¬(k0_cond1 _ = _); exact h1) | (guard_target = ¬(k0_cond2 _ = _); exact h2) | (guard_target = ¬(k0_cond3 _ = _); exact h3) | (guard_target = ¬(k0_cond4 _ = _); exact h4) | (guard_target = k0_cond5 _ = _; exact h5))
    sl_step
    iapply Hk
    isplitl [H3]; · iexact H3
    isplitl [H5]; · iexact H5
    isplitl [H6]; · iexact H6
    isplitl [H7]; · iexists _; iexact H7
    iexact HS⟩

set_option backward.proofsInPublic true in
set_option maxHeartbeats 8000000 in
/-- A later point whose columns are all rotated and scaled. -/
def runB (h1 : ¬k0_cond1 i = 1#1) (h2 : k0_cond2 i = 1#1) (h3 : ¬k0_cond3 i = 1#1) (h4 : ¬k0_cond4 i = 1#1) (h5 : ¬k0_cond5 i = 1#1) :
    { out : List (View.Piece (Elt F) S1024x512 .bf16) //
      Later c i arg2 harg2 arg3 harg3 arg4 harg4 arg5 harg5 arg6 harg6 arg7 harg7 arg8 harg8 arg9 harg9 arg10 harg10 x3 x5 x6 xa out } :=
  ⟨_, fun K => by
    unfold owns body
    rw [cc0_inproj_eq_skeleton]; unfold cc0_inproj_skel
    rw [k0_part1_eq_skeleton]; unfold k0_part1_skel
    iintro ⟨H3, H5, H6, ⟨%d7, %f7, -, H7⟩, HS, Hk⟩
    have hS0 : scM.IsWhole := Memref.isWhole_whole _
    sl_exec! (disch := first | (guard_target = ¬(k0_cond1 _ = _); exact h1) | (guard_target = (k0_cond2 _ = _); exact h2) | (guard_target = ¬(k0_cond3 _ = _); exact h3) | (guard_target = ¬(k0_cond4 _ = _); exact h4) | (guard_target = ¬(k0_cond5 _ = _); exact h5))
    sl_step
    iapply Hk
    isplitl [H3]; · iexact H3
    isplitl [H5]; · iexact H5
    isplitl [H6]; · iexact H6
    isplitl [H7]; · iexists _; iexact H7
    iexact HS⟩

set_option backward.proofsInPublic true in
set_option maxHeartbeats 8000000 in
/-- A point whose columns are all rotated and not scaled. -/
def runC (h1 : ¬k0_cond1 i = 1#1) (h2 : ¬k0_cond2 i = 1#1) (h3 : k0_cond3 i = 1#1) (h4 : ¬k0_cond4 i = 1#1) (h5 : ¬k0_cond5 i = 1#1) :
    { out : List (View.Piece (Elt F) S1024x512 .bf16) //
      Later c i arg2 harg2 arg3 harg3 arg4 harg4 arg5 harg5 arg6 harg6 arg7 harg7 arg8 harg8 arg9 harg9 arg10 harg10 x3 x5 x6 xa out } :=
  ⟨_, fun K => by
    unfold owns body
    rw [cc0_inproj_eq_skeleton]; unfold cc0_inproj_skel
    rw [k0_part2_eq_skeleton]; unfold k0_part2_skel
    iintro ⟨H3, H5, H6, ⟨%d7, %f7, -, H7⟩, HS, Hk⟩
    have hS0 : scM.IsWhole := Memref.isWhole_whole _
    sl_exec! (disch := first | (guard_target = ¬(k0_cond1 _ = _); exact h1) | (guard_target = ¬(k0_cond2 _ = _); exact h2) | (guard_target = k0_cond3 _ = _; exact h3) | (guard_target = ¬(k0_cond4 _ = _); exact h4) | (guard_target = ¬(k0_cond5 _ = _); exact h5))
    sl_step
    iapply Hk
    isplitl [H3]; · iexact H3
    isplitl [H5]; · iexact H5
    isplitl [H6]; · iexact H6
    isplitl [H7]; · iexists _; iexact H7
    iexact HS⟩

set_option backward.proofsInPublic true in
set_option maxHeartbeats 8000000 in
/-- The point whose first two heads are rotated and whose last two are plain. -/
def runD (h1 : ¬k0_cond1 i = 1#1) (h2 : ¬k0_cond2 i = 1#1) (h3 : ¬k0_cond3 i = 1#1) (h4 : k0_cond4 i = 1#1) (h5 : ¬k0_cond5 i = 1#1) :
    { out : List (View.Piece (Elt F) S1024x512 .bf16) //
      Later c i arg2 harg2 arg3 harg3 arg4 harg4 arg5 harg5 arg6 harg6 arg7 harg7 arg8 harg8 arg9 harg9 arg10 harg10 x3 x5 x6 xa out } :=
  ⟨_, fun K => by
    unfold owns body
    rw [cc0_inproj_eq_skeleton]; unfold cc0_inproj_skel
    iintro ⟨H3, H5, H6, ⟨%d7, %f7, -, H7⟩, HS, Hk⟩
    have hS0 : scM.IsWhole := Memref.isWhole_whole _
    sl_exec! (disch := first | (guard_target = ¬(k0_cond1 _ = _); exact h1) | (guard_target = ¬(k0_cond2 _ = _); exact h2) | (guard_target = ¬(k0_cond3 _ = _); exact h3) | (guard_target = k0_cond4 _ = _; exact h4) | (guard_target = ¬(k0_cond5 _ = _); exact h5))
    sl_step
    iapply Hk
    isplitl [H3]; · iexact H3
    isplitl [H5]; · iexact H5
    isplitl [H6]; · iexact H6
    isplitl [H7]; · iexists _; iexact H7
    iexact HS⟩

set_option backward.proofsInPublic true in
set_option maxHeartbeats 8000000 in
/-- The first point of a row of blocks: it fills the scratch and the gates, then rotates and scales all columns. -/
def runA (h1 : k0_cond1 i = 1#1) (h2 : k0_cond2 i = 1#1) (h3 : ¬k0_cond3 i = 1#1) (h4 : ¬k0_cond4 i = 1#1) (h5 : ¬k0_cond5 i = 1#1) :
    Σ' (out : List (View.Piece (Elt F) S1024x512 .bf16)) (gates : List (View.Piece (Elt F) S1024x128 .f32)),
    { keep : Buf (Elt F) ((c : Thread nD τ).loc cc0_scratch0) //
      ∀ (xb : Buf (Elt F) ((c : Thread nD τ).loc cc0_scratch0)) (K : PUnit → sProp (Res F)),
        iprop((arg2.view.loc (c : Thread nD τ) ↦[arg2.view.set]{fullShare} arg2.view.rep x0)
          ∗ (arg3.view.loc (c : Thread nD τ) ↦[arg3.view.set]{fullShare} arg3.view.rep x1)
          ∗ (arg4.view.loc (c : Thread nD τ) ↦[arg4.view.set]{fullShare} arg4.view.rep x2)
          ∗ (arg5.view.loc (c : Thread nD τ) ↦[arg5.view.set]{fullShare} arg5.view.rep x3)
          ∗ (arg6.view.loc (c : Thread nD τ) ↦[arg6.view.set]{fullShare} arg6.view.rep x4)
          ∗ (arg7.view.loc (c : Thread nD τ) ↦[arg7.view.set]{fullShare} arg7.view.rep x5)
          ∗ (arg8.view.loc (c : Thread nD τ) ↦[arg8.view.set]{fullShare} arg8.view.rep x6)
          ∗ (∃ d, owns (c : Thread nD τ) arg9 fullShare d)
          ∗ (∃ d, owns (c : Thread nD τ) arg10 fullShare d)
          ∗ (scM.view.loc (c : Thread nD τ) ↦{fullShare} xb)
          ∗ (iprop((arg2.view.loc (c : Thread nD τ) ↦[arg2.view.set]{fullShare} arg2.view.rep x0)
              ∗ (arg3.view.loc (c : Thread nD τ) ↦[arg3.view.set]{fullShare} arg3.view.rep x1)
              ∗ (arg4.view.loc (c : Thread nD τ) ↦[arg4.view.set]{fullShare} arg4.view.rep x2)
              ∗ (arg5.view.loc (c : Thread nD τ) ↦[arg5.view.set]{fullShare} arg5.view.rep x3)
              ∗ (arg6.view.loc (c : Thread nD τ) ↦[arg6.view.set]{fullShare} arg6.view.rep x4)
              ∗ (arg7.view.loc (c : Thread nD τ) ↦[arg7.view.set]{fullShare} arg7.view.rep x5)
              ∗ (arg8.view.loc (c : Thread nD τ) ↦[arg8.view.set]{fullShare} arg8.view.rep x6)
              ∗ (∃ f, arg9.view.loc (c : Thread nD τ) ↦[arg9.view.set]{fullShare} arg9.view.writes (Elt F) f out)
              ∗ (∃ f, arg10.view.loc (c : Thread nD τ) ↦[arg10.view.set]{fullShare} arg10.view.writes (Elt F) f gates)
              ∗ (scM.view.loc (c : Thread nD τ) ↦{fullShare} keep)) -∗ K ⟨⟩))
          ⊢ wp frame (wpE (defs₀ (F := F)) Variants.none c none) Set.univ
              (body i arg2 harg2 arg3 harg3 arg4 harg4 arg5 harg5 arg6 harg6 arg7 harg7 arg8 harg8 arg9 harg9 arg10 harg10) K } :=
  ⟨_, _, _, fun xb K => by
    unfold owns body
    rw [cc0_inproj_eq_skeleton]; unfold cc0_inproj_skel
    rw [k0_part1_eq_skeleton]; unfold k0_part1_skel
    iintro ⟨H0, H1, H2, H3, H4, H5, H6, ⟨%d7, %f7, -, H7⟩, ⟨%d8, %f8, -, H8⟩, HS, Hk⟩
    have hS0 : scM.IsWhole := Memref.isWhole_whole _
    sl_exec! (disch := first | (guard_target = (k0_cond1 _ = _); exact h1) | (guard_target = (k0_cond2 _ = _); exact h2) | (guard_target = ¬(k0_cond3 _ = _); exact h3) | (guard_target = ¬(k0_cond4 _ = _); exact h4) | (guard_target = ¬(k0_cond5 _ = _); exact h5))
    sl_step
    iapply Hk
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    iexact HS⟩

/-! ## The values -/

theorem z3 : (![0, 0, 0] : Fin 3 → ℕ) = fun _ => 0 := funext fun a => by fin_cases a <;> rfl
theorem z2 : (![0, 0] : Fin 2 → ℕ) = fun _ => 0 := funext fun a => by fin_cases a <;> rfl

/-- The four heads of a block of columns, each stored in its place. -/
def quad (p0 p1 p2 p3 : S1024x128.Idx → Elt F .bf16) : List (View.Piece (Elt F) S1024x512 .bf16) :=
  [⟨Rect.unit (s := S1024x512) ![0, 384] S1024x128.size inb_S1024x512_S1024x128_0_384, p3⟩,
    ⟨Rect.unit (s := S1024x512) ![0, 256] S1024x128.size inb_S1024x512_S1024x128_0_256, p2⟩,
    ⟨Rect.unit (s := S1024x512) ![0, 128] S1024x128.size inb_S1024x512_S1024x128_0_128, p1⟩,
    ⟨Rect.unit (s := S1024x512) ![0, 0] S1024x128.size inb_S1024x512_S1024x128_0_0, p0⟩]

/-- All columns rotated and scaled. -/
def scaled (h : Vec F S1024x2048 .bf16) (w : Vec F S2048x512 .bf16) (co si : Vec F S1024x128 .f32) : List (View.Piece (Elt F) S1024x512 .bf16) :=
  quad (k0_pay18 h w co si) (k0_pay19 h w co si) (k0_pay4 (k0_pay20 h w co si)) (k0_pay5 (k0_pay17 h w) co si)
/-- All columns rotated. -/
def rotated (h : Vec F S1024x2048 .bf16) (w : Vec F S2048x512 .bf16) (co si : Vec F S1024x128 .f32) : List (View.Piece (Elt F) S1024x512 .bf16) :=
  quad (k0_pay22 h w co si) (k0_pay23 h w co si) (k0_pay24 h w co si) (k0_pay6 (k0_pay25 h w) co si)
/-- Half of the columns rotated. -/
def mixed (h : Vec F S1024x2048 .bf16) (w : Vec F S2048x512 .bf16) (co si : Vec F S1024x128 .f32) : List (View.Piece (Elt F) S1024x512 .bf16) :=
  quad (k0_pay8 h w co si) (k0_pay9 h w co si) (k0_pay10 h w) (k0_pay11 h w)
/-- No columns rotated. -/
def plain (h : Vec F S1024x2048 .bf16) (w : Vec F S2048x512 .bf16) : List (View.Piece (Elt F) S1024x512 .bf16) :=
  quad (k0_pay13 h w) (k0_pay14 h w) (k0_pay15 h w) (k0_pay16 h w)

/-- The four heads cover the block. -/
theorem cover (p0 p1 p2 p3 : S1024x128.Idx → Elt F .bf16) (y : S1024x512.Idx) : ∃ pc ∈ quad p0 p1 p2 p3, y ∈ pc.1.set :=
  View.cover_of_tiledL (quad p0 p1 p2 p3) S1024x128.size (by sl_kernel_rfl) y

theorem out_E (h1 : ¬k0_cond1 i = 1#1) (h2 : ¬k0_cond2 i = 1#1) (h3 : ¬k0_cond3 i = 1#1) (h4 : ¬k0_cond4 i = 1#1) (h5 : k0_cond5 i = 1#1) :
    (runE c i arg2 harg2 arg3 harg3 arg4 harg4 arg5 harg5 arg6 harg6 arg7 harg7 arg8 harg8 arg9 harg9 arg10 harg10 x3 x5 x6 xa h1 h2 h3 h4 h5).1 = plain xa x3 := by
  unfold runE plain quad
  dsimp only
  sl_unfold_words
  simp only [View.readAt_eq_ld, View.read_rep]
  simp only [View.ld_unit_zero (S := S2048x512) z2, View.ld_unit_zero (S := S1024x128) z2]
  erw [View.ld_unit_zero (S := S1024x2048) z2]
  rfl

theorem out_B (h1 : ¬k0_cond1 i = 1#1) (h2 : k0_cond2 i = 1#1) (h3 : ¬k0_cond3 i = 1#1) (h4 : ¬k0_cond4 i = 1#1) (h5 : ¬k0_cond5 i = 1#1) :
    (runB c i arg2 harg2 arg3 harg3 arg4 harg4 arg5 harg5 arg6 harg6 arg7 harg7 arg8 harg8 arg9 harg9 arg10 harg10 x3 x5 x6 xa h1 h2 h3 h4 h5).1 = scaled xa x3 x5 x6 := by
  unfold runB scaled quad
  dsimp only
  sl_unfold_words
  simp only [View.readAt_eq_ld, View.read_rep]
  simp only [View.ld_unit_zero (S := S2048x512) z2, View.ld_unit_zero (S := S1024x128) z2]
  erw [View.ld_unit_zero (S := S1024x2048) z2]
  rfl

theorem out_C (h1 : ¬k0_cond1 i = 1#1) (h2 : ¬k0_cond2 i = 1#1) (h3 : k0_cond3 i = 1#1) (h4 : ¬k0_cond4 i = 1#1) (h5 : ¬k0_cond5 i = 1#1) :
    (runC c i arg2 harg2 arg3 harg3 arg4 harg4 arg5 harg5 arg6 harg6 arg7 harg7 arg8 harg8 arg9 harg9 arg10 harg10 x3 x5 x6 xa h1 h2 h3 h4 h5).1 = rotated xa x3 x5 x6 := by
  unfold runC rotated quad
  dsimp only
  sl_unfold_words
  simp only [View.readAt_eq_ld, View.read_rep]
  simp only [View.ld_unit_zero (S := S2048x512) z2, View.ld_unit_zero (S := S1024x128) z2]
  erw [View.ld_unit_zero (S := S1024x2048) z2]
  rfl

theorem out_D (h1 : ¬k0_cond1 i = 1#1) (h2 : ¬k0_cond2 i = 1#1) (h3 : ¬k0_cond3 i = 1#1) (h4 : k0_cond4 i = 1#1) (h5 : ¬k0_cond5 i = 1#1) :
    (runD c i arg2 harg2 arg3 harg3 arg4 harg4 arg5 harg5 arg6 harg6 arg7 harg7 arg8 harg8 arg9 harg9 arg10 harg10 x3 x5 x6 xa h1 h2 h3 h4 h5).1 = mixed xa x3 x5 x6 := by
  unfold runD mixed quad
  dsimp only
  sl_unfold_words
  simp only [View.readAt_eq_ld, View.read_rep]
  simp only [View.ld_unit_zero (S := S2048x512) z2, View.ld_unit_zero (S := S1024x128) z2]
  erw [View.ld_unit_zero (S := S1024x2048) z2]
  rfl

/-- A buffer stored whole holds what was stored. -/
theorem whole_writes {b : Ref sig .tc} (f : b.ty.Contents (Elt F)) {off : Fin b.ty.shape.rank → ℕ}
    (inb : ∀ a, off a + b.ty.shape.size a ≤ b.ty.shape.size a) (h : off = fun _ => 0) (w : b.ty.shape.Idx → Elt F b.ty.elt) :
    (View.whole b).writes (Elt F) f [⟨Rect.unit off b.ty.shape.size inb, w⟩] = w := by
  subst h
  exact View.read_writes_whole (View.whole b) f w

/-- The first point leaves the modulated norm in the scratch. -/
theorem keep_A (h1 : k0_cond1 i = 1#1) (h2 : k0_cond2 i = 1#1) (h3 : ¬k0_cond3 i = 1#1) (h4 : ¬k0_cond4 i = 1#1) (h5 : ¬k0_cond5 i = 1#1) :
    (runA c i arg2 harg2 arg3 harg3 arg4 harg4 arg5 harg5 arg6 harg6 arg7 harg7 arg8 harg8 arg9 harg9 arg10 harg10 x0 x1 x2 x3 x4 x5 x6 h1 h2 h3 h4 h5).2.2.1 = k0_pay2 x1 x0 x2 := by
  unfold runA
  dsimp only
  sl_unfold_words
  simp only [View.readAt_eq_ld, View.read_rep]
  rw [View.ld_unit_zero (S := S1024x2048) z2, View.ld_unit_zero (S := S1x2048) z2, View.ld_unit_zero (S := S1x6x2048) z3]
  exact whole_writes _ _ z2 _

/-- The gates' block, stored whole. -/
def gatesOf (x1 : Vec F S1x6x2048 .f32) (x0 : Vec F S1024x2048 .f32) (x2 : Vec F S1x2048 .f32) (x4 : Vec F S2048x128 .bf16) :
    List (View.Piece (Elt F) S1024x128 .f32) :=
  [⟨Rect.unit (s := S1024x128) ![0, 0] S1024x128.size inb_S1024x128_S1024x128_0_0, k0_pay3 x1 x0 x2 x4⟩]

/-- The gates' store covers their block. -/
theorem gates_cover (x1 : Vec F S1x6x2048 .f32) (x0 : Vec F S1024x2048 .f32) (x2 : Vec F S1x2048 .f32) (x4 : Vec F S2048x128 .bf16) (y : S1024x128.Idx) :
    ∃ pc ∈ gatesOf x1 x0 x2 x4, y ∈ pc.1.set :=
  View.cover_of_tiledL (gatesOf x1 x0 x2 x4) S1024x128.size (by sl_kernel_rfl) y

theorem gates_A (h1 : k0_cond1 i = 1#1) (h2 : k0_cond2 i = 1#1) (h3 : ¬k0_cond3 i = 1#1) (h4 : ¬k0_cond4 i = 1#1) (h5 : ¬k0_cond5 i = 1#1) :
    (runA c i arg2 harg2 arg3 harg3 arg4 harg4 arg5 harg5 arg6 harg6 arg7 harg7 arg8 harg8 arg9 harg9 arg10 harg10 x0 x1 x2 x3 x4 x5 x6 h1 h2 h3 h4 h5).2.1 = gatesOf x1 x0 x2 x4 := by
  unfold runA gatesOf
  dsimp only
  sl_unfold_words
  simp only [View.readAt_eq_ld, View.read_rep]
  rw [View.ld_unit_zero (S := S1024x2048) z2, View.ld_unit_zero (S := S1x2048) z2, View.ld_unit_zero (S := S1x6x2048) z3,
    View.ld_unit_zero (S := S2048x128) z2]

theorem out_A (h1 : k0_cond1 i = 1#1) (h2 : k0_cond2 i = 1#1) (h3 : ¬k0_cond3 i = 1#1) (h4 : ¬k0_cond4 i = 1#1) (h5 : ¬k0_cond5 i = 1#1) :
    (runA c i arg2 harg2 arg3 harg3 arg4 harg4 arg5 harg5 arg6 harg6 arg7 harg7 arg8 harg8 arg9 harg9 arg10 harg10 x0 x1 x2 x3 x4 x5 x6 h1 h2 h3 h4 h5).1 = scaled (k0_pay2 x1 x0 x2) x3 x5 x6 := by
  unfold runA scaled quad
  dsimp only
  sl_unfold_words
  simp only [View.readAt_eq_ld, View.read_rep]
  simp only [View.ld_unit_zero (S := S2048x512) z2, View.ld_unit_zero (S := S1024x128) z2, View.readCov_unit_zero (S := S1024x2048) _ z2,
    View.ld_unit_zero (S := S1024x2048) z2, View.ld_unit_zero (S := S1x2048) z2, View.ld_unit_zero (S := S1x6x2048) z3]

/-! ## Which way a point goes -/

/-- The first point of a row of blocks is the one at column block 0. -/
theorem first_iff : k0_cond1 i = 1#1 ↔ (i 1).val = 0 := by
  have h : (i 1).val < 13 := (i 1).isLt
  unfold k0_cond1
  generalize (i 1).val = n at h ⊢
  interval_cases n <;> decide

theorem scaled_iff : k0_cond2 i = 1#1 ↔ (i 1).val < 2 := by
  have h : (i 1).val < 13 := (i 1).isLt
  unfold k0_cond2
  generalize (i 1).val = n at h ⊢
  interval_cases n <;> decide

theorem rotated_iff : k0_cond3 i = 1#1 ↔ (i 1).val = 2 := by
  have h : (i 1).val < 13 := (i 1).isLt
  unfold k0_cond3
  generalize (i 1).val = n at h ⊢
  interval_cases n <;> decide

theorem mixed_iff : k0_cond4 i = 1#1 ↔ (i 1).val = 3 := by
  have h : (i 1).val < 13 := (i 1).isLt
  unfold k0_cond4
  generalize (i 1).val = n at h ⊢
  interval_cases n <;> decide

theorem plain_iff : k0_cond5 i = 1#1 ↔ 4 ≤ (i 1).val := by
  have h : (i 1).val < 13 := (i 1).isLt
  unfold k0_cond5
  generalize (i 1).val = n at h ⊢
  interval_cases n <;> decide

/-- What a point at column block `n` stores, from the scratch rows, the weights and the two rotary tables. -/
def stored (n : ℕ) (h : Vec F S1024x2048 .bf16) (w : Vec F S2048x512 .bf16) (co si : Vec F S1024x128 .f32) :
    List (View.Piece (Elt F) S1024x512 .bf16) :=
  if n < 2 then scaled h w co si else if n = 2 then rotated h w co si else if n = 3 then mixed h w co si else plain h w

theorem stored_cover (n : ℕ) (h : Vec F S1024x2048 .bf16) (w : Vec F S2048x512 .bf16) (co si : Vec F S1024x128 .f32) (y : S1024x512.Idx) :
    ∃ pc ∈ stored n h w co si, y ∈ pc.1.set := by
  unfold stored scaled rotated mixed plain
  split_ifs <;> exact cover _ _ _ _ y

/-- Any later point runs, and stores what its column block says. -/
theorem later (hi : (i 1).val ≠ 0) :
    Later c i arg2 harg2 arg3 harg3 arg4 harg4 arg5 harg5 arg6 harg6 arg7 harg7 arg8 harg8 arg9 harg9 arg10 harg10 x3 x5 x6 xa
      (stored (i 1).val xa x3 x5 x6) := by
  have n1 : ¬k0_cond1 i = 1#1 := fun h => hi ((first_iff i).mp h)
  unfold stored
  split_ifs with a b d
  · have r := (runB c i arg2 harg2 arg3 harg3 arg4 harg4 arg5 harg5 arg6 harg6 arg7 harg7 arg8 harg8 arg9 harg9 arg10 harg10 x3 x5 x6 xa n1
      ((scaled_iff i).mpr a) (fun h => by have := (rotated_iff i).mp h; omega) (fun h => by have := (mixed_iff i).mp h; omega)
      (fun h => by have := (plain_iff i).mp h; omega)).2
    rwa [out_B] at r
  · have r := (runC c i arg2 harg2 arg3 harg3 arg4 harg4 arg5 harg5 arg6 harg6 arg7 harg7 arg8 harg8 arg9 harg9 arg10 harg10 x3 x5 x6 xa n1
      (fun h => by have := (scaled_iff i).mp h; omega) ((rotated_iff i).mpr b) (fun h => by have := (mixed_iff i).mp h; omega)
      (fun h => by have := (plain_iff i).mp h; omega)).2
    rwa [out_C] at r
  · have r := (runD c i arg2 harg2 arg3 harg3 arg4 harg4 arg5 harg5 arg6 harg6 arg7 harg7 arg8 harg8 arg9 harg9 arg10 harg10 x3 x5 x6 xa n1
      (fun h => by have := (scaled_iff i).mp h; omega) (fun h => by have := (rotated_iff i).mp h; omega) ((mixed_iff i).mpr d)
      (fun h => by have := (plain_iff i).mp h; omega)).2
    rwa [out_D] at r
  · have r := (runE c i arg2 harg2 arg3 harg3 arg4 harg4 arg5 harg5 arg6 harg6 arg7 harg7 arg8 harg8 arg9 harg9 arg10 harg10 x3 x5 x6 xa n1
      (fun h => by have := (scaled_iff i).mp h; omega) (fun h => by have := (rotated_iff i).mp h; omega)
      (fun h => by have := (mixed_iff i).mp h; omega) ((plain_iff i).mpr (by omega))).2
    rwa [out_E] at r

end Cert.InIdealBody
-- ==== Proof.InMath.lean ====
module

public import Idealize.ShloMosaic.Lib.Pointwise
public import Idealize.ShloMosaic.Lib.IdealHost

@[expose] public section

/-! The arithmetic of the input projection's columns, over the extended reals. -/

noncomputable section

open Idealize.ShloMosaic

namespace Cert.InMath

/-- One lane of a head after the rotary embedding: the lane times its cosine plus the lane half a head away times its
    sine. -/
def turn (p q co si : EReal) : EReal := p * co + q * si

/-- What becomes of a projected column by its place `j`: the queries are turned and scaled, the rotary keys turned, the
    rest left. -/
def column (j : ℕ) (p q co si : EReal) : EReal :=
  if j < 1024 then turn p q co si * Ideal.ofBits .f32 1040356334#32 else if j < 1792 then turn p q co si else p

end Cert.InMath
-- ==== Proof.InBlock.lean ====
module

public import proofs.«01_k».proof.Proof.InIdealBody
public import proofs.«01_k».proof.Proof.InMath
public import proofs.«01_k».proof.Proof.OutMath
public import Idealize.ShloMosaic.Lib.KernelVsHost

@[expose] public section

/-! What the body of the input projection leaves in the blocks of a grid point, element by element. -/

set_option maxRecDepth 16384

noncomputable section

open Idealize.ShloMosaic Idealize.ShloMosaic.TcCoe

namespace Cert.InBlock

open Cert.InIdeal Cert.InIdeal.Gen Cert.InIdealBody

/-- The modulated norm of a block's row. -/
def row (mod : Vec Ideal S1x6x2048 .f32) (x : Vec Ideal S1024x2048 .f32) (g : Vec Ideal S1x2048 .f32) (r : Fin 1024) :
    Fin 2048 → EReal :=
  OutMath.modulated (fun e => x (ix2 r e)) (fun e => mod (ix3 0 1 e)) (fun e => mod (ix3 0 0 e)) (fun e => g (ix2 0 e))

theorem pay1_apply (mod : Vec Ideal S1x6x2048 .f32) (x : Vec Ideal S1024x2048 .f32) (g : Vec Ideal S1x2048 .f32)
    (r : Fin 1024) (e : Fin 2048) : k0_pay1 (F := Ideal) mod x g (ix2 r e) = row mod x g r e := by
  unfold row OutMath.modulated OutMath.rms
  pointwise [k0_pay1]

theorem pay2_apply (mod : Vec Ideal S1x6x2048 .f32) (x : Vec Ideal S1024x2048 .f32) (g : Vec Ideal S1x2048 .f32)
    (r : Fin 1024) (e : Fin 2048) : k0_pay2 (F := Ideal) mod x g (ix2 r e) = row mod x g r e := by
  rw [← pay1_apply]
  unfold k0_pay2
  generalize k0_pay1 (F := Ideal) mod x g = y
  pointwise []

theorem pay3_apply (mod : Vec Ideal S1x6x2048 .f32) (x : Vec Ideal S1024x2048 .f32) (g : Vec Ideal S1x2048 .f32)
    (w : Vec Ideal S2048x128 .bf16) (r : Fin 1024) (e : Fin 128) :
    k0_pay3 (F := Ideal) mod x g w (ix2 r e) = ∑ k, row mod x g r k * w (ix2 k e) := by
  simp only [← pay1_apply]
  unfold k0_pay3
  generalize k0_pay1 (F := Ideal) mod x g = y
  pointwise []

variable (h : Vec Ideal S1024x2048 .bf16) (w : Vec Ideal S2048x512 .bf16) (co si : Vec Ideal S1024x128 .f32)

/-- The block's projection. -/
def proj (r : Fin 1024) (e : Fin 512) : EReal := ∑ k : Fin 2048, h (ix2 r k) * w (ix2 k e)

theorem pay7_apply (r : Fin 1024) (e : Fin 512) : k0_pay7 (F := Ideal) h w (ix2 r e) = proj h w r e := by
  unfold proj
  pointwise [k0_pay7]
theorem pay12_eq : k0_pay12 (F := Ideal) h w = k0_pay7 h w := rfl
theorem pay17_eq : k0_pay17 (F := Ideal) h w = k0_pay7 h w := rfl
theorem pay21_eq : k0_pay21 (F := Ideal) h w = k0_pay7 h w := rfl

/-- A head's columns, cut from the block. -/
theorem cut_apply (y : FVec Ideal S1024x512 .f32) (n : ℕ) (hn : n < 4) (sl : S1024x512.Slices ![0, n * 128] S1024x128)
    (r : Fin 1024) (k : Fin 128) : extractStridedSlice S1024x128 ![0, n * 128] y sl (ix2 r k) = y (ix2 r (⟨n * 128 + k.val, by omega⟩ : Fin 512)) := by
  refine extractStridedSlice_apply (s := S1024x512) (t := S1024x128) ![0, n * 128] y sl _ _ fun a => ?_
  match a with
  | ⟨0, _⟩ => show r.val = 0 + r.val; omega
  | ⟨1, _⟩ => rfl

/-- A head rolled by half its width. -/
theorem roll_apply (y : FVec Ideal S1024x128 .f32) (r : Fin 1024) (k : Fin 128) :
    dynamicRotate 1 64#32 none y rotates_S1024x128_d1 (ix2 r k) = y (ix2 r (⟨(k.val + 64) % 128, by omega⟩ : Fin 128)) := by
  refine dynamicRotate_apply (s := S1024x128) 1 64#32 y _ _ _ fun b => ?_
  match b with
  | ⟨0, _⟩ => rfl
  | ⟨1, _⟩ => show (k.val + 64) % 128 = (k.val + 128 - 64 % 128) % 128; omega

/-- A head turned. -/
theorem turn_apply (y : FVec Ideal S1024x512 .f32) (n : ℕ) (hn : n < 4) (sl : S1024x512.Slices ![0, n * 128] S1024x128)
    (r : Fin 1024) (k : Fin 128) :
    addf (mulf (extractStridedSlice S1024x128 ![0, n * 128] y sl) co)
        (mulf (dynamicRotate 1 64#32 none (extractStridedSlice S1024x128 ![0, n * 128] y sl) rotates_S1024x128_d1) si) (ix2 r k)
      = InMath.turn (y (ix2 r (⟨n * 128 + k.val, by omega⟩ : Fin 512))) (y (ix2 r (⟨n * 128 + (k.val + 64) % 128, by omega⟩ : Fin 512)))
          (co (ix2 r k)) (si (ix2 r k)) := by
  rw [← cut_apply y n hn sl r k, ← cut_apply y n hn sl r (⟨(k.val + 64) % 128, by omega⟩ : Fin 128),
    ← roll_apply (extractStridedSlice S1024x128 ![0, n * 128] y sl) r k]
  rfl

/-- The block's element at row `r` and column `e`, where `n` is the column block. -/
def val (n : ℕ) (r : Fin 1024) (e : Fin 512) : EReal :=
  InMath.column (n * 512 + e.val) (proj h w r e) (proj h w r (⟨e.val / 128 * 128 + (e.val % 128 + 64) % 128, by omega⟩ : Fin 512))
    (co (ix2 r (⟨e.val % 128, by omega⟩ : Fin 128))) (si (ix2 r (⟨e.val % 128, by omega⟩ : Fin 128)))

/-- Four heads that each hold a function's values make a block that does. -/
theorem quad_apply (f : Fin 1024 → Fin 512 → EReal) (p0 p1 p2 p3 : S1024x128.Idx → Elt Ideal .bf16)
    (h0 : ∀ r k, p0 (ix2 r k) = f r ⟨0 * 128 + k.val, by omega⟩) (h1 : ∀ r k, p1 (ix2 r k) = f r ⟨1 * 128 + k.val, by omega⟩)
    (h2 : ∀ r k, p2 (ix2 r k) = f r ⟨2 * 128 + k.val, by omega⟩) (h3 : ∀ r k, p3 (ix2 r k) = f r ⟨3 * 128 + k.val, by omega⟩)
    (y : S1024x512.Idx) : View.canon (quad (F := Ideal) p0 p1 p2 p3) y = f (y 0) (y 1) := by
  refine View.canon_apply_of_pieces (Val := Elt Ideal) (e := .bf16) (fun y => f (y 0) (y 1)) _ (fun p hp x => ?_) y (cover (F := Ideal) _ _ _ _ y)
  have key : ∀ (n : ℕ) (hn : n < 4) (q : S1024x128.Idx → Elt Ideal .bf16)
      (inb : ∀ a, (![0, n * 128] : Fin 2 → ℕ) a + S1024x128.size a ≤ S1024x512.size a)
      (hq : ∀ r k, q (ix2 r k) = f r ⟨n * 128 + k.val, by omega⟩)
      (x : (Rect.unit (s := S1024x512) ![0, n * 128] S1024x128.size inb).shape.Idx),
      q x = f (((Rect.unit (s := S1024x512) ![0, n * 128] S1024x128.size inb).emb x) 0)
            (((Rect.unit (s := S1024x512) ![0, n * 128] S1024x128.size inb).emb x) 1) := by
    intro n hn q inb hq x
    have hx : x = ix2 (x 0 : Fin 1024) (x 1 : Fin 128) := eq_ix2 x
    refine (congrArg q hx).trans ((hq _ _).trans (congrArg₂ f ?_ ?_))
    · exact Fin.ext (show (x 0).val = 0 + 1 * (x 0).val by omega)
    · exact Fin.ext (show n * 128 + (x 1).val = n * 128 + 1 * (x 1).val by omega)
  unfold quad at hp
  simp only [List.mem_cons, List.not_mem_nil, or_false] at hp
  rcases hp with rfl | rfl | rfl | rfl
  · exact key 3 (by omega) _ inb_S1024x512_S1024x128_0_384 h3 x
  · exact key 2 (by omega) _ inb_S1024x512_S1024x128_0_256 h2 x
  · exact key 1 (by omega) _ inb_S1024x512_S1024x128_0_128 h1 x
  · exact key 0 (by omega) _ inb_S1024x512_S1024x128_0_0 h0 x

/-- The value at a head's lane, by whether the lane is scaled, turned or left. -/
theorem val_head (m n : ℕ) (hn : n < 4) (r : Fin 1024) (k : Fin 128) :
    val h w co si m r ⟨n * 128 + k.val, by omega⟩
      = InMath.column (m * 512 + (n * 128 + k.val)) (k0_pay7 (F := Ideal) h w (ix2 r (⟨n * 128 + k.val, by omega⟩ : Fin 512)))
          (k0_pay7 (F := Ideal) h w (ix2 r (⟨n * 128 + (k.val + 64) % 128, by omega⟩ : Fin 512))) (co (ix2 r k)) (si (ix2 r k)) := by
  have e1 : (⟨(n * 128 + k.val) / 128 * 128 + ((n * 128 + k.val) % 128 + 64) % 128, by omega⟩ : Fin 512)
      = ⟨n * 128 + (k.val + 64) % 128, by omega⟩ := Fin.ext (by show (n * 128 + k.val) / 128 * 128 + ((n * 128 + k.val) % 128 + 64) % 128 = _; show _ = n * 128 + (k.val + 64) % 128; omega)
  have e2 : (⟨(n * 128 + k.val) % 128, by omega⟩ : Fin 128) = k := Fin.ext (by show (n * 128 + k.val) % 128 = k.val; omega)
  unfold val
  rw [pay7_apply, pay7_apply]
  show InMath.column _ _ (proj h w r ⟨(n * 128 + k.val) / 128 * 128 + ((n * 128 + k.val) % 128 + 64) % 128, _⟩) (co (ix2 r ⟨(n * 128 + k.val) % 128, _⟩)) (si (ix2 r ⟨(n * 128 + k.val) % 128, _⟩)) = _
  rw [e1, e2]

/-- A head that is turned and scaled. -/
theorem head_scaled (m n : ℕ) (hn : n < 4) (hm : m < 2) (sl : S1024x512.Slices ![0, n * 128] S1024x128) (r : Fin 1024) (k : Fin 128) :
    truncf .bf16 (mulf (addf (mulf (extractStridedSlice S1024x128 ![0, n * 128] (k0_pay7 (F := Ideal) h w) sl) co)
        (mulf (dynamicRotate 1 64#32 none (extractStridedSlice S1024x128 ![0, n * 128] (k0_pay7 (F := Ideal) h w) sl) rotates_S1024x128_d1) si))
        (broadcast S1024x128 (Scalar.ofBits (F := Ideal) .f32 0x3E0293EE#32))) bitsLt_bf16_f32 (ix2 r k)
      = val h w co si m r ⟨n * 128 + k.val, by omega⟩ := by
  rw [val_head h w co si m n hn r k]
  unfold InMath.column
  rw [if_pos (by omega), ← turn_apply co si (k0_pay7 (F := Ideal) h w) n hn sl r k]
  rfl

/-- A head that is turned. -/
theorem head_turned (m n : ℕ) (hn : n < 4) (hm : 1024 ≤ m * 512 + n * 128) (hm' : m * 512 + n * 128 < 1792)
    (sl : S1024x512.Slices ![0, n * 128] S1024x128) (r : Fin 1024) (k : Fin 128) :
    truncf .bf16 (addf (mulf (extractStridedSlice S1024x128 ![0, n * 128] (k0_pay7 (F := Ideal) h w) sl) co)
        (mulf (dynamicRotate 1 64#32 none (extractStridedSlice S1024x128 ![0, n * 128] (k0_pay7 (F := Ideal) h w) sl) rotates_S1024x128_d1) si))
        bitsLt_bf16_f32 (ix2 r k)
      = val h w co si m r ⟨n * 128 + k.val, by omega⟩ := by
  rw [val_head h w co si m n hn r k]
  unfold InMath.column
  rw [if_neg (by omega), if_pos (by omega), ← turn_apply co si (k0_pay7 (F := Ideal) h w) n hn sl r k]
  rfl

/-- A head that is left. -/
theorem head_left (m n : ℕ) (hn : n < 4) (hm : 1792 ≤ m * 512 + n * 128)
    (sl : S1024x512.Slices ![0, n * 128] S1024x128) (r : Fin 1024) (k : Fin 128) :
    truncf .bf16 (extractStridedSlice S1024x128 ![0, n * 128] (k0_pay7 (F := Ideal) h w) sl) bitsLt_bf16_f32 (ix2 r k)
      = val h w co si m r ⟨n * 128 + k.val, by omega⟩ := by
  rw [val_head h w co si m n hn r k]
  unfold InMath.column
  rw [if_neg (by omega), if_neg (by omega), ← cut_apply (k0_pay7 (F := Ideal) h w) n hn sl r k]
  rfl

/-- The block a point leaves, at an element. -/
theorem stored_apply (m : ℕ) (y : S1024x512.Idx) :
    View.canon (stored (F := Ideal) m h w co si) y = val h w co si m (y 0) (y 1) := by
  unfold stored
  split_ifs with a b d
  · exact quad_apply (val h w co si m) _ _ _ _ (head_scaled h w co si m 0 (by omega) a slices_S1024x512_o0_0_S1024x128)
      (head_scaled h w co si m 1 (by omega) a slices_S1024x512_o0_128_S1024x128)
      (head_scaled h w co si m 2 (by omega) a slices_S1024x512_o0_256_S1024x128)
      (head_scaled h w co si m 3 (by omega) a slices_S1024x512_o0_384_S1024x128) y
  · exact quad_apply (val h w co si m) _ _ _ _ (head_turned h w co si m 0 (by omega) (by omega) (by omega) slices_S1024x512_o0_0_S1024x128)
      (head_turned h w co si m 1 (by omega) (by omega) (by omega) slices_S1024x512_o0_128_S1024x128)
      (head_turned h w co si m 2 (by omega) (by omega) (by omega) slices_S1024x512_o0_256_S1024x128)
      (head_turned h w co si m 3 (by omega) (by omega) (by omega) slices_S1024x512_o0_384_S1024x128) y
  · exact quad_apply (val h w co si m) _ _ _ _ (head_turned h w co si m 0 (by omega) (by omega) (by omega) slices_S1024x512_o0_0_S1024x128)
      (head_turned h w co si m 1 (by omega) (by omega) (by omega) slices_S1024x512_o0_128_S1024x128)
      (head_left h w co si m 2 (by omega) (by omega) slices_S1024x512_o0_256_S1024x128)
      (head_left h w co si m 3 (by omega) (by omega) slices_S1024x512_o0_384_S1024x128) y
  · exact quad_apply (val h w co si m) _ _ _ _ (head_left h w co si m 0 (by omega) (by omega) slices_S1024x512_o0_0_S1024x128)
      (head_left h w co si m 1 (by omega) (by omega) slices_S1024x512_o0_128_S1024x128)
      (head_left h w co si m 2 (by omega) (by omega) slices_S1024x512_o0_256_S1024x128)
      (head_left h w co si m 3 (by omega) (by omega) slices_S1024x512_o0_384_S1024x128) y

end Cert.InBlock
-- ==== Proof.InIdealRun.lean ====
module

public import proofs.«01_k».proof.Proof.InIdealBody
public import Idealize.ShloMosaic.Lib.Pipeline.FrameBody
public import Idealize.ShloMosaic.Lib.Pipeline.TableIdle
public import Idealize.ShloMosaic.Lib.Claim
public import Idealize.ShloMosaic.Lib.Pipeline.Kit

@[expose] public section

/-! The input projection's run: what each grid point leaves in its two windows, and what the scratch holds between the
    points. The scratch is filled at the first point of a row of blocks and read at the row's other points; the gates'
    block is stored at the first point and written back after the last. -/

set_option maxRecDepth 16384

noncomputable section

namespace Cert.InIdealRun

open Cert.InIdeal Cert.InIdeal.Gen Cert.InIdealBody
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]
variable (m : (ℓ : Loc nD τ sig) → Buf (Elt F) ℓ) (ρ : Dev nD → PrngReg)

theorem coords : ∀ t : Fin cfg0.N, (grid0.coords t 0).val = t.val / 13 ∧ (grid0.coords t 1).val = t.val % 13 :=
  (by decide +kernel : ∀ t : Fin grid0.N, (grid0.coords t 0).val = t.val / 13 ∧ (grid0.coords t 1).val = t.val % 13)

/-- The modulated norm of point `t`'s rows. -/
def keep (c : Dev nD) (t : Fin cfg0.N) : S1024x2048.Idx → Elt F .bf16 :=
  k0_pay2 (iblk m c 1 t) (iblk m c 0 t) (iblk m c 2 t)
/-- The gates of point `t`'s rows. -/
def gates (c : Dev nD) (t : Fin cfg0.N) : S1024x128.Idx → Elt F .f32 :=
  k0_pay3 (iblk m c 1 t) (iblk m c 0 t) (iblk m c 2 t) (iblk m c 4 t)
/-- The block of columns point `t` leaves. -/
def cols (c : Dev nD) (t : Fin cfg0.N) : S1024x512.Idx → Elt F .bf16 :=
  View.canon (stored (grid0.coords t 1).val (keep m c t) (iblk m c 3 t) (iblk m c 5 t) (iblk m c 6 t))

/-- Between the points: after a point the scratch holds the modulated norm of its rows. -/
def Phi (c : Dev nD) (t : Fin (cfg0.N + 1)) : sProp (Res F) :=
  iprop((∃ a : Buf (Elt F) ((c : Thread nD τ).loc cc0_scratch0),
      ⌜∀ s : Fin cfg0.N, s.val + 1 = t.val → a = keep m c s⌝ ∗ (scM.view.loc (c : Thread nD τ) ↦{fullShare} a))
    ∗ ∃ r, prngReg c r)

/-- The proof data of the one pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => cols m c t
    | ⟨8, _⟩ => gates m c t
  Φ t := Phi m c t
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = cols m c t := by dsimp only [dats]
theorem after8 (c : Dev nD) (t : Fin cfg0.N) : (dats m 0 c).after 8 t = gates m c t := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d

/-- The point before one that is not the first of its row of blocks. -/
abbrev prev (t : Fin cfg0.N) : Fin cfg0.N := ⟨t.val - 1, Nat.lt_of_le_of_lt (Nat.sub_le _ _) t.isLt⟩

/-- Two points of one block index read one block. -/
theorem iblk_congr (c : Dev nD) (w : Fin cfg0.W) {t s : Fin cfg0.N} (h : (cfg0.win w).index t = (cfg0.win w).index s)
    (hc : (cfg0.win w).clip (cfg0.grid.coords t) = (cfg0.win w).clip (cfg0.grid.coords s)) (d) :
    (dats m 0 c).fetched w t d = (dats m 0 c).fetched w s d := (dats m 0 c).fetched_congr w h hc d

theorem same0 (c : Dev nD) (t : Fin cfg0.N) (h : t.val % 13 ≠ 0) : iblk m c 0 (prev t) = iblk m c 0 t := by
  have e : grid0.coords (prev t) 0 = grid0.coords t 0 := Fin.ext (by rw [(coords _).1, (coords _).1]; show (t.val - 1) / 13 = t.val / 13; omega)
  have k := (dats m 0 c).fetched_congr 0 (t := prev t) (t' := t) (by
    show cc0_transform_0 (grid0.coords (prev t)) = cc0_transform_0 (grid0.coords t)
    unfold cc0_transform_0; rw [e]) rfl (iblk m c 0 t)
  exact ((show _ = (dats m 0 c).fetched 0 (prev t) _ by unfold Dat.fetched Dat.blockOf iblk; rw [A_eq]; rfl).trans k).trans (by unfold Dat.fetched Dat.blockOf iblk; rw [A_eq]; rfl)
theorem same1 (c : Dev nD) (t : Fin cfg0.N) (h : t.val % 13 ≠ 0) : iblk m c 1 (prev t) = iblk m c 1 t := by
  have e : grid0.coords (prev t) 0 = grid0.coords t 0 := Fin.ext (by rw [(coords _).1, (coords _).1]; show (t.val - 1) / 13 = t.val / 13; omega)
  have k := (dats m 0 c).fetched_congr 1 (t := prev t) (t' := t) (by
    show cc0_transform_1 (grid0.coords (prev t)) = cc0_transform_1 (grid0.coords t)
    unfold cc0_transform_1; rw [e]) rfl (iblk m c 1 t)
  exact ((show _ = (dats m 0 c).fetched 1 (prev t) _ by unfold Dat.fetched Dat.blockOf iblk; rw [A_eq]; rfl).trans k).trans (by unfold Dat.fetched Dat.blockOf iblk; rw [A_eq]; rfl)
theorem same2 (c : Dev nD) (t s : Fin cfg0.N) : iblk m c 2 s = iblk m c 2 t := by
  have k := (dats m 0 c).fetched_congr 2 (t := s) (t' := t) rfl rfl (iblk m c 2 t)
  exact ((show _ = (dats m 0 c).fetched 2 s _ by unfold Dat.fetched Dat.blockOf iblk; rw [A_eq]; rfl).trans k).trans (by unfold Dat.fetched Dat.blockOf iblk; rw [A_eq]; rfl)
theorem same4 (c : Dev nD) (t s : Fin cfg0.N) : iblk m c 4 s = iblk m c 4 t := by
  have k := (dats m 0 c).fetched_congr 4 (t := s) (t' := t) rfl rfl (iblk m c 4 t)
  exact ((show _ = (dats m 0 c).fetched 4 s _ by unfold Dat.fetched Dat.blockOf iblk; rw [A_eq]; rfl).trans k).trans (by unfold Dat.fetched Dat.blockOf iblk; rw [A_eq]; rfl)

theorem keep_prev (c : Dev nD) (t : Fin cfg0.N) (h : t.val % 13 ≠ 0) : keep m c (prev t) = keep m c t := by
  unfold keep; rw [same0 m c t h, same1 m c t h, same2 m c t (prev t)]
theorem gates_prev (c : Dev nD) (t : Fin cfg0.N) (h : t.val % 13 ≠ 0) : gates m c (prev t) = gates m c t := by
  unfold gates; rw [same0 m c t h, same1 m c t h, same2 m c t (prev t), same4 m c t (prev t)]

/-- No point leaves the columns' window idle; the gates' window is busy at the first point of a row of blocks only. -/
theorem idle7 (t : Fin cfg0.N) : cfg0.idle 7 (cfg0.grid.coords t) = false := by
  show (!(k0_cond2 (grid0.coords t) == 1#1) && !(k0_cond3 (grid0.coords t) == 1#1) && !(k0_cond4 (grid0.coords t) == 1#1) && !(k0_cond5 (grid0.coords t) == 1#1)) = false
  have h : (grid0.coords t 1).val < 2 ∨ (grid0.coords t 1).val = 2 ∨ (grid0.coords t 1).val = 3 ∨ 4 ≤ (grid0.coords t 1).val := by omega
  rcases h with h | h | h | h
  · rw [(scaled_iff _).mpr h]; rfl
  · rw [(rotated_iff _).mpr h]; simp
  · rw [(mixed_iff _).mpr h]; simp
  · rw [(plain_iff _).mpr h]; simp
theorem idle8 (t : Fin cfg0.N) : cfg0.idle 8 (cfg0.grid.coords t) = !(decide (t.val % 13 = 0)) := by
  show (!(k0_cond1 (grid0.coords t) == 1#1)) = _
  rw [← (coords t).2]
  by_cases h : (grid0.coords t 1).val = 0
  · rw [(first_iff _).mpr h, h]; rfl
  · have n : ¬k0_cond1 (grid0.coords t) = 1#1 := fun k => h ((first_iff _).mp k)
    simp [n, h]

/-- At a later point of its row of blocks the gates' buffer holds the row's gates. -/
theorem before8 (c : Dev nD) : ∀ (n : ℕ) (t : Fin cfg0.N), t.val = n → t.val % 13 ≠ 0 → ∀ d, (dats m 0 c).before 8 t d = gates m c t := by
  intro n
  induction n with
  | zero => intro t ht h; exact absurd (by rw [ht]) h
  | succ n ih =>
    intro t ht h d
    have hp : (prev t).val = n := by show t.val - 1 = n; omega
    have hf : (cfg0.win 8).flush (prev t) = false := by
      rw [Bool.eq_false_iff]; intro k
      have := (flush0_8 (prev t)).mp k
      rw [hp] at this; omega
    rw [(dats m 0 c).before_of_pos 8 t (by omega) ((cfg0.win 8).fetch_out rfl t)]
    rw [show (cfg0.win 8).flush ⟨t.val - 1, Nat.lt_of_le_of_lt (Nat.sub_le _ _) t.isLt⟩ = false from hf, if_neg Bool.false_ne_true]
    unfold Dat.left
    have hi := idle8 (prev t)
    by_cases h0 : (prev t).val % 13 = 0
    · rw [show cfg0.idle 8 (cfg0.grid.coords ⟨t.val - 1, Nat.lt_of_le_of_lt (Nat.sub_le _ _) t.isLt⟩) = false from by rw [hi]; simp [h0]]
      show (dats m 0 c).after 8 (prev t) = _
      rw [after8]; exact gates_prev m c t h
    · rw [show cfg0.idle 8 (cfg0.grid.coords ⟨t.val - 1, Nat.lt_of_le_of_lt (Nat.sub_le _ _) t.isLt⟩) = true from by rw [hi]; simp [h0]]
      show (dats m 0 c).before 8 (prev t) d = _
      rw [ih (prev t) hp h0 d]; exact gates_prev m c t h

set_option maxHeartbeats 4000000 in
/-- The body keeps the invariant and leaves every window what the proof data says. -/
theorem sound_body (c : Dev nD) (t : Fin cfg0.N) :
    iprop((dats m 0 c).Φ t.castSucc ∗ (dats m 0 c).owesAt () t.castSucc
        ∗ (∃ d, owns (c : Thread nD τ) (st0_0 t) fullShare ((dats m 0 c).before 0 t d))
        ∗ (∃ d, owns (c : Thread nD τ) (st0_1 t) fullShare ((dats m 0 c).before 1 t d))
        ∗ (∃ d, owns (c : Thread nD τ) (st0_2 t) fullShare ((dats m 0 c).before 2 t d))
        ∗ (∃ d, owns (c : Thread nD τ) (st0_3 t) fullShare ((dats m 0 c).before 3 t d))
        ∗ (∃ d, owns (c : Thread nD τ) (st0_4 t) fullShare ((dats m 0 c).before 4 t d))
        ∗ (∃ d, owns (c : Thread nD τ) (st0_5 t) fullShare ((dats m 0 c).before 5 t d))
        ∗ (∃ d, owns (c : Thread nD τ) (st0_6 t) fullShare ((dats m 0 c).before 6 t d))
        ∗ (∃ d, owns (c : Thread nD τ) (st0_7 t) fullShare ((dats m 0 c).before 7 t d))
        ∗ (∃ d, owns (c : Thread nD τ) (st0_8 t) fullShare ((dats m 0 c).before 8 t d)))
      ⊢ wp frame (wpE (defs₀ (F := F)) Variants.none c none) Set.univ (bodyAt0 t) fun _ =>
          iprop((dats m 0 c).Φ t.succ ∗ (dats m 0 c).owesAt () t.succ
            ∗ bigSep Finset.univ fun w : Fin cfg0.W =>
                match cfg0.idle w (cfg0.grid.coords t) with
                | true =>
                  match (cfg0.win w).flush t with
                  | false => iprop(∃ d, owns (c : Thread nD τ) ((cfg0.win w).stage (cfg0.slots t w)) fullShare ((dats m 0 c).before w t d))
                  | true => owns (c : Thread nD τ) ((cfg0.win w).stage (cfg0.slots t w)) fullShare ((dats m 0 c).after w t)
                | false => owns (c : Thread nD τ) ((cfg0.win w).stage (cfg0.slots t w)) fullShare ((dats m 0 c).after w t)) := by
  rw [bigSep_W0]
  have i7 := idle7 t
  have i8 := idle8 t
  by_cases hj : t.val % 13 = 0
  · rw [show (!(decide (t.val % 13 = 0))) = false from by simp [hj]] at i8
    rewrite [i7, i8]
    simp only [before0, before1, before2, before3, before4, before5, before6, after0, after1, after2, after3, after4, after5, after6, after7, after8]
    rewrite [show (dats m 0 c).Φ t.succ = Phi m c t.succ from rfl, show (dats m 0 c).Φ t.castSucc = Phi m c t.castSucc from rfl,
      show (dats m 0 c).owesAt () t.succ = (dats m 0 c).owesAt () t.castSucc from rfl]
    unfold Phi
    have hz : (grid0.coords t 1).val = 0 := (coords t).2.trans hj
    have h1 : k0_cond1 (grid0.coords t) = 1#1 := (first_iff _).mpr hz
    have h2 : k0_cond2 (grid0.coords t) = 1#1 := (scaled_iff _).mpr (by omega)
    have h3 : ¬k0_cond3 (grid0.coords t) = 1#1 := fun h => by have := (rotated_iff _).mp h; omega
    have h4 : ¬k0_cond4 (grid0.coords t) = 1#1 := fun h => by have := (mixed_iff _).mp h; omega
    have h5 : ¬k0_cond5 (grid0.coords t) = 1#1 := fun h => by have := (plain_iff _).mp h; omega
    iintro ⟨⟨⟨%a, %hk, HS⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    have ka := keep_A c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (iblk m c 0 t) (iblk m c 1 t) (iblk m c 2 t) (iblk m c 3 t) (iblk m c 4 t) (iblk m c 5 t) (iblk m c 6 t) h1 h2 h3 h4 h5
    have ga := gates_A c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (iblk m c 0 t) (iblk m c 1 t) (iblk m c 2 t) (iblk m c 3 t) (iblk m c 4 t) (iblk m c 5 t) (iblk m c 6 t) h1 h2 h3 h4 h5
    have oa := out_A c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (iblk m c 0 t) (iblk m c 1 t) (iblk m c 2 t) (iblk m c 3 t) (iblk m c 4 t) (iblk m c 5 t) (iblk m c 6 t) h1 h2 h3 h4 h5
    have run := (runA c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (iblk m c 0 t) (iblk m c 1 t) (iblk m c 2 t) (iblk m c 3 t) (iblk m c 4 t) (iblk m c 5 t) (iblk m c 6 t) h1 h2 h3 h4 h5).2.2.2 a
    rewrite [ka, ga, oa] at run
    iapply (run _)
    isplitl [H0]; · iapply rep_of_owns; iexact H0
    isplitl [H1]; · iapply rep_of_owns; iexact H1
    isplitl [H2]; · iapply rep_of_owns; iexact H2
    isplitl [H3]; · iapply rep_of_owns; iexact H3
    isplitl [H4]; · iapply rep_of_owns; iexact H4
    isplitl [H5]; · iapply rep_of_owns; iexact H5
    isplitl [H6]; · iapply rep_of_owns; iexact H6
    isplitl [H7]; · iexists _; iexact H7
    isplitl [H8]; · iexists _; iexact H8
    isplitl [HS]; · iexact HS
    iintro ⟨H0, H1, H2, H3, H4, H5, H6, ⟨%e7, H7⟩, ⟨%e8, H8⟩, HS⟩
    isplitl [HS Hr]
    · isplitl [HS]
      · iexists _; isplitr; swap
        · iexact HS
        · ipureintro; intro s hs
          have hst : s = t := Fin.ext (by have := hs; rw [Fin.val_succ] at this; omega)
          subst hst; rfl
      · iexact Hr
    isplitl [Ho]; · iexact Ho
    isplitl [H0]; · iapply owns_of_rep; iexact H0
    isplitl [H1]; · iapply owns_of_rep; iexact H1
    isplitl [H2]; · iapply owns_of_rep; iexact H2
    isplitl [H3]; · iapply owns_of_rep; iexact H3
    isplitl [H4]; · iapply owns_of_rep; iexact H4
    isplitl [H5]; · iapply owns_of_rep; iexact H5
    isplitl [H6]; · iapply owns_of_rep; iexact H6
    isplitl [H7]
    · unfold owns; iexists _; isplitr; swap
      · iexact H7
      · ipureintro
        refine (View.read_writes_eq_canon _ _ _ (cover _ _ _ _)).trans ?_
        unfold cols stored; rw [hz]; rfl
    · unfold owns; iexists _; isplitr; swap
      · iexact H8
      · ipureintro
        exact (View.read_writes_eq_canon _ _ _ (gates_cover _ _ _ _)).trans (View.canon_unit_zero (S := S1024x128) z2 _ _)
  · rw [show (!(decide (t.val % 13 = 0))) = true from by simp [hj]] at i8
    rewrite [i7, i8]
    have b8 := before8 m c t.val t rfl hj
    simp only [before0, before1, before2, before3, before4, before5, before6, after0, after1, after2, after3, after4, after5, after6, after7, after8, b8]
    rewrite [show (dats m 0 c).Φ t.succ = Phi m c t.succ from rfl, show (dats m 0 c).Φ t.castSucc = Phi m c t.castSucc from rfl,
      show (dats m 0 c).owesAt () t.succ = (dats m 0 c).owesAt () t.castSucc from rfl]
    unfold Phi
    have hz : (grid0.coords t 1).val ≠ 0 := by rw [(coords t).2]; exact hj
    iintro ⟨⟨⟨%a, %hk, HS⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    have ha : a = keep m c t := (hk (prev t) (by show t.val - 1 + 1 = t.val; omega)).trans (keep_prev m c t hj)
    subst ha
    have run := later c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (iblk m c 3 t) (iblk m c 5 t) (iblk m c 6 t) (keep m c t) hz
    iapply (run _)
    isplitl [H3]; · iapply rep_of_owns; iexact H3
    isplitl [H5]; · iapply rep_of_owns; iexact H5
    isplitl [H6]; · iapply rep_of_owns; iexact H6
    isplitl [H7]; · iexists _; iexact H7
    isplitl [HS]; · iexact HS
    iintro ⟨H3, H5, H6, ⟨%e7, H7⟩, HS⟩
    isplitl [HS Hr]
    · isplitl [HS]
      · iexists _; isplitr; swap
        · iexact HS
        · ipureintro; intro s hs
          have hst : s = t := Fin.ext (by have := hs; rw [Fin.val_succ] at this; omega)
          subst hst; rfl
      · iexact Hr
    isplitl [Ho]; · iexact Ho
    isplitl [H0]; · iexact H0
    isplitl [H1]; · iexact H1
    isplitl [H2]; · iexact H2
    isplitl [H3]; · iapply owns_of_rep; iexact H3
    isplitl [H4]; · iexact H4
    isplitl [H5]; · iapply owns_of_rep; iexact H5
    isplitl [H6]; · iapply owns_of_rep; iexact H6
    isplitl [H7]
    · unfold owns; iexists _; isplitr; swap
      · iexact H7
      · ipureintro
        exact View.read_writes_eq_canon _ _ _ (stored_cover _ _ _ _ _)
    · cases (cfg0.win 8).flush t
      · iexists d8; iexact H8
      · iexact H8

/-- The body table's row at point `t`'s slots is the body. -/
theorem row (t : Fin cfg0.N) : defs₀ (F := F) .tc cfg0.body (cfg0.bodyArgs t (cfg0.slots t)) = bodyAt0 t := by
  unfold defs₀; rw [Defs.onTc_tc]

/-- The library's body obligation, at every point. -/
theorem body_obligation (c : Dev nD) : BodyObligation (dats m 0 c) (defs₀ (F := F)) Variants.none () Set.univ := fun t => by
  rw [bigSep_W0, row]
  exact sound_body m c t

/-- At the first point nothing is known of the scratch. -/
theorem phi_intro (c : Dev nD) : Pipeline.ΦA spec0 c ⊢ (dats m 0 c).Φ 0 := by
  unfold Pipeline.ΦA
  rw [scopedRest0_eq, show (dats m 0 c).Φ 0 = Phi m c 0 from rfl]
  unfold Phi
  iintro ⟨⟨%a, HS⟩, Hr⟩
  isplitl [HS]
  · iexists a; isplitr; swap
    · iexact HS
    · ipureintro; intro s hs; exact absurd hs (Nat.succ_ne_zero _)
  · iexact Hr

/-- After the last point the scratch is given back. -/
theorem phi_exit (c : Dev nD) : (dats m 0 c).Φ (Fin.last cfg0.N) ⊢ Pipeline.ΦA spec0 c := by
  unfold Pipeline.ΦA
  rw [scopedRest0_eq, show (dats m 0 c).Φ (Fin.last cfg0.N) = Phi m c (Fin.last _) from rfl]
  unfold Phi
  iintro ⟨⟨%a, -, HS⟩, Hr⟩
  isplitl [HS]
  · iexists a; iexact HS
  · iexact Hr

set_option backward.isDefEq.respectTransparency.types false in
set_option maxHeartbeats 4000000 in
/-- The run, from any memory: every array as the proof data says, every counter at zero. -/
theorem run : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := phi_intro m) (hout := phi_exit m)

end Cert.InIdealRun
-- ==== Proof.InFinal.lean ====
module

public import proofs.«01_k».proof.Proof.InBlock
public import proofs.«01_k».proof.Proof.InIdealRun
public import Idealize.ShloMosaic.Lib.Pipeline.ValueKit.Geometry

@[expose] public section

/-! The arrays of columns and of gates after the kernel's run, element by element, as functions of the arguments. -/

set_option maxRecDepth 16384

noncomputable section

open Idealize.ShloMosaic Idealize.ShloMosaic.TcCoe Idealize.SL.Sem
open Idealize.ShloMosaic.Pipeline (Dat)

namespace Cert.InFinal

open Cert.InIdeal Cert.InIdeal.Gen Cert.InIdealRun

/-! Point `t` is row block `t / 13` and column block `t % 13`; the modulation's block is the row block's sequence. -/

theorem idxRow : ∀ t : Fin cfg0.N, (win0_7.index t 0 = t.val / 13 ∧ win0_7.index t 1 = t.val % 13) ∧ (win0_8.index t 0 = t.val / 13 ∧ win0_8.index t 1 = 0)
    ∧ (win0_0.index t 0 = t.val / 13 ∧ win0_0.index t 1 = 0) ∧ (win0_5.index t 0 = t.val / 13 ∧ win0_5.index t 1 = 0)
    ∧ (win0_6.index t 0 = t.val / 13 ∧ win0_6.index t 1 = 0) :=
  (by decide +kernel : ∀ t : Fin grid0.N, (win0_7.index t 0 = t.val / 13 ∧ win0_7.index t 1 = t.val % 13) ∧ (win0_8.index t 0 = t.val / 13 ∧ win0_8.index t 1 = 0)
    ∧ (win0_0.index t 0 = t.val / 13 ∧ win0_0.index t 1 = 0) ∧ (win0_5.index t 0 = t.val / 13 ∧ win0_5.index t 1 = 0)
    ∧ (win0_6.index t 0 = t.val / 13 ∧ win0_6.index t 1 = 0))
theorem idxRest : ∀ t : Fin cfg0.N, (win0_2.index t 0 = 0 ∧ win0_2.index t 1 = 0) ∧ (win0_3.index t 0 = 0 ∧ win0_3.index t 1 = t.val % 13)
    ∧ (win0_4.index t 0 = 0 ∧ win0_4.index t 1 = 0)
    ∧ (win0_1.index t 0 = t.val / 52 ∧ win0_1.index t 1 = 0 ∧ win0_1.index t 2 = 0) :=
  (by decide +kernel : ∀ t : Fin grid0.N, (win0_2.index t 0 = 0 ∧ win0_2.index t 1 = 0) ∧ (win0_3.index t 0 = 0 ∧ win0_3.index t 1 = t.val % 13)
    ∧ (win0_4.index t 0 = 0 ∧ win0_4.index t 1 = 0)
    ∧ (win0_1.index t 0 = t.val / 52 ∧ win0_1.index t 1 = 0 ∧ win0_1.index t 2 = 0))

variable (m : (ℓ : Loc nD τ sig) → Buf (Elt Ideal) ℓ) (c : Dev nD)

/-! The arguments, as arrays of extended reals. -/
abbrev arg0 : S16384x2048.Idx → EReal := m ((c : Thread nD τ).loc main_arg0)
abbrev arg1 : S4x6x2048.Idx → EReal := m ((c : Thread nD τ).loc main_arg1)
abbrev arg2 : S1x2048.Idx → EReal := m ((c : Thread nD τ).loc main_arg2)
abbrev arg3 : S2048x6656.Idx → EReal := m ((c : Thread nD τ).loc main_arg3)
abbrev arg4 : S2048x128.Idx → EReal := m ((c : Thread nD τ).loc main_arg4)
abbrev arg5 : S16384x128.Idx → EReal := m ((c : Thread nD τ).loc main_arg5)
abbrev arg6 : S16384x128.Idx → EReal := m ((c : Thread nD τ).loc main_arg6)

/-! A point's blocks, read in the arrays. -/

theorem iblk0 (t : Fin cfg0.N) (r : Fin 1024) (k : Fin 2048) (n : Fin 16384) (hn : n.val = t.val / 13 * 1024 + r.val) :
    (iblk m c 0 t : S1024x2048.Idx → EReal) (ix2 r k) = arg0 m c (ix2 n k) := by
  obtain ⟨-, -, ⟨h0, h1⟩, -, -⟩ := idxRow t
  unfold iblk
  rw [View.read_apply]
  refine (congrFun (V_main_arg0 m c) _).trans (congrArg (arg0 m c) (funext fun a => Fin.ext ?_))
  match a with
  | ⟨0, _⟩ => show win0_0.index t 0 * 1024 + 1 * r.val = n.val; rw [h0]; omega
  | ⟨1, _⟩ => show win0_0.index t 1 * 2048 + 1 * k.val = k.val; rw [h1]; omega

theorem iblk1 (t : Fin cfg0.N) (j : Fin 6) (e : Fin 2048) (b : Fin 4) (hb : b.val = t.val / 52) :
    (iblk m c 1 t : S1x6x2048.Idx → EReal) (ix3 0 j e) = arg1 m c (ix3 b j e) := by
  obtain ⟨-, -, -, h0, h1, h2⟩ := idxRest t
  unfold iblk
  rw [View.read_apply]
  refine (congrFun (V_main_arg1 m c) _).trans (congrArg (arg1 m c) (funext fun a => Fin.ext ?_))
  match a with
  | ⟨0, _⟩ => show win0_1.index t 0 * 1 + 1 * 0 = b.val; rw [h0]; omega
  | ⟨1, _⟩ => show win0_1.index t 1 * 6 + 1 * j.val = j.val; rw [h1]; omega
  | ⟨2, _⟩ => show win0_1.index t 2 * 2048 + 1 * e.val = e.val; rw [h2]; omega

theorem iblk2 (t : Fin cfg0.N) (e : Fin 2048) : (iblk m c 2 t : S1x2048.Idx → EReal) (ix2 0 e) = arg2 m c (ix2 0 e) := by
  obtain ⟨⟨h0, h1⟩, -, -, -⟩ := idxRest t
  unfold iblk
  rw [View.read_apply]
  refine (congrFun (V_main_arg2 m c) _).trans (congrArg (arg2 m c) (funext fun a => Fin.ext ?_))
  match a with
  | ⟨0, _⟩ => show win0_2.index t 0 * 1 + 1 * 0 = 0; rw [h0]
  | ⟨1, _⟩ => show win0_2.index t 1 * 2048 + 1 * e.val = e.val; rw [h1]; omega

theorem iblk3 (t : Fin cfg0.N) (k : Fin 2048) (e : Fin 512) (j : Fin 6656) (hj : j.val = t.val % 13 * 512 + e.val) :
    (iblk m c 3 t : S2048x512.Idx → EReal) (ix2 k e) = arg3 m c (ix2 k j) := by
  obtain ⟨-, ⟨h0, h1⟩, -, -⟩ := idxRest t
  unfold iblk
  rw [View.read_apply]
  refine (congrFun (V_main_arg3 m c) _).trans (congrArg (arg3 m c) (funext fun a => Fin.ext ?_))
  match a with
  | ⟨0, _⟩ => show win0_3.index t 0 * 2048 + 1 * k.val = k.val; rw [h0]; omega
  | ⟨1, _⟩ => show win0_3.index t 1 * 512 + 1 * e.val = j.val; rw [h1]; omega

theorem iblk4 (t : Fin cfg0.N) (k : Fin 2048) (e : Fin 128) :
    (iblk m c 4 t : S2048x128.Idx → EReal) (ix2 k e) = arg4 m c (ix2 k e) := by
  obtain ⟨-, -, ⟨h0, h1⟩, -⟩ := idxRest t
  unfold iblk
  rw [View.read_apply]
  refine (congrFun (V_main_arg4 m c) _).trans (congrArg (arg4 m c) (funext fun a => Fin.ext ?_))
  match a with
  | ⟨0, _⟩ => show win0_4.index t 0 * 2048 + 1 * k.val = k.val; rw [h0]; omega
  | ⟨1, _⟩ => show win0_4.index t 1 * 128 + 1 * e.val = e.val; rw [h1]; omega

theorem iblk5 (t : Fin cfg0.N) (r : Fin 1024) (k : Fin 128) (n : Fin 16384) (hn : n.val = t.val / 13 * 1024 + r.val) :
    (iblk m c 5 t : S1024x128.Idx → EReal) (ix2 r k) = arg5 m c (ix2 n k) := by
  obtain ⟨-, -, -, ⟨h0, h1⟩, -⟩ := idxRow t
  unfold iblk
  rw [View.read_apply]
  refine (congrFun (V_main_arg5 m c) _).trans (congrArg (arg5 m c) (funext fun a => Fin.ext ?_))
  match a with
  | ⟨0, _⟩ => show win0_5.index t 0 * 1024 + 1 * r.val = n.val; rw [h0]; omega
  | ⟨1, _⟩ => show win0_5.index t 1 * 128 + 1 * k.val = k.val; rw [h1]; omega

theorem iblk6 (t : Fin cfg0.N) (r : Fin 1024) (k : Fin 128) (n : Fin 16384) (hn : n.val = t.val / 13 * 1024 + r.val) :
    (iblk m c 6 t : S1024x128.Idx → EReal) (ix2 r k) = arg6 m c (ix2 n k) := by
  obtain ⟨-, -, -, -, h0, h1⟩ := idxRow t
  unfold iblk
  rw [View.read_apply]
  refine (congrFun (V_main_arg6 m c) _).trans (congrArg (arg6 m c) (funext fun a => Fin.ext ?_))
  match a with
  | ⟨0, _⟩ => show win0_6.index t 0 * 1024 + 1 * r.val = n.val; rw [h0]; omega
  | ⟨1, _⟩ => show win0_6.index t 1 * 128 + 1 * k.val = k.val; rw [h1]; omega

/-! The arrays after the run. -/

/-- The modulated norm of token `n`. -/
def row (n : Fin 16384) : Fin 2048 → EReal :=
  OutMath.modulated (fun e => arg0 m c (ix2 n e)) (fun e => arg1 m c (ix3 (⟨n.val / 4096, by omega⟩ : Fin 4) 1 e))
    (fun e => arg1 m c (ix3 (⟨n.val / 4096, by omega⟩ : Fin 4) 0 e)) (fun e => arg2 m c (ix2 0 e))

/-- Token `n`'s projection on column `j`. -/
def proj (n : Fin 16384) (j : Fin 6656) : EReal := ∑ k : Fin 2048, row m c n k * arg3 m c (ix2 k j)

/-- Token `n`'s column `j`. -/
def out (n : Fin 16384) (j : Fin 6656) : EReal :=
  InMath.column j.val (proj m c n j) (proj m c n (⟨j.val / 128 * 128 + (j.val % 128 + 64) % 128, by omega⟩ : Fin 6656))
    (arg5 m c (ix2 n (⟨j.val % 128, by omega⟩ : Fin 128))) (arg6 m c (ix2 n (⟨j.val % 128, by omega⟩ : Fin 128)))

/-- Token `n`'s gate `e`. -/
def gate (n : Fin 16384) (e : Fin 128) : EReal := ∑ k : Fin 2048, row m c n k * arg4 m c (ix2 k e)

/-- A block's row is the token's. -/
theorem row_eq (t : Fin cfg0.N) (r : Fin 1024) (n : Fin 16384) (hn : n.val = t.val / 13 * 1024 + r.val) :
    InBlock.row (iblk m c 1 t) (iblk m c 0 t) (iblk m c 2 t) r = row m c n := by
  have hb : (⟨n.val / 4096, by omega⟩ : Fin 4).val = t.val / 52 := by show n.val / 4096 = _; omega
  unfold InBlock.row row
  congr 1
  · exact funext fun e => iblk0 m c t r e n hn
  · exact funext fun e => iblk1 m c t 1 e _ hb
  · exact funext fun e => iblk1 m c t 0 e _ hb
  · exact funext fun e => iblk2 m c t e

/-- A block's projection is the token's. -/
theorem proj_eq (t : Fin cfg0.N) (r : Fin 1024) (e : Fin 512) (n : Fin 16384) (j : Fin 6656)
    (hn : n.val = t.val / 13 * 1024 + r.val) (hj : j.val = t.val % 13 * 512 + e.val) :
    InBlock.proj (keep m c t) (iblk m c 3 t) r e = proj m c n j := by
  unfold InBlock.proj proj
  refine Finset.sum_congr rfl fun k _ => congrArg₂ (· * ·) ?_ (iblk3 m c t k e j hj)
  unfold keep
  exact (InBlock.pay2_apply _ _ _ r k).trans (congrFun (row_eq m c t r n hn) k)

/-- A block's element is the array's. -/
theorem val_eq (t : Fin cfg0.N) (r : Fin 1024) (e : Fin 512) (n : Fin 16384) (j : Fin 6656)
    (hn : n.val = t.val / 13 * 1024 + r.val) (hj : j.val = t.val % 13 * 512 + e.val) :
    InBlock.val (keep m c t) (iblk m c 3 t) (iblk m c 5 t) (iblk m c 6 t) (grid0.coords t 1).val r e = out m c n j := by
  have hm : (⟨e.val % 128, by omega⟩ : Fin 128) = ⟨j.val % 128, by omega⟩ := Fin.ext (by show e.val % 128 = j.val % 128; omega)
  unfold InBlock.val out
  rw [(coords t).2, ← hj, hm]
  rw [proj_eq m c t r e n j hn hj, proj_eq m c t r _ n (⟨j.val / 128 * 128 + (j.val % 128 + 64) % 128, by omega⟩ : Fin 6656) hn (by
      show j.val / 128 * 128 + (j.val % 128 + 64) % 128 = t.val % 13 * 512 + (e.val / 128 * 128 + (e.val % 128 + 64) % 128); omega)]
  exact congrArg₂ (InMath.column j.val _ _) (iblk5 m c t r _ n hn) (iblk6 m c t r _ n hn)

/-- The array of columns after the run. -/
theorem final7 : (dats m 0 c).arrAt 7 cfg0.N = (fun i => out m c (i 0) (i 1) : S16384x6656.Idx → EReal) := by
  refine (dats m 0 c).arrAt_eq_of_covers 7 _ (by decide +kernel) fun t hf y => ?_
  blk_simp
  obtain ⟨⟨h0, h1⟩, -⟩ := idxRow t
  refine (congrFun (after7 m c t) y).trans ?_
  unfold cols
  refine (InBlock.stored_apply _ _ _ _ _ y).trans (val_eq m c t (y 0) (y 1) _ _ ?_ ?_)
  · show win0_7.index t 0 * 1024 + 1 * (y 0).val = _; rw [h0]; omega
  · show win0_7.index t 1 * 512 + 1 * (y 1).val = _; rw [h1]; omega

/-- A block's gate is the array's. -/
theorem gate_eq (t : Fin cfg0.N) (r : Fin 1024) (e : Fin 128) (n : Fin 16384) (hn : n.val = t.val / 13 * 1024 + r.val) :
    gates m c t (ix2 r e) = gate m c n e := by
  unfold gates gate
  refine (InBlock.pay3_apply _ _ _ _ r e).trans (Finset.sum_congr rfl fun k _ => congrArg₂ (· * ·) ?_ (iblk4 m c t k e))
  exact congrFun (row_eq m c t r n hn) k

/-- The array of gates after the run. -/
theorem final8 : (dats m 0 c).arrAt 8 cfg0.N = (fun i => gate m c (i 0) (i 1) : S16384x128.Idx → EReal) := by
  refine (dats m 0 c).arrAt_eq_of_covers 8 _ (by decide +kernel) fun t hf y => ?_
  blk_simp
  rw [after8]
  obtain ⟨-, ⟨h0, h1⟩, -⟩ := idxRow t
  refine (congrArg _ (eq_ix2 y)).trans ((gate_eq m c t (y 0) (y 1) _ ?_).trans (congrArg _ ?_))
  · show win0_8.index t 0 * 1024 + 1 * (y 0).val = _; rw [h0]; omega
  · refine Fin.ext ?_; show (y 1).val = win0_8.index t 1 * 128 + 1 * (y 1).val; rw [h1]; omega

end Cert.InFinal
-- ==== Proof.InReference.lean ====
module

public import proofs.«01_k».proof.Proof.Gen.InRefIdeal.Run
public import proofs.«01_k».proof.Proof.Gen.InRefIdeal.Read
public import Idealize.ShloMosaic.Lib.Pointwise
public import proofs.«01_k».proof.Proof.InMath
public import proofs.«01_k».proof.Proof.OutMath

@[expose] public section

/-! The reference of the input projection, element by element. -/

set_option maxRecDepth 16384

noncomputable section

open Idealize.ShloMosaic Idealize.ShloMosaic.TcCoe

namespace Cert.InReference

open Cert.InRefIdeal Cert.InRefIdeal.Gen Cert.InRefIdeal.Read

variable (x0 : S16384x2048.Idx → EReal) (x1 : S4x6x2048.Idx → EReal) (x2 : S1x2048.Idx → EReal)
    (x3 : S2048x6656.Idx → EReal) (x4 : S2048x128.Idx → EReal) (x5 x6 : S16384x128.Idx → EReal)

/-- The modulated norm of token `n`. -/
def row (n : Fin 16384) : Fin 2048 → EReal :=
  OutMath.modulated (fun e => x0 (ix2 n e)) (fun e => x1 (ix3 (⟨n.val / 4096, by omega⟩ : Fin 4) 1 e))
    (fun e => x1 (ix3 (⟨n.val / 4096, by omega⟩ : Fin 4) 0 e)) (fun e => x2 (ix2 0 e))

/-- Token `n`'s projection on column `j`. -/
def proj (n : Fin 16384) (j : Fin 6656) : EReal := ∑ k : Fin 2048, row x0 x1 x2 n k * x3 (ix2 k j)

/-- Token `n`'s column `j`. -/
def out (n : Fin 16384) (j : Fin 6656) : EReal :=
  InMath.column j.val (proj x0 x1 x2 x3 n j) (proj x0 x1 x2 x3 n (⟨j.val / 128 * 128 + (j.val % 128 + 64) % 128, by omega⟩ : Fin 6656))
    (x5 (ix2 n (⟨j.val % 128, by omega⟩ : Fin 128))) (x6 (ix2 n (⟨j.val % 128, by omega⟩ : Fin 128)))

/-- A token's row. -/
theorem stream_apply (b : Fin 4) (s : Fin 4096) (e : Fin 2048) (n : Fin 16384) (hn : n.val = b.val * 4096 + s.val) :
    val_main_v0 (F := Ideal) x0 (ix3 b s e) = x0 (ix2 n e) := by
  rw [val_main_v0_apply]
  refine congrArg x0 (funext fun a => Fin.ext ?_)
  have := e.isLt
  match a with
  | ⟨0, _⟩ => show ((b.val * 4096 + s.val) * 2048 + e.val) / 2048 = n.val; omega
  | ⟨1, _⟩ => show ((b.val * 4096 + s.val) * 2048 + e.val) % 2048 = e.val; omega

/-- The sum of a row's squares. -/
theorem squares_apply (b : Fin 4) (s : Fin 4096) :
    val_main_v5 (F := Ideal) x0 (ix2 b s)
      = ∑ k : Fin 2048, val_main_v0 (F := Ideal) x0 (ix3 b s k) * val_main_v0 (F := Ideal) x0 (ix3 b s k) := by
  rw [val_main_v5_apply, val_main_cst_apply]
  refine (congrArg (· + _) Ideal.ofBits_zero_f32).trans ((zero_add _).trans (Finset.sum_congr rfl fun k _ => ?_))
  rw [val_main_v4_apply, eq_ix3 (idx_main_v5 (ix2 b s) k)]
  rfl

/-- The weights of the norm. -/
theorem weight_apply (b : Fin 4) (s : Fin 4096) (e : Fin 2048) :
    val_main_v15 (F := Ideal) x2 (ix3 b s e) = x2 (ix2 0 e) := by
  rw [val_main_v15_apply, val_main_v14_apply, val_main_v3_apply]
  refine congrArg x2 (funext fun a => Fin.ext ?_)
  match a with
  | ⟨0, _⟩ => rfl
  | ⟨1, _⟩ => exact Nat.mod_eq_of_lt e.isLt

/-- A row, normalized. -/
theorem norm_apply (b : Fin 4) (s : Fin 4096) (e : Fin 2048) :
    val_main_v16 (F := Ideal) x0 x2 (ix3 b s e)
      = OutMath.rms (fun e => val_main_v0 (F := Ideal) x0 (ix3 b s e)) (fun e => x2 (ix2 0 e)) e := by
  unfold OutMath.rms
  beta_reduce
  rw [val_main_v16_apply, val_main_v13_apply, weight_apply, val_main_v12_apply, val_main_v11_apply, val_main_v10_apply,
    val_main_v8_apply, val_main_v9_apply, val_main_v7_apply, val_main_cst_0_apply, val_main_cst_1_apply, val_main_v6_apply,
    eq_ix2 (idx_main_v6 (idx_main_v12 (ix3 b s e)))]
  rw [← squares_apply x0 b s]
  rfl

/-- The scale and the shift. -/
theorem scale_apply (b : Fin 4) (s : Fin 4096) (e : Fin 2048) :
    val_main_v19 (F := Ideal) x1 (ix3 b s e) = 1 + x1 (ix3 b 1 e) := by
  pointwise [val_main_v19, val_main_v18, val_main_v17, val_main_cst_2, val_main_v2]
theorem shift_apply (b : Fin 4) (s : Fin 4096) (e : Fin 2048) :
    val_main_v21 (F := Ideal) x1 (ix3 b s e) = x1 (ix3 b 0 e) := by
  pointwise [val_main_v21, val_main_v1]

/-- The modulated norm, by sequence and position. -/
theorem modulated_apply (b : Fin 4) (s : Fin 4096) (e : Fin 2048) (n : Fin 16384) (hn : n.val = b.val * 4096 + s.val) :
    val_main_v22 (F := Ideal) x0 x1 x2 (ix3 b s e) = row x0 x1 x2 n e := by
  have hb : (⟨n.val / 4096, by omega⟩ : Fin 4) = b := Fin.ext (by show n.val / 4096 = b.val; omega)
  have hrow : (fun e => x0 (ix2 n e)) = fun e => val_main_v0 (F := Ideal) x0 (ix3 b s e) :=
    funext fun e => (stream_apply x0 b s e n hn).symm
  unfold row OutMath.modulated
  rw [hb, hrow, ← norm_apply, ← scale_apply x1 b s e]
  beta_reduce
  rw [← shift_apply x1 b s e, val_main_v22_apply, val_main_v20_apply]
  rfl

/-- The modulated norm. -/
theorem row_apply (n : Fin 16384) (e : Fin 2048) : val_main_v23 (F := Ideal) x0 x1 x2 (ix2 n e) = row x0 x1 x2 n e := by
  have hi : idx_main_v23 (ix2 n e) = ix3 (⟨n.val / 4096, by omega⟩ : Fin 4) (⟨n.val % 4096, by omega⟩ : Fin 4096) e := by
    funext a
    apply Fin.ext
    have := e.isLt
    match a with
    | ⟨0, _⟩ => show (n.val * 2048 + e.val) / 8388608 = n.val / 4096; omega
    | ⟨1, _⟩ => show (n.val * 2048 + e.val) / 2048 % 4096 = n.val % 4096; omega
    | ⟨2, _⟩ => show (n.val * 2048 + e.val) % 2048 = e.val; omega
  rw [val_main_v23_apply, hi]
  exact modulated_apply x0 x1 x2 (⟨n.val / 4096, by omega⟩ : Fin 4) (⟨n.val % 4096, by omega⟩ : Fin 4096) e n
    (by show n.val = n.val / 4096 * 4096 + n.val % 4096; omega)

/-- The gates. -/
theorem gate_apply (n : Fin 16384) (e : Fin 128) :
    val_main_v27 (F := Ideal) x0 x1 x2 x4 (ix2 n e) = ∑ k : Fin 2048, row x0 x1 x2 n k * x4 (ix2 k e) := by
  rw [val_main_v27_apply]
  refine Finset.sum_congr rfl fun k _ => ?_
  rw [eq_ix2 (lidx_main_v27 (ix2 n e) k), eq_ix2 (ridx_main_v27 (ix2 n e) k)]
  exact congrArg (· * x4 (ix2 k e)) (row_apply x0 x1 x2 n k)

/-- The projection. -/
theorem proj_apply (n : Fin 16384) (j : Fin 6656) : val_main_v25 (F := Ideal) x0 x1 x2 x3 (ix2 n j) = proj x0 x1 x2 x3 n j := by
  rw [val_main_v25_apply]
  refine Finset.sum_congr rfl fun k _ => ?_
  rw [eq_ix2 (lidx_main_v25 (ix2 n j) k), eq_ix2 (ridx_main_v25 (ix2 n j) k)]
  exact congrArg (· * x3 (ix2 k j)) (row_apply x0 x1 x2 n k)

/-- A head's lane. -/
theorem lane_apply (n : Fin 16384) (h : Fin 14) (k : Fin 128) :
    val_main_v29 (F := Ideal) x0 x1 x2 x3 (ix3 n h k) = proj x0 x1 x2 x3 n ⟨h.val * 128 + k.val, by omega⟩ := by
  rw [val_main_v29_apply, val_main_v28_apply, ← proj_apply]
  refine congrArg (val_main_v25 (F := Ideal) x0 x1 x2 x3) (funext fun a => Fin.ext ?_)
  have := h.isLt
  have := k.isLt
  match a with
  | ⟨0, _⟩ => show ((n.val * 14 + h.val) * 128 + k.val) / 1792 = n.val; omega
  | ⟨1, _⟩ => show ((n.val * 14 + h.val) * 128 + k.val) % 1792 = h.val * 128 + k.val; omega

/-- The two halves of a head. -/
theorem low_apply (n : Fin 16384) (h : Fin 14) (k : Fin 64) :
    val_main_v30 (F := Ideal) x0 x1 x2 x3 (ix3 n h k) = proj x0 x1 x2 x3 n ⟨h.val * 128 + k.val, by omega⟩ := by
  rw [val_main_v30_apply]
  refine Eq.trans (congrArg (val_main_v29 (F := Ideal) x0 x1 x2 x3) (?_ : _ = ix3 n h (⟨k.val, by omega⟩ : Fin 128))) (lane_apply x0 x1 x2 x3 n h _)
  exact eq_ix3 _
theorem high_apply (n : Fin 16384) (h : Fin 14) (k : Fin 64) :
    val_main_v31 (F := Ideal) x0 x1 x2 x3 (ix3 n h k) = proj x0 x1 x2 x3 n ⟨h.val * 128 + (64 + k.val), by omega⟩ := by
  rw [val_main_v31_apply]
  refine Eq.trans (congrArg (val_main_v29 (F := Ideal) x0 x1 x2 x3) (?_ : _ = ix3 n h (⟨64 + k.val, by omega⟩ : Fin 128))) (lane_apply x0 x1 x2 x3 n h _)
  exact eq_ix3 _

/-! The tables' halves. -/
theorem cosLow_apply (n : Fin 16384) (h : Fin 14) (k : Fin 64) :
    val_main_v35 (F := Ideal) x5 (ix3 n h k) = x5 (ix2 n (⟨k.val, by omega⟩ : Fin 128)) := by
  pointwise [val_main_v35, val_main_v34, val_main_v32]
theorem sinLow_apply (n : Fin 16384) (h : Fin 14) (k : Fin 64) :
    val_main_v38 (F := Ideal) x6 (ix3 n h k) = x6 (ix2 n (⟨k.val, by omega⟩ : Fin 128)) := by
  pointwise [val_main_v38, val_main_v37, val_main_v33]
theorem cosHigh_apply (n : Fin 16384) (h : Fin 14) (k : Fin 64) :
    val_main_v42 (F := Ideal) x5 (ix3 n h k) = x5 (ix2 n (⟨64 + k.val, by omega⟩ : Fin 128)) := by
  rw [val_main_v42_apply, val_main_v41_apply, val_main_v32_apply]
  exact congrArg x5 (eq_ix2 _)
theorem sinHigh_apply (n : Fin 16384) (h : Fin 14) (k : Fin 64) :
    val_main_v45 (F := Ideal) x6 (ix3 n h k) = x6 (ix2 n (⟨64 + k.val, by omega⟩ : Fin 128)) := by
  rw [val_main_v45_apply, val_main_v44_apply, val_main_v33_apply]
  exact congrArg x6 (eq_ix2 _)

/-- A head's lane, turned. -/
def turned (n : Fin 16384) (h : Fin 14) (k : Fin 128) : EReal :=
  InMath.turn (proj x0 x1 x2 x3 n ⟨h.val * 128 + k.val, by omega⟩) (proj x0 x1 x2 x3 n ⟨h.val * 128 + (k.val + 64) % 128, by omega⟩)
    (x5 (ix2 n k)) (x6 (ix2 n k))

/-- The heads, turned. -/
theorem turned_apply (n : Fin 16384) (h : Fin 14) (k : Fin 128) :
    val_main_v48 (F := Ideal) x0 x1 x2 x3 x5 x6 (ix3 n h k) = turned x0 x1 x2 x3 x5 x6 n h k := by
  unfold val_main_v48
  by_cases hk : k.val < 64
  · refine (concatenate_pair_apply_left (t := S16384x14x128) 2 (val_main_v40 (F := Ideal) x0 x1 x2 x3 x5 x6) (val_main_v47 (F := Ideal) x0 x1 x2 x3 x5 x6) _ _ rfl
      (ix3 n h (⟨k.val, hk⟩ : Fin 64)) (fun b => ?_)).trans ?_
    · match b with
      | ⟨0, _⟩ => rfl
      | ⟨1, _⟩ => rfl
      | ⟨2, _⟩ => rfl
    · have hj : (⟨h.val * 128 + (k.val + 64) % 128, by omega⟩ : Fin 6656) = ⟨h.val * 128 + (64 + k.val), by omega⟩ :=
        Fin.ext (by show h.val * 128 + (k.val + 64) % 128 = h.val * 128 + (64 + k.val); omega)
      unfold turned
      rw [hj, val_main_v40_apply, val_main_v36_apply, val_main_v39_apply, low_apply, high_apply, cosLow_apply, sinLow_apply]
      rfl
  · refine (concatenate_pair_apply_right (t := S16384x14x128) 2 (val_main_v40 (F := Ideal) x0 x1 x2 x3 x5 x6) (val_main_v47 (F := Ideal) x0 x1 x2 x3 x5 x6) _ _ rfl rfl
      (ix3 n h (⟨k.val - 64, by omega⟩ : Fin 64)) (fun b hb => ?_) ?_).trans ?_
    · match b with
      | ⟨0, _⟩ => rfl
      | ⟨1, _⟩ => rfl
      | ⟨2, _⟩ => exact absurd rfl hb
    · show k.val - 64 + 64 = k.val
      omega
    · have hj : (⟨h.val * 128 + (k.val + 64) % 128, by omega⟩ : Fin 6656) = ⟨h.val * 128 + (k.val - 64), by omega⟩ :=
        Fin.ext (by show h.val * 128 + (k.val + 64) % 128 = h.val * 128 + (k.val - 64); omega)
      have hk2 : (⟨64 + (k.val - 64), by omega⟩ : Fin 128) = k := Fin.ext (by show 64 + (k.val - 64) = k.val; omega)
      have hk3 : (⟨h.val * 128 + (64 + (k.val - 64)), by omega⟩ : Fin 6656) = ⟨h.val * 128 + k.val, by omega⟩ :=
        Fin.ext (by show h.val * 128 + (64 + (k.val - 64)) = h.val * 128 + k.val; omega)
      unfold turned
      rw [hj, val_main_v47_apply, val_main_v43_apply, val_main_v46_apply, low_apply, high_apply, cosHigh_apply, sinHigh_apply, hk2, hk3]
      rfl

/-- The turned heads, side by side. -/
theorem flat_apply (n : Fin 16384) (j : Fin 1792) :
    val_main_v49 (F := Ideal) x0 x1 x2 x3 x5 x6 (ix2 n j)
      = turned x0 x1 x2 x3 x5 x6 n ⟨j.val / 128, by omega⟩ ⟨j.val % 128, by omega⟩ := by
  rw [val_main_v49_apply, ← turned_apply]
  refine congrArg (val_main_v48 (F := Ideal) x0 x1 x2 x3 x5 x6) (funext fun a => Fin.ext ?_)
  have := j.isLt
  match a with
  | ⟨0, _⟩ => show (n.val * 1792 + j.val) / 1792 = n.val; omega
  | ⟨1, _⟩ => show (n.val * 1792 + j.val) / 128 % 14 = j.val / 128; omega
  | ⟨2, _⟩ => show (n.val * 1792 + j.val) % 128 = j.val % 128; omega

/-- A turned column, in the form of the result. -/
theorem turned_eq (n : Fin 16384) (i : Fin 1792) (j : Fin 6656) (hij : i.val = j.val) :
    turned x0 x1 x2 x3 x5 x6 n ⟨i.val / 128, by omega⟩ ⟨i.val % 128, by omega⟩
      = InMath.turn (proj x0 x1 x2 x3 n j) (proj x0 x1 x2 x3 n (⟨j.val / 128 * 128 + (j.val % 128 + 64) % 128, by omega⟩ : Fin 6656))
          (x5 (ix2 n (⟨j.val % 128, by omega⟩ : Fin 128))) (x6 (ix2 n (⟨j.val % 128, by omega⟩ : Fin 128))) := by
  have h1 : (⟨i.val / 128 * 128 + i.val % 128, by omega⟩ : Fin 6656) = j := Fin.ext (by show i.val / 128 * 128 + i.val % 128 = j.val; omega)
  have h2 : (⟨i.val / 128 * 128 + (i.val % 128 + 64) % 128, by omega⟩ : Fin 6656) = ⟨j.val / 128 * 128 + (j.val % 128 + 64) % 128, by omega⟩ :=
    Fin.ext (by show i.val / 128 * 128 + (i.val % 128 + 64) % 128 = j.val / 128 * 128 + (j.val % 128 + 64) % 128; rw [hij])
  have h3 : (⟨i.val % 128, by omega⟩ : Fin 128) = ⟨j.val % 128, by omega⟩ := Fin.ext (by show i.val % 128 = j.val % 128; rw [hij])
  unfold turned
  rw [h1, h2, h3]

/-- The joined columns: the scaled, the turned, the rest. -/
theorem out_apply (n : Fin 16384) (j : Fin 6656) :
    val_main_v56 (F := Ideal) x0 x1 x2 x3 x5 x6 (ix2 n j) = out x0 x1 x2 x3 x5 x6 n j := by
  rw [val_main_v56_apply]
  show val_main_v55 (F := Ideal) x0 x1 x2 x3 x5 x6 (ix2 n j) = _
  unfold val_main_v55 out InMath.column
  have hj := j.isLt
  split_ifs with h1 h2
  · refine (concatenate_apply_piece (t := S16384x6656) 1 _ _ (ix2 n j) 0 (by show 0 < 3; omega) S16384x1024 _ rfl rfl 0 rfl
      (ix2 n (⟨j.val, h1⟩ : Fin 1024)) (fun b hb => ?_) ?_).trans ?_
    · match b with
      | ⟨0, _⟩ => rfl
      | ⟨1, _⟩ => exact absurd rfl hb
    · show 0 + j.val = j.val; omega
    · rw [val_main_v52_apply, val_main_v50_apply, eq_ix2 (idx_main_v50 (ix2 n (⟨j.val, h1⟩ : Fin 1024)))]
      refine congrArg₂ (· * ·) ((flat_apply x0 x1 x2 x3 x5 x6 n _).trans (turned_eq x0 x1 x2 x3 x5 x6 n _ j rfl)) ?_
      rw [val_main_v51_apply, val_main_cst_3_apply]
      rfl
  · refine (concatenate_apply_piece (t := S16384x6656) 1 _ _ (ix2 n j) 1 (by show 1 < 3; omega) S16384x768 _ rfl rfl 1024 rfl
      (ix2 n (⟨j.val - 1024, by omega⟩ : Fin 768)) (fun b hb => ?_) ?_).trans ?_
    · match b with
      | ⟨0, _⟩ => rfl
      | ⟨1, _⟩ => exact absurd rfl hb
    · show 1024 + (j.val - 1024) = j.val; omega
    · rw [val_main_v53_apply, eq_ix2 (idx_main_v53 (ix2 n (⟨j.val - 1024, by omega⟩ : Fin 768)))]
      exact (flat_apply x0 x1 x2 x3 x5 x6 n _).trans (turned_eq x0 x1 x2 x3 x5 x6 n _ j (by show 1024 + (j.val - 1024) = j.val; omega))
  · refine (concatenate_apply_piece (t := S16384x6656) 1 _ _ (ix2 n j) 2 (by show 2 < 3; omega) S16384x4864 _ rfl rfl 1792 rfl
      (ix2 n (⟨j.val - 1792, by omega⟩ : Fin 4864)) (fun b hb => ?_) ?_).trans ?_
    · match b with
      | ⟨0, _⟩ => rfl
      | ⟨1, _⟩ => exact absurd rfl hb
    · show 1792 + (j.val - 1792) = j.val; omega
    · rw [val_main_v54_apply, ← proj_apply]
      refine congrArg (val_main_v25 (F := Ideal) x0 x1 x2 x3) (funext fun a => Fin.ext ?_)
      match a with
      | ⟨0, _⟩ => rfl
      | ⟨1, _⟩ => show 1792 + (j.val - 1792) = j.val; omega

end Cert.InReference
-- ==== Proof.InAlgebraic.lean ====
module

public import proofs.«01_k».proof.Defs
public import proofs.«01_k».proof.Proof.InRun
public import proofs.«01_k».proof.Proof.InFinal
public import proofs.«01_k».proof.Proof.InReference

@[expose] public section

/-! The claims of the input projection: its frames, and that the kernel's run and the reference's run leave the same two
    arrays. -/

set_option maxRecDepth 16384

noncomputable section

open Idealize.ShloMosaic Idealize.ShloMosaic.TcCoe Idealize.SL.Sem
open Idealize.ShloMosaic.Pipeline (Dat)

namespace Cert.InAlgebraic

/-- The kernel's frame, bit-exact. -/
theorem frame_bits : Cert.quiescent_In (hIn := Cert.In.Gen.facts) := fun m ρ _ =>
  θ_run_and (Cert.In.Gen.frame_of m ρ (Cert.InRun.dats m) (Cert.InRun.A_eq m)
      ((θ_run Cert.In.defs _ _).mono (fun _ h => h.1) (Cert.InRun.run m ρ)))
    ((θ_run Cert.In.defs _ _).mono (fun _ h => h.2) (Cert.InRun.run m ρ))

/-- The kernel's frame, over the extended reals. -/
theorem frame_ideal : Cert.quiescent_InIdeal (hInIdeal := Cert.InIdeal.Gen.facts) := fun m ρ _ =>
  θ_run_and (Cert.InIdeal.Gen.frame_of m ρ (Cert.InIdealRun.dats m) (Cert.InIdealRun.A_eq m)
      ((θ_run Cert.InIdeal.defs _ _).mono (fun _ h => h.1) (Cert.InIdealRun.run m ρ)))
    ((θ_run Cert.InIdeal.defs _ _).mono (fun _ h => h.2) (Cert.InIdealRun.run m ρ))

/-- The reference's frame. -/
theorem frame_ref : Cert.quiescent_InRefIdeal (hInRefIdeal := Cert.InRefIdeal.Gen.facts) := fun m ρ _ =>
  (θ_run Cert.InRefIdeal.defs _ _).mono (fun r h => ⟨fun c => (h c).2.2, sem_eq_zero_of_no_sems (by decide) r.2⟩)
    (Cert.InRefIdeal.Value.run (F := Ideal) m ρ)

section
open Cert.InIdeal Cert.InIdeal.Gen Cert.InIdealRun
variable (m : (ℓ : Loc nD τ sig) → Buf (Elt Ideal) ℓ) (ρ : Dev nD → PrngReg)

/-- The kernel's run: the two arrays, and the arguments as they were. -/
theorem run : θ_run defs (onTc (τ := τ) (main (F := Ideal))) ⟨m, fun _ => 0, ρ⟩ (fun r => ∀ c : Dev nD,
      r.2.mem ((c.tc : Thread nD τ).loc main_v0_0) = (fun i => InFinal.out m c (i 0) (i 1) : S16384x6656.Idx → EReal)
      ∧ r.2.mem ((c.tc : Thread nD τ).loc main_v0_1) = (fun i => InFinal.gate m c (i 0) (i 1) : S16384x128.Idx → EReal)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨((h.1 c).1 7).trans (InFinal.final7 m c), ((h.1 c).1 8).trans (InFinal.final8 m c),
    ((h.1 c).1 0).trans (((dats m 0 c).arrAt_in 0 rfl _).trans ((A_eq m c 0).trans (V_main_arg0 m c))),
    ((h.1 c).1 1).trans (((dats m 0 c).arrAt_in 1 rfl _).trans ((A_eq m c 1).trans (V_main_arg1 m c))),
    ((h.1 c).1 2).trans (((dats m 0 c).arrAt_in 2 rfl _).trans ((A_eq m c 2).trans (V_main_arg2 m c))),
    ((h.1 c).1 3).trans (((dats m 0 c).arrAt_in 3 rfl _).trans ((A_eq m c 3).trans (V_main_arg3 m c))),
    ((h.1 c).1 4).trans (((dats m 0 c).arrAt_in 4 rfl _).trans ((A_eq m c 4).trans (V_main_arg4 m c))),
    ((h.1 c).1 5).trans (((dats m 0 c).arrAt_in 5 rfl _).trans ((A_eq m c 5).trans (V_main_arg5 m c))),
    ((h.1 c).1 6).trans (((dats m 0 c).arrAt_in 6 rfl _).trans ((A_eq m c 6).trans (V_main_arg6 m c)))⟩) (InIdealRun.run m ρ)

end

/-- The columns and the gates are the reference's, for all arguments. -/
theorem algebraic : Cert.algebraic_InIdeal_InRefIdeal (hInIdeal := Cert.InIdeal.Gen.facts)
    (hInRefIdeal := Cert.InRefIdeal.Gen.facts) := by
  intro m g m' g' hpre hagree
  refine ⟨_, _, run m g,
    (θ_run Cert.InRefIdeal.defs _ _).mono (fun r h c => ⟨((h c).1).trans ?_, ((h c).2.1).trans ?_, (h c).2.2⟩)
      (Cert.InRefIdeal.Value.run (F := Ideal) m' g')⟩
  · rw [Cert.InRefIdeal.Read.val_main_v56_eq]
    obtain ⟨e0, e1, e2, e3, e4, e5, e6⟩ := hagree c
    rw [e0, e1, e2, e3, e5, e6]
    funext i
    rw [eq_ix2 i]
    exact InReference.out_apply _ _ _ _ _ _ (i 0) (i 1)
  · rw [Cert.InRefIdeal.Read.val_main_v27_eq]
    obtain ⟨e0, e1, e2, e3, e4, e5, e6⟩ := hagree c
    rw [e0, e1, e2, e4]
    funext i
    rw [eq_ix2 i]
    exact InReference.gate_apply _ _ _ _ (i 0) (i 1)

end Cert.InAlgebraic
-- ==== Proof.AdaValue.lean ====
module

public import proofs.«01_k».proof.Proof.Gen.AdaIdeal.Frame
public import proofs.«01_k».proof.Proof.Gen.AdaRefIdeal.Read
public import proofs.«01_k».proof.Proof.ExpMath
public import Idealize.ShloMosaic.Lib.Pointwise
public import Idealize.ShloMosaic.Lib.Pipeline.ValueKit
public import Idealize.ShloMosaic.Lib.Pipeline.ValueKit.Geometry

@[expose] public section

/-! The modulation, element by element: what the kernel's run leaves in its array, and what the reference states. -/

set_option maxRecDepth 16384

noncomputable section

open Idealize.ShloMosaic Idealize.ShloMosaic.TcCoe Idealize.SL.Sem
open Idealize.ShloMosaic.Pipeline (Dat)

namespace Cert.AdaValue

/-- Entry `j` of a conditioning row: the row's silu through column `j` of the layer, plus the bias. -/
def entry (x w : Fin 2048 → EReal) (b : EReal) : EReal := ∑ k, ExpMath.silu (x k) * w k + b

section
open Cert.AdaIdeal Cert.AdaIdeal.Gen

/-- A block of the kernel's product. -/
theorem pay1_apply (x : Vec Ideal S8x2048 .f32) (w : Vec Ideal S2048x512 .f32) (b : Vec Ideal S1x512 .f32) (r : Fin 8) (j : Fin 512) :
    (k0_pay1 (F := Ideal) x w b : S8x512.Idx → EReal) (ix2 r j)
      = entry (fun k => (x : S8x2048.Idx → EReal) (ix2 r k)) (fun k => (w : S2048x512.Idx → EReal) (ix2 k j))
          ((b : S1x512.Idx → EReal) (ix2 0 j)) := by
  unfold entry ExpMath.silu
  pointwise [k0_pay1]
  simp only [sub_eq_add_neg, zero_add]

/-! Every block of columns is visited once, in order. -/

theorem idx : ∀ t : Fin cfg0.N, (win0_0.index t 0 = 0 ∧ win0_0.index t 1 = 0) ∧ (win0_1.index t 0 = 0 ∧ win0_1.index t 1 = t.val)
    ∧ (win0_2.index t 0 = 0 ∧ win0_2.index t 1 = t.val) ∧ (win0_3.index t 0 = 0 ∧ win0_3.index t 1 = t.val) :=
  (by decide +kernel : ∀ t : Fin grid0.N, (win0_0.index t 0 = 0 ∧ win0_0.index t 1 = 0) ∧ (win0_1.index t 0 = 0 ∧ win0_1.index t 1 = t.val)
    ∧ (win0_2.index t 0 = 0 ∧ win0_2.index t 1 = t.val) ∧ (win0_3.index t 0 = 0 ∧ win0_3.index t 1 = t.val))

variable (m : (ℓ : Loc nD τ sig) → Buf (Elt Ideal) ℓ) (c : Dev nD)

/-! The arguments, as arrays of extended reals. -/
abbrev arg0 : S8x2048.Idx → EReal := m ((c : Thread nD τ).loc main_arg0)
abbrev arg1 : S2048x12288.Idx → EReal := m ((c : Thread nD τ).loc main_arg1)
abbrev arg2 : S12288.Idx → EReal := m ((c : Thread nD τ).loc main_arg2)

theorem iblk0 (t : Fin cfg0.N) (r : Fin 8) (k : Fin 2048) :
    (iblk m c 0 t : S8x2048.Idx → EReal) (ix2 r k) = arg0 m c (ix2 r k) := by
  obtain ⟨⟨h0, h1⟩, -, -, -⟩ := idx t
  unfold iblk
  rw [View.read_apply]
  refine (congrFun (V_main_arg0 m c) _).trans (congrArg (arg0 m c) (funext fun a => Fin.ext ?_))
  match a with
  | ⟨0, _⟩ => show win0_0.index t 0 * 8 + 1 * r.val = r.val; rw [h0]; omega
  | ⟨1, _⟩ => show win0_0.index t 1 * 2048 + 1 * k.val = k.val; rw [h1]; omega

theorem iblk1 (t : Fin cfg0.N) (k : Fin 2048) (j : Fin 512) (n : Fin 12288) (hn : n.val = t.val * 512 + j.val) :
    (iblk m c 1 t : S2048x512.Idx → EReal) (ix2 k j) = arg1 m c (ix2 k n) := by
  obtain ⟨-, ⟨h0, h1⟩, -, -⟩ := idx t
  unfold iblk
  rw [View.read_apply]
  refine (congrFun (V_main_arg1 m c) _).trans (congrArg (arg1 m c) (funext fun a => Fin.ext ?_))
  match a with
  | ⟨0, _⟩ => show win0_1.index t 0 * 2048 + 1 * k.val = k.val; rw [h0]; omega
  | ⟨1, _⟩ => show win0_1.index t 1 * 512 + 1 * j.val = n.val; rw [h1]; omega

/-- The bias, which the host lays out as a row before the launch. -/
theorem V_main_v0 : (V m c main_v0 : S1x12288.Idx → EReal) = shapeCast S1x12288 (arg2 m c) shapeCasts_S12288_S1x12288 := by
  unfold V hostOps0
  after_results_simp <;> rfl

theorem iblk2 (t : Fin cfg0.N) (j : Fin 512) (n : Fin 12288) (hn : n.val = t.val * 512 + j.val) :
    (iblk m c 2 t : S1x512.Idx → EReal) (ix2 0 j) = arg2 m c (ix1 n) := by
  obtain ⟨-, -, ⟨h0, h1⟩, -⟩ := idx t
  have hi : ((cfg0.win 2).blk t).view.emb (ix2 (0 : Fin 1) j) = ix2 (0 : Fin 1) n := funext fun a => Fin.ext (by
    match a with
    | ⟨0, _⟩ => show win0_2.index t 0 * 1 + 1 * 0 = 0; rw [h0]
    | ⟨1, _⟩ => show win0_2.index t 1 * 512 + 1 * j.val = n.val; rw [h1]; omega)
  unfold iblk
  rw [View.read_apply]
  refine (congrFun (V_main_v0 m c) _).trans ?_
  refine (congrArg _ hi).trans ?_
  generalize arg2 m c = y
  pointwise []

/-- Entry `j` of conditioning row `r`, from the arguments. -/
def out (r : Fin 8) (n : Fin 12288) : EReal :=
  entry (fun k => arg0 m c (ix2 r k)) (fun k => arg1 m c (ix2 k n)) (arg2 m c (ix1 n))

theorem zero2 : (![0, 0] : Fin 2 → ℕ) = fun _ => 0 := funext fun a => by fin_cases a <;> rfl

theorem out3_eq (x : Vec Ideal S8x2048 .f32) (w : Vec Ideal S2048x512 .f32) (b : Vec Ideal S1x512 .f32) :
    out0_3 x w b = k0_pay1 (F := Ideal) x w b := by
  unfold out0_3
  refine (View.canon_cons_unit_zero (S := S8x512) zero2 _ _ _).trans ?_
  rw [View.ld_unit_zero (S := S8x2048) zero2, View.ld_unit_zero (S := S2048x512) zero2, View.ld_unit_zero (S := S1x512) zero2]

/-- A block's entries are the array's. -/
theorem block (t : Fin cfg0.N) (r : Fin 8) (j : Fin 512) (n : Fin 12288) (hn : n.val = t.val * 512 + j.val) :
    (k0_pay1 (F := Ideal) (iblk m c 0 t) (iblk m c 1 t) (iblk m c 2 t) : S8x512.Idx → EReal) (ix2 r j) = out m c r n := by
  refine (pay1_apply _ _ _ r j).trans ?_
  unfold out
  congr 1
  · exact funext fun k => iblk0 m c t r k
  · exact funext fun k => iblk1 m c t k j n hn
  · exact iblk2 m c t j n hn

/-- The array after the run. -/
theorem final3 : (dats m 0 c).arrAt 3 cfg0.N = (fun i => out m c (i 0) (i 1) : S8x12288.Idx → EReal) := by
  refine (dats m 0 c).arrAt_eq_of_covers 3 _ (by decide +kernel) fun t hf y => ?_
  blk_simp
  rw [after0_3, out3_eq]
  obtain ⟨-, -, -, h0, h1⟩ := idx t
  refine (congrArg _ (eq_ix2 y)).trans ((block m c t (y 0) (y 1) _ ?_).trans (congrArg₂ (out m c) ?_ rfl))
  · show win0_3.index t 1 * 512 + 1 * (y 1).val = _; rw [h1]; omega
  · refine Fin.ext ?_; show (y 0).val = win0_3.index t 0 * 8 + 1 * (y 0).val; rw [h0]; omega

end

section
open Cert.AdaRefIdeal Cert.AdaRefIdeal.Gen Cert.AdaRefIdeal.Read

/-- The reference's silu. -/
theorem silu_apply (x0 : S8x2048.Idx → EReal) (i : S8x2048.Idx) : val_main_v0 (F := Ideal) x0 i = ExpMath.silu (x0 i) := by
  unfold ExpMath.silu
  pointwise [val_main_v0, val_main_call0_v5, val_main_call0_v4, val_main_call0_v3, val_main_call0_v2, val_main_call0_v1,
    val_main_call0_v0, val_main_call0_cst, val_main_call0_cst_0]

/-- The reference's result. -/
theorem ref_apply (x0 : S8x2048.Idx → EReal) (x1 : S2048x12288.Idx → EReal) (x2 : S12288.Idx → EReal) (r : Fin 8) (n : Fin 12288) :
    val_main_v4 (F := Ideal) x0 x1 x2 (ix2 r n)
      = entry (fun k => x0 (ix2 r k)) (fun k => x1 (ix2 k n)) (x2 (ix1 n)) := by
  rw [val_main_v4_apply, val_main_v1_apply, val_main_v3_apply, val_main_v2_apply]
  unfold entry
  refine congrArg₂ (· + ·) (Finset.sum_congr rfl fun k _ => ?_) (congrArg x2 (eq_ix1 _))
  rw [silu_apply, eq_ix2 (lidx_main_v1 (ix2 r n) k), eq_ix2 (ridx_main_v1 (ix2 r n) k)]
  rfl

end

end Cert.AdaValue
-- ==== Proof.AdaAlgebraic.lean ====
module

public import proofs.«01_k».proof.Defs
public import proofs.«01_k».proof.Proof.Gen.AdaIdeal.Value
public import proofs.«01_k».proof.Proof.AdaValue

@[expose] public section

/-! The value claim of the modulation: the kernel's run and the reference's run leave the same array. -/

set_option maxRecDepth 16384

noncomputable section

open Idealize.ShloMosaic Idealize.ShloMosaic.TcCoe Idealize.SL.Sem

namespace Cert.AdaAlgebraic

/-- The reference's frame. -/
theorem frame_ref : Cert.quiescent_AdaRefIdeal (hAdaRefIdeal := Cert.AdaRefIdeal.Gen.facts) := fun m ρ _ =>
  (θ_run Cert.AdaRefIdeal.defs _ _).mono (fun r h => ⟨fun c => (h c).2, sem_eq_zero_of_no_sems (by decide) r.2⟩)
    (Cert.AdaRefIdeal.Value.run (F := Ideal) m ρ)

section
open Cert.AdaIdeal Cert.AdaIdeal.Gen
variable (m : (ℓ : Loc nD τ sig) → Buf (Elt Ideal) ℓ) (ρ : Dev nD → PrngReg)

/-- The kernel's run: the array, and the arguments as they were. -/
theorem run : θ_run defs (onTc (τ := τ) (main (F := Ideal))) ⟨m, fun _ => 0, ρ⟩ (fun r => ∀ c : Dev nD,
      r.2.mem ((c.tc : Thread nD τ).loc main_v1) = (fun i => AdaValue.out m c (i 0) (i 1) : S8x12288.Idx → EReal)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨((h c).1).trans (AdaValue.final3 m c), (h c).2⟩) (Cert.AdaIdeal.Value.run_blocks m ρ)

end

/-- The modulation is the reference's, for all arguments. -/
theorem algebraic : Cert.algebraic_AdaIdeal_AdaRefIdeal (hAdaIdeal := Cert.AdaIdeal.Gen.facts)
    (hAdaRefIdeal := Cert.AdaRefIdeal.Gen.facts) := by
  intro m g m' g' hpre hagree
  refine ⟨_, run m g,
    (θ_run Cert.AdaRefIdeal.defs _ _).mono (fun r h c => ⟨((h c).1).trans ?_, (h c).2⟩)
      (Cert.AdaRefIdeal.Value.run (F := Ideal) m' g')⟩
  rw [Cert.AdaRefIdeal.Read.val_main_v4_eq]
  obtain ⟨e0, e1, e2⟩ := hagree c
  rw [e0, e1, e2]
  funext i
  rw [eq_ix2 i]
  exact AdaValue.ref_apply _ _ _ (i 0) (i 1)

end Cert.AdaAlgebraic
-- ==== Proof.RopeValue.lean ====
module

public import proofs.«01_k».proof.Proof.Gen.RopeIdeal.Frame
public import proofs.«01_k».proof.Proof.Gen.RopeRefIdeal.Read
public import Idealize.ShloMosaic.Lib.Pointwise
public import Idealize.ShloMosaic.Lib.Pipeline.ValueKit
public import Idealize.ShloMosaic.Lib.Pipeline.ValueKit.Geometry

@[expose] public section

/-! The rotary tables, element by element: what the kernel's run leaves in its two arrays, and what the reference states. -/

set_option maxRecDepth 16384

noncomputable section

open Idealize.ShloMosaic Idealize.ShloMosaic.TcCoe Idealize.SL.Sem
open Idealize.ShloMosaic.Pipeline (Dat)

namespace Cert.RopeValue

/-- The 64 inverse frequencies. -/
def freq : (⟨1, ![64]⟩ : Shape).Idx → EReal := Cert.RopeRefIdeal.Read.val_main_v9 (F := Ideal)

/-- The angle of token `n` at frequency `j`: the token's position times the inverse frequency. -/
def angle (x : (⟨2, ![4, 4096]⟩ : Shape).Idx → BitVec 32) (n : Fin 16384) (j : Fin 64) : EReal :=
  (FloatOps.sitofp (F := Ideal) .f32 (x (ix2 (⟨n.val / 4096, by omega⟩ : Fin 4) (⟨n.val % 4096, by omega⟩ : Fin 4096))) : EReal)
    * freq (ix1 j)

/-- The frequency of a lane: the halves repeat. -/
def half (j : Fin 128) : Fin 64 := ⟨j.val % 64, by omega⟩

/-- The cosine table. -/
def cosine (x : (⟨2, ![4, 4096]⟩ : Shape).Idx → BitVec 32) (n : Fin 16384) (j : Fin 128) : EReal :=
  FloatOps.cos (F := Ideal) (φ := .f32) (angle x n (half j))

/-- The sine table: the first half with a minus. -/
def sine (x : (⟨2, ![4, 4096]⟩ : Shape).Idx → BitVec 32) (n : Fin 16384) (j : Fin 128) : EReal :=
  if j.val < 64 then -(FloatOps.sin (F := Ideal) (φ := .f32) (angle x n (half j)) : EReal)
  else FloatOps.sin (F := Ideal) (φ := .f32) (angle x n (half j))

section
open Cert.RopeIdeal Cert.RopeIdeal.Gen

/-! A block's entries. -/

theorem pay2_apply (a : Vec Ideal S1024x128 .f32) (r : Fin 1024) (j : Fin 128) :
    (k0_pay2 (F := Ideal) a : S1024x128.Idx → EReal) (ix2 r j)
      = FloatOps.cos (F := Ideal) (φ := .f32) ((a : S1024x128.Idx → EReal) (ix2 r j)) := by
  unfold k0_pay2 k0_pay1
  rw [shapeCast_self]
  rfl

theorem pay3_apply (a : Vec Ideal S1024x128 .f32) (r : Fin 1024) (j : Fin 128) :
    (k0_pay3 (F := Ideal) a : S1024x128.Idx → EReal) (ix2 r j)
      = if j.val < 64 then -(FloatOps.sin (F := Ideal) (φ := .f32) ((a : S1024x128.Idx → EReal) (ix2 r j)) : EReal)
        else FloatOps.sin (F := Ideal) (φ := .f32) ((a : S1024x128.Idx → EReal) (ix2 r j)) := by
  unfold k0_pay3 k0_pay1
  rw [shapeCast_self]
  have hc : ∀ j : Fin 128, Scalar.cmpi .slt (BitVec.ofNat 32 j.val) 64#32 = if j.val < 64 then 1#1 else 0#1 := by decide +kernel
  have hi : iota .tc S1024x128 32 [1] iota_S1024x128_d1_w32 (ix2 r j) = BitVec.ofNat 32 j.val := iota_single_apply _ _ _ _ _ _
  show Scalar.select (Scalar.cmpi .slt (iota .tc S1024x128 32 [1] iota_S1024x128_d1_w32 (ix2 r j)) 64#32) _ _ = _
  rw [hi, hc]
  by_cases h : j.val < 64
  · rw [if_pos h, if_pos h]
    show Ideal.ofBits .f32 0#32 - _ = -_
    rw [Ideal.ofBits_zero_f32, sub_eq_add_neg, zero_add]
    rfl
  · rw [if_neg h, if_neg h]
    rfl

/-! Every block of tokens is visited once, in order. -/

theorem idx : ∀ t : Fin cfg0.N, (win0_0.index t 0 = t.val ∧ win0_0.index t 1 = 0) ∧ (win0_1.index t 0 = t.val ∧ win0_1.index t 1 = 0)
    ∧ (win0_2.index t 0 = t.val ∧ win0_2.index t 1 = 0) :=
  (by decide +kernel : ∀ t : Fin grid0.N, (win0_0.index t 0 = t.val ∧ win0_0.index t 1 = 0) ∧ (win0_1.index t 0 = t.val ∧ win0_1.index t 1 = 0)
    ∧ (win0_2.index t 0 = t.val ∧ win0_2.index t 1 = 0))

variable (m : (ℓ : Loc nD τ sig) → Buf (Elt Ideal) ℓ) (c : Dev nD)

/-- The positions. -/
abbrev arg0 : S4x4096.Idx → BitVec 32 := m ((c : Thread nD τ).loc main_arg0)

/-- The angles, which the host computes before the launch. -/
theorem V_main_v16 : (V m c main_v16 : S16384x128.Idx → EReal)
    = mulf (F := Ideal) (φ := .f32) (broadcastInDim S16384x128 ![0, 1] bcast_S16384x1_S16384x128_0_1
          (sitofp (F := Ideal) .f32 (shapeCast S16384x1 (arg0 m c) shapeCasts_S4x4096_S16384x1)))
        (broadcastInDim S16384x128 ![0, 1] bcast_S1x128_S16384x128_0_1 (broadcastInDim S1x128 ![1] bcast_S128_S1x128_1
          (concatenate S128 0 [⟨S64, freq⟩, ⟨S64, freq⟩] concatenates_S64_S64_S128_d0))) := by
  unfold V hostOps0
  after_results_simp <;> rfl

/-- The repeated frequencies. -/
theorem repeated (j : Fin 128) :
    concatenate S128 0 [⟨S64, freq⟩, ⟨S64, freq⟩] concatenates_S64_S64_S128_d0 (ix1 j) = freq (ix1 (half j)) := by
  by_cases h : j.val < 64
  · refine concatenate_pair_apply_left (t := S128) 0 freq freq _ _ rfl (ix1 (half j)) fun b => ?_
    match b with
    | ⟨0, _⟩ => show j.val % 64 = j.val; omega
  · refine concatenate_pair_apply_right (t := S128) 0 freq freq _ _ rfl rfl (ix1 (half j)) (fun b hb => ?_) ?_
    · match b with
      | ⟨0, _⟩ => exact absurd rfl hb
    · show j.val % 64 + 64 = j.val; omega

/-- The angles at an entry. -/
theorem angles_apply (n : Fin 16384) (j : Fin 128) :
    (V m c main_v16 : S16384x128.Idx → EReal) (ix2 n j) = angle (arg0 m c) n (half j) := by
  rw [V_main_v16]
  unfold angle
  refine congrArg₂ (· * ·) ?_ ?_
  · refine (broadcastInDim_apply _ bcast_S16384x1_S16384x128_0_1 _ (ix2 n j) (ix2 n (0 : Fin 1)) fun a => ?_).trans ?_
    · match a with
      | ⟨0, _⟩ => rfl
      | ⟨1, _⟩ => rfl
    · refine congrArg (FloatOps.sitofp (F := Ideal) .f32) (shapeCast_apply (arg0 m c) shapeCasts_S4x4096_S16384x1 _ _ ?_)
      rw [Shape.rowMajor_val_two, Shape.rowMajor_val_two]
      show n.val / 4096 * 4096 + n.val % 4096 = n.val * 1 + 0
      omega
  · refine (broadcastInDim_apply _ bcast_S1x128_S16384x128_0_1 _ (ix2 n j) (ix2 (0 : Fin 1) j) fun a => ?_).trans ?_
    · match a with
      | ⟨0, _⟩ => rfl
      | ⟨1, _⟩ => rfl
    · refine (broadcastInDim_apply _ bcast_S128_S1x128_1 _ (ix2 (0 : Fin 1) j) (ix1 j) fun a => ?_).trans (repeated j)
      match a with
      | ⟨0, _⟩ => rfl

theorem iblk0 (t : Fin cfg0.N) (r : Fin 1024) (j : Fin 128) (n : Fin 16384) (hn : n.val = t.val * 1024 + r.val) :
    (iblk m c 0 t : S1024x128.Idx → EReal) (ix2 r j) = angle (arg0 m c) n (half j) := by
  obtain ⟨⟨h0, h1⟩, -, -⟩ := idx t
  have hi : ((cfg0.win 0).blk t).view.emb (ix2 r j) = ix2 n j := funext fun a => Fin.ext (by
    match a with
    | ⟨0, _⟩ => show win0_0.index t 0 * 1024 + 1 * r.val = n.val; rw [h0]; omega
    | ⟨1, _⟩ => show win0_0.index t 1 * 128 + 1 * j.val = j.val; rw [h1]; omega)
  unfold iblk
  rw [View.read_apply]
  exact (congrArg _ hi).trans (angles_apply m c n j)

theorem zero2 : (![0, 0] : Fin 2 → ℕ) = fun _ => 0 := funext fun a => by fin_cases a <;> rfl

theorem out1_eq (a : Vec Ideal S1024x128 .f32) : out0_1 a = k0_pay2 (F := Ideal) a := by
  unfold out0_1
  refine (View.canon_cons_unit_zero (S := S1024x128) zero2 _ _ _).trans ?_
  rw [View.ld_unit_zero (S := S1024x128) zero2]

theorem out2_eq (a : Vec Ideal S1024x128 .f32) : out0_2 a = k0_pay3 (F := Ideal) a := by
  unfold out0_2
  refine (View.canon_cons_unit_zero (S := S1024x128) zero2 _ _ _).trans ?_
  rw [View.ld_unit_zero (S := S1024x128) zero2]

/-- The cosine table after the run. -/
theorem final1 : (dats m 0 c).arrAt 1 cfg0.N = (fun i => cosine (arg0 m c) (i 0) (i 1) : S16384x128.Idx → EReal) := by
  refine (dats m 0 c).arrAt_eq_of_covers 1 _ (by decide +kernel) fun t hf y => ?_
  blk_simp
  rw [after0_1, out1_eq]
  obtain ⟨-, ⟨h0, h1⟩, -⟩ := idx t
  refine (congrArg _ (eq_ix2 y)).trans ((pay2_apply _ (y 0) (y 1)).trans ?_)
  refine (congrArg (FloatOps.cos (F := Ideal) (φ := .f32)) (iblk0 m c t (y 0) (y 1) _ ?_)).trans (congrArg (cosine (arg0 m c) _) ?_)
  · show win0_1.index t 0 * 1024 + 1 * (y 0).val = _; rw [h0]; omega
  · refine Fin.ext ?_; show (y 1).val = win0_1.index t 1 * 128 + 1 * (y 1).val; rw [h1]; omega

/-- A block's sines are the table's. -/
theorem block2 (t : Fin cfg0.N) (r : Fin 1024) (j : Fin 128) (n : Fin 16384) (hn : n.val = t.val * 1024 + r.val) :
    (k0_pay3 (F := Ideal) (iblk m c 0 t) : S1024x128.Idx → EReal) (ix2 r j) = sine (arg0 m c) n j := by
  refine (pay3_apply _ r j).trans ?_
  unfold sine
  rw [iblk0 m c t r j n hn]

/-- The sine table after the run. -/
theorem final2 : (dats m 0 c).arrAt 2 cfg0.N = (fun i => sine (arg0 m c) (i 0) (i 1) : S16384x128.Idx → EReal) := by
  refine (dats m 0 c).arrAt_eq_of_covers 2 _ (by decide +kernel) fun t hf y => ?_
  blk_simp
  rw [after0_2, out2_eq]
  obtain ⟨-, -, h0, h1⟩ := idx t
  refine (congrArg _ (eq_ix2 y)).trans ((block2 m c t (y 0) (y 1) _ ?_).trans (congrArg (sine (arg0 m c) _) ?_))
  · show win0_2.index t 0 * 1024 + 1 * (y 0).val = _; rw [h0]; omega
  · refine Fin.ext ?_; show (y 1).val = win0_2.index t 1 * 128 + 1 * (y 1).val; rw [h1]; omega

end

section
open Cert.RopeRefIdeal Cert.RopeRefIdeal.Gen Cert.RopeRefIdeal.Read

variable (x : S4x4096.Idx → BitVec 32)

/-- The reference's angles. -/
theorem ref_angle (b : Fin 4) (s : Fin 4096) (j : Fin 64) (n : Fin 16384) (hn : n.val = b.val * 4096 + s.val) :
    val_main_v15 (F := Ideal) x (ix3 b s j) = angle x n j := by
  have hb : (⟨n.val / 4096, by omega⟩ : Fin 4) = b := Fin.ext (by show n.val / 4096 = b.val; omega)
  have hs : (⟨n.val % 4096, by omega⟩ : Fin 4096) = s := Fin.ext (by show n.val % 4096 = s.val; omega)
  unfold angle
  rw [hb, hs, val_main_v15_apply, val_main_v13_apply, val_main_v14_apply, val_main_v11_apply, val_main_v12_apply, val_main_v10_apply]
  exact congrArg₂ (· * ·) (congrArg (fun i => FloatOps.sitofp (F := Ideal) .f32 (x i)) (eq_ix2 _)) (congrArg freq (eq_ix1 _))

/-- The reference's cosines. -/
theorem ref_cosine (b : Fin 4) (s : Fin 4096) (j : Fin 128) (n : Fin 16384) (hn : n.val = b.val * 4096 + s.val) :
    val_main_v18 (F := Ideal) x (ix3 b s j) = cosine x n j := by
  unfold cosine
  rw [← ref_angle x b s (half j) n hn]
  unfold val_main_v18
  by_cases h : j.val < 64
  · refine concatenate_pair_apply_left (t := S4x4096x128) (s₁ := S4x4096x64) 2 (val_main_v16 (F := Ideal) x) _ _ _ rfl (ix3 b s (half j)) fun a => ?_
    match a with
    | ⟨0, _⟩ => rfl
    | ⟨1, _⟩ => rfl
    | ⟨2, _⟩ => show j.val % 64 = j.val; omega
  · refine concatenate_pair_apply_right (t := S4x4096x128) (s₁ := S4x4096x64) (s₂ := S4x4096x64) 2 _ (val_main_v16 (F := Ideal) x) _ _ rfl rfl (ix3 b s (half j)) (fun a ha => ?_) ?_
    · match a with
      | ⟨0, _⟩ => rfl
      | ⟨1, _⟩ => rfl
      | ⟨2, _⟩ => exact absurd rfl ha
    · show j.val % 64 + 64 = j.val; omega

/-- The reference's sines, signed. -/
theorem ref_sine (b : Fin 4) (s : Fin 4096) (j : Fin 128) (n : Fin 16384) (hn : n.val = b.val * 4096 + s.val) :
    val_main_v21 (F := Ideal) x (ix3 b s j) = sine x n j := by
  unfold sine
  rw [← ref_angle x b s (half j) n hn]
  unfold val_main_v21
  by_cases h : j.val < 64
  · rw [if_pos h]
    refine concatenate_pair_apply_left (t := S4x4096x128) (s₁ := S4x4096x64) 2 (val_main_v20 (F := Ideal) x) _ _ _ rfl (ix3 b s (half j)) fun a => ?_
    match a with
    | ⟨0, _⟩ => rfl
    | ⟨1, _⟩ => rfl
    | ⟨2, _⟩ => show j.val % 64 = j.val; omega
  · rw [if_neg h]
    refine concatenate_pair_apply_right (t := S4x4096x128) (s₁ := S4x4096x64) (s₂ := S4x4096x64) 2 _ (val_main_v17 (F := Ideal) x) _ _ rfl rfl (ix3 b s (half j)) (fun a ha => ?_) ?_
    · match a with
      | ⟨0, _⟩ => rfl
      | ⟨1, _⟩ => rfl
      | ⟨2, _⟩ => exact absurd rfl ha
    · show j.val % 64 + 64 = j.val; omega

/-- The reference's two tables. -/
theorem ref_apply (n : Fin 16384) (j : Fin 128) :
    val_main_v19 (F := Ideal) x (ix2 n j) = cosine x n j ∧ val_main_v22 (F := Ideal) x (ix2 n j) = sine x n j := by
  have hi : idx_main_v19 (ix2 n j) = ix3 (⟨n.val / 4096, by omega⟩ : Fin 4) (⟨n.val % 4096, by omega⟩ : Fin 4096) j := by
    funext a
    apply Fin.ext
    have := j.isLt
    match a with
    | ⟨0, _⟩ => show (n.val * 128 + j.val) / 524288 = n.val / 4096; omega
    | ⟨1, _⟩ => show (n.val * 128 + j.val) / 128 % 4096 = n.val % 4096; omega
    | ⟨2, _⟩ => show (n.val * 128 + j.val) % 128 = j.val; omega
  have hn : n.val = n.val / 4096 * 4096 + n.val % 4096 := by omega
  rw [val_main_v19_apply, val_main_v22_apply, show idx_main_v22 (ix2 n j) = _ from hi, hi]
  exact ⟨ref_cosine x _ _ j n hn, ref_sine x _ _ j n hn⟩

end

end Cert.RopeValue
-- ==== Proof.RopeAlgebraic.lean ====
module

public import proofs.«01_k».proof.Defs
public import proofs.«01_k».proof.Proof.Gen.RopeIdeal.Value
public import proofs.«01_k».proof.Proof.RopeValue

@[expose] public section

/-! The value claim of the rotary tables: the kernel's run and the reference's run leave the same two arrays. -/

set_option maxRecDepth 16384

noncomputable section

open Idealize.ShloMosaic Idealize.ShloMosaic.TcCoe Idealize.SL.Sem

namespace Cert.RopeAlgebraic

/-- The reference's frame. -/
theorem frame_ref : Cert.quiescent_RopeRefIdeal (hRopeRefIdeal := Cert.RopeRefIdeal.Gen.facts) := fun m ρ _ =>
  (θ_run Cert.RopeRefIdeal.defs _ _).mono (fun r h => ⟨fun c => (h c).2.2, sem_eq_zero_of_no_sems (by decide) r.2⟩)
    (Cert.RopeRefIdeal.Value.run (F := Ideal) m ρ)

section
open Cert.RopeIdeal Cert.RopeIdeal.Gen
variable (m : (ℓ : Loc nD τ sig) → Buf (Elt Ideal) ℓ) (ρ : Dev nD → PrngReg)

/-- The kernel's run: the two tables, and the positions as they were. -/
theorem run : θ_run defs (onTc (τ := τ) (main (F := Ideal))) ⟨m, fun _ => 0, ρ⟩ (fun r => ∀ c : Dev nD,
      r.2.mem ((c.tc : Thread nD τ).loc main_v17_0) = (fun i => RopeValue.cosine (RopeValue.arg0 m c) (i 0) (i 1) : S16384x128.Idx → EReal)
      ∧ r.2.mem ((c.tc : Thread nD τ).loc main_v17_1) = (fun i => RopeValue.sine (RopeValue.arg0 m c) (i 0) (i 1) : S16384x128.Idx → EReal)
      ∧ r.2.mem ((c.tc : Thread nD τ).loc main_arg0) = m ((c.tc : Thread nD τ).loc main_arg0)) :=
  (θ_run defs _ _).mono (fun r h c => ⟨((h c).1).trans (RopeValue.final1 m c), ((h c).2.1).trans (RopeValue.final2 m c), (h c).2.2⟩)
    (Cert.RopeIdeal.Value.run_blocks m ρ)

end

/-- The tables are the reference's, for all positions. -/
theorem algebraic : Cert.algebraic_RopeIdeal_RopeRefIdeal (hRopeIdeal := Cert.RopeIdeal.Gen.facts)
    (hRopeRefIdeal := Cert.RopeRefIdeal.Gen.facts) := by
  intro m g m' g' hpre hagree
  refine ⟨_, _, run m g,
    (θ_run Cert.RopeRefIdeal.defs _ _).mono (fun r h c => ⟨((h c).1).trans ?_, ((h c).2.1).trans ?_, (h c).2.2⟩)
      (Cert.RopeRefIdeal.Value.run (F := Ideal) m' g')⟩
  · rw [Cert.RopeRefIdeal.Read.val_main_v19_eq, hagree c]
    funext i
    rw [eq_ix2 i]
    exact (RopeValue.ref_apply _ (i 0) (i 1)).1
  · rw [Cert.RopeRefIdeal.Read.val_main_v22_eq, hagree c]
    funext i
    rw [eq_ix2 i]
    exact (RopeValue.ref_apply _ (i 0) (i 1)).2

end Cert.RopeAlgebraic
-- ==== Proof.CpsPre.lean ====
module

public import proofs.«01_k».proof.Proof.CmpPre
public import proofs.«01_k».proof.Pre_finite_blocks
public import Idealize.ShloMosaic.Lib.Pointwise

@[expose] public section

/-! The precondition, read: the blocks, the first weights and the positions are real numbers. -/

set_option maxRecDepth 16384

noncomputable section

open Idealize.ShloMosaic

namespace Cert.CpsPre

open Cert.Pre_finite_blocks

variable [Facts] (x0 : Vec Ideal S8x256x2048 .bf16) (x1 : Vec Ideal S4096x128 .f32) (x2 : Vec Ideal S32x128 .f32)
  (x3 : Vec Ideal S128x128 .f32)

/-- The half blocks are real. -/
theorem blocks (h : (fn (F := Ideal) x0 x1 x2 x3).1 = fun _ => 1#1) (i : S8x256x2048.Idx) :
    ∃ r : ℝ, (x0 : S8x256x2048.Idx → EReal) i = r := by
  have h' := congrFun h i
  refine CmpPre.real_of_cmp _ (Eq.trans ?_ h')
  symm
  unfold fn
  dsimp only
  pointwise []
  rfl

/-- The first weights are real. -/
theorem weights (h : (fn (F := Ideal) x0 x1 x2 x3).2.1 = fun _ => 1#1) (i : S4096x128.Idx) :
    ∃ r : ℝ, (x1 : S4096x128.Idx → EReal) i = r := by
  have h' := congrFun h i
  refine CmpPre.real_of_cmp _ (Eq.trans ?_ h')
  symm
  unfold fn
  dsimp only
  pointwise []
  rfl

/-- The positions are real. -/
theorem positions (h : (fn (F := Ideal) x0 x1 x2 x3).2.2 = fun _ => 1#1) (i : S32x128.Idx) :
    ∃ r : ℝ, (x2 : S32x128.Idx → EReal) i = r := by
  have h' := congrFun h i
  refine CmpPre.real_of_cmp _ (Eq.trans ?_ h')
  symm
  unfold fn
  dsimp only
  pointwise []
  rfl

end Cert.CpsPre
-- ==== Proof.CpsMath.lean ====
module

public import proofs.«01_k».proof.Proof.ExpMath

@[expose] public section

/-! The mathematics of the compression: a block of tokens through a two-layer perceptron. The kernel multiplies the two
    halves of a block and the positions by the weights separately; the reference adds the positions first. -/

noncomputable section

open Idealize.ShloMosaic

namespace Cert.CpsMath

/-- A hidden entry as the kernel adds it up: the block's two halves `a` and `b` and the positions `p` against a column
    of weights. -/
def hidden (a b : Fin 2048 → EReal) (p w : Fin 4096 → EReal) : EReal :=
  ∑ k : Fin 2048, a k * w ⟨k.val, by omega⟩ + ∑ k : Fin 2048, b k * w ⟨2048 + k.val, by omega⟩ + ∑ k, p k * w k

/-- Two half blocks side by side. -/
def joined (a b : Fin 2048 → EReal) (k : Fin 4096) : EReal :=
  if h : k.val < 2048 then a ⟨k.val, h⟩ else b ⟨k.val - 2048, by omega⟩

/-- A column of the hidden row's silu against a column of the second weights. -/
def entry (h d : Fin 128 → EReal) : EReal := ∑ f, ExpMath.silu (h f) * d f

/-- For real numbers it does not matter when the positions are added. -/
theorem hidden_eq (a b : Fin 2048 → EReal) (p w : Fin 4096 → EReal) (ha : ∀ k, ∃ r : ℝ, a k = r) (hb : ∀ k, ∃ r : ℝ, b k = r)
    (hp : ∀ k, ∃ r : ℝ, p k = r) (hw : ∀ k, ∃ r : ℝ, w k = r) :
    ∑ k, (joined a b k + p k) * w k = hidden a b p w := by
  have hj : ∀ k, ∃ r : ℝ, joined a b k = r := fun k => by
    unfold joined
    split
    · exact ha _
    · exact hb _
  have hd : ∀ k, (joined a b k + p k) * w k = joined a b k * w k + p k * w k := fun k => by
    obtain ⟨x, hx⟩ := hj k
    obtain ⟨y, hy⟩ := hp k
    obtain ⟨z, hz⟩ := hw k
    rw [hx, hy, hz]
    norm_cast
    ring
  unfold hidden
  rw [Finset.sum_congr rfl fun k _ => hd k, Finset.sum_add_distrib]
  refine congrArg (· + _) ((Fin.sum_univ_add (a := 2048) (b := 2048) (fun k => joined a b k * w k)).trans ?_)
  refine congrArg₂ (· + ·) (Finset.sum_congr rfl fun k _ => ?_) (Finset.sum_congr rfl fun k _ => ?_)
  · refine congrArg₂ (· * ·) ?_ rfl
    exact dif_pos k.isLt
  · refine congrArg₂ (· * ·) ?_ rfl
    refine (dif_neg (show ¬ 2048 + k.val < 2048 by omega)).trans (congrArg b (Fin.ext ?_))
    show 2048 + k.val - 2048 = k.val
    omega

end Cert.CpsMath
-- ==== Proof.CpsBlock.lean ====
module

public import proofs.«01_k».proof.Proof.Gen.CpsIdeal.Frame
public import proofs.«01_k».proof.Proof.CpsMath
public import Idealize.ShloMosaic.Lib.Pointwise
public import Idealize.ShloMosaic.Lib.KernelVsHost
public import Idealize.ShloMosaic.Lib.Routing.OpsOne

@[expose] public section

/-! What the compression's kernel computes from its blocks, and the row of positions its host part lays out. -/

set_option maxRecDepth 16384

noncomputable section

open Idealize.ShloMosaic

namespace Cert.CpsBlock

open Cert.CpsIdeal Cert.CpsIdeal.Gen

/-- The row after a row, around the end. -/
abbrev next (r : Fin 256) : Fin 256 := ⟨(r.val + 1) % 256, by omega⟩

/-- Rows rolled back by one. -/
theorem roll_apply (y : FVec Ideal S256x128 .f32) (r : Fin 256) (k : Fin 128) :
    dynamicRotate 0 255#32 none y rotates_S256x128_d0 (ix2 r k) = y (ix2 (next r) k) := by
  refine dynamicRotate_apply (s := S256x128) 0 255#32 y _ _ _ fun b => ?_
  match b with
  | ⟨0, _⟩ => show (r.val + 1) % 256 = (r.val + 256 - 255 % 256) % 256; omega
  | ⟨1, _⟩ => rfl

section
variable (v0 : Vec Ideal S1x256x2048 .bf16) (v2 v5 : Vec Ideal S2048x128 .bf16) (v8 : Vec Ideal S8x4096 .bf16)
  (v10 : Vec Ideal S4096x128 .bf16) (v27 : Vec Ideal S128x128 .bf16)

/-- The half blocks against half of the weights. -/
def half (w : Vec Ideal S2048x128 .bf16) : FVec Ideal S256x128 .f32 :=
  matmul (φ₁ := .bf16) (φ₂ := .bf16) dot_S256x2048_S2048x128_S256x128_1_0_0_1_n_n none (shapeCast S256x2048 v0 shapeCasts_S1x256x2048_S256x2048)
    (shapeCast S2048x128 w shapeCasts_S2048x128_S2048x128) (constant S256x128 .f32 0x00000000#32)

theorem half_apply (w : Vec Ideal S2048x128 .bf16) (r : Fin 256) (f : Fin 128) :
    half v0 w (ix2 r f) = ∑ k : Fin 2048, (v0 : S1x256x2048.Idx → EReal) (ix3 0 r k) * (w : S2048x128.Idx → EReal) (ix2 k f) := by
  pointwise [half]

/-- The positions against the weights. -/
def place : FVec Ideal S8x128 .f32 :=
  matmul (φ₁ := .bf16) (φ₂ := .bf16) dot_S8x4096_S4096x128_S8x128_1_0_0_1_n_n none (shapeCast S8x4096 v8 shapeCasts_S8x4096_S8x4096)
    (shapeCast S4096x128 v10 shapeCasts_S4096x128_S4096x128) (constant S8x128 .f32 0x00000000#32)

theorem place_apply (r : Fin 8) (f : Fin 128) :
    place v8 v10 (ix2 r f) = ∑ k : Fin 4096, (v8 : S8x4096.Idx → EReal) (ix2 r k) * (v10 : S4096x128.Idx → EReal) (ix2 k f) := by
  pointwise [place]

/-- The hidden rows. -/
def hid : FVec Ideal S256x128 .f32 :=
  addf (addf (half v0 v2) (dynamicRotate 0 255#32 none (half v0 v5) rotates_S256x128_d0))
    (broadcastTo S256x128 (extractStridedSlice S1x128 ![0, 0] (place v8 v10) slices_S8x128_o0_0_S1x128) broadcasts_S1x128_S256x128)

theorem hid_apply (r : Fin 256) (f : Fin 128) :
    hid v0 v2 v5 v8 v10 (ix2 r f)
      = half v0 v2 (ix2 r f) + half v0 v5 (ix2 (next r) f) + place v8 v10 (ix2 0 f) := by
  rw [← roll_apply (half v0 v5) r f]
  unfold hid
  generalize dynamicRotate 0 255#32 none (half v0 v5) rotates_S256x128_d0 = a
  generalize half v0 v2 = b
  generalize place v8 v10 = d
  pointwise []

/-- The last product's rows, silu first, with the row past the last block set to zero. -/
def last (h : FVec Ideal S256x128 .f32) : FVec Ideal S256x128 .bf16 :=
  truncf .bf16 (select (cmpi .slt (iota .tc S256x128 32 [0] iota_S256x128_d0_w32) (broadcast S256x128 255#32))
    (matmul (φ₁ := .bf16) (φ₂ := .bf16) dot_S256x128_S128x128_S256x128_1_0_0_1_n_n none
      (truncf .bf16 (mulf h (divf (broadcast S256x128 (Scalar.ofBits (F := Ideal) .f32 0x3F800000#32))
        (addf (broadcast S256x128 (Scalar.ofBits (F := Ideal) .f32 0x3F800000#32))
          (exp (subf (broadcast S256x128 (Scalar.ofBits (F := Ideal) .f32 0x00000000#32)) h))))) bitsLt_bf16_f32)
      (shapeCast S128x128 v27 shapeCasts_S128x128_S128x128) (constant S256x128 .f32 0x00000000#32))
    (broadcast S256x128 (Scalar.ofBits (F := Ideal) .f32 0x00000000#32))) bitsLt_bf16_f32

theorem pay2_eq : k0_pay2 (F := Ideal) v0 v2 v5 v8 v10 v27 = last v27 (hid v0 v2 v5 v8 v10) := rfl

theorem last_apply (h : FVec Ideal S256x128 .f32) (r : Fin 256) (j : Fin 128) :
    last v27 h (ix2 r j) = if r.val < 255 then CpsMath.entry (fun f => h (ix2 r f)) (fun f => (v27 : S128x128.Idx → EReal) (ix2 f j)) else 0 := by
  have hi : iota .tc S256x128 32 [0] iota_S256x128_d0_w32 (ix2 r j) = BitVec.ofNat 32 r.val := iota_single_apply _ _ _ _ _ _
  have hc : (BitVec.ofNat 32 r.val).toInt < (255#32).toInt ↔ r.val < 255 := by
    rw [StableHlo.Predicate.toInt_ofNat_small _ (by omega)]
    show (r.val : ℤ) < 255 ↔ _
    omega
  unfold CpsMath.entry ExpMath.silu
  have hs := ExpMath.select_slt (α := EReal) (BitVec.ofNat 32 r.val) 255#32
  rw [← hi] at hs
  unfold last
  refine (hs _ _).trans ?_
  rw [hi]
  refine (if_congr hc ?_ ?_)
  · pointwise []
    simp only [sub_eq_add_neg, zero_add]
  · pointwise []

/-- The block the kernel stores. -/
theorem pay1_apply (y : FVec Ideal S256x128 .bf16) (r : Fin 256) (j : Fin 128) : k0_pay1 (F := Ideal) y (ix3 0 r j) = y (ix2 r j) := by
  pointwise [k0_pay1]

end

/-- A vector set as the first row of an array, read in that row. -/
theorem scatter_row {α : Type} (x : S8x4096.Idx → α) (idx : IVec S1 32) (u : S4096.Idx → α) (hidx : idx (ix1 0) = 0#32)
    (k : Fin 4096) : Host.scatter scatter_S8x4096_S1_S4096_0_0_0_0 (fun _ b => b) x idx u (ix2 0 k) = u (ix1 k) := by
  have lands : ∀ e : Fin 4096, scatter_S8x4096_S1_S4096_0_0_0_0.resultIdx? (ix1 e) idx = some (ix2 (0 : Fin 8) k) ↔ e = k := fun e => by
    have hm : (0 : Fin 2) ∈ scatter_S8x4096_S1_S4096_0_0_0_0.scatterDimsToOperandDims := List.mem_singleton.2 rfl
    have w0 : scatter_S8x4096_S1_S4096_0_0_0_0.window (ix1 e) 0 = 0 := by
      unfold ScatterDims.window
      rw [dif_neg fun h => (of_decide_eq_true (List.mem_filter.1 h).2) (List.mem_singleton.2 rfl)]
    have w1 : scatter_S8x4096_S1_S4096_0_0_0_0.window (ix1 e) 1 = e.val := rfl
    have s1 : scatter_S8x4096_S1_S4096_0_0_0_0.start (ix1 e) idx 1 = 0 := by
      unfold ScatterDims.start
      rw [dif_neg (show ¬ (1 : Fin 2) ∈ scatter_S8x4096_S1_S4096_0_0_0_0.scatterDimsToOperandDims from
        fun h => absurd (List.mem_singleton.1 h) (by decide : (1 : Fin 2) ≠ 0))]
    have s0 : scatter_S8x4096_S1_S4096_0_0_0_0.start (ix1 e) idx 0 = 0 := by
      unfold ScatterDims.start
      rw [dif_pos hm]
      have hsi : scatter_S8x4096_S1_S4096_0_0_0_0.siIdx (ix1 e) ⟨scatter_S8x4096_S1_S4096_0_0_0_0.scatterDimsToOperandDims.idxOf 0, List.idxOf_lt_length_iff.2 hm⟩ = ix1 (0 : Fin 1) := by
        funext b'
        match b' with
        | ⟨0, _⟩ => exact Subsingleton.elim (α := Fin 1) _ _
      rw [hsi, hidx]
      rfl
    refine Iff.trans (Routing.resultIdx?_ix2 ..) ?_
    rw [Fin.ext_iff, s0, w0, s1, w1]
    simp only [Fin.val_zero]
    omega
  refine Routing.scatter_set_hit _ x idx u _ _ (fun j hj => ?_) (ix1 k) ((lands k).2 rfl)
  refine (congrArg u (eq_ix1 j)).trans (congrArg (fun t => u (ix1 t)) ?_)
  exact (lands (j 0)).1 ((congrArg (fun t => scatter_S8x4096_S1_S4096_0_0_0_0.resultIdx? t idx) (eq_ix1 j).symm).trans hj)

end Cert.CpsBlock
-- ==== Proof.CpsFinal.lean ====
module

public import proofs.«01_k».proof.Proof.Gen.CpsIdeal.Frame
public import proofs.«01_k».proof.Proof.CpsBlock
public import Idealize.ShloMosaic.Lib.Pipeline.ValueKit
public import Idealize.ShloMosaic.Lib.Pipeline.ValueKit.Geometry

@[expose] public section

/-! What the compression's run leaves in its array, element by element. -/

set_option maxRecDepth 16384

noncomputable section

open Idealize.ShloMosaic Idealize.ShloMosaic.TcCoe Idealize.SL.Sem
open Idealize.ShloMosaic.Pipeline (Dat)

namespace Cert.CpsFinal

open Cert.CpsIdeal Cert.CpsIdeal.Gen

/-! Every sequence and key group is visited once, in order; the weights and the positions are the whole arrays. -/

theorem idx : ∀ t : Fin cfg0.N, (win0_0.index t 0 = t.val ∧ win0_0.index t 1 = 0 ∧ win0_0.index t 2 = 0)
    ∧ (win0_1.index t 0 = 0 ∧ win0_1.index t 1 = 0) ∧ (win0_2.index t 0 = 0 ∧ win0_2.index t 1 = 0)
    ∧ (win0_3.index t 0 = 0 ∧ win0_3.index t 1 = 0)
    ∧ (win0_4.index t 0 = t.val ∧ win0_4.index t 1 = 0 ∧ win0_4.index t 2 = 0) :=
  (by decide +kernel : ∀ t : Fin grid0.N, (win0_0.index t 0 = t.val ∧ win0_0.index t 1 = 0 ∧ win0_0.index t 2 = 0)
    ∧ (win0_1.index t 0 = 0 ∧ win0_1.index t 1 = 0) ∧ (win0_2.index t 0 = 0 ∧ win0_2.index t 1 = 0)
    ∧ (win0_3.index t 0 = 0 ∧ win0_3.index t 1 = 0)
    ∧ (win0_4.index t 0 = t.val ∧ win0_4.index t 1 = 0 ∧ win0_4.index t 2 = 0))

variable (m : (ℓ : Loc nD τ sig) → Buf (Elt Ideal) ℓ) (c : Dev nD)

/-! The arguments, as arrays of extended reals. -/
abbrev arg0 : S8x256x2048.Idx → EReal := m ((c : Thread nD τ).loc main_arg0)
abbrev arg1 : S4096x128.Idx → EReal := m ((c : Thread nD τ).loc main_arg1)
abbrev arg2 : S32x128.Idx → EReal := m ((c : Thread nD τ).loc main_arg2)
abbrev arg3 : S128x128.Idx → EReal := m ((c : Thread nD τ).loc main_arg3)

/-! The host's part: the weights rounded, the positions set as the first of eight rows. -/

theorem V_main_v5 : (V m c main_v5 : S4096x128.Idx → EReal) = arg1 m c := by
  unfold V hostOps0
  after_results_simp <;> rfl

theorem V_main_v6 : (V m c main_v6 : S128x128.Idx → EReal) = arg3 m c := by
  unfold V hostOps0
  after_results_simp <;> rfl

/-- The index word. -/
abbrev word : IVec S1 32 := broadcastInDim S1 ![] bcast_S_S1 (constantI S_ 32 0#32)

theorem V_main_v4 : (V m c main_v4 : S8x4096.Idx → EReal)
    = Host.scatter scatter_S8x4096_S1_S4096_0_0_0_0 (fun _ b => b)
        (broadcastInDim S8x4096 ![] bcast_S_S8x4096 (constant (F := Ideal) S_ .bf16 0x0000#16)) word
        (shapeCast S4096 (arg2 m c) shapeCasts_S32x128_S4096) := by
  unfold V hostOps0
  after_results_simp <;> rfl

/-- Position `k`, in the row-major order of the positions. -/
def pos (x : S32x128.Idx → EReal) (k : Fin 4096) : EReal := x (ix2 (⟨k.val / 128, by omega⟩ : Fin 32) (⟨k.val % 128, by omega⟩ : Fin 128))

theorem positions (k : Fin 4096) : (V m c main_v4 : S8x4096.Idx → EReal) (ix2 0 k) = pos (arg2 m c) k := by
  rw [V_main_v4]
  refine (CpsBlock.scatter_row _ _ _ rfl k).trans ?_
  unfold pos
  refine shapeCast_apply (s := S32x128) (t := S4096) (arg2 m c) _ _ _ ?_
  rw [Shape.rowMajor_val_two, Shape.rowMajor_val_one]
  show k.val / 128 * 128 + k.val % 128 = k.val
  omega

/-! The blocks the body gets. -/

theorem iblk0 (t : Fin cfg0.N) (r : Fin 256) (k : Fin 2048) (g : Fin 8) (hg : g.val = t.val) :
    (iblk m c 0 t : S1x256x2048.Idx → EReal) (ix3 0 r k) = arg0 m c (ix3 g r k) := by
  obtain ⟨⟨h0, h1, h2⟩, -⟩ := idx t
  unfold iblk
  rw [View.read_apply]
  refine (congrFun (V_main_arg0 m c) _).trans (congrArg (arg0 m c) (funext fun a => Fin.ext ?_))
  match a with
  | ⟨0, _⟩ => show win0_0.index t 0 * 1 + 1 * 0 = g.val; rw [h0]; omega
  | ⟨1, _⟩ => show win0_0.index t 1 * 256 + 1 * r.val = r.val; rw [h1]; omega
  | ⟨2, _⟩ => show win0_0.index t 2 * 2048 + 1 * k.val = k.val; rw [h2]; omega

theorem iblk1 (t : Fin cfg0.N) (k : Fin 4096) (f : Fin 128) :
    (iblk m c 1 t : S4096x128.Idx → EReal) (ix2 k f) = arg1 m c (ix2 k f) := by
  obtain ⟨-, ⟨h0, h1⟩, -⟩ := idx t
  unfold iblk
  rw [View.read_apply]
  refine (congrFun (V_main_v5 m c) _).trans (congrArg (arg1 m c) (funext fun a => Fin.ext ?_))
  match a with
  | ⟨0, _⟩ => show win0_1.index t 0 * 4096 + 1 * k.val = k.val; rw [h0]; omega
  | ⟨1, _⟩ => show win0_1.index t 1 * 128 + 1 * f.val = f.val; rw [h1]; omega

theorem iblk2 (t : Fin cfg0.N) (k : Fin 4096) :
    (iblk m c 2 t : S8x4096.Idx → EReal) (ix2 0 k) = pos (arg2 m c) k := by
  obtain ⟨-, -, ⟨h0, h1⟩, -⟩ := idx t
  have hi : ((cfg0.win 2).blk t).view.emb (ix2 (0 : Fin 8) k) = ix2 (0 : Fin 8) k := funext fun a => Fin.ext (by
    match a with
    | ⟨0, _⟩ => show win0_2.index t 0 * 8 + 1 * 0 = 0; rw [h0]
    | ⟨1, _⟩ => show win0_2.index t 1 * 4096 + 1 * k.val = k.val; rw [h1]; omega)
  unfold iblk
  rw [View.read_apply]
  exact (congrArg (V m c main_v4 : S8x4096.Idx → EReal) hi).trans (positions m c k)

theorem iblk3 (t : Fin cfg0.N) (f j : Fin 128) :
    (iblk m c 3 t : S128x128.Idx → EReal) (ix2 f j) = arg3 m c (ix2 f j) := by
  obtain ⟨-, -, -, ⟨h0, h1⟩, -⟩ := idx t
  unfold iblk
  rw [View.read_apply]
  refine (congrFun (V_main_v6 m c) _).trans (congrArg (arg3 m c) (funext fun a => Fin.ext ?_))
  match a with
  | ⟨0, _⟩ => show win0_3.index t 0 * 128 + 1 * f.val = f.val; rw [h0]; omega
  | ⟨1, _⟩ => show win0_3.index t 1 * 128 + 1 * j.val = j.val; rw [h1]; omega

/-! The result. -/

/-- Entry `j` of compressed block `r` of sequence and key group `g`, from the arguments: half block `r` and the one
    after it through the perceptron, zero past the last block. -/
def value (x : S8x256x2048.Idx → EReal) (w : S4096x128.Idx → EReal) (p : S32x128.Idx → EReal) (d : S128x128.Idx → EReal)
    (g : Fin 8) (r : Fin 256) (j : Fin 128) : EReal :=
  if r.val < 255 then
    CpsMath.entry (fun f => CpsMath.hidden (fun k => x (ix3 g r k)) (fun k => x (ix3 g (CpsBlock.next r) k)) (pos p)
      (fun k => w (ix2 k f))) (fun f => d (ix2 f j))
  else 0

/-- The same at the kernel's arguments. -/
abbrev out (g : Fin 8) (r : Fin 256) (j : Fin 128) : EReal := value (arg0 m c) (arg1 m c) (arg2 m c) (arg3 m c) g r j

theorem zero2 : (![0, 0] : Fin 2 → ℕ) = fun _ => 0 := funext fun a => by fin_cases a <;> rfl
theorem zero3 : (![0, 0, 0] : Fin 3 → ℕ) = fun _ => 0 := funext fun a => by fin_cases a <;> rfl

/-! The two halves of the weights. -/

theorem ld_top (x : Vec Ideal S4096x128 .bf16) (k : Fin 2048) (f : Fin 128) :
    (View.ld x r0_1 : S2048x128.Idx → EReal) (ix2 k f) = (x : S4096x128.Idx → EReal) (ix2 (⟨k.val, by omega⟩ : Fin 4096) f) := by
  refine congrArg (x : S4096x128.Idx → EReal) (funext fun a => Fin.ext ?_)
  match a with
  | ⟨0, _⟩ => show 0 + 1 * k.val = k.val; omega
  | ⟨1, _⟩ => show 0 + 1 * f.val = f.val; omega

theorem ld_bottom (x : Vec Ideal S4096x128 .bf16) (k : Fin 2048) (f : Fin 128) :
    (View.ld x r0_2 : S2048x128.Idx → EReal) (ix2 k f) = (x : S4096x128.Idx → EReal) (ix2 (⟨2048 + k.val, by omega⟩ : Fin 4096) f) := by
  refine congrArg (x : S4096x128.Idx → EReal) (funext fun a => Fin.ext ?_)
  match a with
  | ⟨0, _⟩ => show 2048 + 1 * k.val = 2048 + k.val; omega
  | ⟨1, _⟩ => show 0 + 1 * f.val = f.val; omega

/-- What the body stores. -/
theorem out4_eq (x0 : Vec Ideal S1x256x2048 .bf16) (x1 : Vec Ideal S4096x128 .bf16) (x2 : Vec Ideal S8x4096 .bf16)
    (x3 : Vec Ideal S128x128 .bf16) :
    out0_4 x0 x1 x2 x3 = k0_pay1 (F := Ideal) (CpsBlock.last x3 (CpsBlock.hid x0 (View.ld x1 r0_1) (View.ld x1 r0_2) x2 x1)) := by
  unfold out0_4
  refine (View.canon_cons_unit_zero (S := S1x256x128) zero3 _ _ _).trans ?_
  rw [View.ld_unit_zero (S := S1x256x2048) zero3, View.ld_unit_zero (S := S8x4096) zero2, View.ld_unit_zero (S := S4096x128) zero2,
    View.ld_unit_zero (S := S128x128) zero2, CpsBlock.pay2_eq]

/-- A block's entries are the array's. -/
theorem block (t : Fin cfg0.N) (r : Fin 256) (j : Fin 128) (g : Fin 8) (hg : g.val = t.val) :
    (out0_4 (iblk m c 0 t) (iblk m c 1 t) (iblk m c 2 t) (iblk m c 3 t) : S1x256x128.Idx → EReal) (ix3 0 r j) = out m c g r j := by
  rw [out4_eq]
  refine (CpsBlock.pay1_apply _ r j).trans ((CpsBlock.last_apply _ _ r j).trans (if_congr Iff.rfl ?_ rfl))
  refine congrArg₂ CpsMath.entry (funext fun f => ?_) (funext fun f => iblk3 m c t f j)
  rw [CpsBlock.hid_apply, CpsBlock.half_apply, CpsBlock.half_apply, CpsBlock.place_apply]
  unfold CpsMath.hidden
  refine congrArg₂ (· + ·) (congrArg₂ (· + ·) (Finset.sum_congr rfl fun k _ => ?_) (Finset.sum_congr rfl fun k _ => ?_))
    (Finset.sum_congr rfl fun k _ => ?_)
  · exact congrArg₂ (· * ·) (iblk0 m c t r k g hg) ((ld_top _ k f).trans (iblk1 m c t _ f))
  · exact congrArg₂ (· * ·) (iblk0 m c t _ k g hg) ((ld_bottom _ k f).trans (iblk1 m c t _ f))
  · exact congrArg₂ (· * ·) (iblk2 m c t k) (iblk1 m c t k f)

/-- The array after the run. -/
theorem final4 : (dats m 0 c).arrAt 4 cfg0.N = (fun i => out m c (i 0) (i 1) (i 2) : S8x256x128.Idx → EReal) := by
  refine (dats m 0 c).arrAt_eq_of_covers 4 _ (by decide +kernel) fun t hf y => ?_
  blk_simp
  rw [after0_4]
  obtain ⟨-, -, -, -, h0, h1, h2⟩ := idx t
  have hy : y = ix3 (0 : Fin 1) (y 1) (y 2) := (eq_ix3 y).trans (congrArg (fun a => ix3 a (y 1) (y 2)) (Subsingleton.elim (α := Fin 1) (y 0) 0))
  have hz : (y 0).val = 0 := by have h : (y 0).val < 1 := (y 0).isLt; omega
  have ht : t.val < 8 := t.isLt
  refine (congrArg _ hy).trans ((block m c t (y 1) (y 2) ⟨t.val, ht⟩ rfl).trans ?_)
  refine congr (congrArg₂ (out m c) (Fin.ext ?_) (Fin.ext ?_)) (Fin.ext ?_)
  · show t.val = win0_4.index t 0 * 1 + 1 * (y 0).val; rw [h0, hz]; omega
  · show (y 1).val = win0_4.index t 1 * 256 + 1 * (y 1).val; rw [h1]; omega
  · show (y 2).val = win0_4.index t 2 * 128 + 1 * (y 2).val; rw [h2]; omega

end Cert.CpsFinal
-- ==== Proof.CpsReference.lean ====
module

public import proofs.«01_k».proof.Proof.Gen.CpsRefIdeal.Read
public import proofs.«01_k».proof.Proof.CpsFinal
public import Idealize.ShloMosaic.Lib.Pointwise

@[expose] public section

/-! The compression's reference, element by element. -/

set_option maxRecDepth 16384

noncomputable section

open Idealize.ShloMosaic

namespace Cert.CpsReference

open Cert.CpsRefIdeal Cert.CpsRefIdeal.Gen Cert.CpsRefIdeal.Read

variable (x0 : S8x256x2048.Idx → EReal) (x1 : S4096x128.Idx → EReal) (x2 : S32x128.Idx → EReal) (x3 : S128x128.Idx → EReal)

/-- The half block of block `r`. -/
abbrev here (r : Fin 255) : Fin 256 := ⟨r.val, by omega⟩

theorem first_apply (g : Fin 8) (r : Fin 255) (k : Fin 2048) : val_main_v1 (F := Ideal) x0 (ix3 g r k) = x0 (ix3 g (here r) k) := by
  rw [val_main_v1_apply, val_main_v0_apply]
  exact congrArg x0 (funext fun a => Fin.ext (by
    match a with
    | ⟨0, _⟩ => rfl
    | ⟨1, _⟩ => rfl
    | ⟨2, _⟩ => rfl))

theorem second_apply (g : Fin 8) (r : Fin 255) (k : Fin 2048) :
    val_main_v2 (F := Ideal) x0 (ix3 g r k) = x0 (ix3 g (CpsBlock.next (here r)) k) := by
  rw [val_main_v2_apply, val_main_v0_apply]
  exact congrArg x0 (funext fun a => Fin.ext (by
    match a with
    | ⟨0, _⟩ => rfl
    | ⟨1, _⟩ => show 1 + r.val = (r.val + 1) % 256; omega
    | ⟨2, _⟩ => rfl))

/-- A block is its two half blocks side by side. -/
theorem block_apply (g : Fin 8) (r : Fin 255) (k : Fin 4096) :
    val_main_v3 (F := Ideal) x0 (ix3 g r k)
      = CpsMath.joined (fun k => x0 (ix3 g (here r) k)) (fun k => x0 (ix3 g (CpsBlock.next (here r)) k)) k := by
  unfold val_main_v3 CpsMath.joined
  by_cases h : k.val < 2048
  · rw [dif_pos h]
    refine Eq.trans ?_ (first_apply x0 g r ⟨k.val, h⟩)
    refine concatenate_pair_apply_left (t := S8x255x4096) (s₁ := S8x255x2048) (s₂ := S8x255x2048) 2 (val_main_v1 (F := Ideal) x0)
      (val_main_v2 (F := Ideal) x0) _ _ rfl (ix3 g r (⟨k.val, h⟩ : Fin 2048)) fun a => ?_
    match a with
    | ⟨0, _⟩ => rfl
    | ⟨1, _⟩ => rfl
    | ⟨2, _⟩ => rfl
  · rw [dif_neg h]
    refine Eq.trans ?_ (second_apply x0 g r ⟨k.val - 2048, by omega⟩)
    refine concatenate_pair_apply_right (t := S8x255x4096) (s₁ := S8x255x2048) (s₂ := S8x255x2048) 2 (val_main_v1 (F := Ideal) x0)
      (val_main_v2 (F := Ideal) x0) _ _ rfl rfl (ix3 g r (⟨k.val - 2048, by omega⟩ : Fin 2048)) (fun a ha => ?_) ?_
    · match a with
      | ⟨0, _⟩ => rfl
      | ⟨1, _⟩ => rfl
      | ⟨2, _⟩ => exact absurd rfl ha
    · show k.val - 2048 + 2048 = k.val
      omega

theorem position_apply (g : Fin 8) (r : Fin 255) (k : Fin 4096) : val_main_v6 (F := Ideal) x2 (ix3 g r k) = CpsFinal.pos x2 k := by
  rw [val_main_v6_apply, val_main_v5_apply, val_main_v4_apply]
  unfold CpsFinal.pos
  exact congrArg x2 (funext fun a => Fin.ext (by
    match a with
    | ⟨0, _⟩ => rfl
    | ⟨1, _⟩ => rfl))

/-- The hidden rows. -/
theorem hidden_apply (h0 : ∀ i, ∃ r : ℝ, x0 i = r) (h1 : ∀ i, ∃ r : ℝ, x1 i = r) (h2 : ∀ i, ∃ r : ℝ, x2 i = r)
    (g : Fin 8) (r : Fin 255) (f : Fin 128) :
    val_main_v8 (F := Ideal) x0 x1 x2 (ix3 g r f)
      = CpsMath.hidden (fun k => x0 (ix3 g (here r) k)) (fun k => x0 (ix3 g (CpsBlock.next (here r)) k)) (CpsFinal.pos x2)
          (fun k => x1 (ix2 k f)) := by
  rw [val_main_v8_apply]
  refine Eq.trans ?_ (CpsMath.hidden_eq _ _ _ _ (fun k => h0 _) (fun k => h0 _) (fun k => h2 _) (fun k => h1 _))
  refine Finset.sum_congr rfl fun k _ => ?_
  rw [eq_ix3 (lidx_main_v8 (ix3 g r f) k), eq_ix2 (ridx_main_v8 (ix3 g r f) k), val_main_v7_apply]
  exact congrArg₂ (· * ·) (congrArg₂ (· + ·) (block_apply x0 g r k) (position_apply x2 g r k)) rfl

/-- The reference's silu. -/
theorem silu_apply (i : S8x255x128.Idx) : val_main_v9 (F := Ideal) x0 x1 x2 i = ExpMath.silu (val_main_v8 (F := Ideal) x0 x1 x2 i) := by
  unfold ExpMath.silu
  unfold val_main_v9 val_main_call0_v5 val_main_call0_v3 val_main_call0_v1 val_main_call0_v0
  generalize val_main_v8 (F := Ideal) x0 x1 x2 = y
  pointwise [val_main_call0_v4, val_main_call0_v2, val_main_call0_cst, val_main_call0_cst_0]

/-- The reference's result. -/
theorem ref_apply (h0 : ∀ i, ∃ r : ℝ, x0 i = r) (h1 : ∀ i, ∃ r : ℝ, x1 i = r) (h2 : ∀ i, ∃ r : ℝ, x2 i = r)
    (g : Fin 8) (r : Fin 256) (j : Fin 128) :
    val_main_v13 (F := Ideal) x0 x1 x2 x3 (ix3 g r j) = CpsFinal.value x0 x1 x2 x3 g r j := by
  unfold CpsFinal.value
  rw [val_main_v13_apply]
  show val_main_v12 (F := Ideal) x0 x1 x2 x3 (ix3 g r j) = _
  unfold val_main_v12
  by_cases h : r.val < 255
  · rw [if_pos h]
    refine (concatenate_pair_apply_left (t := S8x256x128) (s₁ := S8x255x128) (s₂ := S8x1x128) 1 (val_main_v10 (F := Ideal) x0 x1 x2 x3)
      (val_main_v11 (F := Ideal)) _ _ rfl (ix3 g (⟨r.val, h⟩ : Fin 255) j) fun a => ?_).trans ?_
    · match a with
      | ⟨0, _⟩ => rfl
      | ⟨1, _⟩ => rfl
      | ⟨2, _⟩ => rfl
    · rw [val_main_v10_apply]
      unfold CpsMath.entry
      refine Finset.sum_congr rfl fun f _ => ?_
      rw [eq_ix3 (lidx_main_v10 (ix3 g (⟨r.val, h⟩ : Fin 255) j) f), eq_ix2 (ridx_main_v10 (ix3 g (⟨r.val, h⟩ : Fin 255) j) f), silu_apply]
      exact congrArg₂ (· * ·) (congrArg ExpMath.silu (hidden_apply x0 x1 x2 h0 h1 h2 g ⟨r.val, h⟩ f)) rfl
  · rw [if_neg h]
    refine (concatenate_pair_apply_right (t := S8x256x128) (s₁ := S8x255x128) (s₂ := S8x1x128) 1 (val_main_v10 (F := Ideal) x0 x1 x2 x3)
      (val_main_v11 (F := Ideal)) _ _ rfl rfl (ix3 g (0 : Fin 1) j) (fun a ha => ?_) ?_).trans ?_
    · match a with
      | ⟨0, _⟩ => rfl
      | ⟨1, _⟩ => exact absurd rfl ha
      | ⟨2, _⟩ => rfl
    · show 0 + 255 = r.val
      omega
    · pointwise [val_main_v11, val_main_cst]

end Cert.CpsReference
-- ==== Proof.CpsAlgebraic.lean ====
module

public import proofs.«01_k».proof.Defs
public import proofs.«01_k».proof.Proof.Gen.CpsIdeal.Value
public import proofs.«01_k».proof.Proof.Gen.CpsRefIdeal.Run
public import proofs.«01_k».proof.Proof.Gen.Pre_finite_blocks
public import proofs.«01_k».proof.Proof.CpsPre
public import proofs.«01_k».proof.Proof.CpsReference

@[expose] public section

/-! The value claim of the compression: the kernel's run and the reference's run leave the same array. -/

set_option maxRecDepth 16384

noncomputable section

open Idealize.ShloMosaic Idealize.ShloMosaic.TcCoe Idealize.SL.Sem

namespace Cert.CpsAlgebraic

/-- The reference's frame. -/
theorem frame_ref : Cert.quiescent_CpsRefIdeal (hCpsRefIdeal := Cert.CpsRefIdeal.Gen.facts) := fun m ρ _ =>
  (θ_run Cert.CpsRefIdeal.defs _ _).mono (fun r h => ⟨fun c => (h c).2, sem_eq_zero_of_no_sems (by decide) r.2⟩)
    (Cert.CpsRefIdeal.Value.run (F := Ideal) m ρ)

/-- Where the blocks, the first weights and the positions are finite, the compressed blocks are the reference's. -/
theorem algebraic : Cert.algebraic_CpsIdeal_CpsRefIdeal_pre_finite_blocks (hCpsIdeal := Cert.CpsIdeal.Gen.facts)
    (hCpsRefIdeal := Cert.CpsRefIdeal.Gen.facts) (hPre_finite_blocks := Cert.Pre_finite_blocks.Gen.facts) := by
  intro m g m' g' hpre hagree
  refine ⟨fun c => (fun i => CpsFinal.out m c (i 0) (i 1) (i 2) : Cert.CpsIdeal.S8x256x128.Idx → EReal),
    (θ_run Cert.CpsIdeal.defs _ _).mono (fun r h c => ⟨((h c).1).trans (CpsFinal.final4 m c), (h c).2⟩)
      (Cert.CpsIdeal.Value.run_blocks m g),
    (θ_run Cert.CpsRefIdeal.defs _ _).mono (fun r h c => ⟨((h c).1).trans ?_, (h c).2⟩) (Cert.CpsRefIdeal.Value.run m' g')⟩
  rw [Cert.CpsRefIdeal.Read.val_main_v13_eq]
  obtain ⟨e0, e1, e2, e3⟩ := hagree c
  rw [e0, e1, e2, e3]
  obtain ⟨p0, p1, p2⟩ := hpre c
  funext i
  rw [eq_ix3 i]
  exact CpsReference.ref_apply _ _ _ _ (fun i => CpsPre.blocks _ _ _ _ p0 i) (fun i => CpsPre.weights _ _ _ _ p1 i)
    (fun i => CpsPre.positions _ _ _ _ p2 i) (i 0) (i 1) (i 2)

end Cert.CpsAlgebraic
-- ==== Proof.LogMath.lean ====
module

public import proofs.«01_k».proof.Proof.OutMath
public import proofs.«01_k».proof.Proof.CmpMath

@[expose] public section

/-! The arithmetic of the routing logits: rows made from real numbers are real, and a product taken in rounded parts of
    real factors is the product. -/

noncomputable section

open Idealize.ShloMosaic

namespace Cert.LogMath

/-- Being a real number. -/
abbrev Real' (x : EReal) : Prop := ∃ r : ℝ, x = r

theorem real_add {x y : EReal} : Real' x → Real' y → Real' (x + y) := by
  rintro ⟨a, rfl⟩ ⟨b, rfl⟩
  exact ⟨a + b, (EReal.coe_add a b).symm⟩

theorem real_mul {x y : EReal} : Real' x → Real' y → Real' (x * y) := by
  rintro ⟨a, rfl⟩ ⟨b, rfl⟩
  exact ⟨a * b, (EReal.coe_mul a b).symm⟩

/-- A real number less itself is zero. -/
theorem sub_self {x : EReal} : Real' x → x - x = 0 := by
  rintro ⟨a, rfl⟩
  rw [← EReal.coe_sub, _root_.sub_self, EReal.coe_zero]

/-- The width of a row. -/
theorem width : Ideal.ofBits .f32 1157627904#32 = ((2048 : ℝ) : EReal) := by
  simp [Ideal.ofBits, Ideal.ieee, -EReal.coe_mul]
  norm_num

/-- The norm's floor is a positive real. -/
theorem floor : ∃ r : ℝ, 0 < r ∧ Ideal.ofBits .f32 897988541#32 = (r : EReal) := by
  have hpos : 0 < Ideal.ofBits .f32 897988541#32 := by simp [Ideal.ofBits, Ideal.ieee, -EReal.coe_mul]
  obtain ⟨r, hr⟩ : ∃ r : ℝ, Ideal.ofBits .f32 897988541#32 = r := by
    simp only [Ideal.ofBits, Ideal.ieee]
    exact ⟨_, rfl⟩
  rw [hr] at hpos
  exact ⟨r, EReal.coe_pos.1 hpos, hr⟩

/-- The sum of a real row's squares is a real that is not negative. -/
theorem squares {n : ℕ} (y : Fin n → EReal) (hy : ∀ k, Real' (y k)) : ∃ r : ℝ, 0 ≤ r ∧ ∑ k, y k * y k = (r : EReal) := by
  refine Finset.sum_induction _ (fun x : EReal => ∃ r : ℝ, 0 ≤ r ∧ x = r) ?_ ⟨0, le_rfl, rfl⟩ fun i _ => ?_
  · rintro _ _ ⟨a, ha, rfl⟩ ⟨b, hb, rfl⟩
    exact ⟨a + b, add_nonneg ha hb, (EReal.coe_add a b).symm⟩
  · obtain ⟨a, ha⟩ := hy i
    exact ⟨a * a, mul_self_nonneg a, by rw [ha, EReal.coe_mul]⟩

/-- The inverse of a real row's root mean square is real. -/
theorem real_scale (y : Fin 2048 → EReal) (hy : ∀ k, Real' (y k)) :
    Real' (Ideal.rsqrt (Ideal.div (∑ k, y k * y k) (Ideal.ofBits .f32 1157627904#32) + Ideal.ofBits .f32 897988541#32)) := by
  obtain ⟨s, hs, es⟩ := squares y hy
  obtain ⟨f, hf, ef⟩ := floor
  have hpos : 0 < s * (2048 : ℝ)⁻¹ + f := by positivity
  have hq : Ideal.div (s : EReal) ((2048 : ℝ) : EReal) = ((s * (2048 : ℝ)⁻¹ : ℝ) : EReal) := by
    unfold Ideal.div
    rw [if_neg (by simp), EReal.coe_mul, EReal.coe_inv]
  rw [es, ef, width, hq, ← EReal.coe_add]
  refine ⟨(Real.sqrt (s * (2048 : ℝ)⁻¹ + f))⁻¹, ?_⟩
  show (if s * (2048 : ℝ)⁻¹ + f < 0 then (⊥ : EReal) else if s * (2048 : ℝ)⁻¹ + f = 0 then ⊤ else ((Real.sqrt (s * (2048 : ℝ)⁻¹ + f))⁻¹ : ℝ)) = _
  rw [if_neg (not_lt.2 hpos.le), if_neg hpos.ne']

theorem real_rms (y g : Fin 2048 → EReal) (hy : ∀ k, Real' (y k)) (hg : ∀ k, Real' (g k)) (e : Fin 2048) :
    Real' (OutMath.rms y g e) := real_mul (real_mul (hy e) (real_scale y hy)) (hg e)

theorem real_mixed (a b : Fin 1024 → EReal) (w : Fin 2048 → Fin 2048 → EReal) (ha : ∀ k, Real' (a k)) (hb : ∀ k, Real' (b k))
    (hw : ∀ k e, Real' (w k e)) (e : Fin 2048) : Real' (OutMath.mixed a b w e) :=
  real_add (CmpMath.sum_real _ _ ha fun k => hw _ e) (CmpMath.sum_real _ _ hb fun k => hw _ e)

theorem real_residual (x gate y g : Fin 2048 → EReal) (hx : ∀ k, Real' (x k)) (ht : ∀ k, Real' (gate k))
    (hy : ∀ k, Real' (y k)) (hg : ∀ k, Real' (g k)) (e : Fin 2048) : Real' (OutMath.residual x gate y g e) :=
  real_add (hx e) (real_mul (ht e) (real_rms y g hy hg e))

theorem real_modulated (x scale shift g : Fin 2048 → EReal) (hx : ∀ k, Real' (x k)) (hs : ∀ k, Real' (scale k))
    (ht : ∀ k, Real' (shift k)) (hg : ∀ k, Real' (g k)) (e : Fin 2048) : Real' (OutMath.modulated x scale shift g e) :=
  real_add (real_mul (real_rms x g hx hg e) (real_add ⟨1, rfl⟩ (hs e))) (ht e)

/-- The kernel's product of a row with a column: the rounded row with the rounded column, what rounding took from the row
with the rounded column, and the rounded row with what rounding took from the column. -/
def split (h w : Fin 2048 → EReal) : EReal :=
  ∑ k, h k * w k + ∑ k, (h k - h k) * w k + ∑ k, h k * (w k - w k)

/-- Over real numbers it is the product. -/
theorem split_eq (h w : Fin 2048 → EReal) (hh : ∀ k, Real' (h k)) (hw : ∀ k, Real' (w k)) : split h w = ∑ k, h k * w k := by
  unfold split
  have e1 : ∑ k, (h k - h k) * w k = 0 := Finset.sum_eq_zero fun k _ => by rw [sub_self (hh k), zero_mul]
  have e2 : ∑ k, h k * (w k - w k) = 0 := Finset.sum_eq_zero fun k _ => by rw [sub_self (hw k), mul_zero]
  rw [e1, e2, add_zero, add_zero]

end Cert.LogMath
-- ==== Proof.LogFinal.lean ====
module

public import proofs.«01_k».proof.Proof.OutFinal
public import proofs.«01_k».proof.Proof.LogMath

@[expose] public section

/-! The array of routing logits after the output projection's run, element by element, as a function of the arguments. -/

set_option maxRecDepth 16384

noncomputable section

open Idealize.ShloMosaic Idealize.ShloMosaic.TcCoe Idealize.SL.Sem
open Idealize.ShloMosaic.Pipeline (Dat)

namespace Cert.LogFinal

open Cert.OutIdeal Cert.OutIdeal.Gen Cert.OutFinal

/-- The logits of a block, from its rows for the experts and the two parts of the routers' weights. -/
theorem pay2_apply (v1 : FVec Ideal S6x2048 .f32) (v28 : FVec Ideal S256x2048 .f32) (v30 : Vec Ideal S1x2048 .f32)
    (v32 : FVec Ideal S256 .f32) (w l : Vec Ideal S2048x128 .bf16) (b : Vec Ideal S1x128 .f32) (h : S256x2048.Idx → EReal)
    (hh : k0_pay1 (F := Ideal) v1 v28 v30 v32 = h) (r : Fin 256) (f : Fin 128) :
    k0_pay2 (F := Ideal) v1 v28 v30 v32 w w l b (ix2 r f)
      = ∑ k : Fin 2048, h (ix2 r k) * (w : S2048x128.Idx → EReal) (ix2 k f)
        + ∑ k : Fin 2048, (h (ix2 r k) - h (ix2 r k)) * (w : S2048x128.Idx → EReal) (ix2 k f)
        + ∑ k : Fin 2048, h (ix2 r k) * (l : S2048x128.Idx → EReal) (ix2 k f) + (b : S1x128.Idx → EReal) (ix2 0 f) := by
  unfold k0_pay2
  rw [hh]
  pointwise []

/-! The grid: every token block once, in order; the routers' weights whole. -/

theorem idxLog : ∀ t : Fin cfg0.N, (win0_13.index t 0 = t.val ∧ win0_13.index t 1 = 0) ∧ (win0_8.index t 0 = 0 ∧ win0_8.index t 1 = 0)
    ∧ (win0_9.index t 0 = 0 ∧ win0_9.index t 1 = 0) ∧ (win0_10.index t 0 = 0 ∧ win0_10.index t 1 = 0) :=
  (by decide +kernel : ∀ t : Fin grid0.N, (win0_13.index t 0 = t.val ∧ win0_13.index t 1 = 0) ∧ (win0_8.index t 0 = 0 ∧ win0_8.index t 1 = 0)
    ∧ (win0_9.index t 0 = 0 ∧ win0_9.index t 1 = 0) ∧ (win0_10.index t 0 = 0 ∧ win0_10.index t 1 = 0))

variable (m : (ℓ : Loc nD τ sig) → Buf (Elt Ideal) ℓ) (c : Dev nD)

abbrev arg7 : S2048x128.Idx → EReal := m ((c : Thread nD τ).loc main_arg7)
abbrev arg8 : S1x128.Idx → EReal := m ((c : Thread nD τ).loc main_arg8)

/-! The routers' weights in two parts, which the host makes before the launch: the rounded ones, and what rounding took. -/

theorem V_main_v0 : (V m c main_v0 : S2048x128.Idx → EReal)
    = truncf (F := Ideal) .bf16 (arg7 m c : FVec Ideal S2048x128 .f32) bitsLt_bf16_f32 := by
  unfold V hostOps0
  after_results_simp <;> rfl

theorem V_main_v3 : (V m c main_v3 : S2048x128.Idx → EReal)
    = truncf (F := Ideal) .bf16 (subf (arg7 m c : FVec Ideal S2048x128 .f32)
      (extf .f32 (truncf (F := Ideal) .bf16 (arg7 m c : FVec Ideal S2048x128 .f32) bitsLt_bf16_f32) bitsLt_bf16_f32)) bitsLt_bf16_f32 := by
  unfold V hostOps0
  after_results_simp <;> rfl

theorem iblk8 (t : Fin cfg0.N) (k : Fin 2048) (f : Fin 128) :
    (iblk m c 8 t : S2048x128.Idx → EReal) (ix2 k f) = arg7 m c (ix2 k f) := by
  obtain ⟨-, ⟨h0, h1⟩, -, -⟩ := idxLog t
  unfold iblk
  rw [View.read_apply]
  refine (congrFun (V_main_v0 m c) _).trans (congrArg (arg7 m c) (funext fun a => Fin.ext ?_))
  match a with
  | ⟨0, _⟩ => show win0_8.index t 0 * 2048 + 1 * k.val = k.val; rw [h0]; omega
  | ⟨1, _⟩ => show win0_8.index t 1 * 128 + 1 * f.val = f.val; rw [h1]; omega

theorem iblk9 (t : Fin cfg0.N) (k : Fin 2048) (f : Fin 128) :
    (iblk m c 9 t : S2048x128.Idx → EReal) (ix2 k f) = arg7 m c (ix2 k f) - arg7 m c (ix2 k f) := by
  obtain ⟨-, -, ⟨h0, h1⟩, -⟩ := idxLog t
  unfold iblk
  rw [View.read_apply]
  refine (congrFun (V_main_v3 m c) _).trans (congrArg (fun i => arg7 m c i - arg7 m c i) (funext fun a => Fin.ext ?_))
  match a with
  | ⟨0, _⟩ => show win0_9.index t 0 * 2048 + 1 * k.val = k.val; rw [h0]; omega
  | ⟨1, _⟩ => show win0_9.index t 1 * 128 + 1 * f.val = f.val; rw [h1]; omega

theorem iblk10 (t : Fin cfg0.N) (f : Fin 128) : (iblk m c 10 t : S1x128.Idx → EReal) (ix2 0 f) = arg8 m c (ix2 0 f) := by
  obtain ⟨-, -, -, h0, h1⟩ := idxLog t
  unfold iblk
  rw [View.read_apply]
  refine (congrFun (V_main_arg8 m c) _).trans (congrArg (arg8 m c) (funext fun a => Fin.ext ?_))
  match a with
  | ⟨0, _⟩ => show win0_10.index t 0 * 1 + 1 * 0 = 0; rw [h0]
  | ⟨1, _⟩ => show win0_10.index t 1 * 128 + 1 * f.val = f.val; rw [h1]; omega

/-- A logit of token `n`. -/
def logit (n : Fin 16384) (f : Fin 128) : EReal :=
  LogMath.split (mod m c n) (fun k => arg7 m c (ix2 k f)) + arg8 m c (ix2 0 f)

section
variable (x0 x1 : Vec Ideal S256x1024 .bf16) (x2 x3 : Vec Ideal S1024x2048 .bf16) (x4 : Vec Ideal S256x2048 .f32)
  (x5 : Vec Ideal S1x6x2048 .f32) (x6 x7 : Vec Ideal S1x2048 .f32) (x8 x9 : Vec Ideal S2048x128 .bf16) (x10 : Vec Ideal S1x128 .f32)

theorem out13_eq : out0_13 x0 x1 x2 x3 x4 x5 x6 x7 x8 x9 x10
    = k0_pay2 (F := Ideal) (k0_pay3 x5) (k0_pay4 x5 x0 x2 x1 x3 x4 x6) x7 (k0_pay5 x5 x0 x2 x1 x3 x4 x6) x8 x8 x9 x10 := by
  unfold out0_13 k0_pay6 k0_pay7 k0_pay8
  refine (View.canon_cons_unit_zero (S := S256x128) zero2 _ _ _).trans ?_
  rw [View.ld_unit_zero (S := S1x6x2048) zero3, View.ld_unit_zero (S := S256x1024) zero2, View.ld_unit_zero (S := S1024x2048) zero2,
    View.ld_unit_zero (S := S256x1024) zero2, View.ld_unit_zero (S := S1024x2048) zero2, View.ld_unit_zero (S := S256x2048) zero2,
    View.ld_unit_zero (S := S1x2048) zero2, View.ld_unit_zero (S := S1x2048) zero2, View.ld_unit_zero (S := S2048x128) zero2,
    View.ld_unit_zero (S := S2048x128) zero2, View.ld_unit_zero (S := S1x128) zero2]

end

/-- A block's logits are the tokens'. -/
theorem block13 (t : Fin cfg0.N) (r : Fin 256) (f : Fin 128) (n : Fin 16384) (hn : n.val = t.val * 256 + r.val) :
    (k0_pay2 (F := Ideal) (k0_pay3 (iblk m c 5 t))
      (k0_pay4 (iblk m c 5 t) (iblk m c 0 t) (iblk m c 2 t) (iblk m c 1 t) (iblk m c 3 t) (iblk m c 4 t) (iblk m c 6 t)) (iblk m c 7 t)
      (k0_pay5 (iblk m c 5 t) (iblk m c 0 t) (iblk m c 2 t) (iblk m c 1 t) (iblk m c 3 t) (iblk m c 4 t) (iblk m c 6 t))
      (iblk m c 8 t) (iblk m c 8 t) (iblk m c 9 t) (iblk m c 10 t) : S256x128.Idx → EReal) (ix2 r f)
      = logit m c n f := by
  refine (pay2_apply _ _ _ _ _ _ _ _ rfl r f).trans ?_
  have hrow := fun k : Fin 2048 => block12 m c t r k n hn
  unfold logit LogMath.split
  refine congrArg₂ (· + ·) (congrArg₂ (· + ·) (congrArg₂ (· + ·) ?_ ?_) ?_) (iblk10 m c t f)
  · exact Finset.sum_congr rfl fun k _ => congrArg₂ (· * ·) (hrow k) (iblk8 m c t k f)
  · exact Finset.sum_congr rfl fun k _ => congrArg₂ (· * ·) (congrArg₂ (· - ·) (hrow k) (hrow k)) (iblk8 m c t k f)
  · exact Finset.sum_congr rfl fun k _ => congrArg₂ (· * ·) (hrow k) (iblk9 m c t k f)

/-- The array of logits after the run. -/
theorem final13 : (dats m 0 c).arrAt 13 cfg0.N = (fun i => logit m c (i 0) (i 1) : S16384x128.Idx → EReal) := by
  refine (dats m 0 c).arrAt_eq_of_covers 13 _ (by decide +kernel) fun t hf y => ?_
  blk_simp
  rw [after0_13, out13_eq]
  obtain ⟨⟨h0, h1⟩, -⟩ := idxLog t
  refine (congrArg _ (eq_ix2 y)).trans ((block13 m c t (y 0) (y 1) _ ?_).trans (congrArg _ ?_))
  · show win0_13.index t 0 * 256 + 1 * (y 0).val = _; rw [h0]; omega
  · refine Fin.ext ?_; show (y 1).val = win0_13.index t 1 * 128 + 1 * (y 1).val; rw [h1]; omega

end Cert.LogFinal
-- ==== Proof.LogPre.lean ====
module

public import proofs.«01_k».proof.Proof.CmpPre
public import proofs.«01_k».proof.Pre_finite_rows
public import Idealize.ShloMosaic.Lib.Pointwise

@[expose] public section

/-! The precondition, read: the arguments that the logits' rows and weights come from are real numbers. -/

set_option maxRecDepth 16384

noncomputable section

open Idealize.ShloMosaic

namespace Cert.LogPre

open Cert.Pre_finite_rows

variable [Facts] (x0 x1 : Vec Ideal S16384x1024 .bf16) (x2 : Vec Ideal S2048x2048 .f32) (x3 : Vec Ideal S16384x2048 .f32)
  (x4 : Vec Ideal S4x6x2048 .f32) (x5 x6 : Vec Ideal S1x2048 .f32) (x7 : Vec Ideal S2048x128 .f32) (x8 : Vec Ideal S1x128 .f32)

/-- The head groups' outputs, the projection's weights, the residual stream, the modulation's three parts in use, the
norms' weights and the routers' weights are real. -/
theorem finite
    (h : fn (F := Ideal) x0 x1 x2 x3 x4 x5 x6 x7 x8 = ⟨fun _ => 1#1, fun _ => 1#1, fun _ => 1#1, fun _ => 1#1, fun _ => 1#1,
      fun _ => 1#1, fun _ => 1#1, fun _ => 1#1⟩) :
    (∀ i, ∃ r : ℝ, (x0 : S16384x1024.Idx → EReal) i = r) ∧ (∀ i, ∃ r : ℝ, (x1 : S16384x1024.Idx → EReal) i = r)
      ∧ (∀ i, ∃ r : ℝ, (x2 : S2048x2048.Idx → EReal) i = r) ∧ (∀ i, ∃ r : ℝ, (x3 : S16384x2048.Idx → EReal) i = r)
      ∧ (∀ (b : Fin 4) (j : Fin 3) (e : Fin 2048),
        ∃ r : ℝ, (x4 : S4x6x2048.Idx → EReal) (ix3 b (⟨2 + j.val, by omega⟩ : Fin 6) e) = r)
      ∧ (∀ i, ∃ r : ℝ, (x5 : S1x2048.Idx → EReal) i = r) ∧ (∀ i, ∃ r : ℝ, (x6 : S1x2048.Idx → EReal) i = r)
      ∧ (∀ i, ∃ r : ℝ, (x7 : S2048x128.Idx → EReal) i = r) := by
  refine ⟨fun i => CmpPre.real_of_cmp _ (Eq.trans ?_ (congrFun (congrArg (fun p => p.1) h) i)),
    fun i => CmpPre.real_of_cmp _ (Eq.trans ?_ (congrFun (congrArg (fun p => p.2.1) h) i)),
    fun i => CmpPre.real_of_cmp _ (Eq.trans ?_ (congrFun (congrArg (fun p => p.2.2.1) h) i)),
    fun i => CmpPre.real_of_cmp _ (Eq.trans ?_ (congrFun (congrArg (fun p => p.2.2.2.1) h) i)),
    fun b j e => CmpPre.real_of_cmp _ (Eq.trans ?_ (congrFun (congrArg (fun p => p.2.2.2.2.1) h) (ix3 b j e))),
    fun i => CmpPre.real_of_cmp _ (Eq.trans ?_ (congrFun (congrArg (fun p => p.2.2.2.2.2.1) h) i)),
    fun i => CmpPre.real_of_cmp _ (Eq.trans ?_ (congrFun (congrArg (fun p => p.2.2.2.2.2.2.1) h) i)),
    fun i => CmpPre.real_of_cmp _ (Eq.trans ?_ (congrFun (congrArg (fun p => p.2.2.2.2.2.2.2) h) i))⟩
  all_goals
    symm
    unfold fn fn_part1
    dsimp only
    pointwise []
    rfl

end Cert.LogPre
-- ==== Proof.LogAlgebraic.lean ====
module

public import proofs.«01_k».proof.Defs
public import proofs.«01_k».proof.Proof.LogFinal
public import proofs.«01_k».proof.Proof.LogPre
public import proofs.«01_k».proof.Proof.OutReference
public import proofs.«01_k».proof.Proof.Gen.LogIdeal.Frame
public import proofs.«01_k».proof.Proof.Gen.LogRefIdeal.Run
public import proofs.«01_k».proof.Proof.Gen.LogRefIdeal.Read
public import proofs.«01_k».proof.Proof.Gen.Pre_finite_rows

@[expose] public section

/-! The value claim of the routing logits. The program is the output projection's with another result returned, so its
    arrays are those of the projection's launch. -/

set_option maxRecDepth 16384

noncomputable section

open Idealize.ShloMosaic Idealize.ShloMosaic.TcCoe Idealize.SL.Sem
open Idealize.ShloMosaic.Pipeline (Dat)

namespace Cert.LogAlgebraic

section
open Cert.LogIdeal Cert.LogIdeal.Gen
variable (m : (ℓ : Loc nD τ sig) → Buf (Elt Ideal) ℓ) (ρ : Dev nD → PrngReg)

/-- The array of logits is that of the output projection's launch. -/
theorem final13 (c : Dev nD) : (dats m 0 c).arrAt 13 cfg0.N = (fun i => LogFinal.logit m c (i 0) (i 1) : S16384x128.Idx → EReal) :=
  LogFinal.final13 m c

/-- The kernel's run: the logits, and the arguments as they were. -/
theorem run : θ_run defs (onTc (τ := τ) (main (F := Ideal))) ⟨m, fun _ => 0, ρ⟩ (fun r => ∀ c : Dev nD,
      r.2.mem ((c.tc : Thread nD τ).loc main_v8_2) = (fun i => LogFinal.logit m c (i 0) (i 1) : S16384x128.Idx → EReal)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨((h c).1 13).trans (final13 m c),
    ((h c).1 0).trans (((dats m 0 c).arrAt_in 0 rfl _).trans ((A_eq m c 0).trans (V_main_arg0 m c))),
    ((h c).1 1).trans (((dats m 0 c).arrAt_in 1 rfl _).trans ((A_eq m c 1).trans (V_main_arg1 m c))),
    ((h c).2 main_arg2 (Pipeline.mem_restRefs_of main_arg2 (by decide) (by decide))).trans (V_main_arg2 m c),
    ((h c).1 4).trans (((dats m 0 c).arrAt_in 4 rfl _).trans ((A_eq m c 4).trans (V_main_arg3 m c))),
    ((h c).1 5).trans (((dats m 0 c).arrAt_in 5 rfl _).trans ((A_eq m c 5).trans (V_main_arg4 m c))),
    ((h c).1 6).trans (((dats m 0 c).arrAt_in 6 rfl _).trans ((A_eq m c 6).trans (V_main_arg5 m c))),
    ((h c).1 7).trans (((dats m 0 c).arrAt_in 7 rfl _).trans ((A_eq m c 7).trans (V_main_arg6 m c))),
    ((h c).2 main_arg7 (Pipeline.mem_restRefs_of main_arg7 (by decide) (by decide))).trans (V_main_arg7 m c),
    ((h c).1 10).trans (((dats m 0 c).arrAt_in 10 rfl _).trans ((A_eq m c 10).trans (V_main_arg8 m c)))⟩) (run_main m ρ)

end

section
open Cert.LogRefIdeal Cert.LogRefIdeal.Read

/-- The reference's logits: the rows for the experts through the routers' weights. -/
theorem ref_apply (x0 x1 : S16384x1024.Idx → EReal) (x2 : S2048x2048.Idx → EReal) (x3 : S16384x2048.Idx → EReal)
    (x4 : S4x6x2048.Idx → EReal) (x5 x6 : S1x2048.Idx → EReal) (x7 : S2048x128.Idx → EReal) (x8 : S1x128.Idx → EReal)
    (n : Fin 16384) (f : Fin 128) :
    val_main_v49 (F := Ideal) x0 x1 x2 x3 x4 x5 x6 x7 x8 (ix2 n f)
      = ∑ k : Fin 2048, OutReference.mod x0 x1 x2 x3 x4 x5 x6 n k * x7 (ix2 k f) + x8 (ix2 0 f) := by
  rw [val_main_v49_apply, val_main_v47_apply, val_main_v48_apply]
  refine congrArg₂ (· + ·) (Finset.sum_congr rfl fun k _ => ?_) (congrArg x8 (eq_ix2 _))
  rw [eq_ix2 (lidx_main_v47 (ix2 n f) k), eq_ix2 (ridx_main_v47 (ix2 n f) k)]
  exact congrArg (· * _) (OutReference.out_apply x0 x1 x2 x3 x4 x5 x6 n k).2

/-- The frame of the logits' reference. -/
theorem frame_ref : Cert.quiescent_LogRefIdeal (hLogRefIdeal := Cert.LogRefIdeal.Gen.facts) := fun m ρ _ =>
  (θ_run Cert.LogRefIdeal.defs _ _).mono (fun r h => ⟨fun c => (h c).2, sem_eq_zero_of_no_sems (by decide) r.2⟩)
    (Cert.LogRefIdeal.Value.run (F := Ideal) m ρ)

end

/-- The rows for the experts are real where the arguments are. -/
theorem real_mod (x0 x1 : Cert.OutRefIdeal.S16384x1024.Idx → EReal) (x2 : Cert.OutRefIdeal.S2048x2048.Idx → EReal)
    (x3 : Cert.OutRefIdeal.S16384x2048.Idx → EReal) (x4 : Cert.OutRefIdeal.S4x6x2048.Idx → EReal)
    (x5 x6 : Cert.OutRefIdeal.S1x2048.Idx → EReal) (h0 : ∀ i, LogMath.Real' (x0 i)) (h1 : ∀ i, LogMath.Real' (x1 i))
    (h2 : ∀ i, LogMath.Real' (x2 i)) (h3 : ∀ i, LogMath.Real' (x3 i))
    (h4 : ∀ (b : Fin 4) (j : Fin 3) (e : Fin 2048), LogMath.Real' (x4 (ix3 b (⟨2 + j.val, by omega⟩ : Fin 6) e)))
    (h5 : ∀ i, LogMath.Real' (x5 i)) (h6 : ∀ i, LogMath.Real' (x6 i)) (n : Fin 16384) (k : Fin 2048) :
    LogMath.Real' (OutReference.mod x0 x1 x2 x3 x4 x5 x6 n k) :=
  LogMath.real_modulated _ _ _ _
    (LogMath.real_residual _ _ _ _ (fun _ => h3 _) (fun e => h4 _ 0 e)
      (LogMath.real_mixed _ _ _ (fun _ => h0 _) (fun _ => h1 _) fun _ _ => h2 _) fun _ => h5 _)
    (fun e => h4 _ 2 e) (fun e => h4 _ 1 e) (fun _ => h6 _) k

/-- The logits are the reference's where the arguments that make the rows and the routers' weights are finite. -/
theorem algebraic : Cert.algebraic_LogIdeal_LogRefIdeal_pre_finite_rows (hLogIdeal := Cert.LogIdeal.Gen.facts)
    (hLogRefIdeal := Cert.LogRefIdeal.Gen.facts) (hPre_finite_rows := Cert.Pre_finite_rows.Gen.facts) := by
  intro m g m' g' hpre hagree
  refine ⟨_, run m g,
    (θ_run Cert.LogRefIdeal.defs _ _).mono (fun r h c => ⟨((h c).1).trans ?_, (h c).2⟩)
      (Cert.LogRefIdeal.Value.run (F := Ideal) m' g')⟩
  rw [Cert.LogRefIdeal.Read.val_main_v49_eq]
  obtain ⟨e0, e1, e2, e3, e4, e5, e6, e7, e8⟩ := hagree c
  rw [e0, e1, e2, e3, e4, e5, e6, e7, e8]
  obtain ⟨p0, p1, p2, p3, p4, p5, p6, p7⟩ := hpre c
  obtain ⟨h0, h1, h2, h3, h4, h5, h6, h7⟩ := LogPre.finite _ _ _ _ _ _ _ _ _
    (Prod.ext p0 (Prod.ext p1 (Prod.ext p2 (Prod.ext p3 (Prod.ext p4 (Prod.ext p5 (Prod.ext p6 p7)))))))
  funext i
  rw [eq_ix2 i]
  refine (ref_apply _ _ _ _ _ _ _ _ _ (i 0) (i 1)).trans (congrArg (· + _) ?_)
  exact (LogMath.split_eq _ _ (fun k => real_mod _ _ _ _ _ _ _ h0 h1 h2 h3 h4 h5 h6 (i 0) k) fun k => h7 _).symm

end Cert.LogAlgebraic
-- ==== Proof.lean ====
module

public import proofs.«01_k».proof.Defs
public import proofs.«01_k».proof.Proof.ExpAlgebraic
public import proofs.«01_k».proof.Proof.CmpAlgebraic
public import proofs.«01_k».proof.Proof.OutAlgebraic
public import proofs.«01_k».proof.Proof.InAlgebraic
public import proofs.«01_k».proof.Proof.AdaAlgebraic
public import proofs.«01_k».proof.Proof.RopeAlgebraic
public import proofs.«01_k».proof.Proof.CpsAlgebraic
public import proofs.«01_k».proof.Proof.LogAlgebraic
public import proofs.«01_k».proof.Proof.Gen.ExpRefIdeal.Run
public import proofs.«01_k».proof.Proof.Gen.ExpRefIdeal.Read
public import proofs.«01_k».proof.Proof.Gen.CmpIdeal.Value
public import proofs.«01_k».proof.Proof.Gen.CmpRefIdeal.Run
public import proofs.«01_k».proof.Proof.Gen.CmpRefIdeal.Read
public import proofs.«01_k».proof.Proof.Gen.OutRefIdeal.Run
public import proofs.«01_k».proof.Proof.Gen.OutRefIdeal.Read
public import proofs.«01_k».proof.Proof.Gen.Cmp
public import proofs.«01_k».proof.Proof.Gen.Cmp.Frame
public import proofs.«01_k».proof.Proof.Gen.CmpIdeal
public import proofs.«01_k».proof.Proof.Gen.CmpIdeal.Frame
public import proofs.«01_k».proof.Proof.Gen.CmpRefIdeal
public import proofs.«01_k».proof.Proof.Gen.Pre_finite_qk
public import proofs.«01_k».proof.Proof.Gen.Out
public import proofs.«01_k».proof.Proof.Gen.Out.Frame
public import proofs.«01_k».proof.Proof.Gen.OutIdeal
public import proofs.«01_k».proof.Proof.Gen.OutIdeal.Frame
public import proofs.«01_k».proof.Proof.Gen.OutRefIdeal
public import proofs.«01_k».proof.Proof.Gen.In
public import proofs.«01_k».proof.Proof.Gen.In.Skeleton
public import proofs.«01_k».proof.Proof.Gen.In.Launch
public import proofs.«01_k».proof.Proof.Gen.In.Frame
public import proofs.«01_k».proof.Proof.Gen.InIdeal
public import proofs.«01_k».proof.Proof.Gen.InIdeal.Skeleton
public import proofs.«01_k».proof.Proof.Gen.InIdeal.Launch
public import proofs.«01_k».proof.Proof.Gen.InIdeal.Frame
public import proofs.«01_k».proof.Proof.Gen.InRefIdeal
public import proofs.«01_k».proof.Proof.Gen.InRefIdeal.Run
public import proofs.«01_k».proof.Proof.Gen.InRefIdeal.Read
public import proofs.«01_k».proof.Proof.Gen.Exp
public import proofs.«01_k».proof.Proof.Gen.Exp.Skeleton
public import proofs.«01_k».proof.Proof.Gen.Exp.Launch
public import proofs.«01_k».proof.Proof.Gen.Exp.Flash.Runs
public import proofs.«01_k».proof.Proof.Gen.ExpIdeal
public import proofs.«01_k».proof.Proof.Gen.ExpIdeal.Skeleton
public import proofs.«01_k».proof.Proof.Gen.ExpIdeal.Launch
public import proofs.«01_k».proof.Proof.Gen.ExpIdeal.Flash.Runs
public import proofs.«01_k».proof.Proof.Gen.ExpRefIdeal
public import proofs.«01_k».proof.Proof.Gen.Pre_expert_in_range
public import proofs.«01_k».proof.Proof.Gen.Ada
public import proofs.«01_k».proof.Proof.Gen.Ada.Frame
public import proofs.«01_k».proof.Proof.Gen.AdaIdeal
public import proofs.«01_k».proof.Proof.Gen.AdaIdeal.Frame
public import proofs.«01_k».proof.Proof.Gen.AdaIdeal.Value
public import proofs.«01_k».proof.Proof.Gen.AdaRefIdeal
public import proofs.«01_k».proof.Proof.Gen.AdaRefIdeal.Run
public import proofs.«01_k».proof.Proof.Gen.AdaRefIdeal.Read
public import proofs.«01_k».proof.Proof.Gen.Rope
public import proofs.«01_k».proof.Proof.Gen.Rope.Frame
public import proofs.«01_k».proof.Proof.Gen.RopeIdeal
public import proofs.«01_k».proof.Proof.Gen.RopeIdeal.Frame
public import proofs.«01_k».proof.Proof.Gen.RopeIdeal.Value
public import proofs.«01_k».proof.Proof.Gen.RopeRefIdeal
public import proofs.«01_k».proof.Proof.Gen.RopeRefIdeal.Run
public import proofs.«01_k».proof.Proof.Gen.RopeRefIdeal.Read
public import proofs.«01_k».proof.Proof.Gen.Cps
public import proofs.«01_k».proof.Proof.Gen.Cps.Frame
public import proofs.«01_k».proof.Proof.Gen.CpsIdeal
public import proofs.«01_k».proof.Proof.Gen.CpsIdeal.Frame
public import proofs.«01_k».proof.Proof.Gen.CpsIdeal.Value
public import proofs.«01_k».proof.Proof.Gen.CpsRefIdeal
public import proofs.«01_k».proof.Proof.Gen.CpsRefIdeal.Run
public import proofs.«01_k».proof.Proof.Gen.CpsRefIdeal.Read
public import proofs.«01_k».proof.Proof.Gen.Pre_finite_blocks
public import proofs.«01_k».proof.Proof.Gen.Log
public import proofs.«01_k».proof.Proof.Gen.Log.Frame
public import proofs.«01_k».proof.Proof.Gen.LogIdeal
public import proofs.«01_k».proof.Proof.Gen.LogIdeal.Frame
public import proofs.«01_k».proof.Proof.Gen.LogRefIdeal
public import proofs.«01_k».proof.Proof.Gen.LogRefIdeal.Run
public import proofs.«01_k».proof.Proof.Gen.LogRefIdeal.Read
public import proofs.«01_k».proof.Proof.Gen.Pre_finite_rows
public import Idealize.ShloMosaic.Adequacy
public import Idealize.ShloMosaic.Init

@[expose] public section

noncomputable section

namespace Cert.Proof

open Idealize.ShloMosaic Idealize.SL.Sem Cert.Exp

/-- The frame of the compressed attention's reference. -/
theorem refCmp : Cert.quiescent_CmpRefIdeal (hCmpRefIdeal := Cert.CmpRefIdeal.Gen.facts) := fun m ρ _ =>
  (θ_run Cert.CmpRefIdeal.defs _ _).mono (fun r h => ⟨fun c => (h c).2, sem_eq_zero_of_no_sems (by decide) r.2⟩)
    (Cert.CmpRefIdeal.Value.run (F := Ideal) m ρ)

/-- The frame of the output projection's reference. -/
theorem refOut : Cert.quiescent_OutRefIdeal (hOutRefIdeal := Cert.OutRefIdeal.Gen.facts) := fun m ρ _ =>
  (θ_run Cert.OutRefIdeal.defs _ _).mono (fun r h => ⟨fun c => (h c).2.2, sem_eq_zero_of_no_sems (by decide) r.2⟩)
    (Cert.OutRefIdeal.Value.run (F := Ideal) m ρ)

/-- Every claim of the certificate: the frames, the idealizations, and the values of the experts, of the compressed
attention, of the two projections, of the modulation, of the rotary tables, of the compression
and of the routing logits. -/
theorem claim : Cert.Claim := ⟨Cert.Exp.Gen.facts, Cert.ExpIdeal.Gen.facts, Cert.ExpRefIdeal.Gen.facts,
  Cert.Cmp.Gen.facts, Cert.CmpIdeal.Gen.facts, Cert.CmpRefIdeal.Gen.facts,
  Cert.Out.Gen.facts, Cert.OutIdeal.Gen.facts, Cert.OutRefIdeal.Gen.facts,
  Cert.In.Gen.facts, Cert.InIdeal.Gen.facts, Cert.InRefIdeal.Gen.facts,
  Cert.Ada.Gen.facts, Cert.AdaIdeal.Gen.facts, Cert.AdaRefIdeal.Gen.facts,
  Cert.Rope.Gen.facts, Cert.RopeIdeal.Gen.facts, Cert.RopeRefIdeal.Gen.facts,
  Cert.Cps.Gen.facts, Cert.CpsIdeal.Gen.facts, Cert.CpsRefIdeal.Gen.facts,
  Cert.Log.Gen.facts, Cert.LogIdeal.Gen.facts, Cert.LogRefIdeal.Gen.facts,
  Cert.Pre_expert_in_range.Gen.facts, Cert.Pre_finite_qk.Gen.facts, Cert.Pre_finite_blocks.Gen.facts,
  Cert.Pre_finite_rows.Gen.facts,
  Cert.ExpAlgebraic.frame_bits,
  Cert.ExpAlgebraic.frame_ideal,
  Cert.ExpAlgebraic.frame_ref,
  fun m ρ _ => Cert.ExpAlgebraic.frame_ref m ρ trivial,
  fun m ρ _ => Cert.Cmp.Gen.frame m ρ,
  fun m ρ _ => Cert.CmpIdeal.Gen.frame m ρ,
  fun m ρ _ => Cert.CmpIdeal.Gen.frame m ρ,
  refCmp,
  fun m ρ _ => refCmp m ρ trivial,
  fun m ρ _ => Cert.Out.Gen.frame m ρ,
  fun m ρ _ => Cert.OutIdeal.Gen.frame m ρ,
  refOut,
  Cert.InAlgebraic.frame_bits,
  Cert.InAlgebraic.frame_ideal,
  Cert.InAlgebraic.frame_ref,
  fun m ρ _ => Cert.Ada.Gen.frame m ρ,
  fun m ρ _ => Cert.AdaIdeal.Gen.frame m ρ,
  Cert.AdaAlgebraic.frame_ref,
  fun m ρ _ => Cert.Rope.Gen.frame m ρ,
  fun m ρ _ => Cert.RopeIdeal.Gen.frame m ρ,
  Cert.RopeAlgebraic.frame_ref,
  fun m ρ _ => Cert.Cps.Gen.frame m ρ,
  fun m ρ _ => Cert.CpsIdeal.Gen.frame m ρ,
  fun m ρ _ => Cert.CpsIdeal.Gen.frame m ρ,
  Cert.CpsAlgebraic.frame_ref,
  fun m ρ _ => Cert.CpsAlgebraic.frame_ref m ρ trivial,
  fun m ρ _ => Cert.Log.Gen.frame m ρ,
  fun m ρ _ => Cert.LogIdeal.Gen.frame m ρ,
  fun m ρ _ => Cert.LogIdeal.Gen.frame m ρ,
  Cert.LogAlgebraic.frame_ref,
  fun m ρ _ => Cert.LogAlgebraic.frame_ref m ρ trivial,
  trivial,
  Cert.ExpAlgebraic.algebraic,
  trivial,
  Cert.CmpAlgebraic.algebraic,
  trivial,
  Cert.OutAlgebraic.algebraic,
  trivial,
  Cert.InAlgebraic.algebraic,
  trivial,
  Cert.AdaAlgebraic.algebraic,
  trivial,
  Cert.RopeAlgebraic.algebraic,
  trivial,
  Cert.CpsAlgebraic.algebraic,
  trivial,
  Cert.LogAlgebraic.algebraic⟩

end Cert.Proof

end
